-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6)
      ∧ r.2.mem ((c.tc : Thread Cert.GateUpRefIdeal.nD Cert.GateUpRefIdeal.τ).loc Cert.GateUpRefIdeal.main_arg7) = m ((c.tc : Thread Cert.GateUpRefIdeal.nD Cert.GateUpRefIdeal.τ).loc Cert.GateUpRefIdeal.main_arg7))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v64) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)
      ∧ m' ((c.tc : Thread Cert.GateUpRefIdeal.nD Cert.GateUpRefIdeal.τ).loc Cert.GateUpRefIdeal.main_arg7) = m ((c.tc : Thread Cert.GateUpIdeal.nD Cert.GateUpIdeal.τ).loc Cert.GateUpIdeal.main_arg7)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v140) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6)
          ∧ r.2.mem ((c.tc : Thread Cert.GateUpRefIdeal.nD Cert.GateUpRefIdeal.τ).loc Cert.GateUpRefIdeal.main_arg7) = m' ((c.tc : Thread Cert.GateUpRefIdeal.nD Cert.GateUpRefIdeal.τ).loc Cert.GateUpRefIdeal.main_arg7))

def Claim : Prop :=
  ∃ (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts),
    quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ preserves_Down_DownIdeal
    ∧ algebraic_DownIdeal_DownRefIdeal (hDownIdeal := hDownIdeal) (hDownRefIdeal := hDownRefIdeal)
    ∧ preserves_GateUp_GateUpIdeal
    ∧ algebraic_GateUpIdeal_GateUpRefIdeal (hGateUpIdeal := hGateUpIdeal) (hGateUpRefIdeal := hGateUpRefIdeal)
-- ==== Down.lean ====
abbrev S720x20480 : Shape := ⟨2, ![720, 20480]⟩
abbrev S20480x896 : Shape := ⟨2, ![20480, 896]⟩
abbrev S160x896 : Shape := ⟨2, ![160, 896]⟩
abbrev S160x7168 : Shape := ⟨2, ![160, 7168]⟩
abbrev S720x7168 : Shape := ⟨2, ![720, 7168]⟩
abbrev S20480x128 : Shape := ⟨2, ![20480, 128]⟩
abbrev S160x128 : Shape := ⟨2, ![160, 128]⟩
abbrev S160x1024 : Shape := ⟨2, ![160, 1024]⟩
abbrev S720x1024 : Shape := ⟨2, ![720, 1024]⟩
abbrev S8x160x128 : Shape := ⟨3, ![8, 160, 128]⟩
abbrev S8x720x128 : Shape := ⟨3, ![8, 720, 128]⟩
abbrev S720x128 : Shape := ⟨2, ![720, 128]⟩
abbrev S1x720x128 : Shape := ⟨3, ![1, 720, 128]⟩
abbrev S160x128x1 : Shape := ⟨3, ![160, 128, 1]⟩
abbrev S1x160x128 : Shape := ⟨3, ![1, 160, 128]⟩
abbrev S256x128 : Shape := ⟨2, ![256, 128]⟩
abbrev S1x1x128 : Shape := ⟨3, ![1, 1, 128]⟩
abbrev S1x128 : Shape := ⟨2, ![1, 128]⟩
abbrev S128x128 : Shape := ⟨2, ![128, 128]⟩
abbrev S256x256 : Shape := ⟨2, ![256, 256]⟩
abbrev S720x256 : Shape := ⟨2, ![720, 256]⟩
abbrev S1x32x128 : Shape := ⟨3, ![1, 32, 128]⟩
abbrev S32x128 : Shape := ⟨2, ![32, 128]⟩
abbrev S32x128x1 : Shape := ⟨3, ![32, 128, 1]⟩

abbrev nBuf : Space → Nat
  | .hbm => 6
  | .vmem => 14
  | .smem => 0
  | _ => 0

abbrev bufTy : (tb : Table) → Fin (tcTables nBuf tb) → BufTy
  | .hbm, ⟨0, _⟩ => ⟨S720x20480, .bf16⟩
  | .hbm, ⟨1, _⟩ => ⟨S20480x896, .i32⟩
  | .hbm, ⟨2, _⟩ => ⟨S160x896, .i32⟩
  | .hbm, ⟨3, _⟩ => ⟨S160x7168, .i16⟩
  | .hbm, ⟨4, _⟩ => ⟨S720x7168, .bf16⟩
  | .hbm, ⟨5, _⟩ => ⟨S720x7168, .bf16⟩
  | .local _ .vmem, ⟨0, _⟩ => ⟨S720x20480, .bf16⟩
  | .local _ .vmem, ⟨1, _⟩ => ⟨S20480x128, .i32⟩
  | .local _ .vmem, ⟨2, _⟩ => ⟨S20480x128, .i32⟩
  | .local _ .vmem, ⟨3, _⟩ => ⟨S160x128, .i32⟩
  | .local _ .vmem, ⟨4, _⟩ => ⟨S160x128, .i32⟩
  | .local _ .vmem, ⟨5, _⟩ => ⟨S160x1024, .i16⟩
  | .local _ .vmem, ⟨6, _⟩ => ⟨S160x1024, .i16⟩
  | .local _ .vmem, ⟨7, _⟩ => ⟨S720x1024, .bf16⟩
  | .local _ .vmem, ⟨8, _⟩ => ⟨S720x1024, .bf16⟩
  | .local _ .vmem, ⟨9, _⟩ => ⟨S720x1024, .bf16⟩
  | .local _ .vmem, ⟨10, _⟩ => ⟨S720x1024, .bf16⟩
  | .local _ .vmem, ⟨11, _⟩ => ⟨S8x160x128, .f32⟩
  | .local _ .vmem, ⟨12, _⟩ => ⟨S8x160x128, .f32⟩
  | .local _ .vmem, ⟨13, _⟩ => ⟨S8x720x128, .f32⟩
  | _, _ => ⟨S720x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_r0 : BitVec 32 := 7#32
  let v483_r0 : BitVec 1 := Scalar.cmpi .slt arg0 c7_i32_r0
  let v484_r0 : BitVec 32 := Scalar.extui v483_r0
  let c0_i32_189_r0 : BitVec 32 := 0#32
  let v485_r0 : BitVec 1 := Scalar.cmpi .ne v484_r0 c0_i32_189_r0
  v485_r0

def k0_mult1 : BitVec 32 :=
  let c0_i32_192_r0 : BitVec 32 := 0#32
  c0_i32_192_r0
def k0_mult2 : BitVec 32 :=
  let c0_i32_248_r0 : BitVec 32 := 0#32
  c0_i32_248_r0
def k0_mult3 : BitVec 32 :=
  let c256_i32_r0 : BitVec 32 := 256#32
  c256_i32_r0
@[reducible] def k0_t1_loop : Scf.Loop 32 :=
  let c0_i32_306_r0 : BitVec 32 := 0#32
  let c39_i32_r0 : BitVec 32 := 39#32
  let v702_r0 : BitVec 32 := Scalar.addi c0_i32_306_r0 c39_i32_r0
  let c1_i32_307_r0 : BitVec 32 := 1#32
  ⟨c0_i32_306_r0, v702_r0, c1_i32_307_r0⟩
def k0_mult4 (k0_t1 : Fin k0_t1_loop.trips) : BitVec 32 :=
  let c1_i32_456_r0 : BitVec 32 := 1#32
  let c0_i32_306_r0 : BitVec 32 := 0#32
  let c1_i32_307_r0 : BitVec 32 := 1#32
  let arg10_r0 : BitVec 32 := Scf.iv c0_i32_306_r0 c1_i32_307_r0 k0_t1
  let c2_i32_455_r0 : BitVec 32 := 2#32
  let v961_r0 : BitVec 32 := Scalar.muli arg10_r0 c2_i32_455_r0
  let v962_r0 : BitVec 32 := Scalar.addi c1_i32_456_r0 v961_r0
  let c0_i32_457_r0 : BitVec 32 := 0#32
  let v963_r0 : BitVec 32 := Scalar.addi v962_r0 c0_i32_457_r0
  let c256_i32_458_r0 : BitVec 32 := 256#32
  let v964_r0 : BitVec 32 := Scalar.muli v963_r0 c256_i32_458_r0
  v964_r0
def k0_off1 (k0_t1 : Fin k0_t1_loop.trips) (c0_i32_457_r0 : BitVec 32) : Fin 2 → Nat :=
  let c0_459_r0 : Index := 0#32
  let c1_i32_456_r0 : BitVec 32 := 1#32
  let c0_i32_306_r0 : BitVec 32 := 0#32
  let c1_i32_307_r0 : BitVec 32 := 1#32
  let arg10_r0 : BitVec 32 := Scf.iv c0_i32_306_r0 c1_i32_307_r0 k0_t1
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c256_i32_458_r0 : BitVec 32 := 256#32
  let v964_r0 : BitVec 32 := Scalar.muli v963_r0 c256_i32_458_r0
  let v965_r0 : BitVec 32 := v964_r0
  let v966_r0 : Index := Scalar.indexCast v965_r0
  ![0, v966_r0.toNat]
def k0_mult5 (k0_t1 : Fin k0_t1_loop.trips) : BitVec 32 :=
  let c1_i32_456_r0 : BitVec 32 := 1#32
  let c0_i32_306_r0 : BitVec 32 := 0#32
  let c1_i32_307_r0 : BitVec 32 := 1#32
  let arg10_r0 : BitVec 32 := Scf.iv c0_i32_306_r0 c1_i32_307_r0 k0_t1
  let c2_i32_455_r0 : BitVec 32 := 2#32
  let v961_r0 : BitVec 32 := Scalar.muli arg10_r0 c2_i32_455_r0
  let v962_r0 : BitVec 32 := Scalar.addi c1_i32_456_r0 v961_r0
  let c0_i32_457_r0 : BitVec 32 := 0#32
  let v963_r0 : BitVec 32 := Scalar.addi v962_r0 c0_i32_457_r0
  let c1_i32_460_r0 : BitVec 32 := 1#32
  let v968_r0 : BitVec 32 := Scalar.addi v963_r0 c1_i32_460_r0
  let c256_i32_461_r0 : BitVec 32 := 256#32
  let v969_r0 : BitVec 32 := Scalar.muli v968_r0 c256_i32_461_r0
  v969_r0
def k0_off2 (k0_t1 : Fin k0_t1_loop.trips) (c0_i32_457_r0 : BitVec 32) : Fin 2 → Nat :=
  let c1_i32_456_r0 : BitVec 32 := 1#32
  let c0_i32_306_r0 : BitVec 32 := 0#32
  let c1_i32_307_r0 : BitVec 32 := 1#32
  let arg10_r0 : BitVec 32 := Scf.iv c0_i32_306_r0 c1_i32_307_r0 k0_t1
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c1_i32_460_r0 : BitVec 32 := 1#32
  let v968_r0 : BitVec 32 := Scalar.addi v963_r0 c1_i32_460_r0
  let c256_i32_461_r0 : BitVec 32 := 256#32
  let v969_r0 : BitVec 32 := Scalar.muli v968_r0 c256_i32_461_r0
  let v970_r0 : BitVec 32 := v969_r0
  let v971_r0 : Index := Scalar.indexCast v970_r0
  let c0_462_r0 : Index := 0#32
  ![v971_r0.toNat, 0]
def k0_off3 (k0_t1 : Fin k0_t1_loop.trips) (c0_i32_457_r0 : BitVec 32) (c0_i32_470_r0 : BitVec 32) : Fin 3 → Nat :=
  let c0_471_r0 : Index := 0#32
  let c1_i32_456_r0 : BitVec 32 := 1#32
  let c0_i32_306_r0 : BitVec 32 := 0#32
  let c1_i32_307_r0 : BitVec 32 := 1#32
  let arg10_r0 : BitVec 32 := Scf.iv c0_i32_306_r0 c1_i32_307_r0 k0_t1
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c1_i32_460_r0 : BitVec 32 := 1#32
  let v968_r0 : BitVec 32 := Scalar.addi v963_r0 c1_i32_460_r0
  let c2_i32_469_r0 : BitVec 32 := 2#32
  let v989_r0 : BitVec 32 := Scalar.muli v968_r0 c2_i32_469_r0
  let v990_r0 : BitVec 32 := Scalar.addi v989_r0 c0_i32_470_r0
  let v991_r0 : Index := Scalar.indexCast v990_r0
  let c0_472_r0 : Index := 0#32
  ![0, v991_r0.toNat, 0]
def k0_off4 (k0_t1 : Fin k0_t1_loop.trips) (c0_i32_457_r0 : BitVec 32) (c0_i32_486_r0 : BitVec 32) : Fin 3 → Nat :=
  let c1_487_r0 : Index := 1#32
  let c1_i32_456_r0 : BitVec 32 := 1#32
  let c0_i32_306_r0 : BitVec 32 := 0#32
  let c1_i32_307_r0 : BitVec 32 := 1#32
  let arg10_r0 : BitVec 32 := Scf.iv c0_i32_306_r0 c1_i32_307_r0 k0_t1
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c1_i32_460_r0 : BitVec 32 := 1#32
  let v968_r0 : BitVec 32 := Scalar.addi v963_r0 c1_i32_460_r0
  let c2_i32_485_r0 : BitVec 32 := 2#32
  let v1022_r0 : BitVec 32 := Scalar.muli v968_r0 c2_i32_485_r0
  let v1023_r0 : BitVec 32 := Scalar.addi v1022_r0 c0_i32_486_r0
  let v1024_r0 : Index := Scalar.indexCast v1023_r0
  let c0_488_r0 : Index := 0#32
  ![1, v1024_r0.toNat, 0]
def k0_off5 (k0_t1 : Fin k0_t1_loop.trips) (c0_i32_457_r0 : BitVec 32) (c0_i32_502_r0 : BitVec 32) : Fin 3 → Nat :=
  let c2_503_r0 : Index := 2#32
  let c1_i32_456_r0 : BitVec 32 := 1#32
  let c0_i32_306_r0 : BitVec 32 := 0#32
  let c1_i32_307_r0 : BitVec 32 := 1#32
  let arg10_r0 : BitVec 32 := Scf.iv c0_i32_306_r0 c1_i32_307_r0 k0_t1
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c1_i32_460_r0 : BitVec 32 := 1#32
  let v968_r0 : BitVec 32 := Scalar.addi v963_r0 c1_i32_460_r0
  let c2_i32_501_r0 : BitVec 32 := 2#32
  let v1055_r0 : BitVec 32 := Scalar.muli v968_r0 c2_i32_501_r0
  let v1056_r0 : BitVec 32 := Scalar.addi v1055_r0 c0_i32_502_r0
  let v1057_r0 : Index := Scalar.indexCast v1056_r0
  let c0_504_r0 : Index := 0#32
  ![2, v1057_r0.toNat, 0]
def k0_off6 (k0_t1 : Fin k0_t1_loop.trips) (c0_i32_457_r0 : BitVec 32) (c0_i32_518_r0 : BitVec 32) : Fin 3 → Nat :=
  let c3_519_r0 : Index := 3#32
  let c1_i32_456_r0 : BitVec 32 := 1#32
  let c0_i32_306_r0 : BitVec 32 := 0#32
  let c1_i32_307_r0 : BitVec 32 := 1#32
  let arg10_r0 : BitVec 32 := Scf.iv c0_i32_306_r0 c1_i32_307_r0 k0_t1
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c1_i32_460_r0 : BitVec 32 := 1#32
  let v968_r0 : BitVec 32 := Scalar.addi v963_r0 c1_i32_460_r0
  let c2_i32_517_r0 : BitVec 32 := 2#32
  let v1088_r0 : BitVec 32 := Scalar.muli v968_r0 c2_i32_517_r0
  let v1089_r0 : BitVec 32 := Scalar.addi v1088_r0 c0_i32_518_r0
  let v1090_r0 : Index := Scalar.indexCast v1089_r0
  let c0_520_r0 : Index := 0#32
  ![3, v1090_r0.toNat, 0]
def k0_mult6 (k0_t1 : Fin k0_t1_loop.trips) : BitVec 32 :=
  let c1_i32_534_r0 : BitVec 32 := 1#32
  let c0_i32_306_r0 : BitVec 32 := 0#32
  let c1_i32_307_r0 : BitVec 32 := 1#32
  let arg10_r0 : BitVec 32 := Scf.iv c0_i32_306_r0 c1_i32_307_r0 k0_t1
  let c2_i32_533_r0 : BitVec 32 := 2#32
  let v1123_r0 : BitVec 32 := Scalar.muli arg10_r0 c2_i32_533_r0
  let v1124_r0 : BitVec 32 := Scalar.addi c1_i32_534_r0 v1123_r0
  let c1_i32_535_r0 : BitVec 32 := 1#32
  let v1125_r0 : BitVec 32 := Scalar.addi v1124_r0 c1_i32_535_r0
  let c256_i32_536_r0 : BitVec 32 := 256#32
  let v1126_r0 : BitVec 32 := Scalar.muli v1125_r0 c256_i32_536_r0
  v1126_r0
def k0_mult7 (k0_t1 : Fin k0_t1_loop.trips) : BitVec 32 :=
  let c1_i32_534_r0 : BitVec 32 := 1#32
  let c0_i32_306_r0 : BitVec 32 := 0#32
  let c1_i32_307_r0 : BitVec 32 := 1#32
  let arg10_r0 : BitVec 32 := Scf.iv c0_i32_306_r0 c1_i32_307_r0 k0_t1
  let c2_i32_533_r0 : BitVec 32 := 2#32
  let v1123_r0 : BitVec 32 := Scalar.muli arg10_r0 c2_i32_533_r0
  let v1124_r0 : BitVec 32 := Scalar.addi c1_i32_534_r0 v1123_r0
  let c1_i32_535_r0 : BitVec 32 := 1#32
  let v1125_r0 : BitVec 32 := Scalar.addi v1124_r0 c1_i32_535_r0
  let c1_i32_538_r0 : BitVec 32 := 1#32
  let v1130_r0 : BitVec 32 := Scalar.addi v1125_r0 c1_i32_538_r0
  let c256_i32_539_r0 : BitVec 32 := 256#32
  let v1131_r0 : BitVec 32 := Scalar.muli v1130_r0 c256_i32_539_r0
  v1131_r0
def k0_mult8 (k0_t1 : Fin k0_t1_loop.trips) : BitVec 32 :=
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  v1288_r0
def k0_off7 (k0_t1 : Fin k0_t1_loop.trips) : Fin 3 → Nat :=
  let c0_614_r0 : Index := 0#32
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1290_r0 : Index := Scalar.indexCast v1289_r0
  let c0_615_r0 : Index := 0#32
  ![0, v1290_r0.toNat, 0]
def k0_off8 (k0_t1 : Fin k0_t1_loop.trips) : Fin 3 → Nat :=
  let c1_616_r0 : Index := 1#32
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1293_r0 : Index := Scalar.indexCast v1289_r0
  let c0_617_r0 : Index := 0#32
  ![1, v1293_r0.toNat, 0]
def k0_off9 (k0_t1 : Fin k0_t1_loop.trips) : Fin 3 → Nat :=
  let c2_618_r0 : Index := 2#32
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1296_r0 : Index := Scalar.indexCast v1289_r0
  let c0_619_r0 : Index := 0#32
  ![2, v1296_r0.toNat, 0]
def k0_off10 (k0_t1 : Fin k0_t1_loop.trips) : Fin 3 → Nat :=
  let c3_620_r0 : Index := 3#32
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1299_r0 : Index := Scalar.indexCast v1289_r0
  let c0_621_r0 : Index := 0#32
  ![3, v1299_r0.toNat, 0]
def k0_off11 (k0_t1 : Fin k0_t1_loop.trips) : Fin 3 → Nat :=
  let c4_622_r0 : Index := 4#32
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1302_r0 : Index := Scalar.indexCast v1289_r0
  let c0_623_r0 : Index := 0#32
  ![4, v1302_r0.toNat, 0]
def k0_off12 (k0_t1 : Fin k0_t1_loop.trips) : Fin 3 → Nat :=
  let c5_624_r0 : Index := 5#32
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1305_r0 : Index := Scalar.indexCast v1289_r0
  let c0_625_r0 : Index := 0#32
  ![5, v1305_r0.toNat, 0]
def k0_off13 (k0_t1 : Fin k0_t1_loop.trips) : Fin 3 → Nat :=
  let c6_626_r0 : Index := 6#32
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1308_r0 : Index := Scalar.indexCast v1289_r0
  let c0_627_r0 : Index := 0#32
  ![6, v1308_r0.toNat, 0]
def k0_off14 (k0_t1 : Fin k0_t1_loop.trips) : Fin 3 → Nat :=
  let c7_628_r0 : Index := 7#32
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1311_r0 : Index := Scalar.indexCast v1289_r0
  let c0_629_r0 : Index := 0#32
  ![7, v1311_r0.toNat, 0]
def k0_off15 (k0_t1 : Fin k0_t1_loop.trips) : Fin 2 → Nat :=
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1456_r0 : Index := Scalar.indexCast v1289_r0
  let c0_683_r0 : Index := 0#32
  ![v1456_r0.toNat, 0]
def k0_off16 (k0_t1 : Fin k0_t1_loop.trips) : Fin 2 → Nat :=
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1463_r0 : Index := Scalar.indexCast v1289_r0
  let c128_685_r0 : Index := 128#32
  ![v1463_r0.toNat, 128]
def k0_off17 (k0_t1 : Fin k0_t1_loop.trips) : Fin 2 → Nat :=
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1470_r0 : Index := Scalar.indexCast v1289_r0
  let c256_687_r0 : Index := 256#32
  ![v1470_r0.toNat, 256]
def k0_off18 (k0_t1 : Fin k0_t1_loop.trips) : Fin 2 → Nat :=
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1477_r0 : Index := Scalar.indexCast v1289_r0
  let c384_689_r0 : Index := 384#32
  ![v1477_r0.toNat, 384]
def k0_off19 (k0_t1 : Fin k0_t1_loop.trips) : Fin 2 → Nat :=
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1484_r0 : Index := Scalar.indexCast v1289_r0
  let c512_691_r0 : Index := 512#32
  ![v1484_r0.toNat, 512]
def k0_off20 (k0_t1 : Fin k0_t1_loop.trips) : Fin 2 → Nat :=
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1491_r0 : Index := Scalar.indexCast v1289_r0
  let c640_693_r0 : Index := 640#32
  ![v1491_r0.toNat, 640]
def k0_off21 (k0_t1 : Fin k0_t1_loop.trips) : Fin 2 → Nat :=
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1498_r0 : Index := Scalar.indexCast v1289_r0
  let c768_695_r0 : Index := 768#32
  ![v1498_r0.toNat, 768]
def k0_off22 (k0_t1 : Fin k0_t1_loop.trips) : Fin 2 → Nat :=
  let c0_i32_306_r0 : BitVec 32 := 0#32
  let c1_i32_307_r0 : BitVec 32 := 1#32
  let arg10_r0 : BitVec 32 := Scf.iv c0_i32_306_r0 c1_i32_307_r0 k0_t1
  let c1_i32_611_r0 : BitVec 32 := 1#32
  let v1285_r0 : BitVec 32 := Scalar.muli arg10_r0 c1_i32_611_r0
  let c0_i32_612_r0 : BitVec 32 := 0#32
  let v1286_r0 : BitVec 32 := Scalar.addi v1285_r0 c0_i32_612_r0
  let c32_i32_613_r0 : BitVec 32 := 32#32
  let v1287_r0 : BitVec 32 := Scalar.muli v1286_r0 c32_i32_613_r0
  let c688_i32_r0 : BitVec 32 := 688#32
  let v1288_r0 : BitVec 32 := Scalar.minsi v1287_r0 c688_i32_r0
  let v1289_r0 : BitVec 32 := v1288_r0
  let v1505_r0 : Index := Scalar.indexCast v1289_r0
  let c896_697_r0 : Index := 896#32
  ![v1505_r0.toNat, 896]
def k0_mult9 : BitVec 32 :=
  let c20224_i32_r0 : BitVec 32 := 20224#32
  c20224_i32_r0
def k0_mult10 : BitVec 32 :=
  let c0_i32_310_r0 : BitVec 32 := 0#32
  c0_i32_310_r0
def k0_mult11 : BitVec 32 :=
  let c0_i32_378_r0 : BitVec 32 := 0#32
  c0_i32_378_r0
def k0_mult12 : BitVec 32 :=
  let c256_i32_380_r0 : BitVec 32 := 256#32
  c256_i32_380_r0
@[reducible] def k0_t2_loop : Scf.Loop 32 :=
  let c0_i32_437_r0 : BitVec 32 := 0#32
  let c39_i32_438_r0 : BitVec 32 := 39#32
  let v938_r0 : BitVec 32 := Scalar.addi c0_i32_437_r0 c39_i32_438_r0
  let c1_i32_439_r0 : BitVec 32 := 1#32
  ⟨c0_i32_437_r0, v938_r0, c1_i32_439_r0⟩
def k0_mult13 (k0_t2 : Fin k0_t2_loop.trips) : BitVec 32 :=
  let c1_i32_456_r0 : BitVec 32 := 1#32
  let c0_i32_437_r0 : BitVec 32 := 0#32
  let c1_i32_439_r0 : BitVec 32 := 1#32
  let arg10_r0 : BitVec 32 := Scf.iv c0_i32_437_r0 c1_i32_439_r0 k0_t2
  let c2_i32_455_r0 : BitVec 32 := 2#32
  let v961_r0 : BitVec 32 := Scalar.muli arg10_r0 c2_i32_455_r0
  let v962_r0 : BitVec 32 := Scalar.addi c1_i32_456_r0 v961_r0
  let c0_i32_457_r0 : BitVec 32 := 0#32
  let v963_r0 : BitVec 32 := Scalar.addi v962_r0 c0_i32_457_r0
  let c256_i32_458_r0 : BitVec 32 := 256#32
  let v964_r0 : BitVec 32 := Scalar.muli v963_r0 c256_i32_458_r0
  v964_r0
def k0_off23 (k0_t2 : Fin k0_t2_loop.trips) (c0_i32_457_r0 : BitVec 32) : Fin 2 → Nat :=
  let c0_459_r0 : Index := 0#32
  let c1_i32_456_r0 : BitVec 32 := 1#32
  let c0_i32_437_r0 : BitVec 32 := 0#32
  let c1_i32_439_r0 : BitVec 32 := 1#32
  let arg10_r0 : BitVec 32 := Scf.iv c0_i32_437_r0 c1_i32_439_r0 k0_t2
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c256_i32_458_r0 : BitVec 32 := 256#32
  let v964_r0 : BitVec 32 := Scalar.muli v963_r0 c256_i32_458_r0
  let v965_r0 : BitVec 32 := v964_r0
  let v966_r0 : Index := Scalar.indexCast v965_r0
  ![0, v966_r0.toNat]
def k0_mult14 (k0_t2 : Fin k0_t2_loop.trips) : BitVec 32 :=
  let c1_i32_456_r0 : BitVec 32 := 1#32
  let c0_i32_437_r0 : BitVec 32 := 0#32
  let c1_i32_439_r0 : BitVec 32 := 1#32
  let arg10_r0 : BitVec 32 := Scf.iv c0_i32_437_r0 c1_i32_439_r0 k0_t2
  let c2_i32_455_r0 : BitVec 32 := 2#32
  let v961_r0 : BitVec 32 := Scalar.muli arg10_r0 c2_i32_455_r0
  let v962_r0 : BitVec 32 := Scalar.addi c1_i32_456_r0 v961_r0
  let c0_i32_457_r0 : BitVec 32 := 0#32
  let v963_r0 : BitVec 32 := Scalar.addi v962_r0 c0_i32_457_r0
  let c1_i32_460_r0 : BitVec 32 := 1#32
  let v968_r0 : BitVec 32 := Scalar.addi v963_r0 c1_i32_460_r0
  let c256_i32_461_r0 : BitVec 32 := 256#32
  let v969_r0 : BitVec 32 := Scalar.muli v968_r0 c256_i32_461_r0
  v969_r0
def k0_off24 (k0_t2 : Fin k0_t2_loop.trips) (c0_i32_457_r0 : BitVec 32) : Fin 2 → Nat :=
  let c1_i32_456_r0 : BitVec 32 := 1#32
  let c0_i32_437_r0 : BitVec 32 := 0#32
  let c1_i32_439_r0 : BitVec 32 := 1#32
  let arg10_r0 : BitVec 32 := Scf.iv c0_i32_437_r0 c1_i32_439_r0 k0_t2
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c1_i32_460_r0 : BitVec 32 := 1#32
  let v968_r0 : BitVec 32 := Scalar.addi v963_r0 c1_i32_460_r0
  let c256_i32_461_r0 : BitVec 32 := 256#32
  let v969_r0 : BitVec 32 := Scalar.muli v968_r0 c256_i32_461_r0
  let v970_r0 : BitVec 32 := v969_r0
  let v971_r0 : Index := Scalar.indexCast v970_r0
  let c0_462_r0 : Index := 0#32
  ![v971_r0.toNat, 0]
def k0_off25 (k0_t2 : Fin k0_t2_loop.trips) (c0_i32_457_r0 : BitVec 32) (c0_i32_470_r0 : BitVec 32) : Fin 3 → Nat :=
  let c4_471_r0 : Index := 4#32
  let c1_i32_456_r0 : BitVec 32 := 1#32
  let c0_i32_437_r0 : BitVec 32 := 0#32
  let c1_i32_439_r0 : BitVec 32 := 1#32
  let arg10_r0 : BitVec 32 := Scf.iv c0_i32_437_r0 c1_i32_439_r0 k0_t2
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c1_i32_460_r0 : BitVec 32 := 1#32
  let v968_r0 : BitVec 32 := Scalar.addi v963_r0 c1_i32_460_r0
  let c2_i32_469_r0 : BitVec 32 := 2#32
  let v989_r0 : BitVec 32 := Scalar.muli v968_r0 c2_i32_469_r0
  let v990_r0 : BitVec 32 := Scalar.addi v989_r0 c0_i32_470_r0
  let v991_r0 : Index := Scalar.indexCast v990_r0
  let c0_472_r0 : Index := 0#32
  ![4, v991_r0.toNat, 0]
def k0_off26 (k0_t2 : Fin k0_t2_loop.trips) (c0_i32_457_r0 : BitVec 32) (c0_i32_486_r0 : BitVec 32) : Fin 3 → Nat :=
  let c5_487_r0 : Index := 5#32
  let c1_i32_456_r0 : BitVec 32 := 1#32
  let c0_i32_437_r0 : BitVec 32 := 0#32
  let c1_i32_439_r0 : BitVec 32 := 1#32
  let arg10_r0 : BitVec 32 := Scf.iv c0_i32_437_r0 c1_i32_439_r0 k0_t2
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c1_i32_460_r0 : BitVec 32 := 1#32
  let v968_r0 : BitVec 32 := Scalar.addi v963_r0 c1_i32_460_r0
  let c2_i32_485_r0 : BitVec 32 := 2#32
  let v1022_r0 : BitVec 32 := Scalar.muli v968_r0 c2_i32_485_r0
  let v1023_r0 : BitVec 32 := Scalar.addi v1022_r0 c0_i32_486_r0
  let v1024_r0 : Index := Scalar.indexCast v1023_r0
  let c0_488_r0 : Index := 0#32
  ![5, v1024_r0.toNat, 0]
def k0_off27 (k0_t2 : Fin k0_t2_loop.trips) (c0_i32_457_r0 : BitVec 32) (c0_i32_502_r0 : BitVec 32) : Fin 3 → Nat :=
  let c6_503_r0 : Index := 6#32
  let c1_i32_456_r0 : BitVec 32 := 1#32
  let c0_i32_437_r0 : BitVec 32 := 0#32
  let c1_i32_439_r0 : BitVec 32 := 1#32
  let arg10_r0 : BitVec 32 := Scf.iv c0_i32_437_r0 c1_i32_439_r0 k0_t2
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c1_i32_460_r0 : BitVec 32 := 1#32
  let v968_r0 : BitVec 32 := Scalar.addi v963_r0 c1_i32_460_r0
  let c2_i32_501_r0 : BitVec 32 := 2#32
  let v1055_r0 : BitVec 32 := Scalar.muli v968_r0 c2_i32_501_r0
  let v1056_r0 : BitVec 32 := Scalar.addi v1055_r0 c0_i32_502_r0
  let v1057_r0 : Index := Scalar.indexCast v1056_r0
  let c0_504_r0 : Index := 0#32
  ![6, v1057_r0.toNat, 0]
def k0_off28 (k0_t2 : Fin k0_t2_loop.trips) (c0_i32_457_r0 : BitVec 32) (c0_i32_518_r0 : BitVec 32) : Fin 3 → Nat :=
  let c7_519_r0 : Index := 7#32
  let c1_i32_456_r0 : BitVec 32 := 1#32
  let c0_i32_437_r0 : BitVec 32 := 0#32
  let c1_i32_439_r0 : BitVec 32 := 1#32
  let arg10_r0 : BitVec 32 := Scf.iv c0_i32_437_r0 c1_i32_439_r0 k0_t2
  let c2_i32_455_r0 : BitVec 32 := 2#32
  let v961_r0 : BitVec 32 := Scalar.muli arg10_r0 c2_i32_455_r0
  let v962_r0 : BitVec 32 := Scalar.addi c1_i32_456_r0 v961_r0
  let v963_r0 : BitVec 32 := Scalar.addi v962_r0 c0_i32_457_r0
  let c1_i32_460_r0 : BitVec 32 := 1#32
  let v968_r0 : BitVec 32 := Scalar.addi v963_r0 c1_i32_460_r0
  let c2_i32_517_r0 : BitVec 32 := 2#32
  let v1088_r0 : BitVec 32 := Scalar.muli v968_r0 c2_i32_517_r0
  let v1089_r0 : BitVec 32 := Scalar.addi v1088_r0 c0_i32_518_r0
  let v1090_r0 : Index := Scalar.indexCast v1089_r0
  let c0_520_r0 : Index := 0#32
  ![7, v1090_r0.toNat, 0]
def k0_mult15 (k0_t2 : Fin k0_t2_loop.trips) : BitVec 32 :=
  let c1_i32_534_r0 : BitVec 32 := 1#32
  let c0_i32_437_r0 : BitVec 32 := 0#32
  let c1_i32_439_r0 : BitVec 32 := 1#32
  let arg10_r0 : BitVec 32 := Scf.iv c0_i32_437_r0 c1_i32_439_r0 k0_t2
  let c2_i32_533_r0 : BitVec 32 := 2#32
  let v1123_r0 : BitVec 32 := Scalar.muli arg10_r0 c2_i32_533_r0
  let v1124_r0 : BitVec 32 := Scalar.addi c1_i32_534_r0 v1123_r0
  let c1_i32_535_r0 : BitVec 32 := 1#32
  let v1125_r0 : BitVec 32 := Scalar.addi v1124_r0 c1_i32_535_r0
  let c256_i32_536_r0 : BitVec 32 := 256#32
  let v1126_r0 : BitVec 32 := Scalar.muli v1125_r0 c256_i32_536_r0
  v1126_r0
def k0_mult16 (k0_t2 : Fin k0_t2_loop.trips) : BitVec 32 :=
  let c1_i32_534_r0 : BitVec 32 := 1#32
  let c0_i32_437_r0 : BitVec 32 := 0#32
  let c1_i32_439_r0 : BitVec 32 := 1#32
  let arg10_r0 : BitVec 32 := Scf.iv c0_i32_437_r0 c1_i32_439_r0 k0_t2
  let c2_i32_533_r0 : BitVec 32 := 2#32
  let v1123_r0 : BitVec 32 := Scalar.muli arg10_r0 c2_i32_533_r0
  let v1124_r0 : BitVec 32 := Scalar.addi c1_i32_534_r0 v1123_r0
  let c1_i32_535_r0 : BitVec 32 := 1#32
  let v1125_r0 : BitVec 32 := Scalar.addi v1124_r0 c1_i32_535_r0
  let c1_i32_538_r0 : BitVec 32 := 1#32
  let v1130_r0 : BitVec 32 := Scalar.addi v1125_r0 c1_i32_538_r0
  let c256_i32_539_r0 : BitVec 32 := 256#32
  let v1131_r0 : BitVec 32 := Scalar.muli v1130_r0 c256_i32_539_r0
  v1131_r0
def k0_mult17 : BitVec 32 :=
  let c20224_i32_441_r0 : BitVec 32 := 20224#32
  c20224_i32_441_r0
def k0_cond3 (i : grid0.Coords) : BitVec 1 :=
  let arg0 : BitVec 32 := BitVec.ofNat 32 (i 0).val
  let c7_i32_190_r0 : BitVec 32 := 7#32
  let v486_r0 : BitVec 1 := Scalar.cmpi .eq arg0 c7_i32_190_r0
  let v487_r0 : BitVec 32 := Scalar.extui v486_r0
  let c0_i32_191_r0 : BitVec 32 := 0#32
  let v488_r0 : BitVec 1 := Scalar.cmpi .ne v487_r0 c0_i32_191_r0
  v488_r0

@[reducible] def k0_t3_loop : Scf.Loop 32 :=
  let c0_i32_193_r0 : BitVec 32 := 0#32
  let c23_i32_r0 : BitVec 32 := 23#32
  let v489_r0 : BitVec 32 := Scalar.addi c0_i32_193_r0 c23_i32_r0
  let c1_i32_194_r0 : BitVec 32 := 1#32
  ⟨c0_i32_193_r0, v489_r0, c1_i32_194_r0⟩
def k0_mult18 (k0_t3 : Fin k0_t3_loop.trips) : BitVec 32 :=
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  v494_r0
def k0_off29 (k0_t3 : Fin k0_t3_loop.trips) : Fin 3 → Nat :=
  let c0_199_r0 : Index := 0#32
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v496_r0 : Index := Scalar.indexCast v495_r0
  let c0_200_r0 : Index := 0#32
  ![0, v496_r0.toNat, 0]
def k0_off30 (k0_t3 : Fin k0_t3_loop.trips) : Fin 3 → Nat :=
  let c1_201_r0 : Index := 1#32
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v499_r0 : Index := Scalar.indexCast v495_r0
  let c0_202_r0 : Index := 0#32
  ![1, v499_r0.toNat, 0]
def k0_off31 (k0_t3 : Fin k0_t3_loop.trips) : Fin 3 → Nat :=
  let c2_203_r0 : Index := 2#32
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v502_r0 : Index := Scalar.indexCast v495_r0
  let c0_204_r0 : Index := 0#32
  ![2, v502_r0.toNat, 0]
def k0_off32 (k0_t3 : Fin k0_t3_loop.trips) : Fin 3 → Nat :=
  let c3_205_r0 : Index := 3#32
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v505_r0 : Index := Scalar.indexCast v495_r0
  let c0_206_r0 : Index := 0#32
  ![3, v505_r0.toNat, 0]
def k0_off33 (k0_t3 : Fin k0_t3_loop.trips) : Fin 3 → Nat :=
  let c4_207_r0 : Index := 4#32
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v508_r0 : Index := Scalar.indexCast v495_r0
  let c0_208_r0 : Index := 0#32
  ![4, v508_r0.toNat, 0]
def k0_off34 (k0_t3 : Fin k0_t3_loop.trips) : Fin 3 → Nat :=
  let c5_209_r0 : Index := 5#32
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v511_r0 : Index := Scalar.indexCast v495_r0
  let c0_210_r0 : Index := 0#32
  ![5, v511_r0.toNat, 0]
def k0_off35 (k0_t3 : Fin k0_t3_loop.trips) : Fin 3 → Nat :=
  let c6_211_r0 : Index := 6#32
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v514_r0 : Index := Scalar.indexCast v495_r0
  let c0_212_r0 : Index := 0#32
  ![6, v514_r0.toNat, 0]
def k0_off36 (k0_t3 : Fin k0_t3_loop.trips) : Fin 3 → Nat :=
  let c7_213_r0 : Index := 7#32
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v517_r0 : Index := Scalar.indexCast v495_r0
  let c0_214_r0 : Index := 0#32
  ![7, v517_r0.toNat, 0]
def k0_off37 (k0_t3 : Fin k0_t3_loop.trips) : Fin 2 → Nat :=
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v662_r0 : Index := Scalar.indexCast v495_r0
  let c0_268_r0 : Index := 0#32
  ![v662_r0.toNat, 0]
def k0_off38 (k0_t3 : Fin k0_t3_loop.trips) : Fin 2 → Nat :=
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v669_r0 : Index := Scalar.indexCast v495_r0
  let c128_270_r0 : Index := 128#32
  ![v669_r0.toNat, 128]
def k0_off39 (k0_t3 : Fin k0_t3_loop.trips) : Fin 2 → Nat :=
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v676_r0 : Index := Scalar.indexCast v495_r0
  let c256_272_r0 : Index := 256#32
  ![v676_r0.toNat, 256]
def k0_off40 (k0_t3 : Fin k0_t3_loop.trips) : Fin 2 → Nat :=
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v683_r0 : Index := Scalar.indexCast v495_r0
  let c384_274_r0 : Index := 384#32
  ![v683_r0.toNat, 384]
def k0_off41 (k0_t3 : Fin k0_t3_loop.trips) : Fin 2 → Nat :=
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v690_r0 : Index := Scalar.indexCast v495_r0
  let c512_276_r0 : Index := 512#32
  ![v690_r0.toNat, 512]
def k0_off42 (k0_t3 : Fin k0_t3_loop.trips) : Fin 2 → Nat :=
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v697_r0 : Index := Scalar.indexCast v495_r0
  let c640_278_r0 : Index := 640#32
  ![v697_r0.toNat, 640]
def k0_off43 (k0_t3 : Fin k0_t3_loop.trips) : Fin 2 → Nat :=
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v704_r0 : Index := Scalar.indexCast v495_r0
  let c768_280_r0 : Index := 768#32
  ![v704_r0.toNat, 768]
def k0_off44 (k0_t3 : Fin k0_t3_loop.trips) : Fin 2 → Nat :=
  let c0_i32_193_r0 : BitVec 32 := 0#32
  let c1_i32_194_r0 : BitVec 32 := 1#32
  let arg10_r0 : BitVec 32 := Scf.iv c0_i32_193_r0 c1_i32_194_r0 k0_t3
  let c1_i32_196_r0 : BitVec 32 := 1#32
  let v491_r0 : BitVec 32 := Scalar.muli arg10_r0 c1_i32_196_r0
  let c0_i32_197_r0 : BitVec 32 := 0#32
  let v492_r0 : BitVec 32 := Scalar.addi v491_r0 c0_i32_197_r0
  let c32_i32_198_r0 : BitVec 32 := 32#32
  let v493_r0 : BitVec 32 := Scalar.muli v492_r0 c32_i32_198_r0
  let c688_i32_r0 : BitVec 32 := 688#32
  let v494_r0 : BitVec 32 := Scalar.minsi v493_r0 c688_i32_r0
  let v495_r0 : BitVec 32 := v494_r0
  let v711_r0 : Index := Scalar.indexCast v495_r0
  let c896_282_r0 : Index := 896#32
  ![v711_r0.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S720x20480 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S20480x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S720x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S720x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S720x20480 : Shape := ⟨2, ![720, 20480]⟩
abbrev S20480x896 : Shape := ⟨2, ![20480, 896]⟩
abbrev S160x896 : Shape := ⟨2, ![160, 896]⟩
abbrev S160x7168 : Shape := ⟨2, ![160, 7168]⟩
abbrev S720x7168 : Shape := ⟨2, ![720, 7168]⟩
abbrev S8 : Shape := ⟨1, ![8]⟩
abbrev S_ : Shape := ⟨0, ![]⟩
abbrev S20480x896x1 : Shape := ⟨3, ![20480, 896, 1]⟩
abbrev S20480x896x8 : Shape := ⟨3, ![20480, 896, 8]⟩
abbrev S20480x7168 : Shape := ⟨2, ![20480, 7168]⟩
abbrev S160x896x1 : Shape := ⟨3, ![160, 896, 1]⟩
abbrev S160x896x8 : Shape := ⟨3, ![160, 896, 8]⟩
abbrev S160x128x7168 : Shape := ⟨3, ![160, 128, 7168]⟩
abbrev S160x1x7168 : Shape := ⟨3, ![160, 1, 7168]⟩

abbrev nBuf : Space → Nat
  | .hbm => 93
  | .vmem => 0
  | .smem => 0
  | _ => 0

abbrev bufTy : (tb : Table) → Fin (tcTables nBuf tb) → BufTy
  | .hbm, ⟨0, _⟩ => ⟨S720x20480, .bf16⟩
  | .hbm, ⟨1, _⟩ => ⟨S20480x896, .i32⟩
  | .hbm, ⟨2, _⟩ => ⟨S160x896, .i32⟩
  | .hbm, ⟨3, _⟩ => ⟨S160x7168, .i16⟩
  | .hbm, ⟨4, _⟩ => ⟨S720x7168, .bf16⟩
  | .hbm, ⟨5, _⟩ => ⟨S8, .i32⟩
  | .hbm, ⟨6, _⟩ => ⟨S8, .i32⟩
  | .hbm, ⟨7, _⟩ => ⟨S720x7168, .f32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S20480x896x1, .i32⟩
  | .hbm, ⟨12, _⟩ => ⟨S20480x896x8, .i32⟩
  | .hbm, ⟨13, _⟩ => ⟨S20480x896x8, .i32⟩
  | .hbm, ⟨14, _⟩ => ⟨S20480x896x8, .i32⟩
  | .hbm, ⟨15, _⟩ => ⟨S_, .i32⟩
  | .hbm, ⟨16, _⟩ => ⟨S20480x896x8, .i32⟩
  | .hbm, ⟨17, _⟩ => ⟨S20480x896x8, .i32⟩
  | .hbm, ⟨18, _⟩ => ⟨S20480x7168, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S160x896x1, .i32⟩
  | .hbm, ⟨23, _⟩ => ⟨S160x896x8, .i32⟩
  | .hbm, ⟨24, _⟩ => ⟨S160x896x8, .i32⟩
  | .hbm, ⟨25, _⟩ => ⟨S160x896x8, .i32⟩
  | .hbm, ⟨26, _⟩ => ⟨S_, .i32⟩
  | .hbm, ⟨27, _⟩ => ⟨S160x896x8, .i32⟩
  | .hbm, ⟨28, _⟩ => ⟨S160x896x8, .i32⟩
  | .hbm, ⟨29, _⟩ => ⟨S160x7168, .i32⟩
  | .hbm, ⟨30, _⟩ => ⟨S160x7168, .i32⟩
  | .hbm, ⟨31, _⟩ => ⟨S_, .i32⟩
  | .hbm, ⟨32, _⟩ => ⟨S160x7168, .i32⟩
  | .hbm, ⟨33, _⟩ => ⟨S160x7168, .i32⟩
  | .hbm, ⟨34, _⟩ => ⟨S_, .i32⟩
  | .hbm, ⟨35, _⟩ => ⟨S160x7168, .i32⟩
  | .hbm, ⟨36, _⟩ => ⟨S160x7168, .i32⟩
  | .hbm, ⟨37, _⟩ => ⟨S_, .i32⟩
  | .hbm, ⟨38, _⟩ => ⟨S160x7168, .i32⟩
  | .hbm, ⟨39, _⟩ => ⟨S160x7168, .i32⟩
  | .hbm, ⟨40, _⟩ => ⟨S_, .i32⟩
  | .hbm, ⟨41, _⟩ => ⟨S160x7168, .i32⟩
  | .hbm, ⟨42, _⟩ => ⟨S160x7168, .i32⟩
  | .hbm, ⟨43, _⟩ => ⟨S160x7168, .f32⟩
  | .hbm, ⟨44, _⟩ => ⟨S160x7168, .f32⟩
  | .hbm, ⟨45, _⟩ => ⟨S_, .f32⟩
  | .hbm, ⟨46, _⟩ => ⟨S160x7168, .f32⟩
  | .hbm, ⟨47, _⟩ => ⟨S160x7168, .f32⟩
  | .hbm, ⟨48, _⟩ => ⟨S_, .f32⟩
  | .hbm, ⟨49, _⟩ => ⟨S160x7168, .f32⟩
  | .hbm, ⟨50, _⟩ => ⟨S_, .f32⟩
  | .hbm, ⟨51, _⟩ => ⟨S160x7168, .f32⟩
  | .hbm, ⟨52, _⟩ => ⟨S160x7168, .f32⟩
  | .hbm, ⟨53, _⟩ => ⟨S160x7168, .f32⟩
  | .hbm, ⟨54, _⟩ => ⟨S160x7168, .f32⟩
  | .hbm, ⟨55, _⟩ => ⟨S_, .i32⟩
  | .hbm, ⟨56, _⟩ => ⟨S160x7168, .i32⟩
  | .hbm, ⟨57, _⟩ => ⟨S160x7168, .i1⟩
  | .hbm, ⟨58, _⟩ => ⟨S_, .f32⟩
  | .hbm, ⟨59, _⟩ => ⟨S_, .f32⟩
  | .hbm, ⟨60, _⟩ => ⟨S160x7168, .f32⟩
  | .hbm, ⟨61, _⟩ => ⟨S160x7168, .f32⟩
  | .hbm, ⟨62, _⟩ => ⟨S160x7168, .f32⟩
  | .hbm, ⟨63, _⟩ => ⟨S_, .i32⟩
  | .hbm, ⟨64, _⟩ => ⟨S160x7168, .i32⟩
  | .hbm, ⟨65, _⟩ => ⟨S160x7168, .i1⟩
  | .hbm, ⟨66, _⟩ => ⟨S_, .f32⟩
  | .hbm, ⟨67, _⟩ => ⟨S160x7168, .f32⟩
  | .hbm, ⟨68, _⟩ => ⟨S160x7168, .f32⟩
  | .hbm, ⟨69, _⟩ => ⟨S_, .i32⟩
  | .hbm, ⟨70, _⟩ => ⟨S160x7168, .i32⟩
  | .hbm, ⟨71, _⟩ => ⟨S160x7168, .i1⟩
  | .hbm, ⟨72, _⟩ => ⟨S160x7168, .f32⟩
  | .hbm, ⟨73, _⟩ => ⟨S160x7168, .f32⟩
  | .hbm, ⟨74, _⟩ => ⟨S160x7168, .f32⟩
  | .hbm, ⟨75, _⟩ => ⟨S_, .i32⟩
  | .hbm, ⟨76, _⟩ => ⟨S160x7168, .i32⟩
  | .hbm, ⟨77, _⟩ => ⟨S160x7168, .i1⟩
  | .hbm, ⟨78, _⟩ => ⟨S160x7168, .f32⟩
  | .hbm, ⟨79, _⟩ => ⟨S160x7168, .f32⟩
  | .hbm, ⟨80, _⟩ => ⟨S160x128x7168, .i32⟩
  | .hbm, ⟨81, _⟩ => ⟨S160x1x7168, .i32⟩
  | .hbm, ⟨82, _⟩ => ⟨S160x128x7168, .i32⟩
  | .hbm, ⟨83, _⟩ => ⟨S160x128x7168, .i32⟩
  | .hbm, ⟨84, _⟩ => ⟨S160x128x7168, .f32⟩
  | .hbm, ⟨85, _⟩ => ⟨S160x1x7168, .f32⟩
  | .hbm, ⟨86, _⟩ => ⟨S160x128x7168, .f32⟩
  | .hbm, ⟨87, _⟩ => ⟨S160x128x7168, .f32⟩
  | .hbm, ⟨88, _⟩ => ⟨S20480x7168, .f32⟩
  | .hbm, ⟨89, _⟩ => ⟨S20480x7168, .bf16⟩
  | .hbm, ⟨90, _⟩ => ⟨S720x7168, .f32⟩
  | .hbm, ⟨91, _⟩ => ⟨S720x7168, .f32⟩
  | .hbm, ⟨92, _⟩ => ⟨S720x7168, .bf16⟩
  | _, _ => ⟨S720x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_11 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_cst_13 : Ref sig .tc := ⟨.hbm, 59, rfl⟩
abbrev main_call0_v0 : Ref sig .tc := ⟨.hbm, 60, rfl⟩
abbrev main_call0_v1 : Ref sig .tc := ⟨.hbm, 61, rfl⟩
abbrev main_v39 : Ref sig .tc := ⟨.hbm, 62, rfl⟩
abbrev main_c_14 : Ref sig .tc := ⟨.hbm, 63, rfl⟩
abbrev main_v40 : Ref sig .tc := ⟨.hbm, 64, rfl⟩
abbrev main_v41 : Ref sig .tc := ⟨.hbm, 65, rfl⟩
abbrev main_cst_15 : Ref sig .tc := ⟨.hbm, 66, rfl⟩
abbrev main_v42 : Ref sig .tc := ⟨.hbm, 67, rfl⟩
abbrev main_v43 : Ref sig .tc := ⟨.hbm, 68, rfl⟩
abbrev main_c_16 : Ref sig .tc := ⟨.hbm, 69, rfl⟩
abbrev main_v44 : Ref sig .tc := ⟨.hbm, 70, rfl⟩
abbrev main_v45 : Ref sig .tc := ⟨.hbm, 71, rfl⟩
abbrev main_call1_v0 : Ref sig .tc := ⟨.hbm, 72, rfl⟩
abbrev main_v46 : Ref sig .tc := ⟨.hbm, 73, rfl⟩
abbrev main_v47 : Ref sig .tc := ⟨.hbm, 74, rfl⟩
abbrev main_c_17 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]
-- ==== GateUp.lean ====
abbrev S720x7168 : Shape := ⟨2, ![720, 7168]⟩
abbrev S1x7168 : Shape := ⟨2, ![1, 7168]⟩
abbrev S7168x2560 : Shape := ⟨2, ![7168, 2560]⟩
abbrev S56x2560 : Shape := ⟨2, ![56, 2560]⟩
abbrev S56x20480 : Shape := ⟨2, ![56, 20480]⟩
abbrev S720x20480 : Shape := ⟨2, ![720, 20480]⟩
abbrev S7168x128 : Shape := ⟨2, ![7168, 128]⟩
abbrev S56x128 : Shape := ⟨2, ![56, 128]⟩
abbrev S56x1024 : Shape := ⟨2, ![56, 1024]⟩
abbrev S720x1024 : Shape := ⟨2, ![720, 1024]⟩
abbrev S8x56x128 : Shape := ⟨3, ![8, 56, 128]⟩
abbrev S8x720x128 : Shape := ⟨3, ![8, 720, 128]⟩
abbrev S720x128 : Shape := ⟨2, ![720, 128]⟩
abbrev S1x720x128 : Shape := ⟨3, ![1, 720, 128]⟩
abbrev S16x128 : Shape := ⟨2, ![16, 128]⟩
abbrev S16 : Shape := ⟨1, ![16]⟩
abbrev S16x1 : Shape := ⟨2, ![16, 1]⟩
abbrev S16x1024 : Shape := ⟨2, ![16, 1024]⟩
abbrev S1x1024 : Shape := ⟨2, ![1, 1024]⟩
abbrev S56x128x1 : Shape := ⟨3, ![56, 128, 1]⟩
abbrev S1x56x128 : Shape := ⟨3, ![1, 56, 128]⟩
abbrev S256x128 : Shape := ⟨2, ![256, 128]⟩
abbrev S1x1x128 : Shape := ⟨3, ![1, 1, 128]⟩
abbrev S1x128 : Shape := ⟨2, ![1, 128]⟩
abbrev S128x128 : Shape := ⟨2, ![128, 128]⟩
abbrev S256x256 : Shape := ⟨2, ![256, 256]⟩
abbrev S720x256 : Shape := ⟨2, ![720, 256]⟩
abbrev S1x32x128 : Shape := ⟨3, ![1, 32, 128]⟩
abbrev S32x128 : Shape := ⟨2, ![32, 128]⟩
abbrev S32x128x1 : Shape := ⟨3, ![32, 128, 1]⟩

abbrev nBuf : Space → Nat
  | .hbm => 9
  | .vmem => 23
  | .smem => 0
  | _ => 0

abbrev bufTy : (tb : Table) → Fin (tcTables nBuf tb) → BufTy
  | .hbm, ⟨0, _⟩ => ⟨S720x7168, .bf16⟩
  | .hbm, ⟨1, _⟩ => ⟨S1x7168, .f32⟩
  | .hbm, ⟨2, _⟩ => ⟨S7168x2560, .i32⟩
  | .hbm, ⟨3, _⟩ => ⟨S56x2560, .i32⟩
  | .hbm, ⟨4, _⟩ => ⟨S56x20480, .i16⟩
  | .hbm, ⟨5, _⟩ => ⟨S7168x2560, .i32⟩
  | .hbm, ⟨6, _⟩ => ⟨S56x2560, .i32⟩
  | .hbm, ⟨7, _⟩ => ⟨S56x20480, .i16⟩
  | .hbm, ⟨8, _⟩ => ⟨S720x20480, .bf16⟩
  | .local _ .vmem, ⟨0, _⟩ => ⟨S720x7168, .bf16⟩
  | .local _ .vmem, ⟨1, _⟩ => ⟨S1x7168, .f32⟩
  | .local _ .vmem, ⟨2, _⟩ => ⟨S7168x128, .i32⟩
  | .local _ .vmem, ⟨3, _⟩ => ⟨S7168x128, .i32⟩
  | .local _ .vmem, ⟨4, _⟩ => ⟨S56x128, .i32⟩
  | .local _ .vmem, ⟨5, _⟩ => ⟨S56x128, .i32⟩
  | .local _ .vmem, ⟨6, _⟩ => ⟨S56x1024, .i16⟩
  | .local _ .vmem, ⟨7, _⟩ => ⟨S56x1024, .i16⟩
  | .local _ .vmem, ⟨8, _⟩ => ⟨S7168x128, .i32⟩
  | .local _ .vmem, ⟨9, _⟩ => ⟨S7168x128, .i32⟩
  | .local _ .vmem, ⟨10, _⟩ => ⟨S56x128, .i32⟩
  | .local _ .vmem, ⟨11, _⟩ => ⟨S56x128, .i32⟩
  | .local _ .vmem, ⟨12, _⟩ => ⟨S56x1024, .i16⟩
  | .local _ .vmem, ⟨13, _⟩ => ⟨S56x1024, .i16⟩
  | .local _ .vmem, ⟨14, _⟩ => ⟨S720x1024, .bf16⟩
  | .local _ .vmem, ⟨15, _⟩ => ⟨S720x1024, .bf16⟩
  | .local _ .vmem, ⟨16, _⟩ => ⟨S720x7168, .bf16⟩
  | .local _ .vmem, ⟨17, _⟩ => ⟨S8x56x128, .f32⟩
  | .local _ .vmem, ⟨18, _⟩ => ⟨S8x56x128, .f32⟩
  | .local _ .vmem, ⟨19, _⟩ => ⟨S8x56x128, .f32⟩
  | .local _ .vmem, ⟨20, _⟩ => ⟨S8x56x128, .f32⟩
  | .local _ .vmem, ⟨21, _⟩ => ⟨S8x720x128, .f32⟩
  | .local _ .vmem, ⟨22, _⟩ => ⟨S8x720x128, .f32⟩
  | _, _ => ⟨S720x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![21], ![false]⟩

def k0_cond2 (i : grid0.Coords) : BitVec 1 :=
  let arg0 : BitVec 32 := BitVec.ofNat 32 (i 0).val
  let c0_i32_1_r0 : BitVec 32 := 0#32
  let v3_r0 : BitVec 1 := Scalar.cmpi .eq arg0 c0_i32_1_r0
  let v4_r0 : BitVec 32 := Scalar.extui v3_r0
  let c0_i32_2_r0 : BitVec 32 := 0#32
  let v5_r0 : BitVec 1 := Scalar.cmpi .ne v4_r0 c0_i32_2_r0
  v5_r0

@[reducible] def k0_t1_loop : Scf.Loop 32 :=
  let c0_i32_424_r0 : BitVec 32 := 0#32
  let c45_i32_r0 : BitVec 32 := 45#32
  let v972_r0 : BitVec 32 := Scalar.addi c0_i32_424_r0 c45_i32_r0
  let c1_i32_425_r0 : BitVec 32 := 1#32
  ⟨c0_i32_424_r0, v972_r0, c1_i32_425_r0⟩
def k0_mult1 (k0_t1 : Fin k0_t1_loop.trips) : BitVec 32 :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  v974_r0
def k0_off1 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v977_r0 : Index := Scalar.indexCast v975_r0
  let c0_429_r0 : Index := 0#32
  ![v977_r0.toNat, 0]
def k0_off2 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v982_r0 : Index := Scalar.indexCast v975_r0
  let c128_430_r0 : Index := 128#32
  ![v982_r0.toNat, 128]
def k0_off3 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v987_r0 : Index := Scalar.indexCast v975_r0
  let c256_431_r0 : Index := 256#32
  ![v987_r0.toNat, 256]
def k0_off4 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v992_r0 : Index := Scalar.indexCast v975_r0
  let c384_432_r0 : Index := 384#32
  ![v992_r0.toNat, 384]
def k0_off5 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v997_r0 : Index := Scalar.indexCast v975_r0
  let c512_433_r0 : Index := 512#32
  ![v997_r0.toNat, 512]
def k0_off6 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1002_r0 : Index := Scalar.indexCast v975_r0
  let c640_434_r0 : Index := 640#32
  ![v1002_r0.toNat, 640]
def k0_off7 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1007_r0 : Index := Scalar.indexCast v975_r0
  let c768_435_r0 : Index := 768#32
  ![v1007_r0.toNat, 768]
def k0_off8 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1012_r0 : Index := Scalar.indexCast v975_r0
  let c896_436_r0 : Index := 896#32
  ![v1012_r0.toNat, 896]
def k0_off9 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1017_r0 : Index := Scalar.indexCast v975_r0
  let c1024_r0 : Index := 1024#32
  ![v1017_r0.toNat, 1024]
def k0_off10 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1022_r0 : Index := Scalar.indexCast v975_r0
  let c1152_r0 : Index := 1152#32
  ![v1022_r0.toNat, 1152]
def k0_off11 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1027_r0 : Index := Scalar.indexCast v975_r0
  let c1280_r0 : Index := 1280#32
  ![v1027_r0.toNat, 1280]
def k0_off12 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1032_r0 : Index := Scalar.indexCast v975_r0
  let c1408_r0 : Index := 1408#32
  ![v1032_r0.toNat, 1408]
def k0_off13 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1037_r0 : Index := Scalar.indexCast v975_r0
  let c1536_r0 : Index := 1536#32
  ![v1037_r0.toNat, 1536]
def k0_off14 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1042_r0 : Index := Scalar.indexCast v975_r0
  let c1664_r0 : Index := 1664#32
  ![v1042_r0.toNat, 1664]
def k0_off15 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1047_r0 : Index := Scalar.indexCast v975_r0
  let c1792_r0 : Index := 1792#32
  ![v1047_r0.toNat, 1792]
def k0_off16 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1052_r0 : Index := Scalar.indexCast v975_r0
  let c1920_r0 : Index := 1920#32
  ![v1052_r0.toNat, 1920]
def k0_off17 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1057_r0 : Index := Scalar.indexCast v975_r0
  let c2048_r0 : Index := 2048#32
  ![v1057_r0.toNat, 2048]
def k0_off18 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1062_r0 : Index := Scalar.indexCast v975_r0
  let c2176_r0 : Index := 2176#32
  ![v1062_r0.toNat, 2176]
def k0_off19 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1067_r0 : Index := Scalar.indexCast v975_r0
  let c2304_r0 : Index := 2304#32
  ![v1067_r0.toNat, 2304]
def k0_off20 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1072_r0 : Index := Scalar.indexCast v975_r0
  let c2432_r0 : Index := 2432#32
  ![v1072_r0.toNat, 2432]
def k0_off21 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1077_r0 : Index := Scalar.indexCast v975_r0
  let c2560_r0 : Index := 2560#32
  ![v1077_r0.toNat, 2560]
def k0_off22 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1082_r0 : Index := Scalar.indexCast v975_r0
  let c2688_r0 : Index := 2688#32
  ![v1082_r0.toNat, 2688]
def k0_off23 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1087_r0 : Index := Scalar.indexCast v975_r0
  let c2816_r0 : Index := 2816#32
  ![v1087_r0.toNat, 2816]
def k0_off24 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1092_r0 : Index := Scalar.indexCast v975_r0
  let c2944_r0 : Index := 2944#32
  ![v1092_r0.toNat, 2944]
def k0_off25 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1097_r0 : Index := Scalar.indexCast v975_r0
  let c3072_r0 : Index := 3072#32
  ![v1097_r0.toNat, 3072]
def k0_off26 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1102_r0 : Index := Scalar.indexCast v975_r0
  let c3200_r0 : Index := 3200#32
  ![v1102_r0.toNat, 3200]
def k0_off27 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1107_r0 : Index := Scalar.indexCast v975_r0
  let c3328_r0 : Index := 3328#32
  ![v1107_r0.toNat, 3328]
def k0_off28 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1112_r0 : Index := Scalar.indexCast v975_r0
  let c3456_r0 : Index := 3456#32
  ![v1112_r0.toNat, 3456]
def k0_off29 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1117_r0 : Index := Scalar.indexCast v975_r0
  let c3584_r0 : Index := 3584#32
  ![v1117_r0.toNat, 3584]
def k0_off30 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1122_r0 : Index := Scalar.indexCast v975_r0
  let c3712_r0 : Index := 3712#32
  ![v1122_r0.toNat, 3712]
def k0_off31 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1127_r0 : Index := Scalar.indexCast v975_r0
  let c3840_r0 : Index := 3840#32
  ![v1127_r0.toNat, 3840]
def k0_off32 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1132_r0 : Index := Scalar.indexCast v975_r0
  let c3968_r0 : Index := 3968#32
  ![v1132_r0.toNat, 3968]
def k0_off33 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1137_r0 : Index := Scalar.indexCast v975_r0
  let c4096_r0 : Index := 4096#32
  ![v1137_r0.toNat, 4096]
def k0_off34 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1142_r0 : Index := Scalar.indexCast v975_r0
  let c4224_r0 : Index := 4224#32
  ![v1142_r0.toNat, 4224]
def k0_off35 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1147_r0 : Index := Scalar.indexCast v975_r0
  let c4352_r0 : Index := 4352#32
  ![v1147_r0.toNat, 4352]
def k0_off36 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1152_r0 : Index := Scalar.indexCast v975_r0
  let c4480_r0 : Index := 4480#32
  ![v1152_r0.toNat, 4480]
def k0_off37 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1157_r0 : Index := Scalar.indexCast v975_r0
  let c4608_r0 : Index := 4608#32
  ![v1157_r0.toNat, 4608]
def k0_off38 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1162_r0 : Index := Scalar.indexCast v975_r0
  let c4736_r0 : Index := 4736#32
  ![v1162_r0.toNat, 4736]
def k0_off39 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1167_r0 : Index := Scalar.indexCast v975_r0
  let c4864_r0 : Index := 4864#32
  ![v1167_r0.toNat, 4864]
def k0_off40 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1172_r0 : Index := Scalar.indexCast v975_r0
  let c4992_r0 : Index := 4992#32
  ![v1172_r0.toNat, 4992]
def k0_off41 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1177_r0 : Index := Scalar.indexCast v975_r0
  let c5120_r0 : Index := 5120#32
  ![v1177_r0.toNat, 5120]
def k0_off42 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1182_r0 : Index := Scalar.indexCast v975_r0
  let c5248_r0 : Index := 5248#32
  ![v1182_r0.toNat, 5248]
def k0_off43 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1187_r0 : Index := Scalar.indexCast v975_r0
  let c5376_r0 : Index := 5376#32
  ![v1187_r0.toNat, 5376]
def k0_off44 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1192_r0 : Index := Scalar.indexCast v975_r0
  let c5504_r0 : Index := 5504#32
  ![v1192_r0.toNat, 5504]
def k0_off45 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1197_r0 : Index := Scalar.indexCast v975_r0
  let c5632_r0 : Index := 5632#32
  ![v1197_r0.toNat, 5632]
def k0_off46 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1202_r0 : Index := Scalar.indexCast v975_r0
  let c5760_r0 : Index := 5760#32
  ![v1202_r0.toNat, 5760]
def k0_off47 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1207_r0 : Index := Scalar.indexCast v975_r0
  let c5888_r0 : Index := 5888#32
  ![v1207_r0.toNat, 5888]
def k0_off48 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1212_r0 : Index := Scalar.indexCast v975_r0
  let c6016_r0 : Index := 6016#32
  ![v1212_r0.toNat, 6016]
def k0_off49 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1217_r0 : Index := Scalar.indexCast v975_r0
  let c6144_r0 : Index := 6144#32
  ![v1217_r0.toNat, 6144]
def k0_off50 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1222_r0 : Index := Scalar.indexCast v975_r0
  let c6272_r0 : Index := 6272#32
  ![v1222_r0.toNat, 6272]
def k0_off51 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1227_r0 : Index := Scalar.indexCast v975_r0
  let c6400_r0 : Index := 6400#32
  ![v1227_r0.toNat, 6400]
def k0_off52 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1232_r0 : Index := Scalar.indexCast v975_r0
  let c6528_r0 : Index := 6528#32
  ![v1232_r0.toNat, 6528]
def k0_off53 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1237_r0 : Index := Scalar.indexCast v975_r0
  let c6656_r0 : Index := 6656#32
  ![v1237_r0.toNat, 6656]
def k0_off54 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1242_r0 : Index := Scalar.indexCast v975_r0
  let c6784_r0 : Index := 6784#32
  ![v1242_r0.toNat, 6784]
def k0_off55 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1247_r0 : Index := Scalar.indexCast v975_r0
  let c6912_r0 : Index := 6912#32
  ![v1247_r0.toNat, 6912]
def k0_off56 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1252_r0 : Index := Scalar.indexCast v975_r0
  let c7040_r0 : Index := 7040#32
  ![v1252_r0.toNat, 7040]
def k0_off57 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1264_r0 : Index := Scalar.indexCast v975_r0
  let c0_440_r0 : Index := 0#32
  ![v1264_r0.toNat, 0]
def k0_off58 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1277_r0 : Index := Scalar.indexCast v975_r0
  let c1024_444_r0 : Index := 1024#32
  ![v1277_r0.toNat, 1024]
def k0_off59 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1290_r0 : Index := Scalar.indexCast v975_r0
  let c2048_448_r0 : Index := 2048#32
  ![v1290_r0.toNat, 2048]
def k0_off60 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1303_r0 : Index := Scalar.indexCast v975_r0
  let c3072_452_r0 : Index := 3072#32
  ![v1303_r0.toNat, 3072]
def k0_off61 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1316_r0 : Index := Scalar.indexCast v975_r0
  let c4096_456_r0 : Index := 4096#32
  ![v1316_r0.toNat, 4096]
def k0_off62 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1329_r0 : Index := Scalar.indexCast v975_r0
  let c5120_460_r0 : Index := 5120#32
  ![v1329_r0.toNat, 5120]
def k0_off63 (k0_t1 : Fin k0_t1_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t1
  let c16_i32_427_r0 : BitVec 32 := 16#32
  let v974_r0 : BitVec 32 := Scalar.muli arg17_r0 c16_i32_427_r0
  let v975_r0 : BitVec 32 := v974_r0
  let v1342_r0 : Index := Scalar.indexCast v975_r0
  let c6144_464_r0 : Index := 6144#32
  ![v1342_r0.toNat, 6144]
def k0_cond3 (i : grid0.Coords) : BitVec 1 :=
  let arg0 : BitVec 32 := BitVec.ofNat 32 (i 0).val
  let c20_i32_r0 : BitVec 32 := 20#32
  let v966_r0 : BitVec 1 := Scalar.cmpi .slt arg0 c20_i32_r0
  let v967_r0 : BitVec 32 := Scalar.extui v966_r0
  let c0_i32_420_r0 : BitVec 32 := 0#32
  let v968_r0 : BitVec 1 := Scalar.cmpi .ne v967_r0 c0_i32_420_r0
  v968_r0

def k0_mult2 : BitVec 32 :=
  let c0_i32_423_r0 : BitVec 32 := 0#32
  c0_i32_423_r0
def k0_mult3 : BitVec 32 :=
  let c0_i32_479_r0 : BitVec 32 := 0#32
  c0_i32_479_r0
def k0_mult4 : BitVec 32 :=
  let c256_i32_r0 : BitVec 32 := 256#32
  c256_i32_r0
@[reducible] def k0_t2_loop : Scf.Loop 32 :=
  let c0_i32_537_r0 : BitVec 32 := 0#32
  let c13_i32_538_r0 : BitVec 32 := 13#32
  let v1185_r0 : BitVec 32 := Scalar.addi c0_i32_537_r0 c13_i32_538_r0
  let c1_i32_539_r0 : BitVec 32 := 1#32
  ⟨c0_i32_537_r0, v1185_r0, c1_i32_539_r0⟩
def k0_mult5 (k0_t2 : Fin k0_t2_loop.trips) : BitVec 32 :=
  let c1_i32_954_r0 : BitVec 32 := 1#32
  let c0_i32_537_r0 : BitVec 32 := 0#32
  let c1_i32_539_r0 : BitVec 32 := 1#32
  let arg17_r0 : BitVec 32 := Scf.iv c0_i32_537_r0 c1_i32_539_r0 k0_t2
  let c2_i32_953_r0 : BitVec 32 := 2#32
  let v1916_r0 : BitVec 32 := Scalar.muli arg17_r0 c2_i32_953_r0
  let v1917_r0 : BitVec 32 := Scalar.addi c1_i32_954_r0 v1916_r0
  let c0_i32_955_r0 : BitVec 32 := 0#32
  let v1918_r0 : BitVec 32 := Scalar.addi v1917_r0 c0_i32_955_r0
  let c256_i32_956_r0 : BitVec 32 := 256#32
  let v1919_r0 : BitVec 32 := Scalar.muli v1918_r0 c256_i32_956_r0
  v1919_r0
def k0_off64 (k0_t2 : Fin k0_t2_loop.trips) (c0_i32_955_r0 : BitVec 32) : Fin 2 → Nat :=
  let c0_957_r0 : Index := 0#32
  let c1_i32_954_r0 : BitVec 32 := 1#32
  let c0_i32_537_r0 : BitVec 32 := 0#32
  let c1_i32_539_r0 : BitVec 32 := 1#32
  let arg17_r0 : BitVec 32 := Scf.iv c0_i32_537_r0 c1_i32_539_r0 k0_t2
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c256_i32_956_r0 : BitVec 32 := 256#32
  let v1919_r0 : BitVec 32 := Scalar.muli v1918_r0 c256_i32_956_r0
  let v1920_r0 : BitVec 32 := v1919_r0
  let v1921_r0 : Index := Scalar.indexCast v1920_r0
  ![0, v1921_r0.toNat]
def k0_mult6 (k0_t2 : Fin k0_t2_loop.trips) : BitVec 32 :=
  let c1_i32_954_r0 : BitVec 32 := 1#32
  let c0_i32_537_r0 : BitVec 32 := 0#32
  let c1_i32_539_r0 : BitVec 32 := 1#32
  let arg17_r0 : BitVec 32 := Scf.iv c0_i32_537_r0 c1_i32_539_r0 k0_t2
  let c2_i32_953_r0 : BitVec 32 := 2#32
  let v1916_r0 : BitVec 32 := Scalar.muli arg17_r0 c2_i32_953_r0
  let v1917_r0 : BitVec 32 := Scalar.addi c1_i32_954_r0 v1916_r0
  let c0_i32_955_r0 : BitVec 32 := 0#32
  let v1918_r0 : BitVec 32 := Scalar.addi v1917_r0 c0_i32_955_r0
  let c1_i32_958_r0 : BitVec 32 := 1#32
  let v1923_r0 : BitVec 32 := Scalar.addi v1918_r0 c1_i32_958_r0
  let c256_i32_959_r0 : BitVec 32 := 256#32
  let v1924_r0 : BitVec 32 := Scalar.muli v1923_r0 c256_i32_959_r0
  v1924_r0
def k0_off65 (k0_t2 : Fin k0_t2_loop.trips) (c0_i32_955_r0 : BitVec 32) : Fin 2 → Nat :=
  let c1_i32_954_r0 : BitVec 32 := 1#32
  let c0_i32_537_r0 : BitVec 32 := 0#32
  let c1_i32_539_r0 : BitVec 32 := 1#32
  let arg17_r0 : BitVec 32 := Scf.iv c0_i32_537_r0 c1_i32_539_r0 k0_t2
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c256_i32_959_r0 : BitVec 32 := 256#32
  let v1924_r0 : BitVec 32 := Scalar.muli v1923_r0 c256_i32_959_r0
  let v1925_r0 : BitVec 32 := v1924_r0
  let v1926_r0 : Index := Scalar.indexCast v1925_r0
  let c0_960_r0 : Index := 0#32
  ![v1926_r0.toNat, 0]
def k0_off66 (k0_t2 : Fin k0_t2_loop.trips) (c0_i32_955_r0 : BitVec 32) (c0_i32_968_r0 : BitVec 32) : Fin 3 → Nat :=
  let c0_969_r0 : Index := 0#32
  let c1_i32_954_r0 : BitVec 32 := 1#32
  let c0_i32_537_r0 : BitVec 32 := 0#32
  let c1_i32_539_r0 : BitVec 32 := 1#32
  let arg17_r0 : BitVec 32 := Scf.iv c0_i32_537_r0 c1_i32_539_r0 k0_t2
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_967_r0 : BitVec 32 := 2#32
  let v1944_r0 : BitVec 32 := Scalar.muli v1923_r0 c2_i32_967_r0
  let v1945_r0 : BitVec 32 := Scalar.addi v1944_r0 c0_i32_968_r0
  let v1946_r0 : Index := Scalar.indexCast v1945_r0
  let c0_970_r0 : Index := 0#32
  ![0, v1946_r0.toNat, 0]
def k0_off67 (k0_t2 : Fin k0_t2_loop.trips) (c0_i32_955_r0 : BitVec 32) (c0_i32_984_r0 : BitVec 32) : Fin 3 → Nat :=
  let c1_985_r0 : Index := 1#32
  let c1_i32_954_r0 : BitVec 32 := 1#32
  let c0_i32_537_r0 : BitVec 32 := 0#32
  let c1_i32_539_r0 : BitVec 32 := 1#32
  let arg17_r0 : BitVec 32 := Scf.iv c0_i32_537_r0 c1_i32_539_r0 k0_t2
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_983_r0 : BitVec 32 := 2#32
  let v1977_r0 : BitVec 32 := Scalar.muli v1923_r0 c2_i32_983_r0
  let v1978_r0 : BitVec 32 := Scalar.addi v1977_r0 c0_i32_984_r0
  let v1979_r0 : Index := Scalar.indexCast v1978_r0
  let c0_986_r0 : Index := 0#32
  ![1, v1979_r0.toNat, 0]
def k0_off68 (k0_t2 : Fin k0_t2_loop.trips) (c0_i32_955_r0 : BitVec 32) (c0_i32_1000_r0 : BitVec 32) : Fin 3 → Nat :=
  let c2_1001_r0 : Index := 2#32
  let c1_i32_954_r0 : BitVec 32 := 1#32
  let c0_i32_537_r0 : BitVec 32 := 0#32
  let c1_i32_539_r0 : BitVec 32 := 1#32
  let arg17_r0 : BitVec 32 := Scf.iv c0_i32_537_r0 c1_i32_539_r0 k0_t2
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_999_r0 : BitVec 32 := 2#32
  let v2010_r0 : BitVec 32 := Scalar.muli v1923_r0 c2_i32_999_r0
  let v2011_r0 : BitVec 32 := Scalar.addi v2010_r0 c0_i32_1000_r0
  let v2012_r0 : Index := Scalar.indexCast v2011_r0
  let c0_1002_r0 : Index := 0#32
  ![2, v2012_r0.toNat, 0]
def k0_off69 (k0_t2 : Fin k0_t2_loop.trips) (c0_i32_955_r0 : BitVec 32) (c0_i32_1016_r0 : BitVec 32) : Fin 3 → Nat :=
  let c3_1017_r0 : Index := 3#32
  let c1_i32_954_r0 : BitVec 32 := 1#32
  let c0_i32_537_r0 : BitVec 32 := 0#32
  let c1_i32_539_r0 : BitVec 32 := 1#32
  let arg17_r0 : BitVec 32 := Scf.iv c0_i32_537_r0 c1_i32_539_r0 k0_t2
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_1015_r0 : BitVec 32 := 2#32
  let v2043_r0 : BitVec 32 := Scalar.muli v1923_r0 c2_i32_1015_r0
  let v2044_r0 : BitVec 32 := Scalar.addi v2043_r0 c0_i32_1016_r0
  let v2045_r0 : Index := Scalar.indexCast v2044_r0
  let c0_1018_r0 : Index := 0#32
  ![3, v2045_r0.toNat, 0]
def k0_mult7 (k0_t2 : Fin k0_t2_loop.trips) : BitVec 32 :=
  let c1_i32_1032_r0 : BitVec 32 := 1#32
  let c0_i32_537_r0 : BitVec 32 := 0#32
  let c1_i32_539_r0 : BitVec 32 := 1#32
  let arg17_r0 : BitVec 32 := Scf.iv c0_i32_537_r0 c1_i32_539_r0 k0_t2
  let c2_i32_1031_r0 : BitVec 32 := 2#32
  let v2078_r0 : BitVec 32 := Scalar.muli arg17_r0 c2_i32_1031_r0
  let v2079_r0 : BitVec 32 := Scalar.addi c1_i32_1032_r0 v2078_r0
  let c1_i32_1033_r0 : BitVec 32 := 1#32
  let v2080_r0 : BitVec 32 := Scalar.addi v2079_r0 c1_i32_1033_r0
  let c256_i32_1034_r0 : BitVec 32 := 256#32
  let v2081_r0 : BitVec 32 := Scalar.muli v2080_r0 c256_i32_1034_r0
  v2081_r0
def k0_mult8 (k0_t2 : Fin k0_t2_loop.trips) : BitVec 32 :=
  let c1_i32_1032_r0 : BitVec 32 := 1#32
  let c0_i32_537_r0 : BitVec 32 := 0#32
  let c1_i32_539_r0 : BitVec 32 := 1#32
  let arg17_r0 : BitVec 32 := Scf.iv c0_i32_537_r0 c1_i32_539_r0 k0_t2
  let c2_i32_1031_r0 : BitVec 32 := 2#32
  let v2078_r0 : BitVec 32 := Scalar.muli arg17_r0 c2_i32_1031_r0
  let v2079_r0 : BitVec 32 := Scalar.addi c1_i32_1032_r0 v2078_r0
  let c1_i32_1033_r0 : BitVec 32 := 1#32
  let v2080_r0 : BitVec 32 := Scalar.addi v2079_r0 c1_i32_1033_r0
  let c1_i32_1036_r0 : BitVec 32 := 1#32
  let v2085_r0 : BitVec 32 := Scalar.addi v2080_r0 c1_i32_1036_r0
  let c256_i32_1037_r0 : BitVec 32 := 256#32
  let v2086_r0 : BitVec 32 := Scalar.muli v2085_r0 c256_i32_1037_r0
  v2086_r0
def k0_mult9 (k0_t2 : Fin k0_t2_loop.trips) : BitVec 32 :=
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let c0_i32_1110_r0 : BitVec 32 := 0#32
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  v2243_r0
def k0_off70 (k0_t2 : Fin k0_t2_loop.trips) (c0_i32_1110_r0 : BitVec 32) : Fin 3 → Nat :=
  let c0_1112_r0 : Index := 0#32
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2245_r0 : Index := Scalar.indexCast v2244_r0
  let c0_1113_r0 : Index := 0#32
  ![0, v2245_r0.toNat, 0]
def k0_off71 (k0_t2 : Fin k0_t2_loop.trips) (c0_i32_1110_r0 : BitVec 32) : Fin 3 → Nat :=
  let c1_1116_r0 : Index := 1#32
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2256_r0 : Index := Scalar.indexCast v2244_r0
  let c0_1117_r0 : Index := 0#32
  ![1, v2256_r0.toNat, 0]
def k0_off72 (k0_t2 : Fin k0_t2_loop.trips) (c0_i32_1110_r0 : BitVec 32) : Fin 3 → Nat :=
  let c2_1120_r0 : Index := 2#32
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2267_r0 : Index := Scalar.indexCast v2244_r0
  let c0_1121_r0 : Index := 0#32
  ![2, v2267_r0.toNat, 0]
def k0_off73 (k0_t2 : Fin k0_t2_loop.trips) (c0_i32_1110_r0 : BitVec 32) : Fin 3 → Nat :=
  let c3_1124_r0 : Index := 3#32
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2278_r0 : Index := Scalar.indexCast v2244_r0
  let c0_1125_r0 : Index := 0#32
  ![3, v2278_r0.toNat, 0]
def k0_off74 (k0_t2 : Fin k0_t2_loop.trips) (c0_i32_1110_r0 : BitVec 32) : Fin 3 → Nat :=
  let c4_1128_r0 : Index := 4#32
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2289_r0 : Index := Scalar.indexCast v2244_r0
  let c0_1129_r0 : Index := 0#32
  ![4, v2289_r0.toNat, 0]
def k0_off75 (k0_t2 : Fin k0_t2_loop.trips) (c0_i32_1110_r0 : BitVec 32) : Fin 3 → Nat :=
  let c5_1132_r0 : Index := 5#32
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2300_r0 : Index := Scalar.indexCast v2244_r0
  let c0_1133_r0 : Index := 0#32
  ![5, v2300_r0.toNat, 0]
def k0_off76 (k0_t2 : Fin k0_t2_loop.trips) (c0_i32_1110_r0 : BitVec 32) : Fin 3 → Nat :=
  let c6_1136_r0 : Index := 6#32
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2311_r0 : Index := Scalar.indexCast v2244_r0
  let c0_1137_r0 : Index := 0#32
  ![6, v2311_r0.toNat, 0]
def k0_off77 (k0_t2 : Fin k0_t2_loop.trips) (c0_i32_1110_r0 : BitVec 32) : Fin 3 → Nat :=
  let c7_1140_r0 : Index := 7#32
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2322_r0 : Index := Scalar.indexCast v2244_r0
  let c0_1141_r0 : Index := 0#32
  ![7, v2322_r0.toNat, 0]
def k0_off78 (k0_t2 : Fin k0_t2_loop.trips) (c0_i32_1110_r0 : BitVec 32) : Fin 2 → Nat :=
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2476_r0 : Index := Scalar.indexCast v2244_r0
  let c0_1196_r0 : Index := 0#32
  ![v2476_r0.toNat, 0]
def k0_off79 (k0_t2 : Fin k0_t2_loop.trips) (c0_i32_1110_r0 : BitVec 32) : Fin 2 → Nat :=
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2479_r0 : Index := Scalar.indexCast v2244_r0
  let c128_1197_r0 : Index := 128#32
  ![v2479_r0.toNat, 128]
def k0_off80 (k0_t2 : Fin k0_t2_loop.trips) (c0_i32_1110_r0 : BitVec 32) : Fin 2 → Nat :=
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2482_r0 : Index := Scalar.indexCast v2244_r0
  let c256_1198_r0 : Index := 256#32
  ![v2482_r0.toNat, 256]
def k0_off81 (k0_t2 : Fin k0_t2_loop.trips) (c0_i32_1110_r0 : BitVec 32) : Fin 2 → Nat :=
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2485_r0 : Index := Scalar.indexCast v2244_r0
  let c384_1199_r0 : Index := 384#32
  ![v2485_r0.toNat, 384]
def k0_off82 (k0_t2 : Fin k0_t2_loop.trips) (c0_i32_1110_r0 : BitVec 32) : Fin 2 → Nat :=
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2488_r0 : Index := Scalar.indexCast v2244_r0
  let c512_1200_r0 : Index := 512#32
  ![v2488_r0.toNat, 512]
def k0_off83 (k0_t2 : Fin k0_t2_loop.trips) (c0_i32_1110_r0 : BitVec 32) : Fin 2 → Nat :=
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2491_r0 : Index := Scalar.indexCast v2244_r0
  let c640_1201_r0 : Index := 640#32
  ![v2491_r0.toNat, 640]
def k0_off84 (k0_t2 : Fin k0_t2_loop.trips) (c0_i32_1110_r0 : BitVec 32) : Fin 2 → Nat :=
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2494_r0 : Index := Scalar.indexCast v2244_r0
  let c768_1202_r0 : Index := 768#32
  ![v2494_r0.toNat, 768]
def k0_off85 (k0_t2 : Fin k0_t2_loop.trips) (c0_i32_1110_r0 : BitVec 32) : Fin 2 → Nat :=
  let c0_i32_537_r0 : BitVec 32 := 0#32
  let c1_i32_539_r0 : BitVec 32 := 1#32
  let arg17_r0 : BitVec 32 := Scf.iv c0_i32_537_r0 c1_i32_539_r0 k0_t2
  let c2_i32_1109_r0 : BitVec 32 := 2#32
  let v2240_r0 : BitVec 32 := Scalar.muli arg17_r0 c2_i32_1109_r0
  let v2241_r0 : BitVec 32 := Scalar.addi v2240_r0 c0_i32_1110_r0
  let c32_i32_1111_r0 : BitVec 32 := 32#32
  let v2242_r0 : BitVec 32 := Scalar.muli v2241_r0 c32_i32_1111_r0
  let c688_i32_r0 : BitVec 32 := 688#32
  let v2243_r0 : BitVec 32 := Scalar.minsi v2242_r0 c688_i32_r0
  let v2244_r0 : BitVec 32 := v2243_r0
  let v2497_r0 : Index := Scalar.indexCast v2244_r0
  let c896_1203_r0 : Index := 896#32
  ![v2497_r0.toNat, 896]
def k0_mult10 (k0_t2 : Fin k0_t2_loop.trips) : BitVec 32 :=
  let c0_i32_537_r0 : BitVec 32 := 0#32
  let c1_i32_539_r0 : BitVec 32 := 1#32
  let arg17_r0 : BitVec 32 := Scf.iv c0_i32_537_r0 c1_i32_539_r0 k0_t2
  let c2_i32_1204_r0 : BitVec 32 := 2#32
  let v2499_r0 : BitVec 32 := Scalar.muli arg17_r0 c2_i32_1204_r0
  let c1_i32_1205_r0 : BitVec 32 := 1#32
  let v2500_r0 : BitVec 32 := Scalar.addi v2499_r0 c1_i32_1205_r0
  let c32_i32_1206_r0 : BitVec 32 := 32#32
  let v2501_r0 : BitVec 32 := Scalar.muli v2500_r0 c32_i32_1206_r0
  let c688_i32_1207_r0 : BitVec 32 := 688#32
  let v2502_r0 : BitVec 32 := Scalar.minsi v2501_r0 c688_i32_1207_r0
  v2502_r0
def k0_mult11 : BitVec 32 :=
  let c6912_i32_r0 : BitVec 32 := 6912#32
  c6912_i32_r0
def k0_mult12 : BitVec 32 :=
  let c0_i32_542_r0 : BitVec 32 := 0#32
  c0_i32_542_r0
def k0_mult13 : BitVec 32 :=
  let c0_i32_610_r0 : BitVec 32 := 0#32
  c0_i32_610_r0
def k0_mult14 : BitVec 32 :=
  let c256_i32_612_r0 : BitVec 32 := 256#32
  c256_i32_612_r0
@[reducible] def k0_t3_loop : Scf.Loop 32 :=
  let c0_i32_669_r0 : BitVec 32 := 0#32
  let c13_i32_670_r0 : BitVec 32 := 13#32
  let v1421_r0 : BitVec 32 := Scalar.addi c0_i32_669_r0 c13_i32_670_r0
  let c1_i32_671_r0 : BitVec 32 := 1#32
  ⟨c0_i32_669_r0, v1421_r0, c1_i32_671_r0⟩
def k0_mult15 (k0_t3 : Fin k0_t3_loop.trips) : BitVec 32 :=
  let c1_i32_954_r0 : BitVec 32 := 1#32
  let c0_i32_669_r0 : BitVec 32 := 0#32
  let c1_i32_671_r0 : BitVec 32 := 1#32
  let arg17_r0 : BitVec 32 := Scf.iv c0_i32_669_r0 c1_i32_671_r0 k0_t3
  let c2_i32_953_r0 : BitVec 32 := 2#32
  let v1916_r0 : BitVec 32 := Scalar.muli arg17_r0 c2_i32_953_r0
  let v1917_r0 : BitVec 32 := Scalar.addi c1_i32_954_r0 v1916_r0
  let c0_i32_955_r0 : BitVec 32 := 0#32
  let v1918_r0 : BitVec 32 := Scalar.addi v1917_r0 c0_i32_955_r0
  let c256_i32_956_r0 : BitVec 32 := 256#32
  let v1919_r0 : BitVec 32 := Scalar.muli v1918_r0 c256_i32_956_r0
  v1919_r0
def k0_off86 (k0_t3 : Fin k0_t3_loop.trips) (c0_i32_955_r0 : BitVec 32) : Fin 2 → Nat :=
  let c0_957_r0 : Index := 0#32
  let c1_i32_954_r0 : BitVec 32 := 1#32
  let c0_i32_669_r0 : BitVec 32 := 0#32
  let c1_i32_671_r0 : BitVec 32 := 1#32
  let arg17_r0 : BitVec 32 := Scf.iv c0_i32_669_r0 c1_i32_671_r0 k0_t3
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c256_i32_956_r0 : BitVec 32 := 256#32
  let v1919_r0 : BitVec 32 := Scalar.muli v1918_r0 c256_i32_956_r0
  let v1920_r0 : BitVec 32 := v1919_r0
  let v1921_r0 : Index := Scalar.indexCast v1920_r0
  ![0, v1921_r0.toNat]
def k0_mult16 (k0_t3 : Fin k0_t3_loop.trips) : BitVec 32 :=
  let c1_i32_954_r0 : BitVec 32 := 1#32
  let c0_i32_669_r0 : BitVec 32 := 0#32
  let c1_i32_671_r0 : BitVec 32 := 1#32
  let arg17_r0 : BitVec 32 := Scf.iv c0_i32_669_r0 c1_i32_671_r0 k0_t3
  let c2_i32_953_r0 : BitVec 32 := 2#32
  let v1916_r0 : BitVec 32 := Scalar.muli arg17_r0 c2_i32_953_r0
  let v1917_r0 : BitVec 32 := Scalar.addi c1_i32_954_r0 v1916_r0
  let c0_i32_955_r0 : BitVec 32 := 0#32
  let v1918_r0 : BitVec 32 := Scalar.addi v1917_r0 c0_i32_955_r0
  let c1_i32_958_r0 : BitVec 32 := 1#32
  let v1923_r0 : BitVec 32 := Scalar.addi v1918_r0 c1_i32_958_r0
  let c256_i32_959_r0 : BitVec 32 := 256#32
  let v1924_r0 : BitVec 32 := Scalar.muli v1923_r0 c256_i32_959_r0
  v1924_r0
def k0_off87 (k0_t3 : Fin k0_t3_loop.trips) (c0_i32_955_r0 : BitVec 32) : Fin 2 → Nat :=
  let c1_i32_954_r0 : BitVec 32 := 1#32
  let c0_i32_669_r0 : BitVec 32 := 0#32
  let c1_i32_671_r0 : BitVec 32 := 1#32
  let arg17_r0 : BitVec 32 := Scf.iv c0_i32_669_r0 c1_i32_671_r0 k0_t3
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c256_i32_959_r0 : BitVec 32 := 256#32
  let v1924_r0 : BitVec 32 := Scalar.muli v1923_r0 c256_i32_959_r0
  let v1925_r0 : BitVec 32 := v1924_r0
  let v1926_r0 : Index := Scalar.indexCast v1925_r0
  let c0_960_r0 : Index := 0#32
  ![v1926_r0.toNat, 0]
def k0_off88 (k0_t3 : Fin k0_t3_loop.trips) (c0_i32_955_r0 : BitVec 32) (c0_i32_968_r0 : BitVec 32) : Fin 3 → Nat :=
  let c0_969_r0 : Index := 0#32
  let c1_i32_954_r0 : BitVec 32 := 1#32
  let c0_i32_669_r0 : BitVec 32 := 0#32
  let c1_i32_671_r0 : BitVec 32 := 1#32
  let arg17_r0 : BitVec 32 := Scf.iv c0_i32_669_r0 c1_i32_671_r0 k0_t3
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_967_r0 : BitVec 32 := 2#32
  let v1944_r0 : BitVec 32 := Scalar.muli v1923_r0 c2_i32_967_r0
  let v1945_r0 : BitVec 32 := Scalar.addi v1944_r0 c0_i32_968_r0
  let v1946_r0 : Index := Scalar.indexCast v1945_r0
  let c0_970_r0 : Index := 0#32
  ![0, v1946_r0.toNat, 0]
def k0_off89 (k0_t3 : Fin k0_t3_loop.trips) (c0_i32_955_r0 : BitVec 32) (c0_i32_984_r0 : BitVec 32) : Fin 3 → Nat :=
  let c1_985_r0 : Index := 1#32
  let c1_i32_954_r0 : BitVec 32 := 1#32
  let c0_i32_669_r0 : BitVec 32 := 0#32
  let c1_i32_671_r0 : BitVec 32 := 1#32
  let arg17_r0 : BitVec 32 := Scf.iv c0_i32_669_r0 c1_i32_671_r0 k0_t3
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_983_r0 : BitVec 32 := 2#32
  let v1977_r0 : BitVec 32 := Scalar.muli v1923_r0 c2_i32_983_r0
  let v1978_r0 : BitVec 32 := Scalar.addi v1977_r0 c0_i32_984_r0
  let v1979_r0 : Index := Scalar.indexCast v1978_r0
  let c0_986_r0 : Index := 0#32
  ![1, v1979_r0.toNat, 0]
def k0_off90 (k0_t3 : Fin k0_t3_loop.trips) (c0_i32_955_r0 : BitVec 32) (c0_i32_1000_r0 : BitVec 32) : Fin 3 → Nat :=
  let c2_1001_r0 : Index := 2#32
  let c1_i32_954_r0 : BitVec 32 := 1#32
  let c0_i32_669_r0 : BitVec 32 := 0#32
  let c1_i32_671_r0 : BitVec 32 := 1#32
  let arg17_r0 : BitVec 32 := Scf.iv c0_i32_669_r0 c1_i32_671_r0 k0_t3
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_999_r0 : BitVec 32 := 2#32
  let v2010_r0 : BitVec 32 := Scalar.muli v1923_r0 c2_i32_999_r0
  let v2011_r0 : BitVec 32 := Scalar.addi v2010_r0 c0_i32_1000_r0
  let v2012_r0 : Index := Scalar.indexCast v2011_r0
  let c0_1002_r0 : Index := 0#32
  ![2, v2012_r0.toNat, 0]
def k0_off91 (k0_t3 : Fin k0_t3_loop.trips) (c0_i32_955_r0 : BitVec 32) (c0_i32_1016_r0 : BitVec 32) : Fin 3 → Nat :=
  let c3_1017_r0 : Index := 3#32
  let c1_i32_954_r0 : BitVec 32 := 1#32
  let c0_i32_669_r0 : BitVec 32 := 0#32
  let c1_i32_671_r0 : BitVec 32 := 1#32
  let arg17_r0 : BitVec 32 := Scf.iv c0_i32_669_r0 c1_i32_671_r0 k0_t3
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_1015_r0 : BitVec 32 := 2#32
  let v2043_r0 : BitVec 32 := Scalar.muli v1923_r0 c2_i32_1015_r0
  let v2044_r0 : BitVec 32 := Scalar.addi v2043_r0 c0_i32_1016_r0
  let v2045_r0 : Index := Scalar.indexCast v2044_r0
  let c0_1018_r0 : Index := 0#32
  ![3, v2045_r0.toNat, 0]
def k0_mult17 (k0_t3 : Fin k0_t3_loop.trips) : BitVec 32 :=
  let c1_i32_1032_r0 : BitVec 32 := 1#32
  let c0_i32_669_r0 : BitVec 32 := 0#32
  let c1_i32_671_r0 : BitVec 32 := 1#32
  let arg17_r0 : BitVec 32 := Scf.iv c0_i32_669_r0 c1_i32_671_r0 k0_t3
  let c2_i32_1031_r0 : BitVec 32 := 2#32
  let v2078_r0 : BitVec 32 := Scalar.muli arg17_r0 c2_i32_1031_r0
  let v2079_r0 : BitVec 32 := Scalar.addi c1_i32_1032_r0 v2078_r0
  let c1_i32_1033_r0 : BitVec 32 := 1#32
  let v2080_r0 : BitVec 32 := Scalar.addi v2079_r0 c1_i32_1033_r0
  let c256_i32_1034_r0 : BitVec 32 := 256#32
  let v2081_r0 : BitVec 32 := Scalar.muli v2080_r0 c256_i32_1034_r0
  v2081_r0
def k0_mult18 (k0_t3 : Fin k0_t3_loop.trips) : BitVec 32 :=
  let c1_i32_1032_r0 : BitVec 32 := 1#32
  let c0_i32_669_r0 : BitVec 32 := 0#32
  let c1_i32_671_r0 : BitVec 32 := 1#32
  let arg17_r0 : BitVec 32 := Scf.iv c0_i32_669_r0 c1_i32_671_r0 k0_t3
  let c2_i32_1031_r0 : BitVec 32 := 2#32
  let v2078_r0 : BitVec 32 := Scalar.muli arg17_r0 c2_i32_1031_r0
  let v2079_r0 : BitVec 32 := Scalar.addi c1_i32_1032_r0 v2078_r0
  let c1_i32_1033_r0 : BitVec 32 := 1#32
  let v2080_r0 : BitVec 32 := Scalar.addi v2079_r0 c1_i32_1033_r0
  let c1_i32_1036_r0 : BitVec 32 := 1#32
  let v2085_r0 : BitVec 32 := Scalar.addi v2080_r0 c1_i32_1036_r0
  let c256_i32_1037_r0 : BitVec 32 := 256#32
  let v2086_r0 : BitVec 32 := Scalar.muli v2085_r0 c256_i32_1037_r0
  v2086_r0
def k0_mult19 : BitVec 32 :=
  let c6912_i32_673_r0 : BitVec 32 := 6912#32
  c6912_i32_673_r0
def k0_mult20 : BitVec 32 :=
  let c0_i32_675_r0 : BitVec 32 := 0#32
  c0_i32_675_r0
def k0_mult21 : BitVec 32 :=
  let c0_i32_743_r0 : BitVec 32 := 0#32
  c0_i32_743_r0
def k0_mult22 : BitVec 32 :=
  let c256_i32_745_r0 : BitVec 32 := 256#32
  c256_i32_745_r0
@[reducible] def k0_t4_loop : Scf.Loop 32 :=
  let c0_i32_802_r0 : BitVec 32 := 0#32
  let c13_i32_803_r0 : BitVec 32 := 13#32
  let v1657_r0 : BitVec 32 := Scalar.addi c0_i32_802_r0 c13_i32_803_r0
  let c1_i32_804_r0 : BitVec 32 := 1#32
  ⟨c0_i32_802_r0, v1657_r0, c1_i32_804_r0⟩
def k0_mult23 (k0_t4 : Fin k0_t4_loop.trips) : BitVec 32 :=
  let c1_i32_954_r0 : BitVec 32 := 1#32
  let c0_i32_802_r0 : BitVec 32 := 0#32
  let c1_i32_804_r0 : BitVec 32 := 1#32
  let arg17_r0 : BitVec 32 := Scf.iv c0_i32_802_r0 c1_i32_804_r0 k0_t4
  let c2_i32_953_r0 : BitVec 32 := 2#32
  let v1916_r0 : BitVec 32 := Scalar.muli arg17_r0 c2_i32_953_r0
  let v1917_r0 : BitVec 32 := Scalar.addi c1_i32_954_r0 v1916_r0
  let c0_i32_955_r0 : BitVec 32 := 0#32
  let v1918_r0 : BitVec 32 := Scalar.addi v1917_r0 c0_i32_955_r0
  let c256_i32_956_r0 : BitVec 32 := 256#32
  let v1919_r0 : BitVec 32 := Scalar.muli v1918_r0 c256_i32_956_r0
  v1919_r0
def k0_off92 (k0_t4 : Fin k0_t4_loop.trips) (c0_i32_955_r0 : BitVec 32) : Fin 2 → Nat :=
  let c0_957_r0 : Index := 0#32
  let c1_i32_954_r0 : BitVec 32 := 1#32
  let c0_i32_802_r0 : BitVec 32 := 0#32
  let c1_i32_804_r0 : BitVec 32 := 1#32
  let arg17_r0 : BitVec 32 := Scf.iv c0_i32_802_r0 c1_i32_804_r0 k0_t4
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c256_i32_956_r0 : BitVec 32 := 256#32
  let v1919_r0 : BitVec 32 := Scalar.muli v1918_r0 c256_i32_956_r0
  let v1920_r0 : BitVec 32 := v1919_r0
  let v1921_r0 : Index := Scalar.indexCast v1920_r0
  ![0, v1921_r0.toNat]
def k0_mult24 (k0_t4 : Fin k0_t4_loop.trips) : BitVec 32 :=
  let c1_i32_954_r0 : BitVec 32 := 1#32
  let c0_i32_802_r0 : BitVec 32 := 0#32
  let c1_i32_804_r0 : BitVec 32 := 1#32
  let arg17_r0 : BitVec 32 := Scf.iv c0_i32_802_r0 c1_i32_804_r0 k0_t4
  let c2_i32_953_r0 : BitVec 32 := 2#32
  let v1916_r0 : BitVec 32 := Scalar.muli arg17_r0 c2_i32_953_r0
  let v1917_r0 : BitVec 32 := Scalar.addi c1_i32_954_r0 v1916_r0
  let c0_i32_955_r0 : BitVec 32 := 0#32
  let v1918_r0 : BitVec 32 := Scalar.addi v1917_r0 c0_i32_955_r0
  let c1_i32_958_r0 : BitVec 32 := 1#32
  let v1923_r0 : BitVec 32 := Scalar.addi v1918_r0 c1_i32_958_r0
  let c256_i32_959_r0 : BitVec 32 := 256#32
  let v1924_r0 : BitVec 32 := Scalar.muli v1923_r0 c256_i32_959_r0
  v1924_r0
def k0_off93 (k0_t4 : Fin k0_t4_loop.trips) (c0_i32_955_r0 : BitVec 32) : Fin 2 → Nat :=
  let c1_i32_954_r0 : BitVec 32 := 1#32
  let c0_i32_802_r0 : BitVec 32 := 0#32
  let c1_i32_804_r0 : BitVec 32 := 1#32
  let arg17_r0 : BitVec 32 := Scf.iv c0_i32_802_r0 c1_i32_804_r0 k0_t4
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c256_i32_959_r0 : BitVec 32 := 256#32
  let v1924_r0 : BitVec 32 := Scalar.muli v1923_r0 c256_i32_959_r0
  let v1925_r0 : BitVec 32 := v1924_r0
  let v1926_r0 : Index := Scalar.indexCast v1925_r0
  let c0_960_r0 : Index := 0#32
  ![v1926_r0.toNat, 0]
def k0_off94 (k0_t4 : Fin k0_t4_loop.trips) (c0_i32_955_r0 : BitVec 32) (c0_i32_968_r0 : BitVec 32) : Fin 3 → Nat :=
  let c4_969_r0 : Index := 4#32
  let c1_i32_954_r0 : BitVec 32 := 1#32
  let c0_i32_802_r0 : BitVec 32 := 0#32
  let c1_i32_804_r0 : BitVec 32 := 1#32
  let arg17_r0 : BitVec 32 := Scf.iv c0_i32_802_r0 c1_i32_804_r0 k0_t4
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_967_r0 : BitVec 32 := 2#32
  let v1944_r0 : BitVec 32 := Scalar.muli v1923_r0 c2_i32_967_r0
  let v1945_r0 : BitVec 32 := Scalar.addi v1944_r0 c0_i32_968_r0
  let v1946_r0 : Index := Scalar.indexCast v1945_r0
  let c0_970_r0 : Index := 0#32
  ![4, v1946_r0.toNat, 0]
def k0_off95 (k0_t4 : Fin k0_t4_loop.trips) (c0_i32_955_r0 : BitVec 32) (c0_i32_984_r0 : BitVec 32) : Fin 3 → Nat :=
  let c5_985_r0 : Index := 5#32
  let c1_i32_954_r0 : BitVec 32 := 1#32
  let c0_i32_802_r0 : BitVec 32 := 0#32
  let c1_i32_804_r0 : BitVec 32 := 1#32
  let arg17_r0 : BitVec 32 := Scf.iv c0_i32_802_r0 c1_i32_804_r0 k0_t4
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_983_r0 : BitVec 32 := 2#32
  let v1977_r0 : BitVec 32 := Scalar.muli v1923_r0 c2_i32_983_r0
  let v1978_r0 : BitVec 32 := Scalar.addi v1977_r0 c0_i32_984_r0
  let v1979_r0 : Index := Scalar.indexCast v1978_r0
  let c0_986_r0 : Index := 0#32
  ![5, v1979_r0.toNat, 0]
def k0_off96 (k0_t4 : Fin k0_t4_loop.trips) (c0_i32_955_r0 : BitVec 32) (c0_i32_1000_r0 : BitVec 32) : Fin 3 → Nat :=
  let c6_1001_r0 : Index := 6#32
  let c1_i32_954_r0 : BitVec 32 := 1#32
  let c0_i32_802_r0 : BitVec 32 := 0#32
  let c1_i32_804_r0 : BitVec 32 := 1#32
  let arg17_r0 : BitVec 32 := Scf.iv c0_i32_802_r0 c1_i32_804_r0 k0_t4
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_999_r0 : BitVec 32 := 2#32
  let v2010_r0 : BitVec 32 := Scalar.muli v1923_r0 c2_i32_999_r0
  let v2011_r0 : BitVec 32 := Scalar.addi v2010_r0 c0_i32_1000_r0
  let v2012_r0 : Index := Scalar.indexCast v2011_r0
  let c0_1002_r0 : Index := 0#32
  ![6, v2012_r0.toNat, 0]
def k0_off97 (k0_t4 : Fin k0_t4_loop.trips) (c0_i32_955_r0 : BitVec 32) (c0_i32_1016_r0 : BitVec 32) : Fin 3 → Nat :=
  let c7_1017_r0 : Index := 7#32
  let c1_i32_954_r0 : BitVec 32 := 1#32
  let c0_i32_802_r0 : BitVec 32 := 0#32
  let c1_i32_804_r0 : BitVec 32 := 1#32
  let arg17_r0 : BitVec 32 := Scf.iv c0_i32_802_r0 c1_i32_804_r0 k0_t4
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_1015_r0 : BitVec 32 := 2#32
  let v2043_r0 : BitVec 32 := Scalar.muli v1923_r0 c2_i32_1015_r0
  let v2044_r0 : BitVec 32 := Scalar.addi v2043_r0 c0_i32_1016_r0
  let v2045_r0 : Index := Scalar.indexCast v2044_r0
  let c0_1018_r0 : Index := 0#32
  ![7, v2045_r0.toNat, 0]
def k0_mult25 (k0_t4 : Fin k0_t4_loop.trips) : BitVec 32 :=
  let c1_i32_1032_r0 : BitVec 32 := 1#32
  let c0_i32_802_r0 : BitVec 32 := 0#32
  let c1_i32_804_r0 : BitVec 32 := 1#32
  let arg17_r0 : BitVec 32 := Scf.iv c0_i32_802_r0 c1_i32_804_r0 k0_t4
  let c2_i32_1031_r0 : BitVec 32 := 2#32
  let v2078_r0 : BitVec 32 := Scalar.muli arg17_r0 c2_i32_1031_r0
  let v2079_r0 : BitVec 32 := Scalar.addi c1_i32_1032_r0 v2078_r0
  let c1_i32_1033_r0 : BitVec 32 := 1#32
  let v2080_r0 : BitVec 32 := Scalar.addi v2079_r0 c1_i32_1033_r0
  let c256_i32_1034_r0 : BitVec 32 := 256#32
  let v2081_r0 : BitVec 32 := Scalar.muli v2080_r0 c256_i32_1034_r0
  v2081_r0
def k0_mult26 (k0_t4 : Fin k0_t4_loop.trips) : BitVec 32 :=
  let c1_i32_1032_r0 : BitVec 32 := 1#32
  let c0_i32_802_r0 : BitVec 32 := 0#32
  let c1_i32_804_r0 : BitVec 32 := 1#32
  let arg17_r0 : BitVec 32 := Scf.iv c0_i32_802_r0 c1_i32_804_r0 k0_t4
  let c2_i32_1031_r0 : BitVec 32 := 2#32
  let v2078_r0 : BitVec 32 := Scalar.muli arg17_r0 c2_i32_1031_r0
  let v2079_r0 : BitVec 32 := Scalar.addi c1_i32_1032_r0 v2078_r0
  let c1_i32_1033_r0 : BitVec 32 := 1#32
  let v2080_r0 : BitVec 32 := Scalar.addi v2079_r0 c1_i32_1033_r0
  let c1_i32_1036_r0 : BitVec 32 := 1#32
  let v2085_r0 : BitVec 32 := Scalar.addi v2080_r0 c1_i32_1036_r0
  let c256_i32_1037_r0 : BitVec 32 := 256#32
  let v2086_r0 : BitVec 32 := Scalar.muli v2085_r0 c256_i32_1037_r0
  v2086_r0
def k0_mult27 : BitVec 32 :=
  let c6912_i32_806_r0 : BitVec 32 := 6912#32
  c6912_i32_806_r0
def k0_mult28 : BitVec 32 :=
  let c0_i32_808_r0 : BitVec 32 := 0#32
  c0_i32_808_r0
def k0_mult29 : BitVec 32 :=
  let c0_i32_876_r0 : BitVec 32 := 0#32
  c0_i32_876_r0
def k0_mult30 : BitVec 32 :=
  let c256_i32_878_r0 : BitVec 32 := 256#32
  c256_i32_878_r0
@[reducible] def k0_t5_loop : Scf.Loop 32 :=
  let c0_i32_935_r0 : BitVec 32 := 0#32
  let c13_i32_936_r0 : BitVec 32 := 13#32
  let v1893_r0 : BitVec 32 := Scalar.addi c0_i32_935_r0 c13_i32_936_r0
  let c1_i32_937_r0 : BitVec 32 := 1#32
  ⟨c0_i32_935_r0, v1893_r0, c1_i32_937_r0⟩
def k0_mult31 (k0_t5 : Fin k0_t5_loop.trips) : BitVec 32 :=
  let c1_i32_954_r0 : BitVec 32 := 1#32
  let c0_i32_935_r0 : BitVec 32 := 0#32
  let c1_i32_937_r0 : BitVec 32 := 1#32
  let arg17_r0 : BitVec 32 := Scf.iv c0_i32_935_r0 c1_i32_937_r0 k0_t5
  let c2_i32_953_r0 : BitVec 32 := 2#32
  let v1916_r0 : BitVec 32 := Scalar.muli arg17_r0 c2_i32_953_r0
  let v1917_r0 : BitVec 32 := Scalar.addi c1_i32_954_r0 v1916_r0
  let c0_i32_955_r0 : BitVec 32 := 0#32
  let v1918_r0 : BitVec 32 := Scalar.addi v1917_r0 c0_i32_955_r0
  let c256_i32_956_r0 : BitVec 32 := 256#32
  let v1919_r0 : BitVec 32 := Scalar.muli v1918_r0 c256_i32_956_r0
  v1919_r0
def k0_off98 (k0_t5 : Fin k0_t5_loop.trips) (c0_i32_955_r0 : BitVec 32) : Fin 2 → Nat :=
  let c0_957_r0 : Index := 0#32
  let c1_i32_954_r0 : BitVec 32 := 1#32
  let c0_i32_935_r0 : BitVec 32 := 0#32
  let c1_i32_937_r0 : BitVec 32 := 1#32
  let arg17_r0 : BitVec 32 := Scf.iv c0_i32_935_r0 c1_i32_937_r0 k0_t5
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c256_i32_956_r0 : BitVec 32 := 256#32
  let v1919_r0 : BitVec 32 := Scalar.muli v1918_r0 c256_i32_956_r0
  let v1920_r0 : BitVec 32 := v1919_r0
  let v1921_r0 : Index := Scalar.indexCast v1920_r0
  ![0, v1921_r0.toNat]
def k0_mult32 (k0_t5 : Fin k0_t5_loop.trips) : BitVec 32 :=
  let c1_i32_954_r0 : BitVec 32 := 1#32
  let c0_i32_935_r0 : BitVec 32 := 0#32
  let c1_i32_937_r0 : BitVec 32 := 1#32
  let arg17_r0 : BitVec 32 := Scf.iv c0_i32_935_r0 c1_i32_937_r0 k0_t5
  let c2_i32_953_r0 : BitVec 32 := 2#32
  let v1916_r0 : BitVec 32 := Scalar.muli arg17_r0 c2_i32_953_r0
  let v1917_r0 : BitVec 32 := Scalar.addi c1_i32_954_r0 v1916_r0
  let c0_i32_955_r0 : BitVec 32 := 0#32
  let v1918_r0 : BitVec 32 := Scalar.addi v1917_r0 c0_i32_955_r0
  let c1_i32_958_r0 : BitVec 32 := 1#32
  let v1923_r0 : BitVec 32 := Scalar.addi v1918_r0 c1_i32_958_r0
  let c256_i32_959_r0 : BitVec 32 := 256#32
  let v1924_r0 : BitVec 32 := Scalar.muli v1923_r0 c256_i32_959_r0
  v1924_r0
def k0_off99 (k0_t5 : Fin k0_t5_loop.trips) (c0_i32_955_r0 : BitVec 32) : Fin 2 → Nat :=
  let c1_i32_954_r0 : BitVec 32 := 1#32
  let c0_i32_935_r0 : BitVec 32 := 0#32
  let c1_i32_937_r0 : BitVec 32 := 1#32
  let arg17_r0 : BitVec 32 := Scf.iv c0_i32_935_r0 c1_i32_937_r0 k0_t5
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c256_i32_959_r0 : BitVec 32 := 256#32
  let v1924_r0 : BitVec 32 := Scalar.muli v1923_r0 c256_i32_959_r0
  let v1925_r0 : BitVec 32 := v1924_r0
  let v1926_r0 : Index := Scalar.indexCast v1925_r0
  let c0_960_r0 : Index := 0#32
  ![v1926_r0.toNat, 0]
def k0_off100 (k0_t5 : Fin k0_t5_loop.trips) (c0_i32_955_r0 : BitVec 32) (c0_i32_968_r0 : BitVec 32) : Fin 3 → Nat :=
  let c4_969_r0 : Index := 4#32
  let c1_i32_954_r0 : BitVec 32 := 1#32
  let c0_i32_935_r0 : BitVec 32 := 0#32
  let c1_i32_937_r0 : BitVec 32 := 1#32
  let arg17_r0 : BitVec 32 := Scf.iv c0_i32_935_r0 c1_i32_937_r0 k0_t5
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_967_r0 : BitVec 32 := 2#32
  let v1944_r0 : BitVec 32 := Scalar.muli v1923_r0 c2_i32_967_r0
  let v1945_r0 : BitVec 32 := Scalar.addi v1944_r0 c0_i32_968_r0
  let v1946_r0 : Index := Scalar.indexCast v1945_r0
  let c0_970_r0 : Index := 0#32
  ![4, v1946_r0.toNat, 0]
def k0_off101 (k0_t5 : Fin k0_t5_loop.trips) (c0_i32_955_r0 : BitVec 32) (c0_i32_984_r0 : BitVec 32) : Fin 3 → Nat :=
  let c5_985_r0 : Index := 5#32
  let c1_i32_954_r0 : BitVec 32 := 1#32
  let c0_i32_935_r0 : BitVec 32 := 0#32
  let c1_i32_937_r0 : BitVec 32 := 1#32
  let arg17_r0 : BitVec 32 := Scf.iv c0_i32_935_r0 c1_i32_937_r0 k0_t5
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_983_r0 : BitVec 32 := 2#32
  let v1977_r0 : BitVec 32 := Scalar.muli v1923_r0 c2_i32_983_r0
  let v1978_r0 : BitVec 32 := Scalar.addi v1977_r0 c0_i32_984_r0
  let v1979_r0 : Index := Scalar.indexCast v1978_r0
  let c0_986_r0 : Index := 0#32
  ![5, v1979_r0.toNat, 0]
def k0_off102 (k0_t5 : Fin k0_t5_loop.trips) (c0_i32_955_r0 : BitVec 32) (c0_i32_1000_r0 : BitVec 32) : Fin 3 → Nat :=
  let c6_1001_r0 : Index := 6#32
  let c1_i32_954_r0 : BitVec 32 := 1#32
  let c0_i32_935_r0 : BitVec 32 := 0#32
  let c1_i32_937_r0 : BitVec 32 := 1#32
  let arg17_r0 : BitVec 32 := Scf.iv c0_i32_935_r0 c1_i32_937_r0 k0_t5
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_999_r0 : BitVec 32 := 2#32
  let v2010_r0 : BitVec 32 := Scalar.muli v1923_r0 c2_i32_999_r0
  let v2011_r0 : BitVec 32 := Scalar.addi v2010_r0 c0_i32_1000_r0
  let v2012_r0 : Index := Scalar.indexCast v2011_r0
  let c0_1002_r0 : Index := 0#32
  ![6, v2012_r0.toNat, 0]
def k0_off103 (k0_t5 : Fin k0_t5_loop.trips) (c0_i32_955_r0 : BitVec 32) (c0_i32_1016_r0 : BitVec 32) : Fin 3 → Nat :=
  let c7_1017_r0 : Index := 7#32
  let c1_i32_954_r0 : BitVec 32 := 1#32
  let c0_i32_935_r0 : BitVec 32 := 0#32
  let c1_i32_937_r0 : BitVec 32 := 1#32
  let arg17_r0 : BitVec 32 := Scf.iv c0_i32_935_r0 c1_i32_937_r0 k0_t5
  let c2_i32_953_r0 : BitVec 32 := 2#32
  let v1916_r0 : BitVec 32 := Scalar.muli arg17_r0 c2_i32_953_r0
  let v1917_r0 : BitVec 32 := Scalar.addi c1_i32_954_r0 v1916_r0
  let v1918_r0 : BitVec 32 := Scalar.addi v1917_r0 c0_i32_955_r0
  let c1_i32_958_r0 : BitVec 32 := 1#32
  let v1923_r0 : BitVec 32 := Scalar.addi v1918_r0 c1_i32_958_r0
  let c2_i32_1015_r0 : BitVec 32 := 2#32
  let v2043_r0 : BitVec 32 := Scalar.muli v1923_r0 c2_i32_1015_r0
  let v2044_r0 : BitVec 32 := Scalar.addi v2043_r0 c0_i32_1016_r0
  let v2045_r0 : Index := Scalar.indexCast v2044_r0
  let c0_1018_r0 : Index := 0#32
  ![7, v2045_r0.toNat, 0]
def k0_mult33 (k0_t5 : Fin k0_t5_loop.trips) : BitVec 32 :=
  let c1_i32_1032_r0 : BitVec 32 := 1#32
  let c0_i32_935_r0 : BitVec 32 := 0#32
  let c1_i32_937_r0 : BitVec 32 := 1#32
  let arg17_r0 : BitVec 32 := Scf.iv c0_i32_935_r0 c1_i32_937_r0 k0_t5
  let c2_i32_1031_r0 : BitVec 32 := 2#32
  let v2078_r0 : BitVec 32 := Scalar.muli arg17_r0 c2_i32_1031_r0
  let v2079_r0 : BitVec 32 := Scalar.addi c1_i32_1032_r0 v2078_r0
  let c1_i32_1033_r0 : BitVec 32 := 1#32
  let v2080_r0 : BitVec 32 := Scalar.addi v2079_r0 c1_i32_1033_r0
  let c256_i32_1034_r0 : BitVec 32 := 256#32
  let v2081_r0 : BitVec 32 := Scalar.muli v2080_r0 c256_i32_1034_r0
  v2081_r0
def k0_mult34 (k0_t5 : Fin k0_t5_loop.trips) : BitVec 32 :=
  let c1_i32_1032_r0 : BitVec 32 := 1#32
  let c0_i32_935_r0 : BitVec 32 := 0#32
  let c1_i32_937_r0 : BitVec 32 := 1#32
  let arg17_r0 : BitVec 32 := Scf.iv c0_i32_935_r0 c1_i32_937_r0 k0_t5
  let c2_i32_1031_r0 : BitVec 32 := 2#32
  let v2078_r0 : BitVec 32 := Scalar.muli arg17_r0 c2_i32_1031_r0
  let v2079_r0 : BitVec 32 := Scalar.addi c1_i32_1032_r0 v2078_r0
  let c1_i32_1033_r0 : BitVec 32 := 1#32
  let v2080_r0 : BitVec 32 := Scalar.addi v2079_r0 c1_i32_1033_r0
  let c1_i32_1036_r0 : BitVec 32 := 1#32
  let v2085_r0 : BitVec 32 := Scalar.addi v2080_r0 c1_i32_1036_r0
  let c256_i32_1037_r0 : BitVec 32 := 256#32
  let v2086_r0 : BitVec 32 := Scalar.muli v2085_r0 c256_i32_1037_r0
  v2086_r0
def k0_mult35 : BitVec 32 :=
  let c6912_i32_939_r0 : BitVec 32 := 6912#32
  c6912_i32_939_r0
def k0_cond4 (i : grid0.Coords) : BitVec 1 :=
  let arg0 : BitVec 32 := BitVec.ofNat 32 (i 0).val
  let c20_i32_421_r0 : BitVec 32 := 20#32
  let v969_r0 : BitVec 1 := Scalar.cmpi .eq arg0 c20_i32_421_r0
  let v970_r0 : BitVec 32 := Scalar.extui v969_r0
  let c0_i32_422_r0 : BitVec 32 := 0#32
  let v971_r0 : BitVec 1 := Scalar.cmpi .ne v970_r0 c0_i32_422_r0
  v971_r0

@[reducible] def k0_t6_loop : Scf.Loop 32 :=
  let c0_i32_424_r0 : BitVec 32 := 0#32
  let c23_i32_r0 : BitVec 32 := 23#32
  let v972_r0 : BitVec 32 := Scalar.addi c0_i32_424_r0 c23_i32_r0
  let c1_i32_425_r0 : BitVec 32 := 1#32
  ⟨c0_i32_424_r0, v972_r0, c1_i32_425_r0⟩
def k0_mult36 (k0_t6 : Fin k0_t6_loop.trips) : BitVec 32 :=
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  v977_r0
def k0_off104 (k0_t6 : Fin k0_t6_loop.trips) : Fin 3 → Nat :=
  let c0_430_r0 : Index := 0#32
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v979_r0 : Index := Scalar.indexCast v978_r0
  let c0_431_r0 : Index := 0#32
  ![0, v979_r0.toNat, 0]
def k0_off105 (k0_t6 : Fin k0_t6_loop.trips) : Fin 3 → Nat :=
  let c1_434_r0 : Index := 1#32
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v990_r0 : Index := Scalar.indexCast v978_r0
  let c0_435_r0 : Index := 0#32
  ![1, v990_r0.toNat, 0]
def k0_off106 (k0_t6 : Fin k0_t6_loop.trips) : Fin 3 → Nat :=
  let c2_438_r0 : Index := 2#32
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1001_r0 : Index := Scalar.indexCast v978_r0
  let c0_439_r0 : Index := 0#32
  ![2, v1001_r0.toNat, 0]
def k0_off107 (k0_t6 : Fin k0_t6_loop.trips) : Fin 3 → Nat :=
  let c3_442_r0 : Index := 3#32
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1012_r0 : Index := Scalar.indexCast v978_r0
  let c0_443_r0 : Index := 0#32
  ![3, v1012_r0.toNat, 0]
def k0_off108 (k0_t6 : Fin k0_t6_loop.trips) : Fin 3 → Nat :=
  let c4_446_r0 : Index := 4#32
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1023_r0 : Index := Scalar.indexCast v978_r0
  let c0_447_r0 : Index := 0#32
  ![4, v1023_r0.toNat, 0]
def k0_off109 (k0_t6 : Fin k0_t6_loop.trips) : Fin 3 → Nat :=
  let c5_450_r0 : Index := 5#32
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1034_r0 : Index := Scalar.indexCast v978_r0
  let c0_451_r0 : Index := 0#32
  ![5, v1034_r0.toNat, 0]
def k0_off110 (k0_t6 : Fin k0_t6_loop.trips) : Fin 3 → Nat :=
  let c6_454_r0 : Index := 6#32
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1045_r0 : Index := Scalar.indexCast v978_r0
  let c0_455_r0 : Index := 0#32
  ![6, v1045_r0.toNat, 0]
def k0_off111 (k0_t6 : Fin k0_t6_loop.trips) : Fin 3 → Nat :=
  let c7_458_r0 : Index := 7#32
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1056_r0 : Index := Scalar.indexCast v978_r0
  let c0_459_r0 : Index := 0#32
  ![7, v1056_r0.toNat, 0]
def k0_off112 (k0_t6 : Fin k0_t6_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1210_r0 : Index := Scalar.indexCast v978_r0
  let c0_514_r0 : Index := 0#32
  ![v1210_r0.toNat, 0]
def k0_off113 (k0_t6 : Fin k0_t6_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1213_r0 : Index := Scalar.indexCast v978_r0
  let c128_515_r0 : Index := 128#32
  ![v1213_r0.toNat, 128]
def k0_off114 (k0_t6 : Fin k0_t6_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1216_r0 : Index := Scalar.indexCast v978_r0
  let c256_516_r0 : Index := 256#32
  ![v1216_r0.toNat, 256]
def k0_off115 (k0_t6 : Fin k0_t6_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1219_r0 : Index := Scalar.indexCast v978_r0
  let c384_517_r0 : Index := 384#32
  ![v1219_r0.toNat, 384]
def k0_off116 (k0_t6 : Fin k0_t6_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1222_r0 : Index := Scalar.indexCast v978_r0
  let c512_518_r0 : Index := 512#32
  ![v1222_r0.toNat, 512]
def k0_off117 (k0_t6 : Fin k0_t6_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1225_r0 : Index := Scalar.indexCast v978_r0
  let c640_519_r0 : Index := 640#32
  ![v1225_r0.toNat, 640]
def k0_off118 (k0_t6 : Fin k0_t6_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1228_r0 : Index := Scalar.indexCast v978_r0
  let c768_520_r0 : Index := 768#32
  ![v1228_r0.toNat, 768]
def k0_off119 (k0_t6 : Fin k0_t6_loop.trips) : Fin 2 → Nat :=
  let c0_i32_424_r0 : BitVec 32 := 0#32
  let c1_i32_425_r0 : BitVec 32 := 1#32
  let arg17_r0 : BitVec 32 := Scf.iv c0_i32_424_r0 c1_i32_425_r0 k0_t6
  let c1_i32_427_r0 : BitVec 32 := 1#32
  let v974_r0 : BitVec 32 := Scalar.muli arg17_r0 c1_i32_427_r0
  let c0_i32_428_r0 : BitVec 32 := 0#32
  let v975_r0 : BitVec 32 := Scalar.addi v974_r0 c0_i32_428_r0
  let c32_i32_429_r0 : BitVec 32 := 32#32
  let v976_r0 : BitVec 32 := Scalar.muli v975_r0 c32_i32_429_r0
  let c688_i32_r0 : BitVec 32 := 688#32
  let v977_r0 : BitVec 32 := Scalar.minsi v976_r0 c688_i32_r0
  let v978_r0 : BitVec 32 := v977_r0
  let v1231_r0 : Index := Scalar.indexCast v978_r0
  let c896_521_r0 : Index := 896#32
  ![v1231_r0.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S720x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x1024 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S7168x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S56x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S56x1024 .i16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S720x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateUpRefIdeal.lean ====
abbrev S720x7168 : Shape := ⟨2, ![720, 7168]⟩
abbrev S1x7168 : Shape := ⟨2, ![1, 7168]⟩
abbrev S7168x2560 : Shape := ⟨2, ![7168, 2560]⟩
abbrev S56x2560 : Shape := ⟨2, ![56, 2560]⟩
abbrev S56x20480 : Shape := ⟨2, ![56, 20480]⟩
abbrev S8 : Shape := ⟨1, ![8]⟩
abbrev S_ : Shape := ⟨0, ![]⟩
abbrev S720 : Shape := ⟨1, ![720]⟩
abbrev S720x1 : Shape := ⟨2, ![720, 1]⟩
abbrev S7168x2560x1 : Shape := ⟨3, ![7168, 2560, 1]⟩
abbrev S7168x2560x8 : Shape := ⟨3, ![7168, 2560, 8]⟩
abbrev S7168x20480 : Shape := ⟨2, ![7168, 20480]⟩
abbrev S56x2560x1 : Shape := ⟨3, ![56, 2560, 1]⟩
abbrev S56x2560x8 : Shape := ⟨3, ![56, 2560, 8]⟩
abbrev S56x128x20480 : Shape := ⟨3, ![56, 128, 20480]⟩
abbrev S56x1x20480 : Shape := ⟨3, ![56, 1, 20480]⟩
abbrev S720x20480 : Shape := ⟨2, ![720, 20480]⟩

abbrev nBuf : Space → Nat
  | .hbm => 206
  | .vmem => 0
  | .smem => 0
  | _ => 0

abbrev hbmTy0_0 (i : Nat) : BufTy := match i % 128 with
  | 0 => ⟨S720x7168, .bf16⟩
  | 1 => ⟨S1x7168, .f32⟩
  | 2 => ⟨S7168x2560, .i32⟩
  | 3 => ⟨S56x2560, .i32⟩
  | 4 => ⟨S56x20480, .i16⟩
  | 5 => ⟨S7168x2560, .i32⟩
  | 6 => ⟨S56x2560, .i32⟩
  | 7 => ⟨S56x20480, .i16⟩
  | 8 => ⟨S8, .i32⟩
  | 9 => ⟨S8, .i32⟩
  | 10 => ⟨S8, .i32⟩
  | 11 => ⟨S8, .i32⟩
  | 12 => ⟨S720x7168, .f32⟩
  | 13 => ⟨S720x7168, .f32⟩
  | 14 => ⟨S_, .f32⟩
  | 15 => ⟨S720, .f32⟩
  | 16 => ⟨S720x1, .f32⟩
  | 17 => ⟨S_, .f32⟩
  | 18 => ⟨S720x1, .f32⟩
  | 19 => ⟨S720x1, .f32⟩
  | 20 => ⟨S_, .f32⟩
  | 21 => ⟨S720x1, .f32⟩
  | 22 => ⟨S720x1, .f32⟩
  | 23 => ⟨S720x1, .f32⟩
  | 24 => ⟨S720x7168, .f32⟩
  | 25 => ⟨S720x7168, .f32⟩
  | 26 => ⟨S720x7168, .f32⟩
  | 27 => ⟨S720x7168, .f32⟩
  | 28 => ⟨S720x7168, .bf16⟩
  | 29 => ⟨S_, .i32⟩
  | 30 => ⟨S8, .i32⟩
  | 31 => ⟨S8, .i32⟩
  | 32 => ⟨S7168x2560x1, .i32⟩
  | 33 => ⟨S7168x2560x8, .i32⟩
  | 34 => ⟨S7168x2560x8, .i32⟩
  | 35 => ⟨S7168x2560x8, .i32⟩
  | 36 => ⟨S_, .i32⟩
  | 37 => ⟨S7168x2560x8, .i32⟩
  | 38 => ⟨S7168x2560x8, .i32⟩
  | 39 => ⟨S7168x20480, .i32⟩
  | 40 => ⟨S_, .i32⟩
  | 41 => ⟨S8, .i32⟩
  | 42 => ⟨S8, .i32⟩
  | 43 => ⟨S56x2560x1, .i32⟩
  | 44 => ⟨S56x2560x8, .i32⟩
  | 45 => ⟨S56x2560x8, .i32⟩
  | 46 => ⟨S56x2560x8, .i32⟩
  | 47 => ⟨S_, .i32⟩
  | 48 => ⟨S56x2560x8, .i32⟩
  | 49 => ⟨S56x2560x8, .i32⟩
  | 50 => ⟨S56x20480, .i32⟩
  | 51 => ⟨S56x20480, .i32⟩
  | 52 => ⟨S_, .i32⟩
  | 53 => ⟨S56x20480, .i32⟩
  | 54 => ⟨S56x20480, .i32⟩
  | 55 => ⟨S_, .i32⟩
  | 56 => ⟨S56x20480, .i32⟩
  | 57 => ⟨S56x20480, .i32⟩
  | 58 => ⟨S_, .i32⟩
  | 59 => ⟨S56x20480, .i32⟩
  | 60 => ⟨S56x20480, .i32⟩
  | 61 => ⟨S_, .i32⟩
  | 62 => ⟨S56x20480, .i32⟩
  | 63 => ⟨S56x20480, .i32⟩
  | 64 => ⟨S56x20480, .f32⟩
  | 65 => ⟨S56x20480, .f32⟩
  | 66 => ⟨S_, .f32⟩
  | 67 => ⟨S56x20480, .f32⟩
  | 68 => ⟨S56x20480, .f32⟩
  | 69 => ⟨S_, .f32⟩
  | 70 => ⟨S56x20480, .f32⟩
  | 71 => ⟨S_, .f32⟩
  | 72 => ⟨S56x20480, .f32⟩
  | 73 => ⟨S56x20480, .f32⟩
  | 74 => ⟨S56x20480, .f32⟩
  | 75 => ⟨S56x20480, .f32⟩
  | 76 => ⟨S_, .i32⟩
  | 77 => ⟨S56x20480, .i32⟩
  | 78 => ⟨S56x20480, .i1⟩
  | 79 => ⟨S_, .f32⟩
  | 80 => ⟨S_, .f32⟩
  | 81 => ⟨S56x20480, .f32⟩
  | 82 => ⟨S56x20480, .f32⟩
  | 83 => ⟨S56x20480, .f32⟩
  | 84 => ⟨S_, .i32⟩
  | 85 => ⟨S56x20480, .i32⟩
  | 86 => ⟨S56x20480, .i1⟩
  | 87 => ⟨S_, .f32⟩
  | 88 => ⟨S56x20480, .f32⟩
  | 89 => ⟨S56x20480, .f32⟩
  | 90 => ⟨S_, .i32⟩
  | 91 => ⟨S56x20480, .i32⟩
  | 92 => ⟨S56x20480, .i1⟩
  | 93 => ⟨S56x20480, .f32⟩
  | 94 => ⟨S56x20480, .f32⟩
  | 95 => ⟨S56x20480, .f32⟩
  | 96 => ⟨S_, .i32⟩
  | 97 => ⟨S56x20480, .i32⟩
  | 98 => ⟨S56x20480, .i1⟩
  | 99 => ⟨S56x20480, .f32⟩
  | 100 => ⟨S56x20480, .f32⟩
  | 101 => ⟨S56x128x20480, .i32⟩
  | 102 => ⟨S56x1x20480, .i32⟩
  | 103 => ⟨S56x128x20480, .i32⟩
  | 104 => ⟨S56x128x20480, .i32⟩
  | 105 => ⟨S56x128x20480, .f32⟩
  | 106 => ⟨S56x1x20480, .f32⟩
  | 107 => ⟨S56x128x20480, .f32⟩
  | 108 => ⟨S56x128x20480, .f32⟩
  | 109 => ⟨S7168x20480, .f32⟩
  | 110 => ⟨S7168x20480, .bf16⟩
  | 111 => ⟨S720x20480, .f32⟩
  | 112 => ⟨S_, .i32⟩
  | 113 => ⟨S8, .i32⟩
  | 114 => ⟨S8, .i32⟩
  | 115 => ⟨S7168x2560x1, .i32⟩
  | 116 => ⟨S7168x2560x8, .i32⟩
  | 117 => ⟨S7168x2560x8, .i32⟩
  | 118 => ⟨S7168x2560x8, .i32⟩
  | 119 => ⟨S_, .i32⟩
  | 120 => ⟨S7168x2560x8, .i32⟩
  | 121 => ⟨S7168x2560x8, .i32⟩
  | 122 => ⟨S7168x20480, .i32⟩
  | 123 => ⟨S_, .i32⟩
  | 124 => ⟨S8, .i32⟩
  | 125 => ⟨S8, .i32⟩
  | 126 => ⟨S56x2560x1, .i32⟩
  | 127 => ⟨S56x2560x8, .i32⟩
  | _ => ⟨S720x7168, .bf16⟩

abbrev hbmTy0_1 (i : Nat) : BufTy := match i % 128 with
  | 0 => ⟨S56x2560x8, .i32⟩
  | 1 => ⟨S56x2560x8, .i32⟩
  | 2 => ⟨S_, .i32⟩
  | 3 => ⟨S56x2560x8, .i32⟩
  | 4 => ⟨S56x2560x8, .i32⟩
  | 5 => ⟨S56x20480, .i32⟩
  | 6 => ⟨S56x20480, .i32⟩
  | 7 => ⟨S_, .i32⟩
  | 8 => ⟨S56x20480, .i32⟩
  | 9 => ⟨S56x20480, .i32⟩
  | 10 => ⟨S_, .i32⟩
  | 11 => ⟨S56x20480, .i32⟩
  | 12 => ⟨S56x20480, .i32⟩
  | 13 => ⟨S_, .i32⟩
  | 14 => ⟨S56x20480, .i32⟩
  | 15 => ⟨S56x20480, .i32⟩
  | 16 => ⟨S_, .i32⟩
  | 17 => ⟨S56x20480, .i32⟩
  | 18 => ⟨S56x20480, .i32⟩
  | 19 => ⟨S56x20480, .f32⟩
  | 20 => ⟨S56x20480, .f32⟩
  | 21 => ⟨S_, .f32⟩
  | 22 => ⟨S56x20480, .f32⟩
  | 23 => ⟨S56x20480, .f32⟩
  | 24 => ⟨S_, .f32⟩
  | 25 => ⟨S56x20480, .f32⟩
  | 26 => ⟨S_, .f32⟩
  | 27 => ⟨S56x20480, .f32⟩
  | 28 => ⟨S56x20480, .f32⟩
  | 29 => ⟨S56x20480, .f32⟩
  | 30 => ⟨S56x20480, .f32⟩
  | 31 => ⟨S_, .i32⟩
  | 32 => ⟨S56x20480, .i32⟩
  | 33 => ⟨S56x20480, .i1⟩
  | 34 => ⟨S_, .f32⟩
  | 35 => ⟨S_, .f32⟩
  | 36 => ⟨S56x20480, .f32⟩
  | 37 => ⟨S56x20480, .f32⟩
  | 38 => ⟨S56x20480, .f32⟩
  | 39 => ⟨S_, .i32⟩
  | 40 => ⟨S56x20480, .i32⟩
  | 41 => ⟨S56x20480, .i1⟩
  | 42 => ⟨S_, .f32⟩
  | 43 => ⟨S56x20480, .f32⟩
  | 44 => ⟨S56x20480, .f32⟩
  | 45 => ⟨S_, .i32⟩
  | 46 => ⟨S56x20480, .i32⟩
  | 47 => ⟨S56x20480, .i1⟩
  | 48 => ⟨S56x20480, .f32⟩
  | 49 => ⟨S56x20480, .f32⟩
  | 50 => ⟨S56x20480, .f32⟩
  | 51 => ⟨S_, .i32⟩
  | 52 => ⟨S56x20480, .i32⟩
  | 53 => ⟨S56x20480, .i1⟩
  | 54 => ⟨S56x20480, .f32⟩
  | 55 => ⟨S56x20480, .f32⟩
  | 56 => ⟨S56x128x20480, .i32⟩
  | 57 => ⟨S56x1x20480, .i32⟩
  | 58 => ⟨S56x128x20480, .i32⟩
  | 59 => ⟨S56x128x20480, .i32⟩
  | 60 => ⟨S56x128x20480, .f32⟩
  | 61 => ⟨S56x1x20480, .f32⟩
  | 62 => ⟨S56x128x20480, .f32⟩
  | 63 => ⟨S56x128x20480, .f32⟩
  | 64 => ⟨S7168x20480, .f32⟩
  | 65 => ⟨S7168x20480, .bf16⟩
  | 66 => ⟨S720x20480, .f32⟩
  | 67 => ⟨S720x20480, .f32⟩
  | 68 => ⟨S720x20480, .f32⟩
  | 69 => ⟨S_, .f32⟩
  | 70 => ⟨S720x20480, .f32⟩
  | 71 => ⟨S720x20480, .f32⟩
  | 72 => ⟨S_, .f32⟩
  | 73 => ⟨S720x20480, .f32⟩
  | 74 => ⟨S720x20480, .f32⟩
  | 75 => ⟨S720x20480, .f32⟩
  | 76 => ⟨S720x20480, .f32⟩
  | 77 => ⟨S720x20480, .bf16⟩
  | _ => ⟨S720x7168, .bf16⟩

abbrev hbmTy (i : Nat) : BufTy := match i / 128 with
  | 0 => hbmTy0_0 i
  | 1 => hbmTy0_1 i
  | _ => ⟨S720x7168, .bf16⟩

abbrev bufTy : (tb : Table) → Fin (tcTables nBuf tb) → BufTy
  | .hbm, ⟨i, _⟩ => hbmTy i
  | _, _ => ⟨S720x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_3 : Ref sig .tc := ⟨.hbm, 17, rfl⟩
abbrev main_v4 : Ref sig .tc := ⟨.hbm, 18, rfl⟩
abbrev main_v5 : Ref sig .tc := ⟨.hbm, 19, rfl⟩
abbrev main_cst_4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_c_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_13 : Ref sig .tc := ⟨.hbm, 66, rfl⟩
abbrev main_v43 : Ref sig .tc := ⟨.hbm, 67, rfl⟩
abbrev main_v44 : Ref sig .tc := ⟨.hbm, 68, rfl⟩
abbrev main_cst_14 : Ref sig .tc := ⟨.hbm, 69, rfl⟩
abbrev main_v45 : Ref sig .tc := ⟨.hbm, 70, rfl⟩
abbrev main_cst_15 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_16 : Ref sig .tc := ⟨.hbm, 76, rfl⟩
abbrev main_v50 : Ref sig .tc := ⟨.hbm, 77, rfl⟩
abbrev main_v51 : Ref sig .tc := ⟨.hbm, 78, rfl⟩
abbrev main_cst_17 : Ref sig .tc := ⟨.hbm, 79, rfl⟩
abbrev main_cst_18 : Ref sig .tc := ⟨.hbm, 80, rfl⟩
abbrev main_call0_v0 : Ref sig .tc := ⟨.hbm, 81, rfl⟩
abbrev main_call0_v1 : Ref sig .tc := ⟨.hbm, 82, rfl⟩
abbrev main_v52 : Ref sig .tc := ⟨.hbm, 83, rfl⟩
abbrev main_c_19 : Ref sig .tc := ⟨.hbm, 84, rfl⟩
abbrev main_v53 : Ref sig .tc := ⟨.hbm, 85, rfl⟩
abbrev main_v54 : Ref sig .tc := ⟨.hbm, 86, rfl⟩
abbrev main_cst_20 : Ref sig .tc := ⟨.hbm, 87, rfl⟩
abbrev main_v55 : Ref sig .tc := ⟨.hbm, 88, rfl⟩
abbrev main_v56 : Ref sig .tc := ⟨.hbm, 89, rfl⟩
abbrev main_c_21 : Ref sig .tc := ⟨.hbm, 90, rfl⟩
abbrev main_v57 : Ref sig .tc := ⟨.hbm, 91, rfl⟩
abbrev main_v58 : Ref sig .tc := ⟨.hbm, 92, rfl⟩
abbrev main_call1_v0 : Ref sig .tc := ⟨.hbm, 93, rfl⟩
abbrev main_v59 : Ref sig .tc := ⟨.hbm, 94, rfl⟩
abbrev main_v60 : Ref sig .tc := ⟨.hbm, 95, rfl⟩
abbrev main_c_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_23 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_24 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_25 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_26 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_27 : Ref sig .tc := ⟨.hbm, 135, rfl⟩
abbrev main_v95 : Ref sig .tc := ⟨.hbm, 136, rfl⟩
abbrev main_v96 : Ref sig .tc := ⟨.hbm, 137, rfl⟩
abbrev main_c_28 : Ref sig .tc := ⟨.hbm, 138, rfl⟩
abbrev main_v97 : Ref sig .tc := ⟨.hbm, 139, rfl⟩
abbrev main_v98 : Ref sig .tc := ⟨.hbm, 140, rfl⟩
abbrev main_c_29 : Ref sig .tc := ⟨.hbm, 141, rfl⟩
abbrev main_v99 : Ref sig .tc := ⟨.hbm, 142, rfl⟩
abbrev main_v100 : Ref sig .tc := ⟨.hbm, 143, rfl⟩
abbrev main_c_30 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_31 : Ref sig .tc := ⟨.hbm, 149, rfl⟩
abbrev main_v105 : Ref sig .tc := ⟨.hbm, 150, rfl⟩
abbrev main_v106 : Ref sig .tc := ⟨.hbm, 151, rfl⟩
abbrev main_cst_32 : Ref sig .tc := ⟨.hbm, 152, rfl⟩
abbrev main_v107 : Ref sig .tc := ⟨.hbm, 153, rfl⟩
abbrev main_cst_33 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_c_34 : Ref sig .tc := ⟨.hbm, 159, rfl⟩
abbrev main_v112 : Ref sig .tc := ⟨.hbm, 160, rfl⟩
abbrev main_v113 : Ref sig .tc := ⟨.hbm, 161, rfl⟩
abbrev main_cst_35 : Ref sig .tc := ⟨.hbm, 162, rfl⟩
abbrev main_cst_36 : Ref sig .tc := ⟨.hbm, 163, rfl⟩
abbrev main_call4_v0 : Ref sig .tc := ⟨.hbm, 164, rfl⟩
abbrev main_call4_v1 : Ref sig .tc := ⟨.hbm, 165, rfl⟩
abbrev main_v114 : Ref sig .tc := ⟨.hbm, 166, rfl⟩
abbrev main_c_37 : Ref sig .tc := ⟨.hbm, 167, rfl⟩
abbrev main_v115 : Ref sig .tc := ⟨.hbm, 168, rfl⟩
abbrev main_v116 : Ref sig .tc := ⟨.hbm, 169, rfl⟩
abbrev main_cst_38 : Ref sig .tc := ⟨.hbm, 170, rfl⟩
abbrev main_v117 : Ref sig .tc := ⟨.hbm, 171, rfl⟩
abbrev main_v118 : Ref sig .tc := ⟨.hbm, 172, rfl⟩
abbrev main_c_39 : Ref sig .tc := ⟨.hbm, 173, rfl⟩
abbrev main_v119 : Ref sig .tc := ⟨.hbm, 174, rfl⟩
abbrev main_v120 : Ref sig .tc := ⟨.hbm, 175, rfl⟩
abbrev main_call5_v0 : Ref sig .tc := ⟨.hbm, 176, rfl⟩
abbrev main_v121 : Ref sig .tc := ⟨.hbm, 177, rfl⟩
abbrev main_v122 : Ref sig .tc := ⟨.hbm, 178, rfl⟩
abbrev main_c_40 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_call8_v0 : Ref sig .tc := ⟨.hbm, 195, rfl⟩
abbrev main_call8_v1 : Ref sig .tc := ⟨.hbm, 196, rfl⟩
abbrev main_call8_cst : Ref sig .tc := ⟨.hbm, 197, rfl⟩
abbrev main_call8_v2 : Ref sig .tc := ⟨.hbm, 198, rfl⟩
abbrev main_call8_v3 : Ref sig .tc := ⟨.hbm, 199, rfl⟩
abbrev main_call8_cst_0 : Ref sig .tc := ⟨.hbm, 200, rfl⟩
abbrev main_call8_v4 : Ref sig .tc := ⟨.hbm, 201, rfl⟩
abbrev main_call8_v5 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩

abbrev nD : Nat := 1
abbrev τ : Topo := Topo.v7x

variable {F : FTy → Type} [FloatOps F]
-- ==== Proof.PI.Trips.lean ====
/-
  The two loops of the projection kernel that run the matrix unit: one trip of each, the state before each trip
  as a recursion over the trips, and the invariants `sl_exec` goes through them with.
-/
module

public import proofs.«01_k».proof.Proof.Gen.DownIdeal.Frame
public import proofs.«01_k».proof.Proof.Gen.DownIdeal.Skeleton
public import proofs.«01_k».proof.Proof.Gen.DownIdeal.Loops
public import Idealize.ShloMosaic.Lib.Mxu.Walk

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test for the first grid point, which clears the accumulated block. -/
abbrev cond1 (i : grid0.Coords) : BitVec 1 :=
  Scalar.cmpi .ne (Scalar.extui (Scalar.cmpi .eq (BitVec.ofNat 32 (i 0).val) 0#32) : BitVec 32) 0#32

/-- The body's nine buffers, each whole at its contents. -/
abbrev Res (c : Dev nD) (arg1 : Memref sig .tc .vmem S720x20480 .bf16) (arg2 : Memref sig .tc .vmem S20480x128 .i32) (arg3 : Memref sig .tc .vmem S160x128 .i32) (arg4 : Memref sig .tc .vmem S160x1024 .i16) (arg5 : Memref sig .tc .vmem S720x1024 .bf16) (arg6 : Memref sig .tc .vmem S720x1024 .bf16) (arg7 : Memref sig .tc .vmem S8x160x128 .f32) (arg8 : Memref sig .tc .vmem S8x160x128 .f32) (arg9 : Memref sig .tc .vmem S8x720x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9))

/-- What one trip of loop 2 holds: the buffers it reads at their contents. -/
abbrev Trip2 (c : Dev nD) (arg1 : Memref sig .tc .vmem S720x20480 .bf16) (arg2 : Memref sig .tc .vmem S20480x128 .i32) (arg7 : Memref sig .tc .vmem S8x160x128 .f32) (arg8 : Memref sig .tc .vmem S8x160x128 .f32) (X1 : BufTy.Contents (Elt F) arg1.view.ty) (X2 : BufTy.Contents (Elt F) arg2.view.ty) (X7 : BufTy.Contents (Elt F) arg7.view.ty) (X8 : BufTy.Contents (Elt F) arg8.view.ty) : sProp 𝕄 :=
  iprop((arg1.view.loc (c : Thread nD τ) ↦[arg1.view.set]{fullShare} X1) ∗ (arg2.view.loc (c : Thread nD τ) ↦[arg2.view.set]{fullShare} X2) ∗ (arg7.view.loc (c : Thread nD τ) ↦[arg7.view.set]{fullShare} X7) ∗ (arg8.view.loc (c : Thread nD τ) ↦[arg8.view.set]{fullShare} X8))

set_option maxHeartbeats 4000000 in
/-- One trip of loop 2 at a symbolic trip number and state of the matrix unit: what it yields, as functions of the
    state; every tile is pushed into a register the accumulation before it emptied. -/
@[irreducible] def trip2 (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (c0 : BitVec 32) (X1 : BufTy.Contents (Elt F) arg1.view.ty) (X2 : BufTy.Contents (Elt F) arg2.view.ty) (X7 : BufTy.Contents (Elt F) arg7.view.ty) (X8 : BufTy.Contents (Elt F) arg8.view.ty) (k : Fin k0_t2_loop.trips) :
    { R : BitVec 32 × Mxu F → BitVec 32 × Mxu F // ∀ (E : Set ℕ) (acc : BitVec 32 × Mxu F),
      Trip2 (F := F) c arg1 arg2 arg7 arg8 X1 X2 X7 X8
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 k0_h2 c0 k acc)
          (fun yld => iprop(⌜yld = R acc⌝ ∗ Trip2 (F := F) c arg1 arg2 arg7 arg8 X1 X2 X7 X8)) } := by
  have hk : k.val < 39 := Nat.lt_of_lt_of_le k.isLt k0_t2_abs.2.1
  refine ⟨?_, fun E acc => ?run⟩
  case run =>
    unfold k0_t2_body
    iintro ⟨H1, H2, H7, H8⟩
    sl_exec (disch := mxu_pushok_peel)
    sl_step
    sl_close

/-- The state after trip `k` from the state `prev` before it. -/
@[irreducible] def st2Step (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (c0 : BitVec 32) (X1 : BufTy.Contents (Elt F) arg1.view.ty) (X2 : BufTy.Contents (Elt F) arg2.view.ty) (X7 : BufTy.Contents (Elt F) arg7.view.ty) (X8 : BufTy.Contents (Elt F) arg8.view.ty) (k : ℕ) (prev : BitVec 32 × Mxu F) : BitVec 32 × Mxu F :=
  if h : k < k0_t2_loop.trips then (trip2 (F := F) c i arg1 harg1 arg2 harg2 arg3 harg3 arg4 harg4 arg5 harg5 arg6 harg6 arg7 harg7 arg8 harg8 arg9 harg9 k0_h2 c0 X1 X2 X7 X8 ⟨k, h⟩).1 prev else prev

/-- The state before trip `k`. -/
def st2 (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (c0 : BitVec 32) (X1 : BufTy.Contents (Elt F) arg1.view.ty) (X2 : BufTy.Contents (Elt F) arg2.view.ty) (X7 : BufTy.Contents (Elt F) arg7.view.ty) (X8 : BufTy.Contents (Elt F) arg8.view.ty) (init : BitVec 32 × Mxu F) : ℕ → BitVec 32 × Mxu F
  | 0 => init
  | k + 1 => st2Step (F := F) c i arg1 harg1 arg2 harg2 arg3 harg3 arg4 harg4 arg5 harg5 arg6 harg6 arg7 harg7 arg8 harg8 arg9 harg9 k0_h2 c0 X1 X2 X7 X8 k (st2 c i arg1 harg1 arg2 harg2 arg3 harg3 arg4 harg4 arg5 harg5 arg6 harg6 arg7 harg7 arg8 harg8 arg9 harg9 k0_h2 c0 X1 X2 X7 X8 init k)

theorem st2_succ (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (c0 : BitVec 32) (X1 : BufTy.Contents (Elt F) arg1.view.ty) (X2 : BufTy.Contents (Elt F) arg2.view.ty) (X7 : BufTy.Contents (Elt F) arg7.view.ty) (X8 : BufTy.Contents (Elt F) arg8.view.ty) (init : BitVec 32 × Mxu F) (k : Fin k0_t2_loop.trips) :
    st2 (F := F) c i arg1 harg1 arg2 harg2 arg3 harg3 arg4 harg4 arg5 harg5 arg6 harg6 arg7 harg7 arg8 harg8 arg9 harg9 k0_h2 c0 X1 X2 X7 X8 init (k.val + 1) = (trip2 (F := F) c i arg1 harg1 arg2 harg2 arg3 harg3 arg4 harg4 arg5 harg5 arg6 harg6 arg7 harg7 arg8 harg8 arg9 harg9 k0_h2 c0 X1 X2 X7 X8 k).1 (st2 (F := F) c i arg1 harg1 arg2 harg2 arg3 harg3 arg4 harg4 arg5 harg5 arg6 harg6 arg7 harg7 arg8 harg8 arg9 harg9 k0_h2 c0 X1 X2 X7 X8 init k.val) := by
  rw [st2.eq_2]; unfold st2Step; exact dif_pos k.isLt

theorem st2_zero (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (c0 : BitVec 32) (X1 : BufTy.Contents (Elt F) arg1.view.ty) (X2 : BufTy.Contents (Elt F) arg2.view.ty) (X7 : BufTy.Contents (Elt F) arg7.view.ty) (X8 : BufTy.Contents (Elt F) arg8.view.ty) (init : BitVec 32 × Mxu F) : (st2 (F := F) c i arg1 harg1 arg2 harg2 arg3 harg3 arg4 harg4 arg5 harg5 arg6 harg6 arg7 harg7 arg8 harg8 arg9 harg9 k0_h2 c0 X1 X2 X7 X8 init 0) = init := rfl

/-- The invariant before trip `k`: the read buffers at their contents, the carried state that of the recursion. -/
abbrev inv2 (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (c0 : BitVec 32) (X1 : BufTy.Contents (Elt F) arg1.view.ty) (X2 : BufTy.Contents (Elt F) arg2.view.ty) (X7 : BufTy.Contents (Elt F) arg7.view.ty) (X8 : BufTy.Contents (Elt F) arg8.view.ty) (init : BitVec 32 × Mxu F) (k : ℕ) (acc : BitVec 32 × Mxu F) : sProp 𝕄 :=
  iprop((arg1.view.loc (c : Thread nD τ) ↦[arg1.view.set]{fullShare} X1) ∗ (arg2.view.loc (c : Thread nD τ) ↦[arg2.view.set]{fullShare} X2) ∗ (arg7.view.loc (c : Thread nD τ) ↦[arg7.view.set]{fullShare} X7) ∗ (arg8.view.loc (c : Thread nD τ) ↦[arg8.view.set]{fullShare} X8) ∗ ⌜acc = (st2 (F := F) c i arg1 harg1 arg2 harg2 arg3 harg3 arg4 harg4 arg5 harg5 arg6 harg6 arg7 harg7 arg8 harg8 arg9 harg9 k0_h2 c0 X1 X2 X7 X8 init k)⌝)

set_option warn.classDefReducibility false in
/-- The invariant as the executor finds it. -/
@[sl_loop] def loopInv2 (c : Dev nD) (E : Set ℕ) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (c0 : BitVec 32) (X1 : BufTy.Contents (Elt F) arg1.view.ty) (X2 : BufTy.Contents (Elt F) arg2.view.ty) (X7 : BufTy.Contents (Elt F) arg7.view.ty) (X8 : BufTy.Contents (Elt F) arg8.view.ty) (init : BitVec 32 × Mxu F) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 k0_h2 c0 init where
  inv := inv2 (F := F) c i arg1 harg1 arg2 harg2 arg3 harg3 arg4 harg4 arg5 harg5 arg6 harg6 arg7 harg7 arg8 harg8 arg9 harg9 k0_h2 c0 X1 X2 X7 X8 init
  step k acc := by
    iintro ⟨H1, H2, H7, H8, %h_acc⟩
    subst h_acc
    iapply (wp_wand_r Idealize.ShloMosaic.frame (wpE (defs₀ (F := F)) Variants.none (c : Thread nD τ) none) E)
    isplitl [H1 H2 H7 H8]
    · iapply ((trip2 (F := F) c i arg1 harg1 arg2 harg2 arg3 harg3 arg4 harg4 arg5 harg5 arg6 harg6 arg7 harg7 arg8 harg8 arg9 harg9 k0_h2 c0 X1 X2 X7 X8 k).2 E (st2 (F := F) c i arg1 harg1 arg2 harg2 arg3 harg3 arg4 harg4 arg5 harg5 arg6 harg6 arg7 harg7 arg8 harg8 arg9 harg9 k0_h2 c0 X1 X2 X7 X8 init k))
      isplitl [H1]; · iexact H1
      isplitl [H2]; · iexact H2
      isplitl [H7]; · iexact H7
      iexact H8
    · iintro %yld ⟨%h_res, H1, H2, H7, H8⟩
      isplitl [H1]; · iexact H1
      isplitl [H2]; · iexact H2
      isplitl [H7]; · iexact H7
      isplitl [H8]; · iexact H8
      simp only [st2_succ]
      ipureintro; rw [h_res]

/-- What one trip of loop 1 holds: the buffers it reads at their contents, the output block it writes at any. -/
abbrev Trip1 (c : Dev nD) (arg1 : Memref sig .tc .vmem S720x20480 .bf16) (arg2 : Memref sig .tc .vmem S20480x128 .i32) (arg5 : Memref sig .tc .vmem S720x1024 .bf16) (arg7 : Memref sig .tc .vmem S8x160x128 .f32) (arg8 : Memref sig .tc .vmem S8x160x128 .f32) (arg9 : Memref sig .tc .vmem S8x720x128 .f32) (arg6 : Memref sig .tc .vmem S720x1024 .bf16) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (f6 : BufTy.Contents (Elt F) arg6.view.ty) : sProp 𝕄 :=
  iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg6.view.loc (c : Thread nD τ) ↦[arg6.view.set]{fullShare} f6))

set_option maxHeartbeats 4000000 in
/-- One trip of loop 1 at a symbolic trip number and state of the matrix unit: what it yields and what it writes, as functions of the
    state; every tile is pushed into a register the accumulation before it emptied. -/
@[irreducible] def trip1 (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (k : Fin k0_t1_loop.trips) :
    Σ' (R : BitVec 32 × Mxu F → BitVec 32 × Mxu F), { L : BitVec 32 × Mxu F → List (View.Piece (Elt F) S720x1024 .bf16) // ∀ (E : Set ℕ) (acc : BitVec 32 × Mxu F) (f6 : BufTy.Contents (Elt F) arg6.view.ty),
      Trip1 (F := F) c arg1 arg2 arg5 arg7 arg8 arg9 arg6 X1 X2 X5 X7 X8 X9 f6
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 k0_h2 u v1 v2 v3 v4 v5 k acc)
          (fun yld => iprop(⌜yld = R acc⌝ ∗ Trip1 (F := F) c arg1 arg2 arg5 arg7 arg8 arg9 arg6 X1 X2 X5 X7 X8 X9 (arg6.view.writes (Elt F) f6 (L acc)))) } := by
  have hk : k.val < 39 := Nat.lt_of_lt_of_le k.isLt k0_t1_abs.2.1
  refine ⟨?_, ?_, fun E acc f6 => ?run⟩
  case run =>
    unfold k0_t1_body
    iintro ⟨H1, H2, H5, H7, H8, H9, H6⟩
    sl_exec (disch := mxu_pushok_peel)
    sl_step
    sl_close

/-- The state after trip `k` from the state `prev` before it. -/
@[irreducible] def st1Step (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (k : ℕ) (prev : (BitVec 32 × Mxu F) × List (View.Piece (Elt F) S720x1024 .bf16)) : (BitVec 32 × Mxu F) × List (View.Piece (Elt F) S720x1024 .bf16) :=
  if h : k < k0_t1_loop.trips then ((trip1 (F := F) c i arg1 harg1 arg2 harg2 arg3 harg3 arg4 harg4 arg5 harg5 arg6 harg6 arg7 harg7 arg8 harg8 arg9 harg9 k0_h2 u v1 v2 v3 v4 v5 X1 X2 X5 X7 X8 X9 ⟨k, h⟩).1 prev.1, (trip1 (F := F) c i arg1 harg1 arg2 harg2 arg3 harg3 arg4 harg4 arg5 harg5 arg6 harg6 arg7 harg7 arg8 harg8 arg9 harg9 k0_h2 u v1 v2 v3 v4 v5 X1 X2 X5 X7 X8 X9 ⟨k, h⟩).2.1 prev.1 ++ prev.2) else prev

/-- The state before trip `k`: what the loop carries and the pieces written so far, last first. -/
def st1 (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (init : BitVec 32 × Mxu F) : ℕ → (BitVec 32 × Mxu F) × List (View.Piece (Elt F) S720x1024 .bf16)
  | 0 => (init, [])
  | k + 1 => st1Step (F := F) c i arg1 harg1 arg2 harg2 arg3 harg3 arg4 harg4 arg5 harg5 arg6 harg6 arg7 harg7 arg8 harg8 arg9 harg9 k0_h2 u v1 v2 v3 v4 v5 X1 X2 X5 X7 X8 X9 k (st1 c i arg1 harg1 arg2 harg2 arg3 harg3 arg4 harg4 arg5 harg5 arg6 harg6 arg7 harg7 arg8 harg8 arg9 harg9 k0_h2 u v1 v2 v3 v4 v5 X1 X2 X5 X7 X8 X9 init k)

theorem st1_succ (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (init : BitVec 32 × Mxu F) (k : Fin k0_t1_loop.trips) :
    st1 (F := F) c i arg1 harg1 arg2 harg2 arg3 harg3 arg4 harg4 arg5 harg5 arg6 harg6 arg7 harg7 arg8 harg8 arg9 harg9 k0_h2 u v1 v2 v3 v4 v5 X1 X2 X5 X7 X8 X9 init (k.val + 1) = ((trip1 (F := F) c i arg1 harg1 arg2 harg2 arg3 harg3 arg4 harg4 arg5 harg5 arg6 harg6 arg7 harg7 arg8 harg8 arg9 harg9 k0_h2 u v1 v2 v3 v4 v5 X1 X2 X5 X7 X8 X9 k).1 (st1 (F := F) c i arg1 harg1 arg2 harg2 arg3 harg3 arg4 harg4 arg5 harg5 arg6 harg6 arg7 harg7 arg8 harg8 arg9 harg9 k0_h2 u v1 v2 v3 v4 v5 X1 X2 X5 X7 X8 X9 init k.val).1, (trip1 (F := F) c i arg1 harg1 arg2 harg2 arg3 harg3 arg4 harg4 arg5 harg5 arg6 harg6 arg7 harg7 arg8 harg8 arg9 harg9 k0_h2 u v1 v2 v3 v4 v5 X1 X2 X5 X7 X8 X9 k).2.1 (st1 (F := F) c i arg1 harg1 arg2 harg2 arg3 harg3 arg4 harg4 arg5 harg5 arg6 harg6 arg7 harg7 arg8 harg8 arg9 harg9 k0_h2 u v1 v2 v3 v4 v5 X1 X2 X5 X7 X8 X9 init k.val).1 ++ (st1 (F := F) c i arg1 harg1 arg2 harg2 arg3 harg3 arg4 harg4 arg5 harg5 arg6 harg6 arg7 harg7 arg8 harg8 arg9 harg9 k0_h2 u v1 v2 v3 v4 v5 X1 X2 X5 X7 X8 X9 init k.val).2) := by
  rw [st1.eq_2]; unfold st1Step; exact dif_pos k.isLt

theorem st1_zero (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (init : BitVec 32 × Mxu F) : (st1 (F := F) c i arg1 harg1 arg2 harg2 arg3 harg3 arg4 harg4 arg5 harg5 arg6 harg6 arg7 harg7 arg8 harg8 arg9 harg9 k0_h2 u v1 v2 v3 v4 v5 X1 X2 X5 X7 X8 X9 init 0).1 = init := rfl

/-- The invariant before trip `k`: the read buffers at their contents, the carried state that of the recursion, the output block the pieces so far over its contents at entry. -/
abbrev inv1 (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (G6 : BufTy.Contents (Elt F) arg6.view.ty) (init : BitVec 32 × Mxu F) (k : ℕ) (acc : BitVec 32 × Mxu F) : sProp 𝕄 :=
  iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg6.view.loc (c : Thread nD τ) ↦[arg6.view.set]{fullShare} f) ∗ ⌜f = arg6.view.writes (Elt F) G6 (st1 (F := F) c i arg1 harg1 arg2 harg2 arg3 harg3 arg4 harg4 arg5 harg5 arg6 harg6 arg7 harg7 arg8 harg8 arg9 harg9 k0_h2 u v1 v2 v3 v4 v5 X1 X2 X5 X7 X8 X9 init k).2⌝) ∗ ⌜acc = (st1 (F := F) c i arg1 harg1 arg2 harg2 arg3 harg3 arg4 harg4 arg5 harg5 arg6 harg6 arg7 harg7 arg8 harg8 arg9 harg9 k0_h2 u v1 v2 v3 v4 v5 X1 X2 X5 X7 X8 X9 init k).1⌝)

set_option warn.classDefReducibility false in
/-- The invariant as the executor finds it. -/
@[sl_loop] def loopInv1 (c : Dev nD) (E : Set ℕ) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (k0_h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (G6 : BufTy.Contents (Elt F) arg6.view.ty) (init : BitVec 32 × Mxu F) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 k0_h2 u v1 v2 v3 v4 v5 init where
  inv := inv1 (F := F) c i arg1 harg1 arg2 harg2 arg3 harg3 arg4 harg4 arg5 harg5 arg6 harg6 arg7 harg7 arg8 harg8 arg9 harg9 k0_h2 u v1 v2 v3 v4 v5 X1 X2 X5 X7 X8 X9 G6 init
  step k acc := by
    iintro ⟨H1, H2, H5, H7, H8, H9, ⟨%f6, H6, %h6⟩, %h_acc⟩
    subst h_acc
    iapply (wp_wand_r Idealize.ShloMosaic.frame (wpE (defs₀ (F := F)) Variants.none (c : Thread nD τ) none) E)
    isplitl [H1 H2 H5 H7 H8 H9 H6]
    · iapply ((trip1 (F := F) c i arg1 harg1 arg2 harg2 arg3 harg3 arg4 harg4 arg5 harg5 arg6 harg6 arg7 harg7 arg8 harg8 arg9 harg9 k0_h2 u v1 v2 v3 v4 v5 X1 X2 X5 X7 X8 X9 k).2.2 E (st1 (F := F) c i arg1 harg1 arg2 harg2 arg3 harg3 arg4 harg4 arg5 harg5 arg6 harg6 arg7 harg7 arg8 harg8 arg9 harg9 k0_h2 u v1 v2 v3 v4 v5 X1 X2 X5 X7 X8 X9 init k).1 f6)
      isplitl [H1]; · iexact H1
      isplitl [H2]; · iexact H2
      isplitl [H5]; · iexact H5
      isplitl [H7]; · iexact H7
      isplitl [H8]; · iexact H8
      isplitl [H9]; · iexact H9
      iexact H6
    · iintro %yld ⟨%h_res, H1, H2, H5, H7, H8, H9, H6⟩
      isplitl [H1]; · iexact H1
      isplitl [H2]; · iexact H2
      isplitl [H5]; · iexact H5
      isplitl [H7]; · iexact H7
      isplitl [H8]; · iexact H8
      isplitl [H9]; · iexact H9
      simp only [st1_succ]
      isplitl [H6]
      · iexists _; isplitl [H6]; · iexact H6
        ipureintro; rw [h6, ← View.writes_append]
      ipureintro; rw [h_res]

end Cert.Proof.PI

end
-- ==== Proof.Tile.lean ====
/-
  The weight tiles of the projection: a tile of 256 rows and 256 columns, two of the eight nibble fields side by side,
  as the kernel spells it on vectors and as it reads at one place; the columns of the activations it meets; and the
  sums the matrix unit holds after the first tiles.
-/
module

public import Idealize.ShloMosaic.Lib.Pointwise.Tactic
public import Idealize.ShloMosaic.Lib.Pointwise.Select
public import Idealize.ShloMosaic.Lib.Pointwise.Reshape
public import Idealize.ShloMosaic.Lib.Mxu.Walk

@[expose] public section

set_option maxRecDepth 2000

noncomputable section

namespace Cert.Proof.Tile

open Idealize.ShloMosaic

variable {F : FTy → Type} [FloatOps F]

abbrev T256x256 : Shape := ⟨2, ![256, 256]⟩
abbrev T256x128 : Shape := ⟨2, ![256, 128]⟩
abbrev T128x128 : Shape := ⟨2, ![128, 128]⟩
abbrev T1x128 : Shape := ⟨2, ![1, 128]⟩
abbrev T1x1x128 : Shape := ⟨3, ![1, 1, 128]⟩

/-! ## One field of a word -/

/-- The mask that keeps the sign, the exponent and nibble `t` of a biased half word. -/
abbrev maskW : Fin 4 → BitVec 32
  | 0 => 4286578703#32
  | 1 => 4286578928#32
  | 2 => 4286582528#32
  | 3 => 4286640128#32

/-- The float whose low mantissa bits are nibble `t` of one half of a word, the rest those of 2²³. -/
def fieldW (p : Fin 2) (t : Fin 4) (w : BitVec 32) : F .f32 :=
  FloatOps.ofBits .f32 (IntOp.andi (IntOp.ori (match p with | 0 => IntOp.andi w 65535#32 | 1 => IntOp.shrui .vector w 16#32) 1258291200#32) (maskW t))

/-- The same for a vector of words. -/
def vField {s : Shape} (p : Fin 2) (t : Fin 4) (w : IVec s 32) : FVec F s .f32 :=
  bitcastToFloat .f32 (andi (ori (match p with | 0 => andi w (broadcast s 65535#32) | 1 => shrui w (broadcast s 16#32)) (broadcast s 1258291200#32)) (broadcast s (maskW t)))

theorem vField_at {s : Shape} (p : Fin 2) (t : Fin 4) (w : IVec s 32) (i : s.Idx) :
    vField (F := F) p t w i = fieldW p t (w i) := by
  match p with
  | 0 => rfl
  | 1 => rfl

/-! ## The tile -/

theorem cat0 : Shape.Concatenates [T128x128, T128x128] T256x128 0 := by decide
theorem cat1 : Shape.Concatenates [T256x128, T256x128] T256x256 1 := by decide

/-- Two row groups of one field: each less its zero, times its scale. -/
def vHalf (v : FVec F T256x128 .f32) (z0 s0 z1 s1 : FVec F T1x1x128 .f32) : FVec F T256x128 .bf16 :=
  concatenate T256x128 0
    [⟨T128x128, truncf .bf16 (mulf (subf (extractStridedSlice T128x128 ![0, 0] v (by decide)) (broadcastTo T128x128 (shapeCast T1x128 z0 (by decide)) (by decide))) (broadcastTo T128x128 (shapeCast T1x128 s0 (by decide)) (by decide))) (by decide)⟩,
     ⟨T128x128, truncf .bf16 (mulf (subf (extractStridedSlice T128x128 ![128, 0] v (by decide)) (broadcastTo T128x128 (shapeCast T1x128 z1 (by decide)) (by decide))) (broadcastTo T128x128 (shapeCast T1x128 s1 (by decide)) (by decide))) (by decide)⟩] cat0

/-- Two fields side by side. -/
def vTile (p : Fin 2) (t t' : Fin 4) (w : IVec T256x128 32) (z0 s0 z1 s1 z0' s0' z1' s1' : FVec F T1x1x128 .f32) : FVec F T256x256 .bf16 :=
  concatenate T256x256 1
    [⟨T256x128, vHalf (vField p t w) z0 s0 z1 s1⟩, ⟨T256x128, vHalf (vField p t' w) z0' s0' z1' s1'⟩] cat1

/-- One weight: a field less its zero, times its scale. -/
def elt (p : Fin 2) (t : Fin 4) (w : BitVec 32) (z s : F .f32) : F .bf16 :=
  FloatOps.truncf .bf16 (by decide) (FloatOps.mulf (FloatOps.subf (fieldW p t w) z) s)

/-- A row of a half tile: the first row group's zero and scale, or the second's. -/
theorem vHalf_at (v : FVec F T256x128 .f32) (z0 s0 z1 s1 : FVec F T1x1x128 .f32) (r : Fin 256) (l : Fin 128) :
    vHalf v z0 s0 z1 s1 (ix2 r l) = FloatOps.truncf .bf16 (by decide) (FloatOps.mulf (FloatOps.subf (v (ix2 r l))
      (if r.val < 128 then z0 (ix3 0 0 l) else z1 (ix3 0 0 l))) (if r.val < 128 then s0 (ix3 0 0 l) else s1 (ix3 0 0 l))) := by
  unfold vHalf
  by_cases h : r.val < 128
  · simp only [if_pos h]
    pointwise
    rw [dif_pos h]
  · simp only [if_neg h]
    pointwise
    rw [dif_neg h]
    pointwise
    simp only [show 128 + (r.val - 128) = r.val by omega]

/-- A place of a tile. -/
theorem vTile_at (p : Fin 2) (t t' : Fin 4) (w : IVec T256x128 32) (z0 s0 z1 s1 z0' s0' z1' s1' : FVec F T1x1x128 .f32) (r : Fin 256) (c : Fin 256) :
    vTile p t t' w z0 s0 z1 s1 z0' s0' z1' s1' (ix2 r c) = if h : c.val < 128 then vHalf (vField p t w) z0 s0 z1 s1 (ix2 r ⟨c, h⟩)
      else vHalf (vField p t' w) z0' s0' z1' s1' (ix2 r ⟨c - 128, by omega⟩) := by
  unfold vTile
  pointwise

/-! ## The tiles of a matrix -/

abbrev TW (K : ℕ) : Shape := ⟨2, ![K, 128]⟩
abbrev TZ (G : ℕ) : Shape := ⟨3, ![8, G, 128]⟩

/-- The number of a place, within `N`. -/
abbrev at' (N : ℕ) [NeZero N] (n : ℕ) : Fin N := Fin.ofNat N n

/-- Tile `n` of pass `p` and unit `q`: field `4p + 2q` beside field `4p + 2q + 1` of 256 rows of words. -/
def tileF {K G : ℕ} [NeZero K] [NeZero G] (W : (TW K).Idx → BitVec 32) (Z S : (TZ G).Idx → F .f32) (p q : Fin 2) (n : ℕ) :
    FVec F T256x256 .bf16 := fun i =>
  elt p (at' 4 (2 * q.val + (i 1).val / 128)) (W (ix2 (at' K (256 * n + (i 0).val)) (at' 128 ((i 1).val % 128))))
    (Z (ix3 (at' 8 (4 * p.val + 2 * q.val + (i 1).val / 128)) (at' G (2 * n + (i 0).val / 128)) (at' 128 ((i 1).val % 128))))
    (S (ix3 (at' 8 (4 * p.val + 2 * q.val + (i 1).val / 128)) (at' G (2 * n + (i 0).val / 128)) (at' 128 ((i 1).val % 128))))

/-- A tile of loaded words, zeros and scales is the matrix's tile. -/
theorem vTile_eq {K G : ℕ} [NeZero K] [NeZero G] (W : (TW K).Idx → BitVec 32) (Z S : (TZ G).Idx → F .f32) (p q : Fin 2) (n : ℕ)
    {w : IVec T256x128 32} {z0 s0 z1 s1 z0' s0' z1' s1' : FVec F T1x1x128 .f32}
    (hw : ∀ r l, w (ix2 r l) = W (ix2 (at' K (256 * n + r.val)) l))
    (hz0 : ∀ l, z0 (ix3 0 0 l) = Z (ix3 (at' 8 (4 * p.val + 2 * q.val)) (at' G (2 * n)) l))
    (hs0 : ∀ l, s0 (ix3 0 0 l) = S (ix3 (at' 8 (4 * p.val + 2 * q.val)) (at' G (2 * n)) l))
    (hz1 : ∀ l, z1 (ix3 0 0 l) = Z (ix3 (at' 8 (4 * p.val + 2 * q.val)) (at' G (2 * n + 1)) l))
    (hs1 : ∀ l, s1 (ix3 0 0 l) = S (ix3 (at' 8 (4 * p.val + 2 * q.val)) (at' G (2 * n + 1)) l))
    (hz0' : ∀ l, z0' (ix3 0 0 l) = Z (ix3 (at' 8 (4 * p.val + 2 * q.val + 1)) (at' G (2 * n)) l))
    (hs0' : ∀ l, s0' (ix3 0 0 l) = S (ix3 (at' 8 (4 * p.val + 2 * q.val + 1)) (at' G (2 * n)) l))
    (hz1' : ∀ l, z1' (ix3 0 0 l) = Z (ix3 (at' 8 (4 * p.val + 2 * q.val + 1)) (at' G (2 * n + 1)) l))
    (hs1' : ∀ l, s1' (ix3 0 0 l) = S (ix3 (at' 8 (4 * p.val + 2 * q.val + 1)) (at' G (2 * n + 1)) l)) :
    vTile p (at' 4 (2 * q.val)) (at' 4 (2 * q.val + 1)) w z0 s0 z1 s1 z0' s0' z1' s1' = tileF W Z S p q n := by
  funext i
  obtain ⟨r, c, rfl⟩ : ∃ r c, i = ix2 r c := ⟨i 0, i 1, (ix2_eta i).symm⟩
  rw [vTile_at]
  unfold tileF elt
  dsimp only [ix2_0, ix2_1]
  have hc := c.isLt
  have hr := r.isLt
  split
  · rename_i h
    have e1 : c.val / 128 = 0 := by omega
    have e2 : at' 128 (c.val % 128) = ⟨c.val, h⟩ := Fin.ext (by simp [at']; omega)
    rw [vHalf_at, vField_at, hw]
    simp only [e1, e2, Nat.add_zero]
    split
    · rw [show r.val / 128 = 0 by omega, hz0, hs0]; rfl
    · rw [show r.val / 128 = 1 by omega, hz1, hs1]
  · rename_i h
    have e1 : c.val / 128 = 1 := by omega
    have e2 : at' 128 (c.val % 128) = ⟨c.val - 128, by omega⟩ := Fin.ext (by simp [at']; omega)
    rw [vHalf_at, vField_at, hw]
    simp only [e1, e2]
    split
    · rw [show r.val / 128 = 0 by omega, hz0', hs0']; rfl
    · rw [show r.val / 128 = 1 by omega, hz1', hs1']

/-- The 256 columns of the activations that meet tile `n`. -/
def xcol {M K : ℕ} [NeZero K] (X : Shape.Idx ⟨2, ![M, K]⟩ → F .bf16) (n : ℕ) : FVec F ⟨2, ![M, 256]⟩ .bf16 := fun i =>
  X (ix2 (i 0) (at' K (256 * n + (i 1).val)))

/-! ## The matrix unit's sums -/

/-- The sum of the passes of the first tiles, in order. -/
def sums {M : ℕ} (X : ℕ → FVec F ⟨2, ![M, 256]⟩ .bf16) (T : ℕ → FVec F T256x256 .bf16) : ℕ → FVec F ⟨2, ![M, 256]⟩ .f32
  | 0 => constant _ .f32 0
  | 1 => FloatOps.mxuPass (DotDims.plain M 256 256) (X 0) (T 0)
  | n + 2 => addf (sums X T (n + 1)) (FloatOps.mxuPass (DotDims.plain M 256 256) (X (n + 1)) (T (n + 1)))

variable {M : ℕ} (h0 : Mxu.Fits 0 M)

/-- A tile pushed into each unit. -/
def push (u : Mxu F) (a b : FVec F T256x256 .bf16) : Mxu F := (u.pushed 0 0 false a).pushed 1 0 false b

/-- Both units' tiles run against the same columns. -/
def acc (u : Mxu F) (x : FVec F ⟨2, ![M, 256]⟩ .bf16) : Mxu F := (u.accLhs 0 0 0 x h0).accLhs 1 0 0 x h0

/-- Both units' sums taken out. -/
def out (u : Mxu F) : Mxu F := (u.pop 0 0 M h0).pop 1 0 M h0

/-- No tile waits, and each unit's rows hold the sums of the first `n` tiles. -/
structure Idle (X : ℕ → FVec F ⟨2, ![M, 256]⟩ .bf16) (T : Fin 2 → ℕ → FVec F T256x256 .bf16) (n : ℕ) (u : Mxu F) : Prop where
  reg : ∀ q r, u.reg q r = none
  live : ∀ q R, u.live q R = true ↔ 0 < n ∧ R.val < M
  read : ∀ q, u.read q 0 h0 = sums X (T q) n

/-- A tile waits in each unit. -/
structure Ready (X : ℕ → FVec F ⟨2, ![M, 256]⟩ .bf16) (T : Fin 2 → ℕ → FVec F T256x256 .bf16) (B : Fin 2 → FVec F T256x256 .bf16) (n : ℕ)
    (u : Mxu F) : Prop where
  reg : ∀ q, u.reg q 0 = some ⟨.bf16, false, B q⟩
  reg1 : ∀ q, u.reg q 1 = none
  live : ∀ q R, u.live q R = true ↔ 0 < n ∧ R.val < M
  read : ∀ q, u.read q 0 h0 = sums X (T q) n

variable {X : ℕ → FVec F ⟨2, ![M, 256]⟩ .bf16} {T T' : Fin 2 → ℕ → FVec F T256x256 .bf16} {B : Fin 2 → FVec F T256x256 .bf16}

theorem idle_init : Idle h0 X T 0 (Mxu.init : Mxu F) where
  reg _ _ := rfl
  live _ _ := by simp [Mxu.init]
  read _ := rfl

theorem push_ready {n : ℕ} {u : Mxu F} (hu : Idle h0 X T n u) {a b : FVec F T256x256 .bf16} (ha : a = B 0) (hb : b = B 1) :
    Ready h0 X T B n (push u a b) := by
  subst ha hb
  have e1 := hu.reg 0 0
  have e2 : (u.pushed 0 0 false (B 0)).reg 1 0 = none := by
    rw [Mxu.reg_pushed_ne]; exact hu.reg 1 0; simp
  refine ⟨?_, ?_, ?_, ?_⟩
  · intro q
    unfold push
    match q with
    | 0 => rw [Mxu.reg_pushed_ne _ _ _ _ _ _ _ (by simp), Mxu.reg_pushed_of_none _ _ _ _ _ e1]
    | 1 => rw [Mxu.reg_pushed_of_none _ _ _ _ _ e2]
  · intro q
    unfold push
    rw [Mxu.reg_pushed_ne _ _ _ _ _ _ _ (by simp), Mxu.reg_pushed_ne _ _ _ _ _ _ _ (by simp)]; exact hu.reg q 1
  · intro q R; unfold push; rw [Mxu.live_pushed, Mxu.live_pushed]; exact hu.live q R
  · intro q; unfold push; rw [Mxu.read_pushed, Mxu.read_pushed]; exact hu.read q

theorem fin2 : ∀ q : Fin 2, q = 1 ∨ q = 0 := by decide

theorem live_acc {u : Mxu F} {x : FVec F ⟨2, ![M, 256]⟩ .bf16} {n : ℕ} (hl : ∀ q R, u.live q R = true ↔ 0 < n ∧ R.val < M) (q : Fin 2) (R : Fin 1024) :
    (acc h0 u x).live q R = true ↔ 0 < n + 1 ∧ R.val < M := by
  unfold acc
  rw [Mxu.live_accLhs, Mxu.live_accLhs]
  have := hl q R
  have hR : 4 * 0 ≤ R.val := by omega
  have hq := fin2 q
  rcases hq with rfl | rfl <;> by_cases h : R.val < M <;> simp [h] <;> simp [h] at this <;> assumption

theorem reg_acc {u : Mxu F} {x : FVec F ⟨2, ![M, 256]⟩ .bf16} (h : ∀ q, u.reg q 1 = none) (q r : Fin 2) : (acc h0 u x).reg q r = none := by
  unfold acc
  match q, r with
  | 0, 0 => rw [Mxu.reg_accLhs_ne _ _ _ _ _ _ _ _ (by simp), Mxu.reg_accLhs]
  | 1, 0 => rw [Mxu.reg_accLhs]
  | 0, 1 => rw [Mxu.reg_accLhs_ne _ _ _ _ _ _ _ _ (by simp), Mxu.reg_accLhs_ne _ _ _ _ _ _ _ _ (by simp), h]
  | 1, 1 => rw [Mxu.reg_accLhs_ne _ _ _ _ _ _ _ _ (by simp), Mxu.reg_accLhs_ne _ _ _ _ _ _ _ _ (by simp), h]

/-- One accumulation by the waiting tiles, unit by unit. -/
theorem read_acc {u : Mxu F} {x : FVec F ⟨2, ![M, 256]⟩ .bf16} {n : ℕ} (hr : ∀ q, u.reg q 0 = some ⟨.bf16, false, B q⟩)
    (hl : ∀ q R, u.live q R = true ↔ 0 < n ∧ R.val < M) (q : Fin 2) :
    (acc h0 u x).read q 0 h0 = if n = 0 then FloatOps.mxuPass (DotDims.plain M 256 256) x (B q)
      else addf (u.read q 0 h0) (FloatOps.mxuPass (DotDims.plain M 256 256) x (B q)) := by
  have hlt : ∀ r : Fin M, (Mxu.row h0 r).val < M := fun r => by simp [Mxu.row]
  have hrow : ∀ (q : Fin 2) (r : Fin M), n = 0 → u.live q (Mxu.row h0 r) = false := by
    intro q r hn
    rw [Bool.eq_false_iff]; intro h; have := (hl q _).1 h; omega
  have hrow' : ∀ (q : Fin 2) (r : Fin M), n ≠ 0 → u.live q (Mxu.row h0 r) = true := by
    intro q r hn
    exact (hl q _).2 ⟨by omega, hlt r⟩
  unfold acc
  match q with
  | 0 =>
    rw [Mxu.read_accLhs_ne (hne := by simp)]
    split
    · rename_i hn
      rw [Mxu.read_accLhs_of_not_live _ _ _ _ _ _ (fun r => hrow 0 r hn), Mxu.staged_eq, hr 0]; rfl
    · rename_i hn
      rw [Mxu.read_accLhs_of_live _ _ _ _ _ _ (fun r => hrow' 0 r hn), Mxu.staged_eq, hr 0]; rfl
  | 1 =>
    have hreg : ((u.accLhs 0 0 0 x h0).reg 1 0) = some ⟨.bf16, false, B 1⟩ := by
      rw [Mxu.reg_accLhs_ne _ _ _ _ _ _ _ _ (by simp)]; exact hr 1
    have hlive : ∀ R, (u.accLhs 0 0 0 x h0).live 1 R = u.live 1 R := by
      intro R; rw [Mxu.live_accLhs]; simp
    have hread : (u.accLhs 0 0 0 x h0).read 1 0 h0 = u.read 1 0 h0 := by rw [Mxu.read_accLhs_ne (hne := by simp)]
    split
    · rename_i hn
      rw [Mxu.read_accLhs_of_not_live _ _ _ _ _ _ (fun r => (hlive _).trans (hrow 1 r hn)), Mxu.staged_eq, hreg]; rfl
    · rename_i hn
      rw [Mxu.read_accLhs_of_live _ _ _ _ _ _ (fun r => (hlive _).trans (hrow' 1 r hn)), Mxu.staged_eq, hreg, hread]; rfl

/-- An accumulation by tile `n` adds its pass to the sums. -/
theorem acc_idle {n : ℕ} {u : Mxu F} (hu : Ready h0 X T (fun q => T q n) n u) {x : FVec F ⟨2, ![M, 256]⟩ .bf16} (hx : x = X n) :
    Idle h0 X T (n + 1) (acc h0 u x) := by
  subst hx
  refine ⟨reg_acc h0 hu.reg1, live_acc h0 hu.live, fun q => ?_⟩
  rw [read_acc h0 (B := fun q => T q n) hu.reg hu.live, hu.read]
  match n with
  | 0 => rfl
  | n + 1 => rfl

/-- After the sums are taken out the waiting tile starts new ones. -/
theorem out_ready {n : ℕ} {u : Mxu F} (hu : Ready h0 X T B n u) : Ready h0 X T' B 0 (out h0 u) := by
  refine ⟨hu.reg, hu.reg1, fun q R => ?_, fun q => ?_⟩
  · unfold out
    rw [Mxu.live_pop, Mxu.live_pop]
    have := hu.live q R
    have hR : 4 * 0 ≤ R.val := by omega
    have hq := fin2 q
    rcases hq with rfl | rfl <;> by_cases h : R.val < M <;> simp [h] <;> simp [h] at this <;> assumption
  · unfold out
    match q with
    | 0 => rw [Mxu.read_pop_ne (hne := by simp), Mxu.read_pop]; rfl
    | 1 => rw [Mxu.read_pop]; rfl

/-- After the sums are taken out with no tile waiting the unit holds nothing. -/
theorem out_idle {n : ℕ} {u : Mxu F} (hu : Idle h0 X T n u) : Idle h0 X T' 0 (out h0 u) := by
  refine ⟨hu.reg, fun q R => ?_, fun q => ?_⟩
  · unfold out
    rw [Mxu.live_pop, Mxu.live_pop]
    have := hu.live q R
    have hR : 4 * 0 ≤ R.val := by omega
    have hq := fin2 q
    rcases hq with rfl | rfl <;> by_cases h : R.val < M <;> simp [h] <;> simp [h] at this <;> assumption
  · unfold out
    match q with
    | 0 => rw [Mxu.read_pop_ne (hne := by simp), Mxu.read_pop]; rfl
    | 1 => rw [Mxu.read_pop]; rfl

theorem Ready.read0 {n : ℕ} {u : Mxu F} (hu : Ready h0 X T B n u) : u.read 0 0 h0 = sums X (T 0) n := hu.read 0
theorem Ready.read1 {n : ℕ} {u : Mxu F} (hu : Ready h0 X T B n u) : (u.pop 0 0 M h0).read 1 0 h0 = sums X (T 1) n := by
  rw [Mxu.read_pop_ne (hne := by simp)]; exact hu.read 1
theorem Idle.read0 {n : ℕ} {u : Mxu F} (hu : Idle h0 X T n u) : u.read 0 0 h0 = sums X (T 0) n := hu.read 0
theorem Idle.read1 {n : ℕ} {u : Mxu F} (hu : Idle h0 X T n u) : (u.pop 0 0 M h0).read 1 0 h0 = sums X (T 1) n := by
  rw [Mxu.read_pop_ne (hne := by simp)]; exact hu.read 1

end Cert.Proof.Tile

end
-- ==== Proof.PI.Chain.lean ====
/-
  The matrix unit's state along the kernel body: after any number of tiles each unit's rows hold the sum of their passes.
-/
module

public import proofs.«01_k».proof.Proof.PI.Trips
public import proofs.«01_k».proof.Proof.Tile
public import Idealize.ShloMosaic.Lib.Pipeline.ValueKit.Tiles

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile

/-- What a buffer of the body holds, read through its whole view. -/
abbrev rd {s : Shape} {e : EltTy} (m : Memref sig .tc .vmem s e) (X : BufTy.Contents (Elt F) m.view.ty) : s.Idx → Elt F e := m.view.read (Elt F) X

/-- The columns of the activations, by tile number. -/
abbrev XC (X : S720x20480.Idx → Elt F .bf16) : ℕ → FVec F S720x256 .bf16 := xcol (M := 720) (K := 20480) X

/-- The tiles of pass `p`, by unit and number. -/
abbrev TF (p : Fin 2) (W : S20480x128.Idx → BitVec 32) (Z S : S8x160x128.Idx → F .f32) : Fin 2 → ℕ → FVec F S256x256 .bf16 := fun q n =>
  tileF (K := 20480) (G := 160) W Z S p q n

theorem xc_of {arg1 : Memref sig .tc .vmem S720x20480 .bf16} {X1 : BufTy.Contents (Elt F) arg1.view.ty} {off : Fin 2 → ℕ} {inb} (n : ℕ) (hn : n < 80) (ho : off = ![0, 256 * n]) :
    arg1.view.readAt (Elt F) (Rect.unit (s := S720x20480) off S720x256.size inb).toLoadRect X1 = XC (rd arg1 X1) n := by
  subst ho
  funext x
  refine View.ld_unit_apply_of (rd arg1 X1) _ _ _ x _ fun a => ?_
  match a with
  | ⟨0, _⟩ => simp
  | ⟨1, _⟩ =>
    have h : (x 1).val < 256 := (x 1).isLt
    change (Fin.ofNat 20480 (256 * n + (x 1).val)).val = 256 * n + (x 1).val
    simp; omega

theorem w_of {arg2 : Memref sig .tc .vmem S20480x128 .i32} {X2 : BufTy.Contents (Elt F) arg2.view.ty} {off : Fin 2 → ℕ} {inb} (n : ℕ) (hn : n < 80) (ho : off = ![256 * n, 0]) (r : Fin 256) (l : Fin 128) :
    arg2.view.readAt (Elt F) (Rect.unit (s := S20480x128) off S256x128.size inb).toLoadRect X2 (ix2 r l) = rd arg2 X2 (ix2 (at' 20480 (256 * n + r.val)) l) := by
  subst ho
  refine View.ld_unit_apply_of (rd arg2 X2) _ _ _ _ _ fun a => ?_
  match a with
  | ⟨0, _⟩ => have := r.isLt; simp [at']; omega
  | ⟨1, _⟩ => simp

theorem z_of {arg7 : Memref sig .tc .vmem S8x160x128 .f32} {X7 : BufTy.Contents (Elt F) arg7.view.ty} {off : Fin 3 → ℕ} {inb} (f g : ℕ) (hf : f < 8) (hg : g < 160) (ho : off = ![f, g, 0]) (l : Fin 128) :
    arg7.view.readAt (Elt F) (Rect.unit (s := S8x160x128) off S1x1x128.size inb).toLoadRect X7 (ix3 0 0 l) = rd arg7 X7 (ix3 (at' 8 f) (at' 160 g) l) := by
  subst ho
  refine View.ld_unit_apply_of (rd arg7 X7) _ _ _ _ _ fun a => ?_
  match a with
  | ⟨0, _⟩ => simp [at']; omega
  | ⟨1, _⟩ => simp [at']; omega
  | ⟨2, _⟩ => simp

set_option maxHeartbeats 1000000 in
/-- One trip of the loop over the tiles of pass 1: two accumulations, two tiles pushed. -/
theorem trip2_ready (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h2 : k0_cond2 i = 1#1) (c0 : BitVec 32) (X1 : BufTy.Contents (Elt F) arg1.view.ty) (X2 : BufTy.Contents (Elt F) arg2.view.ty) (X7 : BufTy.Contents (Elt F) arg7.view.ty) (X8 : BufTy.Contents (Elt F) arg8.view.ty) (k : Fin k0_t2_loop.trips) (a : BitVec 32 × Mxu F)
    (ha : Ready fits_0_720 (XC (rd arg1 X1)) (TF 1 (rd arg2 X2) (rd arg7 X7) (rd arg8 X8)) (fun q => TF 1 (rd arg2 X2) (rd arg7 X7) (rd arg8 X8) q (2 * k.val + 1)) (2 * k.val + 1) a.2) :
    Ready fits_0_720 (XC (rd arg1 X1)) (TF 1 (rd arg2 X2) (rd arg7 X7) (rd arg8 X8)) (fun q => TF 1 (rd arg2 X2) (rd arg7 X7) (rd arg8 X8) q (2 * k.val + 1 + 1 + 1)) (2 * k.val + 1 + 1 + 1) ((trip2 (F := F) c i arg1 harg1 arg2 harg2 arg3 harg3 arg4 harg4 arg5 harg5 arg6 harg6 arg7 harg7 arg8 harg8 arg9 harg9 h2 c0 X1 X2 X7 X8 k).1 a).2 := by
  have hk : k.val < 39 := Nat.lt_of_lt_of_le k.isLt k0_t2_abs.2.1
  unfold trip2
  dsimp only
  refine push_ready _ (acc_idle _ (push_ready (B := fun q => TF 1 (rd arg2 X2) (rd arg7 X7) (rd arg8 X8) q (2 * k.val + 1 + 1)) _ (acc_idle _ ha ?x1) ?a1 ?b1) ?x2) ?a2 ?b2
  case x1 =>
    sl_unfold_words
    refine xc_of _ (by omega) ?_
    clear * - k; revert k; decide +kernel
  case x2 =>
    sl_unfold_words
    refine xc_of _ (by omega) ?_
    clear * - k; revert k; decide +kernel
  case a1 =>
    sl_unfold_words
    refine vTile_eq (K := 20480) (G := 160) _ _ _ 1 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b1 =>
    sl_unfold_words
    refine vTile_eq (K := 20480) (G := 160) _ _ _ 1 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case a2 =>
    sl_unfold_words
    refine vTile_eq (K := 20480) (G := 160) _ _ _ 1 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b2 =>
    sl_unfold_words
    refine vTile_eq (K := 20480) (G := 160) _ _ _ 1 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)

/-- The state before trip `k`. -/
theorem st2_ready (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h2 : k0_cond2 i = 1#1) (c0 : BitVec 32) (X1 : BufTy.Contents (Elt F) arg1.view.ty) (X2 : BufTy.Contents (Elt F) arg2.view.ty) (X7 : BufTy.Contents (Elt F) arg7.view.ty) (X8 : BufTy.Contents (Elt F) arg8.view.ty) (init : BitVec 32 × Mxu F)
    (hi : Ready fits_0_720 (XC (rd arg1 X1)) (TF 1 (rd arg2 X2) (rd arg7 X7) (rd arg8 X8)) (fun q => TF 1 (rd arg2 X2) (rd arg7 X7) (rd arg8 X8) q (1)) (1) init.2) (k : ℕ) (hk : k ≤ k0_t2_loop.trips) :
    Ready fits_0_720 (XC (rd arg1 X1)) (TF 1 (rd arg2 X2) (rd arg7 X7) (rd arg8 X8)) (fun q => TF 1 (rd arg2 X2) (rd arg7 X7) (rd arg8 X8) q (2 * k + 1)) (2 * k + 1) (st2 (F := F) c i arg1 harg1 arg2 harg2 arg3 harg3 arg4 harg4 arg5 harg5 arg6 harg6 arg7 harg7 arg8 harg8 arg9 harg9 h2 c0 X1 X2 X7 X8 init k).2 := by
  induction k with
  | zero => exact hi
  | succ k ih =>
    have e := st2_succ (F := F) c i arg1 harg1 arg2 harg2 arg3 harg3 arg4 harg4 arg5 harg5 arg6 harg6 arg7 harg7 arg8 harg8 arg9 harg9 h2 c0 X1 X2 X7 X8 init ⟨k, hk⟩
    dsimp only at e
    rw [e]
    exact trip2_ready c i arg1 harg1 arg2 harg2 arg3 harg3 arg4 harg4 arg5 harg5 arg6 harg6 arg7 harg7 arg8 harg8 arg9 harg9 h2 c0 X1 X2 X7 X8 ⟨k, hk⟩ _ (ih (Nat.le_of_succ_le hk))

set_option maxHeartbeats 1000000 in
/-- One trip of the loop over the tiles of pass 0: two accumulations, two tiles pushed. -/
theorem trip1_ready (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (k : Fin k0_t1_loop.trips) (a : BitVec 32 × Mxu F)
    (ha : Ready fits_0_720 (XC (rd arg1 X1)) (TF 0 (rd arg2 X2) (rd arg7 X7) (rd arg8 X8)) (fun q => TF 0 (rd arg2 X2) (rd arg7 X7) (rd arg8 X8) q (2 * k.val + 1)) (2 * k.val + 1) a.2) :
    Ready fits_0_720 (XC (rd arg1 X1)) (TF 0 (rd arg2 X2) (rd arg7 X7) (rd arg8 X8)) (fun q => TF 0 (rd arg2 X2) (rd arg7 X7) (rd arg8 X8) q (2 * k.val + 1 + 1 + 1)) (2 * k.val + 1 + 1 + 1) ((trip1 (F := F) c i arg1 harg1 arg2 harg2 arg3 harg3 arg4 harg4 arg5 harg5 arg6 harg6 arg7 harg7 arg8 harg8 arg9 harg9 h2 u v1 v2 v3 v4 v5 X1 X2 X5 X7 X8 X9 k).1 a).2 := by
  have hk : k.val < 39 := Nat.lt_of_lt_of_le k.isLt k0_t1_abs.2.1
  unfold trip1
  dsimp only
  refine push_ready _ (acc_idle _ (push_ready (B := fun q => TF 0 (rd arg2 X2) (rd arg7 X7) (rd arg8 X8) q (2 * k.val + 1 + 1)) _ (acc_idle _ ha ?x1) ?a1 ?b1) ?x2) ?a2 ?b2
  case x1 =>
    sl_unfold_words
    refine xc_of _ (by omega) ?_
    clear * - k; revert k; decide +kernel
  case x2 =>
    sl_unfold_words
    refine xc_of _ (by omega) ?_
    clear * - k; revert k; decide +kernel
  case a1 =>
    sl_unfold_words
    refine vTile_eq (K := 20480) (G := 160) _ _ _ 0 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b1 =>
    sl_unfold_words
    refine vTile_eq (K := 20480) (G := 160) _ _ _ 0 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case a2 =>
    sl_unfold_words
    refine vTile_eq (K := 20480) (G := 160) _ _ _ 0 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b2 =>
    sl_unfold_words
    refine vTile_eq (K := 20480) (G := 160) _ _ _ 0 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)

/-- The state before trip `k`. -/
theorem st1_ready (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (init : BitVec 32 × Mxu F)
    (hi : Ready fits_0_720 (XC (rd arg1 X1)) (TF 0 (rd arg2 X2) (rd arg7 X7) (rd arg8 X8)) (fun q => TF 0 (rd arg2 X2) (rd arg7 X7) (rd arg8 X8) q (1)) (1) init.2) (k : ℕ) (hk : k ≤ k0_t1_loop.trips) :
    Ready fits_0_720 (XC (rd arg1 X1)) (TF 0 (rd arg2 X2) (rd arg7 X7) (rd arg8 X8)) (fun q => TF 0 (rd arg2 X2) (rd arg7 X7) (rd arg8 X8) q (2 * k + 1)) (2 * k + 1) (st1 (F := F) c i arg1 harg1 arg2 harg2 arg3 harg3 arg4 harg4 arg5 harg5 arg6 harg6 arg7 harg7 arg8 harg8 arg9 harg9 h2 u v1 v2 v3 v4 v5 X1 X2 X5 X7 X8 X9 init k).1.2 := by
  induction k with
  | zero => exact hi
  | succ k ih =>
    have e := st1_succ (F := F) c i arg1 harg1 arg2 harg2 arg3 harg3 arg4 harg4 arg5 harg5 arg6 harg6 arg7 harg7 arg8 harg8 arg9 harg9 h2 u v1 v2 v3 v4 v5 X1 X2 X5 X7 X8 X9 init ⟨k, hk⟩
    dsimp only at e
    rw [e]
    exact trip1_ready c i arg1 harg1 arg2 harg2 arg3 harg3 arg4 harg4 arg5 harg5 arg6 harg6 arg7 harg7 arg8 harg8 arg9 harg9 h2 u v1 v2 v3 v4 v5 X1 X2 X5 X7 X8 X9 ⟨k, hk⟩ _ (ih (Nat.le_of_succ_le hk))

end Cert.Proof.PI

end
-- ==== Proof.Net.lean ====
/-
  The rearrangement between eight column tiles and eight nibble fields: three stages of rotate-and-select exchange the
  tile number with the block of sixteen lanes it sits in, for vectors of any number of rows.
-/
module

public import Idealize.ShloMosaic.Lib.Pointwise.Tactic

@[expose] public section

namespace Cert.Proof.Net

open Idealize.ShloMosaic

variable {α β : Type} {R : ℕ}

/-- A matrix of 128 lanes. -/
abbrev Sh (R : ℕ) : Shape := ⟨2, ![R, 128]⟩

/-- The index at row `r`, lane `l`. -/
abbrev ix (r : Fin R) (l : Fin 128) : (Sh R).Idx := ix2 r l

theorem ix_eta (i : (Sh R).Idx) : ix (i 0) (i 1) = i := ix2_eta i

/-! ## On one row -/

/-- One exchange stage on a row of each of the eight tiles: bit `s` of the tile number against bit `s` of the block. -/
def lstage (s : ℕ) (y : Fin 8 → Fin 128 → α) : Fin 8 → Fin 128 → α := fun f l =>
  if f.val / s % 2 = 0 then
    if l.val / 16 / s % 2 = 1 then y (Fin.ofNat 8 (f.val + s)) (Fin.ofNat 128 (l.val + 128 - 16 * s % 128)) else y f l
  else
    if l.val / 16 / s % 2 = 1 then y f l else y (Fin.ofNat 8 (f.val - s)) (Fin.ofNat 128 (l.val + 128 - (128 - 16 * s) % 128))

/-- The three stages. -/
def lbt (y : Fin 8 → Fin 128 → α) : Fin 8 → Fin 128 → α := lstage 1 (lstage 2 (lstage 4 y))

theorem lstage_map (φ : α → β) (s : ℕ) (y : Fin 8 → Fin 128 → α) :
    lstage s (fun f l => φ (y f l)) = fun f l => φ (lstage s y f l) := by
  funext f l; unfold lstage
  split <;> split <;> rfl

theorem lbt_map (φ : α → β) (y : Fin 8 → Fin 128 → α) (f : Fin 8) (l : Fin 128) :
    lbt (fun f l => φ (y f l)) f l = φ (lbt y f l) := by
  unfold lbt; rw [lstage_map, lstage_map, lstage_map]

theorem lbt_label : ∀ (f : Fin 8) (l : Fin 128),
    lbt (fun f l => (f, l)) f l = (Fin.ofNat 8 (l.val / 16), Fin.ofNat 128 (16 * f.val + l.val % 16)) := by
  decide +kernel

/-- The stages exchange the tile number and the block of sixteen lanes. -/
theorem lbt_eq (y : Fin 8 → Fin 128 → α) (f : Fin 8) (l : Fin 128) :
    lbt y f l = y (Fin.ofNat 8 (l.val / 16)) (Fin.ofNat 128 (16 * f.val + l.val % 16)) := by
  have := lbt_map (fun p : Fin 8 × Fin 128 => y p.1 p.2) (fun f l => (f, l)) f l
  rw [lbt_label] at this
  exact this

/-! ## On vectors, as the kernel spells it -/

theorem rot_at (n : BitVec 32) (x : (Sh R).Idx → α) (h) (r : Fin R) (l : Fin 128) :
    dynamicRotate (s := Sh R) 1 n none x h (ix r l) = x (ix r (Fin.ofNat 128 (l.val + 128 - n.toNat % 128))) := by
  unfold dynamicRotate
  refine congrArg x ?_
  funext b; match b with | ⟨0, _⟩ => rfl | ⟨1, _⟩ => rfl

theorem gather_at (x : (Sh R).Idx → α) (idx : IVec (Sh R) 32) (r : Fin R) (l : Fin 128) :
    dynamicGather (s := Sh R) 1 x idx (ix r l) = x (ix r (Fin.ofNat 128 (idx (ix r l)).toNat)) := by
  unfold dynamicGather
  refine congrArg x ?_
  funext b; match b with | ⟨0, _⟩ => rfl | ⟨1, _⟩ => rfl

/-- The mask of the lanes whose block has a bit set. -/
def mask (R : ℕ) (h : Shape.Iotas (Sh R) .tc 32 [1]) (b : BitVec 32) : IVec (Sh R) 1 :=
  cmpi .ne (andi (shrsi (iota .tc (Sh R) 32 [1] h) (broadcast (Sh R) 4#32)) (broadcast (Sh R) b)) (broadcast (Sh R) 0#32)

theorem mask_at (h : Shape.Iotas (Sh R) .tc 32 [1]) (b : BitVec 32) (r : Fin R) (l : Fin 128) :
    mask R h b (ix r l) = IntOp.cmpi .ne (IntOp.andi (IntOp.shrsi .vector (BitVec.ofNat 32 l.val) 4#32) b) 0#32 := by
  pointwise [mask]

/-- One exchange stage on vectors. -/
def vstage (h : (Sh R).Rotates 1 none) (hi : Shape.Iotas (Sh R) .tc 32 [1]) (s : ℕ) (y : Fin 8 → (Sh R).Idx → α) : Fin 8 → (Sh R).Idx → α := fun f =>
  if f.val / s % 2 = 0 then
    select (mask R hi (BitVec.ofNat 32 s)) (dynamicRotate (s := Sh R) 1 (BitVec.ofNat 32 (16 * s)) none (y (Fin.ofNat 8 (f.val + s))) h) (y f)
  else
    select (mask R hi (BitVec.ofNat 32 s)) (y f) (dynamicRotate (s := Sh R) 1 (BitVec.ofNat 32 (128 - 16 * s)) none (y (Fin.ofNat 8 (f.val - s))) h)

theorem vstage_at (h hi) (s : ℕ) (hs : s = 1 ∨ s = 2 ∨ s = 4) (y : Fin 8 → (Sh R).Idx → α) (f : Fin 8) (r : Fin R) (l : Fin 128) :
    vstage h hi s y f (ix r l) = lstage s (fun f l => y f (ix r l)) f l := by
  have hm : (mask R hi (BitVec.ofNat 32 s) (ix r l) = 1) ↔ l.val / 16 / s % 2 = 1 := by
    rw [mask_at]; revert l; rcases hs with rfl | rfl | rfl <;> decide +kernel
  unfold vstage lstage
  split <;> simp only [select, Scalar.select, hm] <;> refine if_congr Iff.rfl ?_ ?_ <;>
    first
      | rfl
      | (rcases hs with rfl | rfl | rfl <;> exact rot_at _ _ _ _ _)

/-- The three stages on vectors. -/
def vbt (h : (Sh R).Rotates 1 none) (hi : Shape.Iotas (Sh R) .tc 32 [1]) (y : Fin 8 → (Sh R).Idx → α) : Fin 8 → (Sh R).Idx → α :=
  vstage h hi 1 (vstage h hi 2 (vstage h hi 4 y))

theorem vbt_at (h hi) (y : Fin 8 → (Sh R).Idx → α) (f : Fin 8) (r : Fin R) (l : Fin 128) :
    vbt h hi y f (ix r l) = y (Fin.ofNat 8 (l.val / 16)) (ix r (Fin.ofNat 128 (16 * f.val + l.val % 16))) := by
  unfold vbt
  rw [vstage_at _ _ _ (by decide)]
  simp only [vstage_at _ _ _ (show 2 = 1 ∨ 2 = 2 ∨ 2 = 4 by decide), vstage_at _ _ _ (show 4 = 1 ∨ 4 = 2 ∨ 4 = 4 by decide)]
  exact lbt_eq (fun f l => y f (ix r l)) f l

end Cert.Proof.Net

end
-- ==== Proof.Spec.lean ====
/-
  What the projection's kernel keeps between its steps, at one place: the zeros and scales of the eight nibble fields,
  the fields' products, and the output block, whose columns take the fields back to the order of the packed words.
-/
module

public import proofs.«01_k».proof.Proof.Net
public import proofs.«01_k».proof.Proof.Tile
public import Idealize.ShloMosaic.Lib.Pipeline.ReadBack

@[expose] public section

set_option maxRecDepth 4000

noncomputable section

namespace Cert.Proof.Spec

open Idealize.ShloMosaic Cert.Proof.Net Cert.Proof.Tile

variable {F : FTy → Type} [FloatOps F] {R : ℕ}

abbrev Sh1 (R : ℕ) : Shape := ⟨3, ![1, R, 128]⟩
abbrev Sh8 (R : ℕ) : Shape := ⟨3, ![8, R, 128]⟩
abbrev ShT (R : ℕ) : Shape := ⟨3, ![R, 128, 1]⟩

theorem reshape_on (h : (Sh R).numel = (Sh1 R).numel) (r : Fin R) (l : Fin 128) : Shape.reshapeEquiv h (ix r l) = ix3 (0 : Fin 1) r l := by
  rw [Shape.reshapeEquiv_cons_one]
  funext a
  match a with
  | ⟨0, _⟩ => rfl
  | ⟨1, _⟩ => rfl
  | ⟨2, _⟩ => rfl

/-- A leading axis of extent one put on or taken off. -/
theorem cast_on {α : Type} (x : (Sh R).Idx → α) (h : (Sh R).ShapeCasts (Sh1 R)) (r : Fin R) (l : Fin 128) :
    shapeCast (Sh1 R) x h (ix3 0 r l) = x (ix r l) := by
  have e : Shape.reshapeEquiv h.symm (ix r l) = ix3 (0 : Fin 1) r l := reshape_on h.symm r l
  refine congrArg x (?_ : Shape.reshapeEquiv h _ = _)
  rw [← e, Shape.reshapeEquiv_reshapeEquiv]; exact Shape.reshapeEquiv_self _ _
theorem cast_off {α : Type} (x : (Sh1 R).Idx → α) (h : (Sh1 R).ShapeCasts (Sh R)) (r : Fin R) (l : Fin 128) :
    shapeCast (Sh R) x h (ix r l) = x (ix3 0 r l) := by
  exact congrArg x (reshape_on h r l)

/-! ## The binary16 scales -/

/-- The value of a binary16 word, by its exponent and significand, as the kernel spells it on vectors. -/
def vDec {s : Shape} (h : 16 < 32) (b : IVec s 16) : FVec F s .f32 :=
  let v := extsi 32 b h
  let em := andi v (broadcast s 32767#32)
  let mag : FVec F s .f32 := select (cmpi .slt em (broadcast s 1024#32)) (mulf (sitofp .f32 em) (broadcast s (Scalar.ofBits .f32 0x33800000#32)))
    (select (cmpi .sge em (broadcast s 31744#32)) (bitcastToFloat .f32 (addi (shli em (broadcast s 13#32)) (broadcast s 1879048192#32)))
      (bitcastToFloat .f32 (addi (shli em (broadcast s 13#32)) (broadcast s 939524096#32))))
  select (cmpi .ne (andi v (broadcast s 32768#32)) (broadcast s 0#32)) (subf (broadcast s (Scalar.ofBits .f32 0x00000000#32)) mag) mag

/-- The same at one word. -/
def decode (b : BitVec 16) : F .f32 := vDec (s := Sh 1) (by decide) (fun _ => b) (ix 0 0)

theorem vDec_at {s : Shape} (h) (b : IVec s 16) (i : s.Idx) : vDec (F := F) h b i = decode (b i) := rfl

/-! ## The two lane orders -/

/-- A gather by a lane order that is the same on every row, as the kernel spells it. -/
def vGath {α : Type} (h1 : (Sh R).ShapeCasts (ShT R)) (h2 : (ShT R).ShapeCasts (Sh R)) (idx : IVec (Sh R) 32) (x : (Sh R).Idx → α) : (Sh R).Idx → α :=
  dynamicGather (s := Sh R) 1 x (shapeCast (Sh R) (shapeCast (ShT R) (select (cmpi .slt idx (broadcast (Sh R) 0#32)) (addi idx (broadcast (Sh R) 128#32)) idx) h1) h2)

theorem vGath_at {α : Type} (h1 h2) (idx : IVec (Sh R) 32) (x : (Sh R).Idx → α) (r : Fin R) (l : Fin 128) (n : Fin 128)
    (hn : idx (ix r l) = BitVec.ofNat 32 n.val) : vGath h1 h2 idx x (ix r l) = x (ix r n) := by
  unfold vGath
  rw [gather_at]
  refine congrArg (fun k => x (ix r k)) ?_
  rw [shapeCast_comp, shapeCast_id]
  simp only [select, cmpi, addi, broadcast, Scalar.select, hn]
  clear hn; revert n; decide +kernel

/-- From columns to fields: lane `16 b + m` takes column `8 m + order b` of its tile. -/
def vIdxC (hi : Shape.Iotas (Sh R) .tc 32 [1]) : IVec (Sh R) 32 :=
  let t := shrsi (iota .tc (Sh R) 32 [1] hi) (broadcast (Sh R) 4#32)
  addi (muli (broadcast (Sh R) 8#32) (andi (iota .tc (Sh R) 32 [1] hi) (broadcast (Sh R) 15#32)))
    (ori (shli (andi t (broadcast (Sh R) 3#32)) (broadcast (Sh R) 1#32)) (shrsi t (broadcast (Sh R) 2#32)))

/-- From fields to columns: lane `8 w + j` takes word `w` of the field of column `j`. -/
def vIdxF (hi : Shape.Iotas (Sh R) .tc 32 [1]) : IVec (Sh R) 32 :=
  let i := iota .tc (Sh R) 32 [1] hi
  addi (muli (broadcast (Sh R) 16#32) (addi (shrsi (andi i (broadcast (Sh R) 7#32)) (broadcast (Sh R) 1#32)) (muli (broadcast (Sh R) 4#32) (andi i (broadcast (Sh R) 1#32)))))
    (shrsi i (broadcast (Sh R) 3#32))

/-- The column, within a word, of a field, and the field of a column. -/
def order (f : ℕ) : ℕ := 2 * (f % 4) + f / 4
def inv (j : ℕ) : ℕ := j / 2 + 4 * (j % 2)

theorem vIdxC_at (hi) (r : Fin R) (l : Fin 128) : vIdxC hi (ix r l) = BitVec.ofNat 32 (Fin.ofNat 128 (8 * (l.val % 16) + order (l.val / 16))).val := by
  pointwise [vIdxC]
  revert l; decide +kernel

theorem vIdxF_at (hi) (r : Fin R) (l : Fin 128) : vIdxF hi (ix r l) = BitVec.ofNat 32 (Fin.ofNat 128 (16 * inv (l.val % 8) + l.val / 8)).val := by
  pointwise [vIdxF]
  revert l; decide +kernel

/-- Eight column tiles taken to fields: field `f`, word `l` is column `8 l + order f`. -/
def vToF {α : Type} (h : (Sh R).Rotates 1 none) (h1 : (Sh R).ShapeCasts (ShT R)) (h2 : (ShT R).ShapeCasts (Sh R)) (hi : Shape.Iotas (Sh R) .tc 32 [1]) (y : Fin 8 → (Sh R).Idx → α) : Fin 8 → (Sh R).Idx → α :=
  vbt h hi fun j => vGath h1 h2 (vIdxC hi) (y j)

theorem vToF_at {α : Type} (h : (Sh R).Rotates 1 none) (h1 : (Sh R).ShapeCasts (ShT R)) (h2 : (ShT R).ShapeCasts (Sh R)) (hi : Shape.Iotas (Sh R) .tc 32 [1]) (y : Fin 8 → (Sh R).Idx → α) (f : Fin 8) (r : Fin R) (l : Fin 128) :
    vToF h h1 h2 hi y f (ix r l) = y (at' 8 (l.val / 16)) (ix r (at' 128 (8 * (l.val % 16) + order f.val))) := by
  unfold vToF
  rw [vbt_at, vGath_at h1 h2 _ _ _ _ _ (vIdxC_at hi _ _)]
  refine congrArg (fun k => y _ (ix r k)) ?_
  revert l f; decide +kernel

/-- Eight fields taken to columns: tile `t`, lane `l` is word `16 t + l / 8` of the field of column `l % 8`. -/
def vToC {α : Type} (h : (Sh R).Rotates 1 none) (h1 : (Sh R).ShapeCasts (ShT R)) (h2 : (ShT R).ShapeCasts (Sh R)) (hi : Shape.Iotas (Sh R) .tc 32 [1]) (y : Fin 8 → (Sh R).Idx → α) : Fin 8 → (Sh R).Idx → α := fun t =>
  vGath h1 h2 (vIdxF hi) (vbt h hi y t)

theorem vToC_at {α : Type} (h : (Sh R).Rotates 1 none) (h1 : (Sh R).ShapeCasts (ShT R)) (h2 : (ShT R).ShapeCasts (Sh R)) (hi : Shape.Iotas (Sh R) .tc 32 [1]) (y : Fin 8 → (Sh R).Idx → α) (t : Fin 8) (r : Fin R) (l : Fin 128) :
    vToC h h1 h2 hi y t (ix r l) = y (at' 8 (inv (l.val % 8))) (ix r (at' 128 (16 * t.val + l.val / 8))) := by
  unfold vToC
  rw [vGath_at h1 h2 _ _ _ _ _ (vIdxF_at hi _ _), vbt_at]
  refine (congrArg (fun p : Fin 8 × Fin 128 => y p.1 (ix r p.2)) (?_ : (_, _) = (_, _)))
  revert l t; decide +kernel

/-! ## The scratch buffers and the output, at one place -/

/-- The factor that undoes a field's place in its half word. -/
def unshift (t : ℕ) : F .f32 := Scalar.ofBits .f32 (match t with | 0 => 0x3F800000#32 | 1 => 0x3D800000#32 | 2 => 0x3B800000#32 | _ => 0x39800000#32)

/-- The zero of field `f`. -/
def zcF {G : ℕ} (Q : (Sh G).Idx → BitVec 32) : (Sh8 G).Idx → F .f32 := fun i =>
  fieldW (at' 2 ((i 0).val / 4)) (at' 4 ((i 0).val % 4)) (Q (ix (i 1) (i 2)))

/-- The scale of field `f`, times the factor of its place. -/
def scF {G N : ℕ} [NeZero N] (S : Shape.Idx ⟨2, ![G, N]⟩ → BitVec 16) : (Sh8 G).Idx → F .f32 := fun i =>
  FloatOps.mulf (decode (S (ix2 (i 1) (at' N (8 * (i 2).val + order (i 0).val))))) (unshift ((i 0).val % 4))

/-- The products of the eight fields: 80 tiles' passes summed, two fields side by side. -/
def prodF {M K G : ℕ} [NeZero K] [NeZero G] (n : ℕ) (X : Shape.Idx ⟨2, ![M, K]⟩ → F .bf16) (W : (TW K).Idx → BitVec 32) (Z S : (TZ G).Idx → F .f32) :
    (Sh8 M).Idx → F .f32 := fun i =>
  sums (xcol X) (fun n => tileF W Z S (at' 2 ((i 0).val / 4)) (at' 2 ((i 0).val / 2 % 2)) n) n (ix2 (i 1) (at' 256 (128 * ((i 0).val % 2) + (i 2).val)))

/-- The output block: the residual plus the product of the column's field, rounded once. -/
def outF {M N : ℕ} (Y : (Sh8 M).Idx → F .f32) (Rs : Shape.Idx ⟨2, ![M, N]⟩ → F .bf16) : Shape.Idx ⟨2, ![M, N]⟩ → F .bf16 := fun i =>
  FloatOps.truncf .bf16 (by decide) (FloatOps.addf (FloatOps.extf .f32 (by decide) (Rs i)) (Y (ix3 (at' 8 (inv ((i 1).val % 8))) (i 0) (at' 128 ((i 1).val / 8)))))

theorem zcF_at {G : ℕ} (Q : (Sh G).Idx → BitVec 32) (k : Fin 8) (r : Fin G) (l : Fin 128) (p : Fin 2) (t : Fin 4) (hp : at' 2 (k.val / 4) = p) (ht : at' 4 (k.val % 4) = t) :
    zcF (F := F) Q (ix3 k r l) = fieldW p t (Q (ix2 r l)) := by
  subst hp ht; rfl

theorem scF_at {G N : ℕ} [NeZero N] (S : Shape.Idx ⟨2, ![G, N]⟩ → BitVec 16) (k : Fin 8) (r : Fin G) (l : Fin 128) (t : ℕ) (ht : k.val % 4 = t) :
    scF (F := F) S (ix3 k r l) = FloatOps.mulf (decode (S (ix2 r (at' N (8 * l.val + order k.val))))) (unshift t) := by
  subst ht; rfl

theorem prodF_at {M K G : ℕ} [NeZero K] [NeZero G] (n : ℕ) (X : Shape.Idx ⟨2, ![M, K]⟩ → F .bf16) (W : (TW K).Idx → BitVec 32) (Z S : (TZ G).Idx → F .f32)
    (k : Fin 8) (r : Fin M) (l : Fin 128) (p q : Fin 2) (o : ℕ) (hp : at' 2 (k.val / 4) = p) (hq : at' 2 (k.val / 2 % 2) = q) (ho : 128 * (k.val % 2) = o) :
    prodF n X W Z S (ix3 k r l) = sums (xcol X) (fun n => tileF W Z S p q n) n (ix2 r (at' 256 (o + l.val))) := by
  subst hp hq ho; rfl

/-! ## Eight stores along the leading axis -/

theorem stack8 {sig : RefSig} {κ : Kind} {sp : Space} {e : EltTy} {Val : EltTy → Type} (v : View sig κ sp (Sh8 R) e) (f : v.ty.Contents Val)
    (G : (Sh8 R).Idx → Val e) (L : List (View.Piece Val (Sh8 R) e)) (b0 b1 b2 b3 b4 b5 b6 b7) (p0 p1 p2 p3 p4 p5 p6 p7 : (Sh1 R).Idx → Val e)
    (h0 : ∀ r l, p0 (ix3 0 r l) = G (ix3 0 r l)) (h1 : ∀ r l, p1 (ix3 0 r l) = G (ix3 1 r l)) (h2 : ∀ r l, p2 (ix3 0 r l) = G (ix3 2 r l))
    (h3 : ∀ r l, p3 (ix3 0 r l) = G (ix3 3 r l)) (h4 : ∀ r l, p4 (ix3 0 r l) = G (ix3 4 r l)) (h5 : ∀ r l, p5 (ix3 0 r l) = G (ix3 5 r l))
    (h6 : ∀ r l, p6 (ix3 0 r l) = G (ix3 6 r l)) (h7 : ∀ r l, p7 (ix3 0 r l) = G (ix3 7 r l)) :
    v.read Val (v.writes Val f (⟨Rect.unit ![7, 0, 0] (Sh1 R).size b7, p7⟩ :: ⟨Rect.unit ![6, 0, 0] (Sh1 R).size b6, p6⟩ ::
      ⟨Rect.unit ![5, 0, 0] (Sh1 R).size b5, p5⟩ :: ⟨Rect.unit ![4, 0, 0] (Sh1 R).size b4, p4⟩ ::
      ⟨Rect.unit ![3, 0, 0] (Sh1 R).size b3, p3⟩ :: ⟨Rect.unit ![2, 0, 0] (Sh1 R).size b2, p2⟩ ::
      ⟨Rect.unit ![1, 0, 0] (Sh1 R).size b1, p1⟩ :: ⟨Rect.unit ![0, 0, 0] (Sh1 R).size b0, p0⟩ :: L)) = G := by
  have key : ∀ (k : Fin 8) (P : (Sh1 R).Idx → Val e) (hP : ∀ r l, P (ix3 0 r l) = G (ix3 k r l)) (b), (∀ x, P x = G ((Rect.unit (s := Sh8 R) ![k.val, 0, 0] (Sh1 R).size b).emb x)) ∧
      ∀ y : (Sh8 R).Idx, y 0 = k → y ∈ (Rect.unit (s := Sh8 R) ![k.val, 0, 0] (Sh1 R).size b).set := by
    intro k P hP b
    refine ⟨fun x => ?_, fun y hy => ?_⟩
    · obtain ⟨a, r, l, rfl⟩ : ∃ a r l, x = ix3 a r l := ⟨x 0, x 1, x 2, (ix3_eta x).symm⟩
      obtain rfl : a = 0 := Subsingleton.elim _ _
      rw [hP]
      refine congrArg G ?_
      funext a
      refine Fin.ext ?_
      match a with
      | ⟨0, _⟩ => simp
      | ⟨1, _⟩ => simp
      | ⟨2, _⟩ => simp
    · rw [Rect.mem_set_unit]
      intro a
      match a with
      | ⟨0, _⟩ => have : (y 0).val = k.val := congrArg Fin.val hy
                  exact ⟨this.ge, by change (y 0).val < k.val + 1; omega⟩
      | ⟨1, _⟩ => exact ⟨Nat.zero_le _, by change (y 1).val < 0 + R; have := (y 1).isLt; change (y 1).val < R at this; omega⟩
      | ⟨2, _⟩ => exact ⟨Nat.zero_le _, by change (y 2).val < 0 + 128; have := (y 2).isLt; change (y 2).val < 128 at this; omega⟩
  rw [show ∀ a b c d e f g h : View.Piece Val (Sh8 R) _, a :: b :: c :: d :: e :: f :: g :: h :: L = [a, b, c, d, e, f, g, h] ++ L from fun _ _ _ _ _ _ _ _ => rfl,
    View.writes_append]
  funext y
  refine View.read_writes_apply_of_pieces v _ G _ (View.PiecesOf.mem (Val := Val) (show View.PiecesOf G [_, _, _, _, _, _, _, _] from ⟨(key 7 p7 h7 b7).1, (key 6 p6 h6 b6).1, (key 5 p5 h5 b5).1, (key 4 p4 h4 b4).1, (key 3 p3 h3 b3).1, (key 2 p2 h2 b2).1, (key 1 p1 h1 b1).1, (key 0 p0 h0 b0).1, trivial⟩)) y ?_
  have hy : (y 0).val < 8 := (y 0).isLt
  obtain h | h | h | h | h | h | h | h : (y 0).val = 0 ∨ (y 0).val = 1 ∨ (y 0).val = 2 ∨ (y 0).val = 3 ∨ (y 0).val = 4 ∨ (y 0).val = 5 ∨ (y 0).val = 6 ∨ (y 0).val = 7 := by omega
  · exact ⟨_, .tail _ (.tail _ (.tail _ (.tail _ (.tail _ (.tail _ (.tail _ (.head _))))))), (key 0 p0 h0 b0).2 y (Fin.ext h)⟩
  · exact ⟨_, .tail _ (.tail _ (.tail _ (.tail _ (.tail _ (.tail _ (.head _)))))), (key 1 p1 h1 b1).2 y (Fin.ext h)⟩
  · exact ⟨_, .tail _ (.tail _ (.tail _ (.tail _ (.tail _ (.head _))))), (key 2 p2 h2 b2).2 y (Fin.ext h)⟩
  · exact ⟨_, .tail _ (.tail _ (.tail _ (.tail _ (.head _)))), (key 3 p3 h3 b3).2 y (Fin.ext h)⟩
  · exact ⟨_, .tail _ (.tail _ (.tail _ (.head _))), (key 4 p4 h4 b4).2 y (Fin.ext h)⟩
  · exact ⟨_, .tail _ (.tail _ (.head _)), (key 5 p5 h5 b5).2 y (Fin.ext h)⟩
  · exact ⟨_, .tail _ (.head _), (key 6 p6 h6 b6).2 y (Fin.ext h)⟩
  · exact ⟨_, .head _, (key 7 p7 h7 b7).2 y (Fin.ext h)⟩

/-! ## The output block, thirty-two rows at a time -/

/-- Every store is a part of `G`, and the stores cover the first `n` rows. -/
def Blocks {M N : ℕ} {e : EltTy} {Val : EltTy → Type} (G : Shape.Idx ⟨2, ![M, N]⟩ → Val e) (n : ℕ) (L : List (View.Piece Val ⟨2, ![M, N]⟩ e)) : Prop :=
  (∀ p ∈ L, ∀ x : p.1.shape.Idx, p.2 x = G (p.1.emb x)) ∧ ∀ y : Shape.Idx ⟨2, ![M, N]⟩, (y 0).val < n → ∃ p ∈ L, y ∈ p.1.set

theorem Blocks.nil {M N : ℕ} {e : EltTy} {Val : EltTy → Type} (G : Shape.Idx ⟨2, ![M, N]⟩ → Val e) : Blocks G 0 [] :=
  ⟨fun _ h => absurd h List.not_mem_nil, fun _ h => absurd h (Nat.not_lt_zero _)⟩

/-- Once all rows are covered the buffer reads `G`. -/
theorem Blocks.out {M N : ℕ} {e : EltTy} {Val : EltTy → Type} {G : Shape.Idx ⟨2, ![M, N]⟩ → Val e} {n : ℕ} {L : List (View.Piece Val ⟨2, ![M, N]⟩ e)}
    (h : Blocks G n L) (hn : M ≤ n) {sig : RefSig} {κ : Kind} {sp : Space} (v : View sig κ sp ⟨2, ![M, N]⟩ e) (f : v.ty.Contents Val) :
    v.read Val (v.writes Val f L) = G := by
  funext y
  have hy : (y 0).val < M := (y 0).isLt
  exact View.read_writes_apply_of_pieces v f G L h.1 y (h.2 y (lt_of_lt_of_le hy hn))

abbrev SO : Shape := ⟨2, ![720, 1024]⟩

/-- One trip's eight stores, the eight column tiles of thirty-two rows from `s`. -/
theorem Blocks.step {e : EltTy} {Val : EltTy → Type} {G : SO.Idx → Val e} {k s : ℕ} {L : List (View.Piece Val SO e)} (hL : Blocks G (32 * k) L)
    (hs : s = min (32 * k) 688) {o0 o1 o2 o3 o4 o5 o6 o7 : Fin 2 → ℕ} (e0 : o0 = ![s, 0]) (e1 : o1 = ![s, 128]) (e2 : o2 = ![s, 256]) (e3 : o3 = ![s, 384])
    (e4 : o4 = ![s, 512]) (e5 : o5 = ![s, 640]) (e6 : o6 = ![s, 768]) (e7 : o7 = ![s, 896]) (b0 b1 b2 b3 b4 b5 b6 b7) (p0 p1 p2 p3 p4 p5 p6 p7 : (Sh 32).Idx → Val e)
    (h0 : ∀ r l, p0 (ix r l) = G (ix2 (at' 720 (s + r.val)) (at' 1024 (0 + l.val)))) (h1 : ∀ r l, p1 (ix r l) = G (ix2 (at' 720 (s + r.val)) (at' 1024 (128 + l.val))))
    (h2 : ∀ r l, p2 (ix r l) = G (ix2 (at' 720 (s + r.val)) (at' 1024 (256 + l.val)))) (h3 : ∀ r l, p3 (ix r l) = G (ix2 (at' 720 (s + r.val)) (at' 1024 (384 + l.val))))
    (h4 : ∀ r l, p4 (ix r l) = G (ix2 (at' 720 (s + r.val)) (at' 1024 (512 + l.val)))) (h5 : ∀ r l, p5 (ix r l) = G (ix2 (at' 720 (s + r.val)) (at' 1024 (640 + l.val))))
    (h6 : ∀ r l, p6 (ix r l) = G (ix2 (at' 720 (s + r.val)) (at' 1024 (768 + l.val)))) (h7 : ∀ r l, p7 (ix r l) = G (ix2 (at' 720 (s + r.val)) (at' 1024 (896 + l.val)))) :
    Blocks G (32 * (k + 1)) ([⟨Rect.unit (s := SO) o7 ![32, 128] b7, p7⟩, ⟨Rect.unit (s := SO) o6 ![32, 128] b6, p6⟩, ⟨Rect.unit (s := SO) o5 ![32, 128] b5, p5⟩,
      ⟨Rect.unit (s := SO) o4 ![32, 128] b4, p4⟩, ⟨Rect.unit (s := SO) o3 ![32, 128] b3, p3⟩, ⟨Rect.unit (s := SO) o2 ![32, 128] b2, p2⟩,
      ⟨Rect.unit (s := SO) o1 ![32, 128] b1, p1⟩, ⟨Rect.unit (s := SO) o0 ![32, 128] b0, p0⟩] ++ L) := by
  subst e0 e1 e2 e3 e4 e5 e6 e7
  have key : ∀ (c : ℕ) (P : (Sh 32).Idx → Val e) (hP : ∀ r l, P (ix r l) = G (ix2 (at' 720 (s + r.val)) (at' 1024 (c + l.val)))) (hc : c + 128 ≤ 1024) (b),
      (∀ x, P x = G ((Rect.unit (s := SO) ![s, c] ![32, 128] b).emb x)) ∧
      ∀ y : SO.Idx, s ≤ (y 0).val → (y 0).val < s + 32 → c ≤ (y 1).val → (y 1).val < c + 128 → y ∈ (Rect.unit (s := SO) ![s, c] ![32, 128] b).set := by
    intro c P hP hc b
    refine ⟨fun x => ?_, fun y a1 a2 a3 a4 => ?_⟩
    · obtain ⟨r, l, rfl⟩ : ∃ r l, x = ix r l := ⟨x 0, x 1, (ix2_eta x).symm⟩
      rw [hP]
      refine congrArg G ?_
      funext a
      have := r.isLt; have := l.isLt
      refine Fin.ext ?_
      match a with
      | ⟨0, _⟩ => simp [at']; omega
      | ⟨1, _⟩ => simp [at']; omega
    · rw [Rect.mem_set_unit]
      intro a
      match a with
      | ⟨0, _⟩ => exact ⟨a1, a2⟩
      | ⟨1, _⟩ => exact ⟨a3, a4⟩
  have PO : View.PiecesOf (Val := Val) G [⟨Rect.unit (s := SO) _ ![32, 128] b7, p7⟩, ⟨Rect.unit (s := SO) _ ![32, 128] b6, p6⟩, ⟨Rect.unit (s := SO) _ ![32, 128] b5, p5⟩,
      ⟨Rect.unit (s := SO) _ ![32, 128] b4, p4⟩, ⟨Rect.unit (s := SO) _ ![32, 128] b3, p3⟩, ⟨Rect.unit (s := SO) _ ![32, 128] b2, p2⟩,
      ⟨Rect.unit (s := SO) _ ![32, 128] b1, p1⟩, ⟨Rect.unit (s := SO) _ ![32, 128] b0, p0⟩] :=
    ⟨(key _ p7 h7 (by decide) b7).1, (key _ p6 h6 (by decide) b6).1, (key _ p5 h5 (by decide) b5).1, (key _ p4 h4 (by decide) b4).1,
      (key _ p3 h3 (by decide) b3).1, (key _ p2 h2 (by decide) b2).1, (key _ p1 h1 (by decide) b1).1, (key _ p0 h0 (by decide) b0).1, trivial⟩
  refine ⟨fun p hp => ?_, fun y hy => ?_⟩
  · rcases List.mem_append.1 hp with hp | hp
    · exact PO.mem p hp
    · exact hL.1 p hp
  · by_cases hk : (y 0).val < 32 * k
    · obtain ⟨p, hp, h⟩ := hL.2 y hk
      exact ⟨p, List.mem_append_right _ hp, h⟩
    · have hr : (y 0).val < 720 := (y 0).isLt
      have hc : (y 1).val < 1024 := (y 1).isLt
      have a1 : s ≤ (y 0).val := by omega
      have a2 : (y 0).val < s + 32 := by omega
      obtain h | h | h | h | h | h | h | h : (y 1).val / 128 = 0 ∨ (y 1).val / 128 = 1 ∨ (y 1).val / 128 = 2 ∨ (y 1).val / 128 = 3 ∨ (y 1).val / 128 = 4 ∨ (y 1).val / 128 = 5 ∨
        (y 1).val / 128 = 6 ∨ (y 1).val / 128 = 7 := by omega
      · exact ⟨_, List.mem_append_left _ (.tail _ (.tail _ (.tail _ (.tail _ (.tail _ (.tail _ (.tail _ (.head _)))))))), (key _ p0 h0 (by decide) b0).2 y a1 a2 (by omega) (by omega)⟩
      · exact ⟨_, List.mem_append_left _ (.tail _ (.tail _ (.tail _ (.tail _ (.tail _ (.tail _ (.head _))))))), (key _ p1 h1 (by decide) b1).2 y a1 a2 (by omega) (by omega)⟩
      · exact ⟨_, List.mem_append_left _ (.tail _ (.tail _ (.tail _ (.tail _ (.tail _ (.head _)))))), (key _ p2 h2 (by decide) b2).2 y a1 a2 (by omega) (by omega)⟩
      · exact ⟨_, List.mem_append_left _ (.tail _ (.tail _ (.tail _ (.tail _ (.head _))))), (key _ p3 h3 (by decide) b3).2 y a1 a2 (by omega) (by omega)⟩
      · exact ⟨_, List.mem_append_left _ (.tail _ (.tail _ (.tail _ (.head _)))), (key _ p4 h4 (by decide) b4).2 y a1 a2 (by omega) (by omega)⟩
      · exact ⟨_, List.mem_append_left _ (.tail _ (.tail _ (.head _))), (key _ p5 h5 (by decide) b5).2 y a1 a2 (by omega) (by omega)⟩
      · exact ⟨_, List.mem_append_left _ (.tail _ (.head _)), (key _ p6 h6 (by decide) b6).2 y a1 a2 (by omega) (by omega)⟩
      · exact ⟨_, List.mem_append_left _ (.head _), (key _ p7 h7 (by decide) b7).2 y a1 a2 (by omega) (by omega)⟩

/-- One stored tile: the residual's rows plus the fields' products taken back to columns. -/
theorem out_piece (Y : (Sh8 720).Idx → F .f32) (Rs : SO.Idx → F .bf16) (y : Fin 8 → FVec F (Sh 32) .f32) (v : FVec F (Sh 32) .bf16) (s : ℕ) (t : Fin 8)
    (h : (Sh 32).Rotates 1 none) (h1 : (Sh 32).ShapeCasts (ShT 32)) (h2 : (ShT 32).ShapeCasts (Sh 32)) (hi : Shape.Iotas (Sh 32) .tc 32 [1]) (hb1 hb2)
    (hy : ∀ f r l, y f (ix r l) = Y (ix3 f (at' 720 (s + r.val)) l)) (o : ℕ) (ho : o = 128 * t.val)
    (hv : ∀ r l, v (ix r l) = Rs (ix2 (at' 720 (s + r.val)) (at' 1024 (o + l.val)))) (r : Fin 32) (l : Fin 128) :
    truncf .bf16 (addf (extf .f32 v hb1) (vToC h h1 h2 hi y t)) hb2 (ix r l) = outF Y Rs (ix2 (at' 720 (s + r.val)) (at' 1024 (o + l.val))) := by
  subst ho
  refine Eq.trans (b := FloatOps.truncf .bf16 hb2 (FloatOps.addf (FloatOps.extf .f32 hb1 (v (ix r l))) (vToC h h1 h2 hi y t (ix r l)))) rfl ?_
  rw [hv, vToC_at, hy]
  unfold outF
  have ht := t.isLt; have hl := l.isLt
  have e1 : ((at' 1024 (128 * t.val + l.val)).val) = 128 * t.val + l.val := by simp [at']; omega
  simp only [ix2_0, ix2_1, e1]
  rw [show (128 * t.val + l.val) % 8 = l.val % 8 by omega, show (128 * t.val + l.val) / 8 = 16 * t.val + l.val / 8 by omega]

end Cert.Proof.Spec

end
-- ==== Proof.PI.Out.lean ====
/-
  The output block of a grid point: the residual plus the products of the block before, thirty-two rows at a trip.
-/
module

public import proofs.«01_k».proof.Proof.PI.Chain
public import proofs.«01_k».proof.Proof.Spec

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

/-- A load of thirty-two rows of one field's products. -/
theorem y_of {arg9 : Memref sig .tc .vmem S8x720x128 .f32} {X9 : BufTy.Contents (Elt F) arg9.view.ty} {off : Fin 3 → ℕ} {inb} {h} (f : Fin 8) (s : ℕ) (hs : s ≤ 688) (ho : off = ![f.val, s, 0]) (r : Fin 32) (l : Fin 128) :
    shapeCast S32x128 (arg9.view.readAt (Elt F) (Rect.unit (s := S8x720x128) off S1x32x128.size inb).toLoadRect X9) h (ix2 r l) = rd arg9 X9 (ix3 f (at' 720 (s + r.val)) l) := by
  subst ho
  refine (cast_off _ h r l).trans ?_
  refine View.ld_unit_apply_of (rd arg9 X9) _ _ _ _ _ fun a => ?_
  match a with
  | ⟨0, _⟩ => simp
  | ⟨1, _⟩ => have := r.isLt; simp [at']; omega
  | ⟨2, _⟩ => simp

/-- A load of thirty-two rows of one tile of the residual. -/
theorem r_of {arg5 : Memref sig .tc .vmem S720x1024 .bf16} {X5 : BufTy.Contents (Elt F) arg5.view.ty} {off : Fin 2 → ℕ} {inb} (o s : ℕ) (hs : s ≤ 688) (hc : o + 128 ≤ 1024) (ho : off = ![s, o]) (r : Fin 32) (l : Fin 128) :
    arg5.view.readAt (Elt F) (Rect.unit (s := S720x1024) off ![32, 128] inb).toLoadRect X5 (ix2 r l) = rd arg5 X5 (ix2 (at' 720 (s + r.val)) (at' 1024 (o + l.val))) := by
  subst ho
  refine View.ld_unit_apply_of (rd arg5 X5) _ _ _ _ _ fun a => ?_
  match a with
  | ⟨0, _⟩ => have := r.isLt; simp [at']; omega
  | ⟨1, _⟩ => have := l.isLt; simp [at']; omega

/-- The eight fields' rows loaded in a trip. -/
abbrev rows1 (i : grid0.Coords) (arg9 : Memref sig .tc .vmem S8x720x128 .f32) (h2 : k0_cond2 i = 1#1) (X9 : BufTy.Contents (Elt F) arg9.view.ty) (k : Fin k0_t1_loop.trips) : Fin 8 → FVec F S32x128 .f32 :=
  fun f => match f with | 0 => shapeCast S32x128 (arg9.view.readAt (Elt F) (Rect.unit (s := S8x720x128) (k0_off7 k) S1x32x128.size (k0_off7_inb i k h2)).toLoadRect X9) shapeCasts_S1x32x128_S32x128 | 1 => shapeCast S32x128 (arg9.view.readAt (Elt F) (Rect.unit (s := S8x720x128) (k0_off8 k) S1x32x128.size (k0_off8_inb i k h2)).toLoadRect X9) shapeCasts_S1x32x128_S32x128 | 2 => shapeCast S32x128 (arg9.view.readAt (Elt F) (Rect.unit (s := S8x720x128) (k0_off9 k) S1x32x128.size (k0_off9_inb i k h2)).toLoadRect X9) shapeCasts_S1x32x128_S32x128 | 3 => shapeCast S32x128 (arg9.view.readAt (Elt F) (Rect.unit (s := S8x720x128) (k0_off10 k) S1x32x128.size (k0_off10_inb i k h2)).toLoadRect X9) shapeCasts_S1x32x128_S32x128 | 4 => shapeCast S32x128 (arg9.view.readAt (Elt F) (Rect.unit (s := S8x720x128) (k0_off11 k) S1x32x128.size (k0_off11_inb i k h2)).toLoadRect X9) shapeCasts_S1x32x128_S32x128 | 5 => shapeCast S32x128 (arg9.view.readAt (Elt F) (Rect.unit (s := S8x720x128) (k0_off12 k) S1x32x128.size (k0_off12_inb i k h2)).toLoadRect X9) shapeCasts_S1x32x128_S32x128 | 6 => shapeCast S32x128 (arg9.view.readAt (Elt F) (Rect.unit (s := S8x720x128) (k0_off13 k) S1x32x128.size (k0_off13_inb i k h2)).toLoadRect X9) shapeCasts_S1x32x128_S32x128 | 7 => shapeCast S32x128 (arg9.view.readAt (Elt F) (Rect.unit (s := S8x720x128) (k0_off14 k) S1x32x128.size (k0_off14_inb i k h2)).toLoadRect X9) shapeCasts_S1x32x128_S32x128

theorem rows1_at (i : grid0.Coords) (arg9 : Memref sig .tc .vmem S8x720x128 .f32) (h2 : k0_cond2 i = 1#1) (X9 : BufTy.Contents (Elt F) arg9.view.ty) (k : Fin k0_t1_loop.trips) (f : Fin 8) (r : Fin 32) (l : Fin 128) :
    rows1 i arg9 h2 X9 k f (ix2 r l) = rd arg9 X9 (ix3 f (at' 720 (min (32 * k.val) 688 + r.val)) l) := by
  match f with
  | 0 => exact y_of 0 _ (Nat.min_le_right _ _) (by clear * - k; revert k; decide +kernel) r l
  | 1 => exact y_of 1 _ (Nat.min_le_right _ _) (by clear * - k; revert k; decide +kernel) r l
  | 2 => exact y_of 2 _ (Nat.min_le_right _ _) (by clear * - k; revert k; decide +kernel) r l
  | 3 => exact y_of 3 _ (Nat.min_le_right _ _) (by clear * - k; revert k; decide +kernel) r l
  | 4 => exact y_of 4 _ (Nat.min_le_right _ _) (by clear * - k; revert k; decide +kernel) r l
  | 5 => exact y_of 5 _ (Nat.min_le_right _ _) (by clear * - k; revert k; decide +kernel) r l
  | 6 => exact y_of 6 _ (Nat.min_le_right _ _) (by clear * - k; revert k; decide +kernel) r l
  | 7 => exact y_of 7 _ (Nat.min_le_right _ _) (by clear * - k; revert k; decide +kernel) r l

set_option maxHeartbeats 1000000 in
/-- One trip's stores. -/
theorem trip1_out (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (k : Fin k0_t1_loop.trips) (a : BitVec 32 × Mxu F) (L : List (View.Piece (Elt F) S720x1024 .bf16)) (hL : Blocks (outF (M := 720) (N := 1024) (rd arg9 X9) (rd arg5 X5)) (32 * k.val) L) :
    Blocks (outF (M := 720) (N := 1024) (rd arg9 X9) (rd arg5 X5)) (32 * (k.val + 1)) ((trip1 (F := F) c i arg1 harg1 arg2 harg2 arg3 harg3 arg4 harg4 arg5 harg5 arg6 harg6 arg7 harg7 arg8 harg8 arg9 harg9 h2 u v1 v2 v3 v4 v5 X1 X2 X5 X7 X8 X9 k).2.1 a ++ L) := by
  have hk : k.val < 39 := Nat.lt_of_lt_of_le k.isLt k0_t1_abs.2.1
  unfold trip1
  dsimp only
  have hs : min (32 * k.val) 688 ≤ 688 := Nat.min_le_right _ _
  refine Blocks.step (k := k.val) (s := min (32 * k.val) 688) hL rfl ?e0 ?e1 ?e2 ?e3 ?e4 ?e5 ?e6 ?e7 _ _ _ _ _ _ _ _ _ _ _ _ _ _ _ _ ?h0 ?h1 ?h2 ?h3 ?h4 ?h5 ?h6 ?h7
  case e0 => clear * - k; revert k; decide +kernel
  case h0 =>
    intro r l
    sl_unfold_words
    exact out_piece (rd arg9 X9) (rd arg5 X5) (rows1 i arg9 h2 X9 k) (arg5.view.readAt (Elt F) (Rect.unit (s := S720x1024) (k0_off15 k) ![32, 128] (k0_off15_inb i k h2)).toLoadRect X5) _ 0 rotates_S32x128_d1 shapeCasts_S32x128_S32x128x1 shapeCasts_S32x128x1_S32x128 iota_S32x128_d1_w32 bitsLt_bf16_f32 bitsLt_bf16_f32
      (rows1_at i arg9 h2 X9 k) 0 rfl (r_of 0 _ hs (by decide) (by clear * - k; revert k; decide +kernel)) r l
  case e1 => clear * - k; revert k; decide +kernel
  case h1 =>
    intro r l
    sl_unfold_words
    exact out_piece (rd arg9 X9) (rd arg5 X5) (rows1 i arg9 h2 X9 k) (arg5.view.readAt (Elt F) (Rect.unit (s := S720x1024) (k0_off16 k) ![32, 128] (k0_off16_inb i k h2)).toLoadRect X5) _ 1 rotates_S32x128_d1 shapeCasts_S32x128_S32x128x1 shapeCasts_S32x128x1_S32x128 iota_S32x128_d1_w32 bitsLt_bf16_f32 bitsLt_bf16_f32
      (rows1_at i arg9 h2 X9 k) 128 rfl (r_of 128 _ hs (by decide) (by clear * - k; revert k; decide +kernel)) r l
  case e2 => clear * - k; revert k; decide +kernel
  case h2 =>
    intro r l
    sl_unfold_words
    exact out_piece (rd arg9 X9) (rd arg5 X5) (rows1 i arg9 h2 X9 k) (arg5.view.readAt (Elt F) (Rect.unit (s := S720x1024) (k0_off17 k) ![32, 128] (k0_off17_inb i k h2)).toLoadRect X5) _ 2 rotates_S32x128_d1 shapeCasts_S32x128_S32x128x1 shapeCasts_S32x128x1_S32x128 iota_S32x128_d1_w32 bitsLt_bf16_f32 bitsLt_bf16_f32
      (rows1_at i arg9 h2 X9 k) 256 rfl (r_of 256 _ hs (by decide) (by clear * - k; revert k; decide +kernel)) r l
  case e3 => clear * - k; revert k; decide +kernel
  case h3 =>
    intro r l
    sl_unfold_words
    exact out_piece (rd arg9 X9) (rd arg5 X5) (rows1 i arg9 h2 X9 k) (arg5.view.readAt (Elt F) (Rect.unit (s := S720x1024) (k0_off18 k) ![32, 128] (k0_off18_inb i k h2)).toLoadRect X5) _ 3 rotates_S32x128_d1 shapeCasts_S32x128_S32x128x1 shapeCasts_S32x128x1_S32x128 iota_S32x128_d1_w32 bitsLt_bf16_f32 bitsLt_bf16_f32
      (rows1_at i arg9 h2 X9 k) 384 rfl (r_of 384 _ hs (by decide) (by clear * - k; revert k; decide +kernel)) r l
  case e4 => clear * - k; revert k; decide +kernel
  case h4 =>
    intro r l
    sl_unfold_words
    exact out_piece (rd arg9 X9) (rd arg5 X5) (rows1 i arg9 h2 X9 k) (arg5.view.readAt (Elt F) (Rect.unit (s := S720x1024) (k0_off19 k) ![32, 128] (k0_off19_inb i k h2)).toLoadRect X5) _ 4 rotates_S32x128_d1 shapeCasts_S32x128_S32x128x1 shapeCasts_S32x128x1_S32x128 iota_S32x128_d1_w32 bitsLt_bf16_f32 bitsLt_bf16_f32
      (rows1_at i arg9 h2 X9 k) 512 rfl (r_of 512 _ hs (by decide) (by clear * - k; revert k; decide +kernel)) r l
  case e5 => clear * - k; revert k; decide +kernel
  case h5 =>
    intro r l
    sl_unfold_words
    exact out_piece (rd arg9 X9) (rd arg5 X5) (rows1 i arg9 h2 X9 k) (arg5.view.readAt (Elt F) (Rect.unit (s := S720x1024) (k0_off20 k) ![32, 128] (k0_off20_inb i k h2)).toLoadRect X5) _ 5 rotates_S32x128_d1 shapeCasts_S32x128_S32x128x1 shapeCasts_S32x128x1_S32x128 iota_S32x128_d1_w32 bitsLt_bf16_f32 bitsLt_bf16_f32
      (rows1_at i arg9 h2 X9 k) 640 rfl (r_of 640 _ hs (by decide) (by clear * - k; revert k; decide +kernel)) r l
  case e6 => clear * - k; revert k; decide +kernel
  case h6 =>
    intro r l
    sl_unfold_words
    exact out_piece (rd arg9 X9) (rd arg5 X5) (rows1 i arg9 h2 X9 k) (arg5.view.readAt (Elt F) (Rect.unit (s := S720x1024) (k0_off21 k) ![32, 128] (k0_off21_inb i k h2)).toLoadRect X5) _ 6 rotates_S32x128_d1 shapeCasts_S32x128_S32x128x1 shapeCasts_S32x128x1_S32x128 iota_S32x128_d1_w32 bitsLt_bf16_f32 bitsLt_bf16_f32
      (rows1_at i arg9 h2 X9 k) 768 rfl (r_of 768 _ hs (by decide) (by clear * - k; revert k; decide +kernel)) r l
  case e7 => clear * - k; revert k; decide +kernel
  case h7 =>
    intro r l
    sl_unfold_words
    exact out_piece (rd arg9 X9) (rd arg5 X5) (rows1 i arg9 h2 X9 k) (arg5.view.readAt (Elt F) (Rect.unit (s := S720x1024) (k0_off22 k) ![32, 128] (k0_off22_inb i k h2)).toLoadRect X5) _ 7 rotates_S32x128_d1 shapeCasts_S32x128_S32x128x1 shapeCasts_S32x128x1_S32x128 iota_S32x128_d1_w32 bitsLt_bf16_f32 bitsLt_bf16_f32
      (rows1_at i arg9 h2 X9 k) 896 rfl (r_of 896 _ hs (by decide) (by clear * - k; revert k; decide +kernel)) r l

/-- The stores of the trips before trip `k`. -/
theorem st1_out (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h2 : k0_cond2 i = 1#1) (u : Mxu F) (v1 : FVec F S256x128 .f32) (v2 v3 v4 : FVec F S256x128 .bf16) (v5 : Vec F S1x1x128 .f32) (X1 : BufTy.Contents (Elt F) arg1.view.ty) (X2 : BufTy.Contents (Elt F) arg2.view.ty) (X5 : BufTy.Contents (Elt F) arg5.view.ty) (X7 : BufTy.Contents (Elt F) arg7.view.ty) (X8 : BufTy.Contents (Elt F) arg8.view.ty) (X9 : BufTy.Contents (Elt F) arg9.view.ty) (init : BitVec 32 × Mxu F) (k : ℕ) (hk : k ≤ k0_t1_loop.trips) :
    Blocks (outF (M := 720) (N := 1024) (rd arg9 X9) (rd arg5 X5)) (32 * k) (st1 (F := F) c i arg1 harg1 arg2 harg2 arg3 harg3 arg4 harg4 arg5 harg5 arg6 harg6 arg7 harg7 arg8 harg8 arg9 harg9 h2 u v1 v2 v3 v4 v5 X1 X2 X5 X7 X8 X9 init k).2 := by
  induction k with
  | zero => exact Blocks.nil _
  | succ k ih =>
    have e := st1_succ (F := F) c i arg1 harg1 arg2 harg2 arg3 harg3 arg4 harg4 arg5 harg5 arg6 harg6 arg7 harg7 arg8 harg8 arg9 harg9 h2 u v1 v2 v3 v4 v5 X1 X2 X5 X7 X8 X9 init ⟨k, hk⟩
    dsimp only at e
    rw [e]
    exact trip1_out c i arg1 harg1 arg2 harg2 arg3 harg3 arg4 harg4 arg5 harg5 arg6 harg6 arg7 harg7 arg8 harg8 arg9 harg9 h2 u v1 v2 v3 v4 v5 X1 X2 X5 X7 X8 X9 ⟨k, hk⟩ _ _ (ih (Nat.le_of_succ_le hk))

/-- The eight fields' rows loaded in a trip. -/
abbrev rows3 (i : grid0.Coords) (arg9 : Memref sig .tc .vmem S8x720x128 .f32) (h3 : k0_cond3 i = 1#1) (X9 : BufTy.Contents (Elt F) arg9.view.ty) (k : Fin k0_t3_loop.trips) : Fin 8 → FVec F S32x128 .f32 :=
  fun f => match f with | 0 => shapeCast S32x128 (arg9.view.readAt (Elt F) (Rect.unit (s := S8x720x128) (k0_off29 k) S1x32x128.size (k0_off29_inb i k h3)).toLoadRect X9) shapeCasts_S1x32x128_S32x128 | 1 => shapeCast S32x128 (arg9.view.readAt (Elt F) (Rect.unit (s := S8x720x128) (k0_off30 k) S1x32x128.size (k0_off30_inb i k h3)).toLoadRect X9) shapeCasts_S1x32x128_S32x128 | 2 => shapeCast S32x128 (arg9.view.readAt (Elt F) (Rect.unit (s := S8x720x128) (k0_off31 k) S1x32x128.size (k0_off31_inb i k h3)).toLoadRect X9) shapeCasts_S1x32x128_S32x128 | 3 => shapeCast S32x128 (arg9.view.readAt (Elt F) (Rect.unit (s := S8x720x128) (k0_off32 k) S1x32x128.size (k0_off32_inb i k h3)).toLoadRect X9) shapeCasts_S1x32x128_S32x128 | 4 => shapeCast S32x128 (arg9.view.readAt (Elt F) (Rect.unit (s := S8x720x128) (k0_off33 k) S1x32x128.size (k0_off33_inb i k h3)).toLoadRect X9) shapeCasts_S1x32x128_S32x128 | 5 => shapeCast S32x128 (arg9.view.readAt (Elt F) (Rect.unit (s := S8x720x128) (k0_off34 k) S1x32x128.size (k0_off34_inb i k h3)).toLoadRect X9) shapeCasts_S1x32x128_S32x128 | 6 => shapeCast S32x128 (arg9.view.readAt (Elt F) (Rect.unit (s := S8x720x128) (k0_off35 k) S1x32x128.size (k0_off35_inb i k h3)).toLoadRect X9) shapeCasts_S1x32x128_S32x128 | 7 => shapeCast S32x128 (arg9.view.readAt (Elt F) (Rect.unit (s := S8x720x128) (k0_off36 k) S1x32x128.size (k0_off36_inb i k h3)).toLoadRect X9) shapeCasts_S1x32x128_S32x128

theorem rows3_at (i : grid0.Coords) (arg9 : Memref sig .tc .vmem S8x720x128 .f32) (h3 : k0_cond3 i = 1#1) (X9 : BufTy.Contents (Elt F) arg9.view.ty) (k : Fin k0_t3_loop.trips) (f : Fin 8) (r : Fin 32) (l : Fin 128) :
    rows3 i arg9 h3 X9 k f (ix2 r l) = rd arg9 X9 (ix3 f (at' 720 (min (32 * k.val) 688 + r.val)) l) := by
  match f with
  | 0 => exact y_of 0 _ (Nat.min_le_right _ _) (by clear * - k; revert k; decide +kernel) r l
  | 1 => exact y_of 1 _ (Nat.min_le_right _ _) (by clear * - k; revert k; decide +kernel) r l
  | 2 => exact y_of 2 _ (Nat.min_le_right _ _) (by clear * - k; revert k; decide +kernel) r l
  | 3 => exact y_of 3 _ (Nat.min_le_right _ _) (by clear * - k; revert k; decide +kernel) r l
  | 4 => exact y_of 4 _ (Nat.min_le_right _ _) (by clear * - k; revert k; decide +kernel) r l
  | 5 => exact y_of 5 _ (Nat.min_le_right _ _) (by clear * - k; revert k; decide +kernel) r l
  | 6 => exact y_of 6 _ (Nat.min_le_right _ _) (by clear * - k; revert k; decide +kernel) r l
  | 7 => exact y_of 7 _ (Nat.min_le_right _ _) (by clear * - k; revert k; decide +kernel) r l

set_option maxHeartbeats 1000000 in
/-- One trip's stores. -/
theorem trip3_out (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h3 : k0_cond3 i = 1#1)  (X5 : BufTy.Contents (Elt F) arg5.view.ty) (X9 : BufTy.Contents (Elt F) arg9.view.ty) (k : Fin k0_t3_loop.trips) (a : BitVec 32) (L : List (View.Piece (Elt F) S720x1024 .bf16)) (hL : Blocks (outF (M := 720) (N := 1024) (rd arg9 X9) (rd arg5 X5)) (32 * k.val) L) :
    Blocks (outF (M := 720) (N := 1024) (rd arg9 X9) (rd arg5 X5)) (32 * (k.val + 1)) ((trip_k0_t3 (F := F) Variants.none c none i arg1 harg1 arg2 harg2 arg3 harg3 arg4 harg4 arg5 harg5 arg6 harg6 arg7 harg7 arg8 harg8 arg9 harg9 h3 X5 X9 k).2.1 a ++ L) := by
  have hk : k.val < 23 := Nat.lt_of_lt_of_le k.isLt k0_t3_abs.2.1
  unfold trip_k0_t3
  dsimp only
  have hs : min (32 * k.val) 688 ≤ 688 := Nat.min_le_right _ _
  refine Blocks.step (k := k.val) (s := min (32 * k.val) 688) hL rfl ?e0 ?e1 ?e2 ?e3 ?e4 ?e5 ?e6 ?e7 _ _ _ _ _ _ _ _ _ _ _ _ _ _ _ _ ?h0 ?h1 ?h2 ?h3 ?h4 ?h5 ?h6 ?h7
  case e0 => clear * - k; revert k; decide +kernel
  case h0 =>
    intro r l
    sl_unfold_words
    exact out_piece (rd arg9 X9) (rd arg5 X5) (rows3 i arg9 h3 X9 k) (arg5.view.readAt (Elt F) (Rect.unit (s := S720x1024) (k0_off37 k) ![32, 128] (k0_off37_inb i k h3)).toLoadRect X5) _ 0 rotates_S32x128_d1 shapeCasts_S32x128_S32x128x1 shapeCasts_S32x128x1_S32x128 iota_S32x128_d1_w32 bitsLt_bf16_f32 bitsLt_bf16_f32
      (rows3_at i arg9 h3 X9 k) 0 rfl (r_of 0 _ hs (by decide) (by clear * - k; revert k; decide +kernel)) r l
  case e1 => clear * - k; revert k; decide +kernel
  case h1 =>
    intro r l
    sl_unfold_words
    exact out_piece (rd arg9 X9) (rd arg5 X5) (rows3 i arg9 h3 X9 k) (arg5.view.readAt (Elt F) (Rect.unit (s := S720x1024) (k0_off38 k) ![32, 128] (k0_off38_inb i k h3)).toLoadRect X5) _ 1 rotates_S32x128_d1 shapeCasts_S32x128_S32x128x1 shapeCasts_S32x128x1_S32x128 iota_S32x128_d1_w32 bitsLt_bf16_f32 bitsLt_bf16_f32
      (rows3_at i arg9 h3 X9 k) 128 rfl (r_of 128 _ hs (by decide) (by clear * - k; revert k; decide +kernel)) r l
  case e2 => clear * - k; revert k; decide +kernel
  case h2 =>
    intro r l
    sl_unfold_words
    exact out_piece (rd arg9 X9) (rd arg5 X5) (rows3 i arg9 h3 X9 k) (arg5.view.readAt (Elt F) (Rect.unit (s := S720x1024) (k0_off39 k) ![32, 128] (k0_off39_inb i k h3)).toLoadRect X5) _ 2 rotates_S32x128_d1 shapeCasts_S32x128_S32x128x1 shapeCasts_S32x128x1_S32x128 iota_S32x128_d1_w32 bitsLt_bf16_f32 bitsLt_bf16_f32
      (rows3_at i arg9 h3 X9 k) 256 rfl (r_of 256 _ hs (by decide) (by clear * - k; revert k; decide +kernel)) r l
  case e3 => clear * - k; revert k; decide +kernel
  case h3 =>
    intro r l
    sl_unfold_words
    exact out_piece (rd arg9 X9) (rd arg5 X5) (rows3 i arg9 h3 X9 k) (arg5.view.readAt (Elt F) (Rect.unit (s := S720x1024) (k0_off40 k) ![32, 128] (k0_off40_inb i k h3)).toLoadRect X5) _ 3 rotates_S32x128_d1 shapeCasts_S32x128_S32x128x1 shapeCasts_S32x128x1_S32x128 iota_S32x128_d1_w32 bitsLt_bf16_f32 bitsLt_bf16_f32
      (rows3_at i arg9 h3 X9 k) 384 rfl (r_of 384 _ hs (by decide) (by clear * - k; revert k; decide +kernel)) r l
  case e4 => clear * - k; revert k; decide +kernel
  case h4 =>
    intro r l
    sl_unfold_words
    exact out_piece (rd arg9 X9) (rd arg5 X5) (rows3 i arg9 h3 X9 k) (arg5.view.readAt (Elt F) (Rect.unit (s := S720x1024) (k0_off41 k) ![32, 128] (k0_off41_inb i k h3)).toLoadRect X5) _ 4 rotates_S32x128_d1 shapeCasts_S32x128_S32x128x1 shapeCasts_S32x128x1_S32x128 iota_S32x128_d1_w32 bitsLt_bf16_f32 bitsLt_bf16_f32
      (rows3_at i arg9 h3 X9 k) 512 rfl (r_of 512 _ hs (by decide) (by clear * - k; revert k; decide +kernel)) r l
  case e5 => clear * - k; revert k; decide +kernel
  case h5 =>
    intro r l
    sl_unfold_words
    exact out_piece (rd arg9 X9) (rd arg5 X5) (rows3 i arg9 h3 X9 k) (arg5.view.readAt (Elt F) (Rect.unit (s := S720x1024) (k0_off42 k) ![32, 128] (k0_off42_inb i k h3)).toLoadRect X5) _ 5 rotates_S32x128_d1 shapeCasts_S32x128_S32x128x1 shapeCasts_S32x128x1_S32x128 iota_S32x128_d1_w32 bitsLt_bf16_f32 bitsLt_bf16_f32
      (rows3_at i arg9 h3 X9 k) 640 rfl (r_of 640 _ hs (by decide) (by clear * - k; revert k; decide +kernel)) r l
  case e6 => clear * - k; revert k; decide +kernel
  case h6 =>
    intro r l
    sl_unfold_words
    exact out_piece (rd arg9 X9) (rd arg5 X5) (rows3 i arg9 h3 X9 k) (arg5.view.readAt (Elt F) (Rect.unit (s := S720x1024) (k0_off43 k) ![32, 128] (k0_off43_inb i k h3)).toLoadRect X5) _ 6 rotates_S32x128_d1 shapeCasts_S32x128_S32x128x1 shapeCasts_S32x128x1_S32x128 iota_S32x128_d1_w32 bitsLt_bf16_f32 bitsLt_bf16_f32
      (rows3_at i arg9 h3 X9 k) 768 rfl (r_of 768 _ hs (by decide) (by clear * - k; revert k; decide +kernel)) r l
  case e7 => clear * - k; revert k; decide +kernel
  case h7 =>
    intro r l
    sl_unfold_words
    exact out_piece (rd arg9 X9) (rd arg5 X5) (rows3 i arg9 h3 X9 k) (arg5.view.readAt (Elt F) (Rect.unit (s := S720x1024) (k0_off44 k) ![32, 128] (k0_off44_inb i k h3)).toLoadRect X5) _ 7 rotates_S32x128_d1 shapeCasts_S32x128_S32x128x1 shapeCasts_S32x128x1_S32x128 iota_S32x128_d1_w32 bitsLt_bf16_f32 bitsLt_bf16_f32
      (rows3_at i arg9 h3 X9 k) 896 rfl (r_of 896 _ hs (by decide) (by clear * - k; revert k; decide +kernel)) r l

/-- The stores of the trips before trip `k`. -/
theorem st3_out (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h3 : k0_cond3 i = 1#1)  (X5 : BufTy.Contents (Elt F) arg5.view.ty) (X9 : BufTy.Contents (Elt F) arg9.view.ty) (init : BitVec 32) (k : ℕ) (hk : k ≤ k0_t3_loop.trips) :
    Blocks (outF (M := 720) (N := 1024) (rd arg9 X9) (rd arg5 X5)) (32 * k) (st_k0_t3 (F := F) Variants.none c none i arg1 harg1 arg2 harg2 arg3 harg3 arg4 harg4 arg5 harg5 arg6 harg6 arg7 harg7 arg8 harg8 arg9 harg9 h3 X5 X9 init k).2 := by
  induction k with
  | zero => exact Blocks.nil _
  | succ k ih =>
    have e := st_k0_t3_succ (F := F) Variants.none c none i arg1 harg1 arg2 harg2 arg3 harg3 arg4 harg4 arg5 harg5 arg6 harg6 arg7 harg7 arg8 harg8 arg9 harg9 h3 X5 X9 init ⟨k, hk⟩
    dsimp only at e
    rw [e]
    exact trip3_out c i arg1 harg1 arg2 harg2 arg3 harg3 arg4 harg4 arg5 harg5 arg6 harg6 arg7 harg7 arg8 harg8 arg9 harg9 h3  X5 X9 ⟨k, hk⟩ _ _ (ih (Nat.le_of_succ_le hk))

end Cert.Proof.PI

end
-- ==== Proof.PI.RunA.lean ====
/-
  The body of the projection kernel run by cases of the grid point.
-/
module

public import proofs.«01_k».proof.Proof.PI.Trips

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first grid point. -/
@[irreducible] def runA (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : cond1 i = 1#1) (k0_h2 : k0_cond2 i = 1#1) (h3 : ¬ k0_cond3 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) :
    Σ' (L6 : List (View.Piece (Elt F) S720x1024 .bf16)), Σ' (L7 : List (View.Piece (Elt F) S8x160x128 .f32)), Σ' (L8 : List (View.Piece (Elt F) S8x160x128 .f32)), { L9 : List (View.Piece (Elt F) S8x720x128 .f32) // ∀ (E : Set ℕ) (f6 : BufTy.Contents (Elt F) arg6.view.ty),
      Res (F := F) c arg1 arg2 arg3 arg4 arg5 arg6 arg7 arg8 arg9 X1 X2 X3 X4 X5 f6 X7 X8 X9
      ⊢ wp frame (wpE (defs₀ (F := F)) Variants.none (c : Thread nD τ) none) E (cc0_down_proj (F := F) i arg1 harg1 arg2 harg2 arg3 harg3 arg4 harg4 arg5 harg5 arg6 harg6 arg7 harg7 arg8 harg8 arg9 harg9)
          (fun _ => Res (F := F) c arg1 arg2 arg3 arg4 arg5 arg6 arg7 arg8 arg9 X1 X2 X3 X4 X5 (arg6.view.writes (Elt F) f6 L6) (arg7.view.writes (Elt F) arg7.view.junk L7) (arg8.view.writes (Elt F) arg8.view.junk L8) (arg9.view.writes (Elt F) arg9.view.junk L9)) } := by
  refine ⟨?_, ?_, ?_, ?_, fun E f6 => ?run⟩
  case run =>
    simp only [cc0_down_proj_eq_skeleton]; unfold cc0_down_proj_skel
    iintro ⟨H1, H2, H3, H4, H5, H6, H7, H8, H9⟩
    sl_exec (disch := mxu_pushok_peel)
    sl_step
    sl_close

end Cert.Proof.PI

end
-- ==== Proof.PI.ChainA.lean ====
/-
  The four sums the matrix unit gives at a grid point of case A.
-/
module

public import proofs.«01_k».proof.Proof.PI.Chain
public import proofs.«01_k».proof.Proof.PI.RunA

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile

variable (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h2 : k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)

set_option maxHeartbeats 4000000 in
/-- Before the first loop: the first tile's pass in the rows, the second tile waiting. -/
theorem ready1_A : Ready fits_0_720 (XC (rd arg1 X1)) (TF 0 (rd arg2 X2) (rd arg7 (arg7.view.writes (Elt F) arg7.view.junk (runA.sl.H7_8 arg3 X3))) (rd arg8 (arg8.view.writes (Elt F) arg8.view.junk (runA.sl.H8_8 arg4 X4)))) (fun q => TF 0 (rd arg2 X2) (rd arg7 (arg7.view.writes (Elt F) arg7.view.junk (runA.sl.H7_8 arg3 X3))) (rd arg8 (arg8.view.writes (Elt F) arg8.view.junk (runA.sl.H8_8 arg4 X4))) q (1)) 1 (runA.sl.r_53 arg1 arg2 arg3 arg4 arg7 arg8 X1 X2 X3 X4) := by
  refine push_ready _ (acc_idle _ (push_ready (B := (fun q => TF 0 (rd arg2 X2) (rd arg7 (arg7.view.writes (Elt F) arg7.view.junk (runA.sl.H7_8 arg3 X3))) (rd arg8 (arg8.view.writes (Elt F) arg8.view.junk (runA.sl.H8_8 arg4 X4))) q (0))) _ (idle_init _) ?a1 ?b1) ?x) ?a2 ?b2
  case a1 => exact (by sl_unfold_words; exact vTile_eq (K := 20480) (G := 160) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b1 => exact (by sl_unfold_words; exact vTile_eq (K := 20480) (G := 160) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case a2 => exact (by sl_unfold_words; exact vTile_eq (K := 20480) (G := 160) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 20480) (G := 160) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)

set_option maxHeartbeats 4000000 in
/-- After the first loop: all 80 passes of the low half words in the rows, the first tile of the high ones waiting. -/
theorem ready2_A : Ready fits_0_720 (XC (rd arg1 X1)) (TF 0 (rd arg2 X2) (rd arg7 (arg7.view.writes (Elt F) arg7.view.junk (runA.sl.H7_8 arg3 X3))) (rd arg8 (arg8.view.writes (Elt F) arg8.view.junk (runA.sl.H8_8 arg4 X4)))) (fun q => TF 1 (rd arg2 X2) (rd arg7 (arg7.view.writes (Elt F) arg7.view.junk (runA.sl.H7_8 arg3 X3))) (rd arg8 (arg8.view.writes (Elt F) arg8.view.junk (runA.sl.H8_8 arg4 X4))) q (0)) 80 (runA.sl.r_65 c i arg1 harg1 arg2 harg2 arg3 harg3 arg4 harg4 arg5 harg5 arg6 harg6 arg7 harg7 arg8 harg8 arg9 harg9 h2 X1 X2 X3 X4 X5) := by
  refine push_ready _ (acc_idle _ (st1_ready _ _ _ _ _ _ _ _ _ _ _ _ _ _ _ _ _ _ _ _ _ _ _ _ _ _ _ _ _ _ _ _ _ _ (ready1_A arg1 arg2 arg3 arg4 arg7 arg8 X1 X2 X3 X4) 39 (by decide)) ?x) ?a2 ?b2
  case a2 => exact (by sl_unfold_words; exact vTile_eq (K := 20480) (G := 160) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 20480) (G := 160) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)

set_option maxHeartbeats 4000000 in
/-- At the end: all 80 passes of the high half words in the rows. -/
theorem idle_A : Idle fits_0_720 (XC (rd arg1 X1)) (TF 1 (rd arg2 X2) (rd arg7 (arg7.view.writes (Elt F) arg7.view.junk (runA.sl.H7_8 arg3 X3))) (rd arg8 (arg8.view.writes (Elt F) arg8.view.junk (runA.sl.H8_8 arg4 X4)))) 80 (runA.sl.k0_mxu40 c i arg1 harg1 arg2 harg2 arg3 harg3 arg4 harg4 arg5 harg5 arg6 harg6 arg7 harg7 arg8 harg8 arg9 harg9 h2 X1 X2 X3 X4 X5) := by
  refine acc_idle _ (st2_ready _ _ _ _ _ _ _ _ _ _ _ _ _ _ _ _ _ _ _ _ _ _ _ _ _ _ _ (push_ready _ (acc_idle _ (out_ready (T' := (TF 1 (rd arg2 X2) (rd arg7 (arg7.view.writes (Elt F) arg7.view.junk (runA.sl.H7_8 arg3 X3))) (rd arg8 (arg8.view.writes (Elt F) arg8.view.junk (runA.sl.H8_8 arg4 X4))))) _ (ready2_A c i arg1 harg1 arg2 harg2 arg3 harg3 arg4 harg4 arg5 harg5 arg6 harg6 arg7 harg7 arg8 harg8 arg9 harg9 h2 X1 X2 X3 X4 X5)) ?x1) ?a ?b) 39 (by decide)) ?x
  case a => exact (by sl_unfold_words; exact vTile_eq (K := 20480) (G := 160) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b => exact (by sl_unfold_words; exact vTile_eq (K := 20480) (G := 160) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)
  case x1 => exact (by sl_unfold_words; exact xc_of _ (by decide) rfl)

/-- The sums taken out after the first loop, fields 0 to 3. -/
theorem v812_A : runA.sl.v812_r0 c i arg1 harg1 arg2 harg2 arg3 harg3 arg4 harg4 arg5 harg5 arg6 harg6 arg7 harg7 arg8 harg8 arg9 harg9 h2 X1 X2 X3 X4 X5 = sums (XC (rd arg1 X1)) ((TF 0 (rd arg2 X2) (rd arg7 (arg7.view.writes (Elt F) arg7.view.junk (runA.sl.H7_8 arg3 X3))) (rd arg8 (arg8.view.writes (Elt F) arg8.view.junk (runA.sl.H8_8 arg4 X4)))) 0) 80 := (ready2_A c i arg1 harg1 arg2 harg2 arg3 harg3 arg4 harg4 arg5 harg5 arg6 harg6 arg7 harg7 arg8 harg8 arg9 harg9 h2 X1 X2 X3 X4 X5).read0
theorem v813_A : runA.sl.v813_r0 c i arg1 harg1 arg2 harg2 arg3 harg3 arg4 harg4 arg5 harg5 arg6 harg6 arg7 harg7 arg8 harg8 arg9 harg9 h2 X1 X2 X3 X4 X5 = sums (XC (rd arg1 X1)) ((TF 0 (rd arg2 X2) (rd arg7 (arg7.view.writes (Elt F) arg7.view.junk (runA.sl.H7_8 arg3 X3))) (rd arg8 (arg8.view.writes (Elt F) arg8.view.junk (runA.sl.H8_8 arg4 X4)))) 1) 80 := (ready2_A c i arg1 harg1 arg2 harg2 arg3 harg3 arg4 harg4 arg5 harg5 arg6 harg6 arg7 harg7 arg8 harg8 arg9 harg9 h2 X1 X2 X3 X4 X5).read1
/-- The sums taken out at the end, fields 4 to 7. -/
theorem v943_A : runA.sl.v943_r0 c i arg1 harg1 arg2 harg2 arg3 harg3 arg4 harg4 arg5 harg5 arg6 harg6 arg7 harg7 arg8 harg8 arg9 harg9 h2 X1 X2 X3 X4 X5 = sums (XC (rd arg1 X1)) ((TF 1 (rd arg2 X2) (rd arg7 (arg7.view.writes (Elt F) arg7.view.junk (runA.sl.H7_8 arg3 X3))) (rd arg8 (arg8.view.writes (Elt F) arg8.view.junk (runA.sl.H8_8 arg4 X4)))) 0) 80 := (idle_A c i arg1 harg1 arg2 harg2 arg3 harg3 arg4 harg4 arg5 harg5 arg6 harg6 arg7 harg7 arg8 harg8 arg9 harg9 h2 X1 X2 X3 X4 X5).read0
theorem v944_A : runA.sl.v944_r0 c i arg1 harg1 arg2 harg2 arg3 harg3 arg4 harg4 arg5 harg5 arg6 harg6 arg7 harg7 arg8 harg8 arg9 harg9 h2 X1 X2 X3 X4 X5 = sums (XC (rd arg1 X1)) ((TF 1 (rd arg2 X2) (rd arg7 (arg7.view.writes (Elt F) arg7.view.junk (runA.sl.H7_8 arg3 X3))) (rd arg8 (arg8.view.writes (Elt F) arg8.view.junk (runA.sl.H8_8 arg4 X4)))) 1) 80 := (idle_A c i arg1 harg1 arg2 harg2 arg3 harg3 arg4 harg4 arg5 harg5 arg6 harg6 arg7 harg7 arg8 harg8 arg9 harg9 h2 X1 X2 X3 X4 X5).read1

end Cert.Proof.PI

end
-- ==== Proof.PI.Kept.lean ====
/-
  Loads and stores that fill the scratch buffers, at one place.
-/
module

public import proofs.«01_k».proof.Proof.PI.Chain
public import proofs.«01_k».proof.Proof.Spec

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

/-- A whole load of the packed zeros. -/
theorem q_of {arg3 : Memref sig .tc .vmem S160x128 .i32} {X3 : BufTy.Contents (Elt F) arg3.view.ty} {inb} (r : Fin 160) (l : Fin 128) :
    arg3.view.readAt (Elt F) (Rect.unit (s := S160x128) ![0, 0] S160x128.size inb).toLoadRect X3 (ix2 r l) = rd arg3 X3 (ix2 r l) := by
  refine View.ld_unit_apply_of (rd arg3 X3) _ _ _ _ _ fun a => ?_
  match a with
  | ⟨0, _⟩ => simp
  | ⟨1, _⟩ => simp

/-- One field of the packed zeros, as stored. -/
theorem z_piece {arg3 : Memref sig .tc .vmem S160x128 .i32} {X3 : BufTy.Contents (Elt F) arg3.view.ty} (p : Fin 2) (t : Fin 4) (r : Fin 160) (l : Fin 128) :
    shapeCast S1x160x128 (vField (F := F) p t (View.readAt (Elt F) arg3.view (Rect.unit ![0, 0] S160x128.size inb_S160x128_S160x128_0_0).toLoadRect X3)) shapeCasts_S160x128_S1x160x128 (ix3 0 r l)
      = fieldW p t (rd arg3 X3 (ix2 r l)) := by
  rw [cast_on, vField_at, q_of]

/-- A load of one column tile of the scales. -/
theorem s_of {arg4 : Memref sig .tc .vmem S160x1024 .i16} {X4 : BufTy.Contents (Elt F) arg4.view.ty} (j : ℕ) {inb} (hj : j < 8) (r : Fin 160) (l : Fin 128) :
    arg4.view.readAt (Elt F) (Rect.unit (s := S160x1024) ![0, 128 * j] S160x128.size inb).toLoadRect X4 (ix2 r l) = rd arg4 X4 (ix2 r (at' 1024 (128 * j + l.val))) := by
  refine View.ld_unit_apply_of (rd arg4 X4) _ _ _ _ _ fun a => ?_
  match a with
  | ⟨0, _⟩ => simp
  | ⟨1, _⟩ => have := l.isLt; simp [at']; omega

/-- The left or the right half of a pair of fields' products. -/
theorem half_at (v : FVec F S720x256 .f32) (o : ℕ) (ho : o = 0 ∨ o = 128) (h : S720x256.Slices ![0, o] S720x128) (r : Fin 720) (l : Fin 128) :
    extractStridedSlice S720x128 ![0, o] v h (ix2 r l) = v (ix2 r (at' 256 (o + l.val))) := by
  have := l.isLt
  rcases ho with rfl | rfl <;> pointwise <;> refine congrArg (fun k => v (ix2 r k)) (Fin.ext ?_) <;> simp [at'] <;> omega

theorem col_label : ∀ l : Fin 128, ∀ f : Fin 8,
    at' 1024 (128 * (at' 8 (l.val / 16)).val + (at' 128 (8 * (l.val % 16) + order f.val)).val) = at' 1024 (8 * l.val + order f.val) := by decide +kernel

/-- The eight column tiles of the scales, decoded. -/
def vCols (arg4 : Memref sig .tc .vmem S160x1024 .i16) (X4 : BufTy.Contents (Elt F) arg4.view.ty) : Fin 8 → FVec F S160x128 .f32 := fun j => match j with
  | 0 => vDec (F := F) natLt_16_32 (View.readAt (Elt F) arg4.view (Rect.unit ![0, 0] S160x128.size inb_S160x1024_S160x128_0_0 : Rect S160x1024).toLoadRect X4)
  | 1 => vDec (F := F) natLt_16_32 (View.readAt (Elt F) arg4.view (Rect.unit ![0, 128] S160x128.size inb_S160x1024_S160x128_0_128 : Rect S160x1024).toLoadRect X4)
  | 2 => vDec (F := F) natLt_16_32 (View.readAt (Elt F) arg4.view (Rect.unit ![0, 256] S160x128.size inb_S160x1024_S160x128_0_256 : Rect S160x1024).toLoadRect X4)
  | 3 => vDec (F := F) natLt_16_32 (View.readAt (Elt F) arg4.view (Rect.unit ![0, 384] S160x128.size inb_S160x1024_S160x128_0_384 : Rect S160x1024).toLoadRect X4)
  | 4 => vDec (F := F) natLt_16_32 (View.readAt (Elt F) arg4.view (Rect.unit ![0, 512] S160x128.size inb_S160x1024_S160x128_0_512 : Rect S160x1024).toLoadRect X4)
  | 5 => vDec (F := F) natLt_16_32 (View.readAt (Elt F) arg4.view (Rect.unit ![0, 640] S160x128.size inb_S160x1024_S160x128_0_640 : Rect S160x1024).toLoadRect X4)
  | 6 => vDec (F := F) natLt_16_32 (View.readAt (Elt F) arg4.view (Rect.unit ![0, 768] S160x128.size inb_S160x1024_S160x128_0_768 : Rect S160x1024).toLoadRect X4)
  | 7 => vDec (F := F) natLt_16_32 (View.readAt (Elt F) arg4.view (Rect.unit ![0, 896] S160x128.size inb_S160x1024_S160x128_0_896 : Rect S160x1024).toLoadRect X4)

theorem vCols_at (arg4 : Memref sig .tc .vmem S160x1024 .i16) (X4 : BufTy.Contents (Elt F) arg4.view.ty) (k : Fin 8) (r : Fin 160) (l : Fin 128) :
    vToF (R := 160) rotates_S160x128_d1 shapeCasts_S160x128_S160x128x1 shapeCasts_S160x128x1_S160x128 iota_S160x128_d1_w32 (vCols arg4 X4) k (ix2 r l)
      = decode (rd arg4 X4 (ix2 r (at' 1024 (8 * l.val + order k.val)))) := by
  rw [vToF_at]
  refine Eq.trans (b := decode (rd arg4 X4 (ix2 r (at' 1024 (128 * (at' 8 (l.val / 16)).val + (at' 128 (8 * (l.val % 16) + order k.val)).val))))) ?_ ?_
  · generalize at' 8 (l.val / 16) = j
    generalize at' 128 (8 * (l.val % 16) + order k.val) = m
    match j with
    | 0 => exact (vDec_at _ _ _).trans (congrArg decode (s_of 0 (by decide) r m))
    | 1 => exact (vDec_at _ _ _).trans (congrArg decode (s_of 1 (by decide) r m))
    | 2 => exact (vDec_at _ _ _).trans (congrArg decode (s_of 2 (by decide) r m))
    | 3 => exact (vDec_at _ _ _).trans (congrArg decode (s_of 3 (by decide) r m))
    | 4 => exact (vDec_at _ _ _).trans (congrArg decode (s_of 4 (by decide) r m))
    | 5 => exact (vDec_at _ _ _).trans (congrArg decode (s_of 5 (by decide) r m))
    | 6 => exact (vDec_at _ _ _).trans (congrArg decode (s_of 6 (by decide) r m))
    | 7 => exact (vDec_at _ _ _).trans (congrArg decode (s_of 7 (by decide) r m))
  · rw [col_label]

end Cert.Proof.PI

end
-- ==== Proof.PI.KeptA.lean ====
/-
  What a grid point of case A leaves in the scratch buffers, at one place.
-/
module

public import proofs.«01_k».proof.Proof.PI.ChainA
public import proofs.«01_k».proof.Proof.PI.Kept

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

variable (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h2 : k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)

set_option maxHeartbeats 400000 in
/-- The zeros kept. -/
theorem zkept_A : rd arg7 (arg7.view.writes (Elt F) arg7.view.junk (runA.sl.H7_8 arg3 X3)) = zcF (G := 160) (rd arg3 X3) := by
  unfold runA.sl.H7_8
  refine stack8 (R := 160) arg7.view _ _ [] _ _ _ _ _ _ _ _ _ _ _ _ _ _ _ _ ?_ ?_ ?_ ?_ ?_ ?_ ?_ ?_
  · intro r l; exact (z_piece 0 0 r l).trans (zcF_at (rd arg3 X3) 0 r l 0 0 (by decide) (by decide)).symm
  · intro r l; exact (z_piece 0 1 r l).trans (zcF_at (rd arg3 X3) 1 r l 0 1 (by decide) (by decide)).symm
  · intro r l; exact (z_piece 0 2 r l).trans (zcF_at (rd arg3 X3) 2 r l 0 2 (by decide) (by decide)).symm
  · intro r l; exact (z_piece 0 3 r l).trans (zcF_at (rd arg3 X3) 3 r l 0 3 (by decide) (by decide)).symm
  · intro r l; exact (z_piece 1 0 r l).trans (zcF_at (rd arg3 X3) 4 r l 1 0 (by decide) (by decide)).symm
  · intro r l; exact (z_piece 1 1 r l).trans (zcF_at (rd arg3 X3) 5 r l 1 1 (by decide) (by decide)).symm
  · intro r l; exact (z_piece 1 2 r l).trans (zcF_at (rd arg3 X3) 6 r l 1 2 (by decide) (by decide)).symm
  · intro r l; exact (z_piece 1 3 r l).trans (zcF_at (rd arg3 X3) 7 r l 1 3 (by decide) (by decide)).symm

set_option maxHeartbeats 400000 in
/-- The scales kept. -/
theorem skept_A : rd arg8 (arg8.view.writes (Elt F) arg8.view.junk (runA.sl.H8_8 arg4 X4)) = scF (G := 160) (N := 1024) (rd arg4 X4) := by
  unfold runA.sl.H8_8
  refine stack8 (R := 160) arg8.view _ _ [] _ _ _ _ _ _ _ _ _ _ _ _ _ _ _ _ ?_ ?_ ?_ ?_ ?_ ?_ ?_ ?_
  · intro r l; exact (cast_on (mulf (vToF (R := 160) rotates_S160x128_d1 shapeCasts_S160x128_S160x128x1 shapeCasts_S160x128x1_S160x128 iota_S160x128_d1_w32 (vCols arg4 X4) 0) (broadcast S160x128 (unshift (F := F) 0))) _ r l).trans (congrArg (fun a => FloatOps.mulf a (unshift (F := F) 0)) (vCols_at arg4 X4 0 r l) |>.trans (scF_at _ 0 r l 0 (by decide)).symm)
  · intro r l; exact (cast_on (mulf (vToF (R := 160) rotates_S160x128_d1 shapeCasts_S160x128_S160x128x1 shapeCasts_S160x128x1_S160x128 iota_S160x128_d1_w32 (vCols arg4 X4) 1) (broadcast S160x128 (unshift (F := F) 1))) _ r l).trans (congrArg (fun a => FloatOps.mulf a (unshift (F := F) 1)) (vCols_at arg4 X4 1 r l) |>.trans (scF_at _ 1 r l 1 (by decide)).symm)
  · intro r l; exact (cast_on (mulf (vToF (R := 160) rotates_S160x128_d1 shapeCasts_S160x128_S160x128x1 shapeCasts_S160x128x1_S160x128 iota_S160x128_d1_w32 (vCols arg4 X4) 2) (broadcast S160x128 (unshift (F := F) 2))) _ r l).trans (congrArg (fun a => FloatOps.mulf a (unshift (F := F) 2)) (vCols_at arg4 X4 2 r l) |>.trans (scF_at _ 2 r l 2 (by decide)).symm)
  · intro r l; exact (cast_on (mulf (vToF (R := 160) rotates_S160x128_d1 shapeCasts_S160x128_S160x128x1 shapeCasts_S160x128x1_S160x128 iota_S160x128_d1_w32 (vCols arg4 X4) 3) (broadcast S160x128 (unshift (F := F) 3))) _ r l).trans (congrArg (fun a => FloatOps.mulf a (unshift (F := F) 3)) (vCols_at arg4 X4 3 r l) |>.trans (scF_at _ 3 r l 3 (by decide)).symm)
  · intro r l; exact (cast_on (mulf (vToF (R := 160) rotates_S160x128_d1 shapeCasts_S160x128_S160x128x1 shapeCasts_S160x128x1_S160x128 iota_S160x128_d1_w32 (vCols arg4 X4) 4) (broadcast S160x128 (unshift (F := F) 0))) _ r l).trans (congrArg (fun a => FloatOps.mulf a (unshift (F := F) 0)) (vCols_at arg4 X4 4 r l) |>.trans (scF_at _ 4 r l 0 (by decide)).symm)
  · intro r l; exact (cast_on (mulf (vToF (R := 160) rotates_S160x128_d1 shapeCasts_S160x128_S160x128x1 shapeCasts_S160x128x1_S160x128 iota_S160x128_d1_w32 (vCols arg4 X4) 5) (broadcast S160x128 (unshift (F := F) 1))) _ r l).trans (congrArg (fun a => FloatOps.mulf a (unshift (F := F) 1)) (vCols_at arg4 X4 5 r l) |>.trans (scF_at _ 5 r l 1 (by decide)).symm)
  · intro r l; exact (cast_on (mulf (vToF (R := 160) rotates_S160x128_d1 shapeCasts_S160x128_S160x128x1 shapeCasts_S160x128x1_S160x128 iota_S160x128_d1_w32 (vCols arg4 X4) 6) (broadcast S160x128 (unshift (F := F) 2))) _ r l).trans (congrArg (fun a => FloatOps.mulf a (unshift (F := F) 2)) (vCols_at arg4 X4 6 r l) |>.trans (scF_at _ 6 r l 2 (by decide)).symm)
  · intro r l; exact (cast_on (mulf (vToF (R := 160) rotates_S160x128_d1 shapeCasts_S160x128_S160x128x1 shapeCasts_S160x128x1_S160x128 iota_S160x128_d1_w32 (vCols arg4 X4) 7) (broadcast S160x128 (unshift (F := F) 3))) _ r l).trans (congrArg (fun a => FloatOps.mulf a (unshift (F := F) 3)) (vCols_at arg4 X4 7 r l) |>.trans (scF_at _ 7 r l 3 (by decide)).symm)

set_option maxHeartbeats 400000 in
/-- The fields' products kept. -/
theorem ykept_A (f9 : BufTy.Contents (Elt F) arg9.view.ty) (L : List (View.Piece (Elt F) S8x720x128 .f32)) (b0 b1 b2 b3 b4 b5 b6 b7) :
    rd arg9 (arg9.view.writes (Elt F) f9 (⟨Rect.unit ![7, 0, 0] S1x720x128.size b7, k0_pay8 (runA.sl.v944_r0 c i arg1 harg1 arg2 harg2 arg3 harg3 arg4 harg4 arg5 harg5 arg6 harg6 arg7 harg7 arg8 harg8 arg9 harg9 h2 X1 X2 X3 X4 X5)⟩ :: ⟨Rect.unit ![6, 0, 0] S1x720x128.size b6, k0_pay7 (runA.sl.v944_r0 c i arg1 harg1 arg2 harg2 arg3 harg3 arg4 harg4 arg5 harg5 arg6 harg6 arg7 harg7 arg8 harg8 arg9 harg9 h2 X1 X2 X3 X4 X5)⟩ ::
      ⟨Rect.unit ![5, 0, 0] S1x720x128.size b5, k0_pay6 (runA.sl.v943_r0 c i arg1 harg1 arg2 harg2 arg3 harg3 arg4 harg4 arg5 harg5 arg6 harg6 arg7 harg7 arg8 harg8 arg9 harg9 h2 X1 X2 X3 X4 X5)⟩ :: ⟨Rect.unit ![4, 0, 0] S1x720x128.size b4, k0_pay5 (runA.sl.v943_r0 c i arg1 harg1 arg2 harg2 arg3 harg3 arg4 harg4 arg5 harg5 arg6 harg6 arg7 harg7 arg8 harg8 arg9 harg9 h2 X1 X2 X3 X4 X5)⟩ ::
      ⟨Rect.unit ![3, 0, 0] S1x720x128.size b3, k0_pay184 (runA.sl.r_66 c i arg1 harg1 arg2 harg2 arg3 harg3 arg4 harg4 arg5 harg5 arg6 harg6 arg7 harg7 arg8 harg8 arg9 harg9 h2 X1 X2 X3 X4 X5)⟩ :: ⟨Rect.unit ![2, 0, 0] S1x720x128.size b2, k0_pay182 (runA.sl.v813_r0 c i arg1 harg1 arg2 harg2 arg3 harg3 arg4 harg4 arg5 harg5 arg6 harg6 arg7 harg7 arg8 harg8 arg9 harg9 h2 X1 X2 X3 X4 X5)⟩ ::
      ⟨Rect.unit ![1, 0, 0] S1x720x128.size b1, k0_pay181 (runA.sl.v812_r0 c i arg1 harg1 arg2 harg2 arg3 harg3 arg4 harg4 arg5 harg5 arg6 harg6 arg7 harg7 arg8 harg8 arg9 harg9 h2 X1 X2 X3 X4 X5)⟩ :: ⟨Rect.unit ![0, 0, 0] S1x720x128.size b0, k0_pay180 (runA.sl.v812_r0 c i arg1 harg1 arg2 harg2 arg3 harg3 arg4 harg4 arg5 harg5 arg6 harg6 arg7 harg7 arg8 harg8 arg9 harg9 h2 X1 X2 X3 X4 X5)⟩ :: L))
      = prodF (M := 720) (K := 20480) (G := 160) 80 (rd arg1 X1) (rd arg2 X2) (zcF (G := 160) (rd arg3 X3)) (scF (G := 160) (N := 1024) (rd arg4 X4)) := by
  have e1 := v812_A c i arg1 harg1 arg2 harg2 arg3 harg3 arg4 harg4 arg5 harg5 arg6 harg6 arg7 harg7 arg8 harg8 arg9 harg9 h2 X1 X2 X3 X4 X5
  have e2 := v813_A c i arg1 harg1 arg2 harg2 arg3 harg3 arg4 harg4 arg5 harg5 arg6 harg6 arg7 harg7 arg8 harg8 arg9 harg9 h2 X1 X2 X3 X4 X5
  have e3 := v943_A c i arg1 harg1 arg2 harg2 arg3 harg3 arg4 harg4 arg5 harg5 arg6 harg6 arg7 harg7 arg8 harg8 arg9 harg9 h2 X1 X2 X3 X4 X5
  have e4 := v944_A c i arg1 harg1 arg2 harg2 arg3 harg3 arg4 harg4 arg5 harg5 arg6 harg6 arg7 harg7 arg8 harg8 arg9 harg9 h2 X1 X2 X3 X4 X5
  rw [zkept_A, skept_A] at e1 e2 e3 e4
  refine stack8 (R := 720) arg9.view _ _ L _ _ _ _ _ _ _ _ _ _ _ _ _ _ _ _ ?_ ?_ ?_ ?_ ?_ ?_ ?_ ?_
  · intro r l; exact (cast_on (extractStridedSlice S720x128 ![0, 0] (runA.sl.v812_r0 c i arg1 harg1 arg2 harg2 arg3 harg3 arg4 harg4 arg5 harg5 arg6 harg6 arg7 harg7 arg8 harg8 arg9 harg9 h2 X1 X2 X3 X4 X5) slices_S720x256_o0_0_S720x128) shapeCasts_S720x128_S1x720x128 r l).trans ((half_at _ 0 (by decide) _ r l).trans ((congrFun e1 _).trans (prodF_at _ _ _ _ _ 0 r l 0 0 0 (by decide) (by decide) (by decide)).symm))
  · intro r l; exact (cast_on (extractStridedSlice S720x128 ![0, 128] (runA.sl.v812_r0 c i arg1 harg1 arg2 harg2 arg3 harg3 arg4 harg4 arg5 harg5 arg6 harg6 arg7 harg7 arg8 harg8 arg9 harg9 h2 X1 X2 X3 X4 X5) slices_S720x256_o0_128_S720x128) shapeCasts_S720x128_S1x720x128 r l).trans ((half_at _ 128 (by decide) _ r l).trans ((congrFun e1 _).trans (prodF_at _ _ _ _ _ 1 r l 0 0 128 (by decide) (by decide) (by decide)).symm))
  · intro r l; exact (cast_on (extractStridedSlice S720x128 ![0, 0] (runA.sl.v813_r0 c i arg1 harg1 arg2 harg2 arg3 harg3 arg4 harg4 arg5 harg5 arg6 harg6 arg7 harg7 arg8 harg8 arg9 harg9 h2 X1 X2 X3 X4 X5) slices_S720x256_o0_0_S720x128) shapeCasts_S720x128_S1x720x128 r l).trans ((half_at _ 0 (by decide) _ r l).trans ((congrFun e2 _).trans (prodF_at _ _ _ _ _ 2 r l 0 1 0 (by decide) (by decide) (by decide)).symm))
  · intro r l; exact (cast_on (extractStridedSlice S720x128 ![0, 128] (runA.sl.v813_r0 c i arg1 harg1 arg2 harg2 arg3 harg3 arg4 harg4 arg5 harg5 arg6 harg6 arg7 harg7 arg8 harg8 arg9 harg9 h2 X1 X2 X3 X4 X5) slices_S720x256_o0_128_S720x128) shapeCasts_S720x128_S1x720x128 r l).trans ((half_at _ 128 (by decide) _ r l).trans ((congrFun e2 _).trans (prodF_at _ _ _ _ _ 3 r l 0 1 128 (by decide) (by decide) (by decide)).symm))
  · intro r l; exact (cast_on (extractStridedSlice S720x128 ![0, 0] (runA.sl.v943_r0 c i arg1 harg1 arg2 harg2 arg3 harg3 arg4 harg4 arg5 harg5 arg6 harg6 arg7 harg7 arg8 harg8 arg9 harg9 h2 X1 X2 X3 X4 X5) slices_S720x256_o0_0_S720x128) shapeCasts_S720x128_S1x720x128 r l).trans ((half_at _ 0 (by decide) _ r l).trans ((congrFun e3 _).trans (prodF_at _ _ _ _ _ 4 r l 1 0 0 (by decide) (by decide) (by decide)).symm))
  · intro r l; exact (cast_on (extractStridedSlice S720x128 ![0, 128] (runA.sl.v943_r0 c i arg1 harg1 arg2 harg2 arg3 harg3 arg4 harg4 arg5 harg5 arg6 harg6 arg7 harg7 arg8 harg8 arg9 harg9 h2 X1 X2 X3 X4 X5) slices_S720x256_o0_128_S720x128) shapeCasts_S720x128_S1x720x128 r l).trans ((half_at _ 128 (by decide) _ r l).trans ((congrFun e3 _).trans (prodF_at _ _ _ _ _ 5 r l 1 0 128 (by decide) (by decide) (by decide)).symm))
  · intro r l; exact (cast_on (extractStridedSlice S720x128 ![0, 0] (runA.sl.v944_r0 c i arg1 harg1 arg2 harg2 arg3 harg3 arg4 harg4 arg5 harg5 arg6 harg6 arg7 harg7 arg8 harg8 arg9 harg9 h2 X1 X2 X3 X4 X5) slices_S720x256_o0_0_S720x128) shapeCasts_S720x128_S1x720x128 r l).trans ((half_at _ 0 (by decide) _ r l).trans ((congrFun e4 _).trans (prodF_at _ _ _ _ _ 6 r l 1 1 0 (by decide) (by decide) (by decide)).symm))
  · intro r l; exact (cast_on (extractStridedSlice S720x128 ![0, 128] (runA.sl.v944_r0 c i arg1 harg1 arg2 harg2 arg3 harg3 arg4 harg4 arg5 harg5 arg6 harg6 arg7 harg7 arg8 harg8 arg9 harg9 h2 X1 X2 X3 X4 X5) slices_S720x256_o0_128_S720x128) shapeCasts_S720x128_S1x720x128 r l).trans ((half_at _ 128 (by decide) _ r l).trans ((congrFun e4 _).trans (prodF_at _ _ _ _ _ 7 r l 1 1 128 (by decide) (by decide) (by decide)).symm))

set_option maxHeartbeats 400000 in
/-- Before the first block the products are zero. -/
theorem zero_A (f9 : BufTy.Contents (Elt F) arg9.view.ty) : rd arg9 (arg9.view.writes (Elt F) f9 runA.sl.H9_8) = fun _ => Scalar.ofBits .f32 0x00000000#32 := by
  unfold runA.sl.H9_8
  refine stack8 (R := 720) arg9.view _ _ [] _ _ _ _ _ _ _ _ _ _ _ _ _ _ _ _ ?_ ?_ ?_ ?_ ?_ ?_ ?_ ?_
  all_goals (intro r l; exact cast_on (broadcast S720x128 (Scalar.ofBits (F := F) .f32 0x00000000#32)) shapeCasts_S720x128_S1x720x128 r l)

end Cert.Proof.PI

end
-- ==== Proof.PI.RunB.lean ====
/-
  The body of the projection kernel run by cases of the grid point.
-/
module

public import proofs.«01_k».proof.Proof.PI.Trips

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A middle grid point. -/
@[irreducible] def runB (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : ¬ cond1 i = 1#1) (k0_h2 : k0_cond2 i = 1#1) (h3 : ¬ k0_cond3 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) :
    Σ' (L6 : List (View.Piece (Elt F) S720x1024 .bf16)), Σ' (L7 : List (View.Piece (Elt F) S8x160x128 .f32)), Σ' (L8 : List (View.Piece (Elt F) S8x160x128 .f32)), { L9 : List (View.Piece (Elt F) S8x720x128 .f32) // ∀ (E : Set ℕ) (f6 : BufTy.Contents (Elt F) arg6.view.ty),
      Res (F := F) c arg1 arg2 arg3 arg4 arg5 arg6 arg7 arg8 arg9 X1 X2 X3 X4 X5 f6 X7 X8 X9
      ⊢ wp frame (wpE (defs₀ (F := F)) Variants.none (c : Thread nD τ) none) E (cc0_down_proj (F := F) i arg1 harg1 arg2 harg2 arg3 harg3 arg4 harg4 arg5 harg5 arg6 harg6 arg7 harg7 arg8 harg8 arg9 harg9)
          (fun _ => Res (F := F) c arg1 arg2 arg3 arg4 arg5 arg6 arg7 arg8 arg9 X1 X2 X3 X4 X5 (arg6.view.writes (Elt F) f6 L6) (arg7.view.writes (Elt F) arg7.view.junk L7) (arg8.view.writes (Elt F) arg8.view.junk L8) (arg9.view.writes (Elt F) X9 L9)) } := by
  refine ⟨?_, ?_, ?_, ?_, fun E f6 => ?run⟩
  case run =>
    simp only [cc0_down_proj_eq_skeleton]; unfold cc0_down_proj_skel
    iintro ⟨H1, H2, H3, H4, H5, H6, H7, H8, H9⟩
    sl_exec (disch := mxu_pushok_peel)
    sl_step
    sl_close

end Cert.Proof.PI

end
-- ==== Proof.PI.ChainB.lean ====
/-
  The four sums the matrix unit gives at a grid point of case B.
-/
module

public import proofs.«01_k».proof.Proof.PI.Chain
public import proofs.«01_k».proof.Proof.PI.RunB

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile

variable (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h2 : k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty)

set_option maxHeartbeats 4000000 in
/-- Before the first loop: the first tile's pass in the rows, the second tile waiting. -/
theorem ready1_B : Ready fits_0_720 (XC (rd arg1 X1)) (TF 0 (rd arg2 X2) (rd arg7 (arg7.view.writes (Elt F) arg7.view.junk (runB.sl.H7_8 arg3 X3))) (rd arg8 (arg8.view.writes (Elt F) arg8.view.junk (runB.sl.H8_8 arg4 X4)))) (fun q => TF 0 (rd arg2 X2) (rd arg7 (arg7.view.writes (Elt F) arg7.view.junk (runB.sl.H7_8 arg3 X3))) (rd arg8 (arg8.view.writes (Elt F) arg8.view.junk (runB.sl.H8_8 arg4 X4))) q (1)) 1 (runB.sl.r_53 arg1 arg2 arg3 arg4 arg7 arg8 X1 X2 X3 X4) := by
  refine push_ready _ (acc_idle _ (push_ready (B := (fun q => TF 0 (rd arg2 X2) (rd arg7 (arg7.view.writes (Elt F) arg7.view.junk (runB.sl.H7_8 arg3 X3))) (rd arg8 (arg8.view.writes (Elt F) arg8.view.junk (runB.sl.H8_8 arg4 X4))) q (0))) _ (idle_init _) ?a1 ?b1) ?x) ?a2 ?b2
  case a1 => exact (by sl_unfold_words; exact vTile_eq (K := 20480) (G := 160) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b1 => exact (by sl_unfold_words; exact vTile_eq (K := 20480) (G := 160) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case a2 => exact (by sl_unfold_words; exact vTile_eq (K := 20480) (G := 160) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 20480) (G := 160) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)

set_option maxHeartbeats 4000000 in
/-- After the first loop: all 80 passes of the low half words in the rows, the first tile of the high ones waiting. -/
theorem ready2_B : Ready fits_0_720 (XC (rd arg1 X1)) (TF 0 (rd arg2 X2) (rd arg7 (arg7.view.writes (Elt F) arg7.view.junk (runB.sl.H7_8 arg3 X3))) (rd arg8 (arg8.view.writes (Elt F) arg8.view.junk (runB.sl.H8_8 arg4 X4)))) (fun q => TF 1 (rd arg2 X2) (rd arg7 (arg7.view.writes (Elt F) arg7.view.junk (runB.sl.H7_8 arg3 X3))) (rd arg8 (arg8.view.writes (Elt F) arg8.view.junk (runB.sl.H8_8 arg4 X4))) q (0)) 80 (runB.sl.r_65 c i arg1 harg1 arg2 harg2 arg3 harg3 arg4 harg4 arg5 harg5 arg6 harg6 arg7 harg7 arg8 harg8 arg9 harg9 h2 X1 X2 X3 X4 X5 X9) := by
  refine push_ready _ (acc_idle _ (st1_ready _ _ _ _ _ _ _ _ _ _ _ _ _ _ _ _ _ _ _ _ _ _ _ _ _ _ _ _ _ _ _ _ _ _ (ready1_B arg1 arg2 arg3 arg4 arg7 arg8 X1 X2 X3 X4) 39 (by decide)) ?x) ?a2 ?b2
  case a2 => exact (by sl_unfold_words; exact vTile_eq (K := 20480) (G := 160) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 20480) (G := 160) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)

set_option maxHeartbeats 4000000 in
/-- At the end: all 80 passes of the high half words in the rows. -/
theorem idle_B : Idle fits_0_720 (XC (rd arg1 X1)) (TF 1 (rd arg2 X2) (rd arg7 (arg7.view.writes (Elt F) arg7.view.junk (runB.sl.H7_8 arg3 X3))) (rd arg8 (arg8.view.writes (Elt F) arg8.view.junk (runB.sl.H8_8 arg4 X4)))) 80 (runB.sl.k0_mxu40 c i arg1 harg1 arg2 harg2 arg3 harg3 arg4 harg4 arg5 harg5 arg6 harg6 arg7 harg7 arg8 harg8 arg9 harg9 h2 X1 X2 X3 X4 X5 X9) := by
  refine acc_idle _ (st2_ready _ _ _ _ _ _ _ _ _ _ _ _ _ _ _ _ _ _ _ _ _ _ _ _ _ _ _ (push_ready _ (acc_idle _ (out_ready (T' := (TF 1 (rd arg2 X2) (rd arg7 (arg7.view.writes (Elt F) arg7.view.junk (runB.sl.H7_8 arg3 X3))) (rd arg8 (arg8.view.writes (Elt F) arg8.view.junk (runB.sl.H8_8 arg4 X4))))) _ (ready2_B c i arg1 harg1 arg2 harg2 arg3 harg3 arg4 harg4 arg5 harg5 arg6 harg6 arg7 harg7 arg8 harg8 arg9 harg9 h2 X1 X2 X3 X4 X5 X9)) ?x1) ?a ?b) 39 (by decide)) ?x
  case a => exact (by sl_unfold_words; exact vTile_eq (K := 20480) (G := 160) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b => exact (by sl_unfold_words; exact vTile_eq (K := 20480) (G := 160) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)
  case x1 => exact (by sl_unfold_words; exact xc_of _ (by decide) rfl)

/-- The sums taken out after the first loop, fields 0 to 3. -/
theorem v812_B : runB.sl.v812_r0 c i arg1 harg1 arg2 harg2 arg3 harg3 arg4 harg4 arg5 harg5 arg6 harg6 arg7 harg7 arg8 harg8 arg9 harg9 h2 X1 X2 X3 X4 X5 X9 = sums (XC (rd arg1 X1)) ((TF 0 (rd arg2 X2) (rd arg7 (arg7.view.writes (Elt F) arg7.view.junk (runB.sl.H7_8 arg3 X3))) (rd arg8 (arg8.view.writes (Elt F) arg8.view.junk (runB.sl.H8_8 arg4 X4)))) 0) 80 := (ready2_B c i arg1 harg1 arg2 harg2 arg3 harg3 arg4 harg4 arg5 harg5 arg6 harg6 arg7 harg7 arg8 harg8 arg9 harg9 h2 X1 X2 X3 X4 X5 X9).read0
theorem v813_B : runB.sl.v813_r0 c i arg1 harg1 arg2 harg2 arg3 harg3 arg4 harg4 arg5 harg5 arg6 harg6 arg7 harg7 arg8 harg8 arg9 harg9 h2 X1 X2 X3 X4 X5 X9 = sums (XC (rd arg1 X1)) ((TF 0 (rd arg2 X2) (rd arg7 (arg7.view.writes (Elt F) arg7.view.junk (runB.sl.H7_8 arg3 X3))) (rd arg8 (arg8.view.writes (Elt F) arg8.view.junk (runB.sl.H8_8 arg4 X4)))) 1) 80 := (ready2_B c i arg1 harg1 arg2 harg2 arg3 harg3 arg4 harg4 arg5 harg5 arg6 harg6 arg7 harg7 arg8 harg8 arg9 harg9 h2 X1 X2 X3 X4 X5 X9).read1
/-- The sums taken out at the end, fields 4 to 7. -/
theorem v943_B : runB.sl.v943_r0 c i arg1 harg1 arg2 harg2 arg3 harg3 arg4 harg4 arg5 harg5 arg6 harg6 arg7 harg7 arg8 harg8 arg9 harg9 h2 X1 X2 X3 X4 X5 X9 = sums (XC (rd arg1 X1)) ((TF 1 (rd arg2 X2) (rd arg7 (arg7.view.writes (Elt F) arg7.view.junk (runB.sl.H7_8 arg3 X3))) (rd arg8 (arg8.view.writes (Elt F) arg8.view.junk (runB.sl.H8_8 arg4 X4)))) 0) 80 := (idle_B c i arg1 harg1 arg2 harg2 arg3 harg3 arg4 harg4 arg5 harg5 arg6 harg6 arg7 harg7 arg8 harg8 arg9 harg9 h2 X1 X2 X3 X4 X5 X9).read0
theorem v944_B : runB.sl.v944_r0 c i arg1 harg1 arg2 harg2 arg3 harg3 arg4 harg4 arg5 harg5 arg6 harg6 arg7 harg7 arg8 harg8 arg9 harg9 h2 X1 X2 X3 X4 X5 X9 = sums (XC (rd arg1 X1)) ((TF 1 (rd arg2 X2) (rd arg7 (arg7.view.writes (Elt F) arg7.view.junk (runB.sl.H7_8 arg3 X3))) (rd arg8 (arg8.view.writes (Elt F) arg8.view.junk (runB.sl.H8_8 arg4 X4)))) 1) 80 := (idle_B c i arg1 harg1 arg2 harg2 arg3 harg3 arg4 harg4 arg5 harg5 arg6 harg6 arg7 harg7 arg8 harg8 arg9 harg9 h2 X1 X2 X3 X4 X5 X9).read1

end Cert.Proof.PI

end
-- ==== Proof.PI.KeptB.lean ====
/-
  What a grid point of case B leaves in the scratch buffers, at one place.
-/
module

public import proofs.«01_k».proof.Proof.PI.ChainB
public import proofs.«01_k».proof.Proof.PI.Kept

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

variable (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h2 : k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty)

set_option maxHeartbeats 400000 in
/-- The zeros kept. -/
theorem zkept_B : rd arg7 (arg7.view.writes (Elt F) arg7.view.junk (runB.sl.H7_8 arg3 X3)) = zcF (G := 160) (rd arg3 X3) := by
  unfold runB.sl.H7_8
  refine stack8 (R := 160) arg7.view _ _ [] _ _ _ _ _ _ _ _ _ _ _ _ _ _ _ _ ?_ ?_ ?_ ?_ ?_ ?_ ?_ ?_
  · intro r l; exact (z_piece 0 0 r l).trans (zcF_at (rd arg3 X3) 0 r l 0 0 (by decide) (by decide)).symm
  · intro r l; exact (z_piece 0 1 r l).trans (zcF_at (rd arg3 X3) 1 r l 0 1 (by decide) (by decide)).symm
  · intro r l; exact (z_piece 0 2 r l).trans (zcF_at (rd arg3 X3) 2 r l 0 2 (by decide) (by decide)).symm
  · intro r l; exact (z_piece 0 3 r l).trans (zcF_at (rd arg3 X3) 3 r l 0 3 (by decide) (by decide)).symm
  · intro r l; exact (z_piece 1 0 r l).trans (zcF_at (rd arg3 X3) 4 r l 1 0 (by decide) (by decide)).symm
  · intro r l; exact (z_piece 1 1 r l).trans (zcF_at (rd arg3 X3) 5 r l 1 1 (by decide) (by decide)).symm
  · intro r l; exact (z_piece 1 2 r l).trans (zcF_at (rd arg3 X3) 6 r l 1 2 (by decide) (by decide)).symm
  · intro r l; exact (z_piece 1 3 r l).trans (zcF_at (rd arg3 X3) 7 r l 1 3 (by decide) (by decide)).symm

set_option maxHeartbeats 400000 in
/-- The scales kept. -/
theorem skept_B : rd arg8 (arg8.view.writes (Elt F) arg8.view.junk (runB.sl.H8_8 arg4 X4)) = scF (G := 160) (N := 1024) (rd arg4 X4) := by
  unfold runB.sl.H8_8
  refine stack8 (R := 160) arg8.view _ _ [] _ _ _ _ _ _ _ _ _ _ _ _ _ _ _ _ ?_ ?_ ?_ ?_ ?_ ?_ ?_ ?_
  · intro r l; exact (cast_on (mulf (vToF (R := 160) rotates_S160x128_d1 shapeCasts_S160x128_S160x128x1 shapeCasts_S160x128x1_S160x128 iota_S160x128_d1_w32 (vCols arg4 X4) 0) (broadcast S160x128 (unshift (F := F) 0))) _ r l).trans (congrArg (fun a => FloatOps.mulf a (unshift (F := F) 0)) (vCols_at arg4 X4 0 r l) |>.trans (scF_at _ 0 r l 0 (by decide)).symm)
  · intro r l; exact (cast_on (mulf (vToF (R := 160) rotates_S160x128_d1 shapeCasts_S160x128_S160x128x1 shapeCasts_S160x128x1_S160x128 iota_S160x128_d1_w32 (vCols arg4 X4) 1) (broadcast S160x128 (unshift (F := F) 1))) _ r l).trans (congrArg (fun a => FloatOps.mulf a (unshift (F := F) 1)) (vCols_at arg4 X4 1 r l) |>.trans (scF_at _ 1 r l 1 (by decide)).symm)
  · intro r l; exact (cast_on (mulf (vToF (R := 160) rotates_S160x128_d1 shapeCasts_S160x128_S160x128x1 shapeCasts_S160x128x1_S160x128 iota_S160x128_d1_w32 (vCols arg4 X4) 2) (broadcast S160x128 (unshift (F := F) 2))) _ r l).trans (congrArg (fun a => FloatOps.mulf a (unshift (F := F) 2)) (vCols_at arg4 X4 2 r l) |>.trans (scF_at _ 2 r l 2 (by decide)).symm)
  · intro r l; exact (cast_on (mulf (vToF (R := 160) rotates_S160x128_d1 shapeCasts_S160x128_S160x128x1 shapeCasts_S160x128x1_S160x128 iota_S160x128_d1_w32 (vCols arg4 X4) 3) (broadcast S160x128 (unshift (F := F) 3))) _ r l).trans (congrArg (fun a => FloatOps.mulf a (unshift (F := F) 3)) (vCols_at arg4 X4 3 r l) |>.trans (scF_at _ 3 r l 3 (by decide)).symm)
  · intro r l; exact (cast_on (mulf (vToF (R := 160) rotates_S160x128_d1 shapeCasts_S160x128_S160x128x1 shapeCasts_S160x128x1_S160x128 iota_S160x128_d1_w32 (vCols arg4 X4) 4) (broadcast S160x128 (unshift (F := F) 0))) _ r l).trans (congrArg (fun a => FloatOps.mulf a (unshift (F := F) 0)) (vCols_at arg4 X4 4 r l) |>.trans (scF_at _ 4 r l 0 (by decide)).symm)
  · intro r l; exact (cast_on (mulf (vToF (R := 160) rotates_S160x128_d1 shapeCasts_S160x128_S160x128x1 shapeCasts_S160x128x1_S160x128 iota_S160x128_d1_w32 (vCols arg4 X4) 5) (broadcast S160x128 (unshift (F := F) 1))) _ r l).trans (congrArg (fun a => FloatOps.mulf a (unshift (F := F) 1)) (vCols_at arg4 X4 5 r l) |>.trans (scF_at _ 5 r l 1 (by decide)).symm)
  · intro r l; exact (cast_on (mulf (vToF (R := 160) rotates_S160x128_d1 shapeCasts_S160x128_S160x128x1 shapeCasts_S160x128x1_S160x128 iota_S160x128_d1_w32 (vCols arg4 X4) 6) (broadcast S160x128 (unshift (F := F) 2))) _ r l).trans (congrArg (fun a => FloatOps.mulf a (unshift (F := F) 2)) (vCols_at arg4 X4 6 r l) |>.trans (scF_at _ 6 r l 2 (by decide)).symm)
  · intro r l; exact (cast_on (mulf (vToF (R := 160) rotates_S160x128_d1 shapeCasts_S160x128_S160x128x1 shapeCasts_S160x128x1_S160x128 iota_S160x128_d1_w32 (vCols arg4 X4) 7) (broadcast S160x128 (unshift (F := F) 3))) _ r l).trans (congrArg (fun a => FloatOps.mulf a (unshift (F := F) 3)) (vCols_at arg4 X4 7 r l) |>.trans (scF_at _ 7 r l 3 (by decide)).symm)

set_option maxHeartbeats 400000 in
/-- The fields' products kept. -/
theorem ykept_B (f9 : BufTy.Contents (Elt F) arg9.view.ty) (L : List (View.Piece (Elt F) S8x720x128 .f32)) (b0 b1 b2 b3 b4 b5 b6 b7) :
    rd arg9 (arg9.view.writes (Elt F) f9 (⟨Rect.unit ![7, 0, 0] S1x720x128.size b7, k0_pay8 (runB.sl.v944_r0 c i arg1 harg1 arg2 harg2 arg3 harg3 arg4 harg4 arg5 harg5 arg6 harg6 arg7 harg7 arg8 harg8 arg9 harg9 h2 X1 X2 X3 X4 X5 X9)⟩ :: ⟨Rect.unit ![6, 0, 0] S1x720x128.size b6, k0_pay7 (runB.sl.v944_r0 c i arg1 harg1 arg2 harg2 arg3 harg3 arg4 harg4 arg5 harg5 arg6 harg6 arg7 harg7 arg8 harg8 arg9 harg9 h2 X1 X2 X3 X4 X5 X9)⟩ ::
      ⟨Rect.unit ![5, 0, 0] S1x720x128.size b5, k0_pay6 (runB.sl.v943_r0 c i arg1 harg1 arg2 harg2 arg3 harg3 arg4 harg4 arg5 harg5 arg6 harg6 arg7 harg7 arg8 harg8 arg9 harg9 h2 X1 X2 X3 X4 X5 X9)⟩ :: ⟨Rect.unit ![4, 0, 0] S1x720x128.size b4, k0_pay5 (runB.sl.v943_r0 c i arg1 harg1 arg2 harg2 arg3 harg3 arg4 harg4 arg5 harg5 arg6 harg6 arg7 harg7 arg8 harg8 arg9 harg9 h2 X1 X2 X3 X4 X5 X9)⟩ ::
      ⟨Rect.unit ![3, 0, 0] S1x720x128.size b3, k0_pay184 (runB.sl.r_66 c i arg1 harg1 arg2 harg2 arg3 harg3 arg4 harg4 arg5 harg5 arg6 harg6 arg7 harg7 arg8 harg8 arg9 harg9 h2 X1 X2 X3 X4 X5 X9)⟩ :: ⟨Rect.unit ![2, 0, 0] S1x720x128.size b2, k0_pay182 (runB.sl.v813_r0 c i arg1 harg1 arg2 harg2 arg3 harg3 arg4 harg4 arg5 harg5 arg6 harg6 arg7 harg7 arg8 harg8 arg9 harg9 h2 X1 X2 X3 X4 X5 X9)⟩ ::
      ⟨Rect.unit ![1, 0, 0] S1x720x128.size b1, k0_pay181 (runB.sl.v812_r0 c i arg1 harg1 arg2 harg2 arg3 harg3 arg4 harg4 arg5 harg5 arg6 harg6 arg7 harg7 arg8 harg8 arg9 harg9 h2 X1 X2 X3 X4 X5 X9)⟩ :: ⟨Rect.unit ![0, 0, 0] S1x720x128.size b0, k0_pay180 (runB.sl.v812_r0 c i arg1 harg1 arg2 harg2 arg3 harg3 arg4 harg4 arg5 harg5 arg6 harg6 arg7 harg7 arg8 harg8 arg9 harg9 h2 X1 X2 X3 X4 X5 X9)⟩ :: L))
      = prodF (M := 720) (K := 20480) (G := 160) 80 (rd arg1 X1) (rd arg2 X2) (zcF (G := 160) (rd arg3 X3)) (scF (G := 160) (N := 1024) (rd arg4 X4)) := by
  have e1 := v812_B c i arg1 harg1 arg2 harg2 arg3 harg3 arg4 harg4 arg5 harg5 arg6 harg6 arg7 harg7 arg8 harg8 arg9 harg9 h2 X1 X2 X3 X4 X5 X9
  have e2 := v813_B c i arg1 harg1 arg2 harg2 arg3 harg3 arg4 harg4 arg5 harg5 arg6 harg6 arg7 harg7 arg8 harg8 arg9 harg9 h2 X1 X2 X3 X4 X5 X9
  have e3 := v943_B c i arg1 harg1 arg2 harg2 arg3 harg3 arg4 harg4 arg5 harg5 arg6 harg6 arg7 harg7 arg8 harg8 arg9 harg9 h2 X1 X2 X3 X4 X5 X9
  have e4 := v944_B c i arg1 harg1 arg2 harg2 arg3 harg3 arg4 harg4 arg5 harg5 arg6 harg6 arg7 harg7 arg8 harg8 arg9 harg9 h2 X1 X2 X3 X4 X5 X9
  rw [zkept_B, skept_B] at e1 e2 e3 e4
  refine stack8 (R := 720) arg9.view _ _ L _ _ _ _ _ _ _ _ _ _ _ _ _ _ _ _ ?_ ?_ ?_ ?_ ?_ ?_ ?_ ?_
  · intro r l; exact (cast_on (extractStridedSlice S720x128 ![0, 0] (runB.sl.v812_r0 c i arg1 harg1 arg2 harg2 arg3 harg3 arg4 harg4 arg5 harg5 arg6 harg6 arg7 harg7 arg8 harg8 arg9 harg9 h2 X1 X2 X3 X4 X5 X9) slices_S720x256_o0_0_S720x128) shapeCasts_S720x128_S1x720x128 r l).trans ((half_at _ 0 (by decide) _ r l).trans ((congrFun e1 _).trans (prodF_at _ _ _ _ _ 0 r l 0 0 0 (by decide) (by decide) (by decide)).symm))
  · intro r l; exact (cast_on (extractStridedSlice S720x128 ![0, 128] (runB.sl.v812_r0 c i arg1 harg1 arg2 harg2 arg3 harg3 arg4 harg4 arg5 harg5 arg6 harg6 arg7 harg7 arg8 harg8 arg9 harg9 h2 X1 X2 X3 X4 X5 X9) slices_S720x256_o0_128_S720x128) shapeCasts_S720x128_S1x720x128 r l).trans ((half_at _ 128 (by decide) _ r l).trans ((congrFun e1 _).trans (prodF_at _ _ _ _ _ 1 r l 0 0 128 (by decide) (by decide) (by decide)).symm))
  · intro r l; exact (cast_on (extractStridedSlice S720x128 ![0, 0] (runB.sl.v813_r0 c i arg1 harg1 arg2 harg2 arg3 harg3 arg4 harg4 arg5 harg5 arg6 harg6 arg7 harg7 arg8 harg8 arg9 harg9 h2 X1 X2 X3 X4 X5 X9) slices_S720x256_o0_0_S720x128) shapeCasts_S720x128_S1x720x128 r l).trans ((half_at _ 0 (by decide) _ r l).trans ((congrFun e2 _).trans (prodF_at _ _ _ _ _ 2 r l 0 1 0 (by decide) (by decide) (by decide)).symm))
  · intro r l; exact (cast_on (extractStridedSlice S720x128 ![0, 128] (runB.sl.v813_r0 c i arg1 harg1 arg2 harg2 arg3 harg3 arg4 harg4 arg5 harg5 arg6 harg6 arg7 harg7 arg8 harg8 arg9 harg9 h2 X1 X2 X3 X4 X5 X9) slices_S720x256_o0_128_S720x128) shapeCasts_S720x128_S1x720x128 r l).trans ((half_at _ 128 (by decide) _ r l).trans ((congrFun e2 _).trans (prodF_at _ _ _ _ _ 3 r l 0 1 128 (by decide) (by decide) (by decide)).symm))
  · intro r l; exact (cast_on (extractStridedSlice S720x128 ![0, 0] (runB.sl.v943_r0 c i arg1 harg1 arg2 harg2 arg3 harg3 arg4 harg4 arg5 harg5 arg6 harg6 arg7 harg7 arg8 harg8 arg9 harg9 h2 X1 X2 X3 X4 X5 X9) slices_S720x256_o0_0_S720x128) shapeCasts_S720x128_S1x720x128 r l).trans ((half_at _ 0 (by decide) _ r l).trans ((congrFun e3 _).trans (prodF_at _ _ _ _ _ 4 r l 1 0 0 (by decide) (by decide) (by decide)).symm))
  · intro r l; exact (cast_on (extractStridedSlice S720x128 ![0, 128] (runB.sl.v943_r0 c i arg1 harg1 arg2 harg2 arg3 harg3 arg4 harg4 arg5 harg5 arg6 harg6 arg7 harg7 arg8 harg8 arg9 harg9 h2 X1 X2 X3 X4 X5 X9) slices_S720x256_o0_128_S720x128) shapeCasts_S720x128_S1x720x128 r l).trans ((half_at _ 128 (by decide) _ r l).trans ((congrFun e3 _).trans (prodF_at _ _ _ _ _ 5 r l 1 0 128 (by decide) (by decide) (by decide)).symm))
  · intro r l; exact (cast_on (extractStridedSlice S720x128 ![0, 0] (runB.sl.v944_r0 c i arg1 harg1 arg2 harg2 arg3 harg3 arg4 harg4 arg5 harg5 arg6 harg6 arg7 harg7 arg8 harg8 arg9 harg9 h2 X1 X2 X3 X4 X5 X9) slices_S720x256_o0_0_S720x128) shapeCasts_S720x128_S1x720x128 r l).trans ((half_at _ 0 (by decide) _ r l).trans ((congrFun e4 _).trans (prodF_at _ _ _ _ _ 6 r l 1 1 0 (by decide) (by decide) (by decide)).symm))
  · intro r l; exact (cast_on (extractStridedSlice S720x128 ![0, 128] (runB.sl.v944_r0 c i arg1 harg1 arg2 harg2 arg3 harg3 arg4 harg4 arg5 harg5 arg6 harg6 arg7 harg7 arg8 harg8 arg9 harg9 h2 X1 X2 X3 X4 X5 X9) slices_S720x256_o0_128_S720x128) shapeCasts_S720x128_S1x720x128 r l).trans ((half_at _ 128 (by decide) _ r l).trans ((congrFun e4 _).trans (prodF_at _ _ _ _ _ 7 r l 1 1 128 (by decide) (by decide) (by decide)).symm))

end Cert.Proof.PI

end
-- ==== Proof.PI.RunC.lean ====
/-
  The body of the projection kernel run by cases of the grid point.
-/
module

public import proofs.«01_k».proof.Proof.PI.Trips

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The last grid point. -/
@[irreducible] def runC (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : ¬ cond1 i = 1#1) (h2 : ¬ k0_cond2 i = 1#1) (k0_h3 : k0_cond3 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) :
    Σ' (L6 : List (View.Piece (Elt F) S720x1024 .bf16)), Σ' (L7 : List (View.Piece (Elt F) S8x160x128 .f32)), { L8 : List (View.Piece (Elt F) S8x160x128 .f32) // ∀ (E : Set ℕ) (f6 : BufTy.Contents (Elt F) arg6.view.ty),
      Res (F := F) c arg1 arg2 arg3 arg4 arg5 arg6 arg7 arg8 arg9 X1 X2 X3 X4 X5 f6 X7 X8 X9
      ⊢ wp frame (wpE (defs₀ (F := F)) Variants.none (c : Thread nD τ) none) E (cc0_down_proj (F := F) i arg1 harg1 arg2 harg2 arg3 harg3 arg4 harg4 arg5 harg5 arg6 harg6 arg7 harg7 arg8 harg8 arg9 harg9)
          (fun _ => Res (F := F) c arg1 arg2 arg3 arg4 arg5 arg6 arg7 arg8 arg9 X1 X2 X3 X4 X5 (arg6.view.writes (Elt F) f6 L6) (arg7.view.writes (Elt F) arg7.view.junk L7) (arg8.view.writes (Elt F) arg8.view.junk L8) X9) } := by
  refine ⟨?_, ?_, ?_, fun E f6 => ?run⟩
  case run =>
    simp only [cc0_down_proj_eq_skeleton]; unfold cc0_down_proj_skel
    iintro ⟨H1, H2, H3, H4, H5, H6, H7, H8, H9⟩
    sl_exec (disch := mxu_pushok_peel)
    sl_step
    sl_close

end Cert.Proof.PI

end
-- ==== Proof.PI.Body.lean ====
/-
  What the kernel's body leaves in its buffers at a grid point: at the first one, at those in between, at the last.
-/
module

public import proofs.«01_k».proof.Proof.PI.Out
public import proofs.«01_k».proof.Proof.PI.KeptA
public import proofs.«01_k».proof.Proof.PI.KeptB
public import proofs.«01_k».proof.Proof.PI.RunC

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

/-- The products before the first block: none. -/
abbrev none9 : S8x720x128.Idx → F .f32 := fun _ => Scalar.ofBits .f32 0x00000000#32

/-- The products of one block, field by field. -/
abbrev prod9 (x1 : Vec F S720x20480 .bf16) (x2 : Vec F S20480x128 .i32) (x3 : Vec F S160x128 .i32) (x4 : Vec F S160x1024 .i16) : S8x720x128.Idx → F .f32 :=
  prodF (M := 720) (K := 20480) (G := 160) 80 x1 x2 (zcF (G := 160) x3) (scF (G := 160) (N := 1024) x4)

/-- The output block: the residual's plus the products `y`. -/
abbrev out9 (y : S8x720x128.Idx → F .f32) (x5 : Vec F S720x1024 .bf16) : S720x1024.Idx → F .bf16 := outF (M := 720) (N := 1024) y x5

set_option maxHeartbeats 400000 in
/-- Case A: the output block. -/
theorem out_A (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : cond1 i = 1#1) (h2 : k0_cond2 i = 1#1) (h3 : ¬ k0_cond3 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) (f6 : BufTy.Contents (Elt F) arg6.view.ty) :
    rd arg6 (arg6.view.writes (Elt F) f6 (runA (F := F) c i arg1 harg1 arg2 harg2 arg3 harg3 arg4 harg4 arg5 harg5 arg6 harg6 arg7 harg7 arg8 harg8 arg9 harg9 h1 h2 h3 X1 X2 X3 X4 X5 X7 X8 X9).1) = out9 none9 (rd arg5 X5) := by
  unfold runA
  refine ((st1_out c i arg1 harg1 arg2 harg2 arg3 harg3 arg4 harg4 arg5 harg5 arg6 harg6 arg7 harg7 arg8 harg8 arg9 harg9 h2 _ _ _ _ _ _ X1 X2 X5 _ _ _ _ k0_t1_loop.trips le_rfl).out (by decide +kernel) arg6.view f6).trans ?_
  rw [zero_A]

set_option maxHeartbeats 400000 in
/-- Case A: the products kept for the next point. -/
theorem prod_A (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : cond1 i = 1#1) (h2 : k0_cond2 i = 1#1) (h3 : ¬ k0_cond3 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) :
    rd arg9 (arg9.view.writes (Elt F) (arg9.view.junk) (runA (F := F) c i arg1 harg1 arg2 harg2 arg3 harg3 arg4 harg4 arg5 harg5 arg6 harg6 arg7 harg7 arg8 harg8 arg9 harg9 h1 h2 h3 X1 X2 X3 X4 X5 X7 X8 X9).2.2.2.1) = prod9 (rd arg1 X1) (rd arg2 X2) (rd arg3 X3) (rd arg4 X4) := by
  unfold runA
  exact ykept_A c i arg1 harg1 arg2 harg2 arg3 harg3 arg4 harg4 arg5 harg5 arg6 harg6 arg7 harg7 arg8 harg8 arg9 harg9 h2 X1 X2 X3 X4 X5  _ _ _ _ _ _ _ _ _ _

set_option maxHeartbeats 400000 in
/-- Case A: the body's run. -/
theorem sound_A (c : Dev nD) (E : Set ℕ) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : cond1 i = 1#1) (h2 : k0_cond2 i = 1#1) (h3 : ¬ k0_cond3 i = 1#1) (x1 : Vec F S720x20480 .bf16) (x2 : Vec F S20480x128 .i32) (x3 : Vec F S160x128 .i32) (x4 : Vec F S160x1024 .i16) (x5 : Vec F S720x1024 .bf16) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out9 none9 x5) ∗ (∃ d, owns (c : Thread nD τ) arg7 fullShare d) ∗ (∃ d, owns (c : Thread nD τ) arg8 fullShare d) ∗ owns (c : Thread nD τ) arg9 fullShare (prod9 x1 x2 x3 x4)) -∗ Q ⟨⟩))
      ⊢ wp frame (wpE (defs₀ (F := F)) Variants.none (c : Thread nD τ) none) E (cc0_down_proj (F := F) i arg1 harg1 arg2 harg2 arg3 harg3 arg4 harg4 arg5 harg5 arg6 harg6 arg7 harg7 arg8 harg8 arg9 harg9) Q := by
  unfold owns
  iintro ⟨⟨%X1, %e1, H1⟩, ⟨%X2, %e2, H2⟩, ⟨%X3, %e3, H3⟩, ⟨%X4, %e4, H4⟩, ⟨%X5, %e5, H5⟩, ⟨%d6, %f6, -, H6⟩, ⟨%d7, %X7, -, H7⟩, ⟨%d8, %X8, -, H8⟩, ⟨%d9, %X9, -, H9⟩, Hk⟩
  subst e1 e2 e3 e4 e5
  iapply wp_wand_r
  isplitl [H1 H2 H3 H4 H5 H6 H7 H8 H9]
  · iapply ((runA (F := F) c i arg1 harg1 arg2 harg2 arg3 harg3 arg4 harg4 arg5 harg5 arg6 harg6 arg7 harg7 arg8 harg8 arg9 harg9 h1 h2 h3 X1 X2 X3 X4 X5 X7 X8 X9).2.2.2.2 E f6)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨H1, H2, H3, H4, H5, H6, H7, H8, H9⟩
  iapply Hk
  isplitl [H1]; · iexists X1; isplitr; · ipureintro; rfl
                  iexact H1
  isplitl [H2]; · iexists X2; isplitr; · ipureintro; rfl
                  iexact H2
  isplitl [H3]; · iexists X3; isplitr; · ipureintro; rfl
                  iexact H3
  isplitl [H4]; · iexists X4; isplitr; · ipureintro; rfl
                  iexact H4
  isplitl [H5]; · iexists X5; isplitr; · ipureintro; rfl
                  iexact H5
  isplitl [H6]
  · iexists _; isplitr
    swap; · iexact H6
    ipureintro
    exact out_A c i arg1 harg1 arg2 harg2 arg3 harg3 arg4 harg4 arg5 harg5 arg6 harg6 arg7 harg7 arg8 harg8 arg9 harg9 h1 h2 h3 X1 X2 X3 X4 X5 X7 X8 X9 f6
  isplitl [H7]; · iexists _; iexists _; isplitr
                  swap; · iexact H7
                  ipureintro; rfl
  isplitl [H8]; · iexists _; iexists _; isplitr
                  swap; · iexact H8
                  ipureintro; rfl
  iexists _; isplitr
  swap; · iexact H9
  ipureintro
  exact prod_A c i arg1 harg1 arg2 harg2 arg3 harg3 arg4 harg4 arg5 harg5 arg6 harg6 arg7 harg7 arg8 harg8 arg9 harg9 h1 h2 h3 X1 X2 X3 X4 X5 X7 X8 X9

set_option maxHeartbeats 400000 in
/-- Case B: the output block. -/
theorem out_B (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : ¬ cond1 i = 1#1) (h2 : k0_cond2 i = 1#1) (h3 : ¬ k0_cond3 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) (f6 : BufTy.Contents (Elt F) arg6.view.ty) :
    rd arg6 (arg6.view.writes (Elt F) f6 (runB (F := F) c i arg1 harg1 arg2 harg2 arg3 harg3 arg4 harg4 arg5 harg5 arg6 harg6 arg7 harg7 arg8 harg8 arg9 harg9 h1 h2 h3 X1 X2 X3 X4 X5 X7 X8 X9).1) = out9 (rd arg9 X9) (rd arg5 X5) := by
  unfold runB
  exact (st1_out c i arg1 harg1 arg2 harg2 arg3 harg3 arg4 harg4 arg5 harg5 arg6 harg6 arg7 harg7 arg8 harg8 arg9 harg9 h2 _ _ _ _ _ _ X1 X2 X5 _ _ X9 _ k0_t1_loop.trips le_rfl).out (by decide +kernel) arg6.view f6

set_option maxHeartbeats 400000 in
/-- Case B: the products kept for the next point. -/
theorem prod_B (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : ¬ cond1 i = 1#1) (h2 : k0_cond2 i = 1#1) (h3 : ¬ k0_cond3 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) :
    rd arg9 (arg9.view.writes (Elt F) (X9) (runB (F := F) c i arg1 harg1 arg2 harg2 arg3 harg3 arg4 harg4 arg5 harg5 arg6 harg6 arg7 harg7 arg8 harg8 arg9 harg9 h1 h2 h3 X1 X2 X3 X4 X5 X7 X8 X9).2.2.2.1) = prod9 (rd arg1 X1) (rd arg2 X2) (rd arg3 X3) (rd arg4 X4) := by
  unfold runB
  exact ykept_B c i arg1 harg1 arg2 harg2 arg3 harg3 arg4 harg4 arg5 harg5 arg6 harg6 arg7 harg7 arg8 harg8 arg9 harg9 h2 X1 X2 X3 X4 X5 X9 _ _ _ _ _ _ _ _ _ _

set_option maxHeartbeats 400000 in
/-- Case B: the body's run. -/
theorem sound_B (c : Dev nD) (E : Set ℕ) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : ¬ cond1 i = 1#1) (h2 : k0_cond2 i = 1#1) (h3 : ¬ k0_cond3 i = 1#1) (x1 : Vec F S720x20480 .bf16) (x2 : Vec F S20480x128 .i32) (x3 : Vec F S160x128 .i32) (x4 : Vec F S160x1024 .i16) (x5 : Vec F S720x1024 .bf16) (y : S8x720x128.Idx → F .f32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare y ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out9 y x5) ∗ (∃ d, owns (c : Thread nD τ) arg7 fullShare d) ∗ (∃ d, owns (c : Thread nD τ) arg8 fullShare d) ∗ owns (c : Thread nD τ) arg9 fullShare (prod9 x1 x2 x3 x4)) -∗ Q ⟨⟩))
      ⊢ wp frame (wpE (defs₀ (F := F)) Variants.none (c : Thread nD τ) none) E (cc0_down_proj (F := F) i arg1 harg1 arg2 harg2 arg3 harg3 arg4 harg4 arg5 harg5 arg6 harg6 arg7 harg7 arg8 harg8 arg9 harg9) Q := by
  unfold owns
  iintro ⟨⟨%X1, %e1, H1⟩, ⟨%X2, %e2, H2⟩, ⟨%X3, %e3, H3⟩, ⟨%X4, %e4, H4⟩, ⟨%X5, %e5, H5⟩, ⟨%d6, %f6, -, H6⟩, ⟨%d7, %X7, -, H7⟩, ⟨%d8, %X8, -, H8⟩, ⟨%X9, %e9, H9⟩, Hk⟩
  subst e1 e2 e3 e4 e5 e9
  iapply wp_wand_r
  isplitl [H1 H2 H3 H4 H5 H6 H7 H8 H9]
  · iapply ((runB (F := F) c i arg1 harg1 arg2 harg2 arg3 harg3 arg4 harg4 arg5 harg5 arg6 harg6 arg7 harg7 arg8 harg8 arg9 harg9 h1 h2 h3 X1 X2 X3 X4 X5 X7 X8 X9).2.2.2.2 E f6)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨H1, H2, H3, H4, H5, H6, H7, H8, H9⟩
  iapply Hk
  isplitl [H1]; · iexists X1; isplitr; · ipureintro; rfl
                  iexact H1
  isplitl [H2]; · iexists X2; isplitr; · ipureintro; rfl
                  iexact H2
  isplitl [H3]; · iexists X3; isplitr; · ipureintro; rfl
                  iexact H3
  isplitl [H4]; · iexists X4; isplitr; · ipureintro; rfl
                  iexact H4
  isplitl [H5]; · iexists X5; isplitr; · ipureintro; rfl
                  iexact H5
  isplitl [H6]
  · iexists _; isplitr
    swap; · iexact H6
    ipureintro
    exact out_B c i arg1 harg1 arg2 harg2 arg3 harg3 arg4 harg4 arg5 harg5 arg6 harg6 arg7 harg7 arg8 harg8 arg9 harg9 h1 h2 h3 X1 X2 X3 X4 X5 X7 X8 X9 f6
  isplitl [H7]; · iexists _; iexists _; isplitr
                  swap; · iexact H7
                  ipureintro; rfl
  isplitl [H8]; · iexists _; iexists _; isplitr
                  swap; · iexact H8
                  ipureintro; rfl
  iexists _; isplitr
  swap; · iexact H9
  ipureintro
  exact prod_B c i arg1 harg1 arg2 harg2 arg3 harg3 arg4 harg4 arg5 harg5 arg6 harg6 arg7 harg7 arg8 harg8 arg9 harg9 h1 h2 h3 X1 X2 X3 X4 X5 X7 X8 X9

set_option maxHeartbeats 400000 in
/-- Case C: the output block. -/
theorem out_C (c : Dev nD) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : ¬ cond1 i = 1#1) (h2 : ¬ k0_cond2 i = 1#1) (h3 : k0_cond3 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) (f6 : BufTy.Contents (Elt F) arg6.view.ty) :
    rd arg6 (arg6.view.writes (Elt F) f6 (runC (F := F) c i arg1 harg1 arg2 harg2 arg3 harg3 arg4 harg4 arg5 harg5 arg6 harg6 arg7 harg7 arg8 harg8 arg9 harg9 h1 h2 h3 X1 X2 X3 X4 X5 X7 X8 X9).1) = out9 (rd arg9 X9) (rd arg5 X5) := by
  unfold runC
  exact (st3_out c i arg1 harg1 arg2 harg2 arg3 harg3 arg4 harg4 arg5 harg5 arg6 harg6 arg7 harg7 arg8 harg8 arg9 harg9 h3 X5 X9 _ k0_t3_loop.trips le_rfl).out (by decide +kernel) arg6.view f6

set_option maxHeartbeats 400000 in
/-- Case C: the body's run. -/
theorem sound_C (c : Dev nD) (E : Set ℕ) (i : grid0.Coords) (arg1 : Memref sig .tc .vmem S720x20480 .bf16) (harg1 : arg1.IsWhole) (arg2 : Memref sig .tc .vmem S20480x128 .i32) (harg2 : arg2.IsWhole) (arg3 : Memref sig .tc .vmem S160x128 .i32) (harg3 : arg3.IsWhole) (arg4 : Memref sig .tc .vmem S160x1024 .i16) (harg4 : arg4.IsWhole) (arg5 : Memref sig .tc .vmem S720x1024 .bf16) (harg5 : arg5.IsWhole) (arg6 : Memref sig .tc .vmem S720x1024 .bf16) (harg6 : arg6.IsWhole) (arg7 : Memref sig .tc .vmem S8x160x128 .f32) (harg7 : arg7.IsWhole) (arg8 : Memref sig .tc .vmem S8x160x128 .f32) (harg8 : arg8.IsWhole) (arg9 : Memref sig .tc .vmem S8x720x128 .f32) (harg9 : arg9.IsWhole) (h1 : ¬ cond1 i = 1#1) (h2 : ¬ k0_cond2 i = 1#1) (h3 : k0_cond3 i = 1#1) (x1 : Vec F S720x20480 .bf16) (x2 : Vec F S20480x128 .i32) (x3 : Vec F S160x128 .i32) (x4 : Vec F S160x1024 .i16) (x5 : Vec F S720x1024 .bf16) (y : S8x720x128.Idx → F .f32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare y ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out9 y x5) ∗ (∃ d, owns (c : Thread nD τ) arg7 fullShare d) ∗ (∃ d, owns (c : Thread nD τ) arg8 fullShare d) ∗ owns (c : Thread nD τ) arg9 fullShare y) -∗ Q ⟨⟩))
      ⊢ wp frame (wpE (defs₀ (F := F)) Variants.none (c : Thread nD τ) none) E (cc0_down_proj (F := F) i arg1 harg1 arg2 harg2 arg3 harg3 arg4 harg4 arg5 harg5 arg6 harg6 arg7 harg7 arg8 harg8 arg9 harg9) Q := by
  unfold owns
  iintro ⟨⟨%X1, %e1, H1⟩, ⟨%X2, %e2, H2⟩, ⟨%X3, %e3, H3⟩, ⟨%X4, %e4, H4⟩, ⟨%X5, %e5, H5⟩, ⟨%d6, %f6, -, H6⟩, ⟨%d7, %X7, -, H7⟩, ⟨%d8, %X8, -, H8⟩, ⟨%X9, %e9, H9⟩, Hk⟩
  subst e1 e2 e3 e4 e5 e9
  iapply wp_wand_r
  isplitl [H1 H2 H3 H4 H5 H6 H7 H8 H9]
  · iapply ((runC (F := F) c i arg1 harg1 arg2 harg2 arg3 harg3 arg4 harg4 arg5 harg5 arg6 harg6 arg7 harg7 arg8 harg8 arg9 harg9 h1 h2 h3 X1 X2 X3 X4 X5 X7 X8 X9).2.2.2 E f6)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨H1, H2, H3, H4, H5, H6, H7, H8, H9⟩
  iapply Hk
  isplitl [H1]; · iexists X1; isplitr; · ipureintro; rfl
                  iexact H1
  isplitl [H2]; · iexists X2; isplitr; · ipureintro; rfl
                  iexact H2
  isplitl [H3]; · iexists X3; isplitr; · ipureintro; rfl
                  iexact H3
  isplitl [H4]; · iexists X4; isplitr; · ipureintro; rfl
                  iexact H4
  isplitl [H5]; · iexists X5; isplitr; · ipureintro; rfl
                  iexact H5
  isplitl [H6]
  · iexists _; isplitr
    swap; · iexact H6
    ipureintro
    exact out_C c i arg1 harg1 arg2 harg2 arg3 harg3 arg4 harg4 arg5 harg5 arg6 harg6 arg7 harg7 arg8 harg8 arg9 harg9 h1 h2 h3 X1 X2 X3 X4 X5 X7 X8 X9 f6
  isplitl [H7]; · iexists _; iexists _; isplitr
                  swap; · iexact H7
                  ipureintro; rfl
  isplitl [H8]; · iexists _; iexists _; isplitr
                  swap; · iexact H8
                  ipureintro; rfl
  iexists _; isplitr
  swap; · iexact H9
  ipureintro
  rfl
end Cert.Proof.PI

end
-- ==== Proof.PI.Run.lean ====
/-
  The run of the kernel: what every buffer holds at every grid point, and that the arguments end unchanged.
-/
module

public import proofs.«01_k».proof.Proof.PI.Body
public import proofs.«01_k».proof.Proof.Gen.DownIdeal.Frame
public import Idealize.ShloMosaic.Lib.Claim

@[expose] public section

set_option maxRecDepth 16384

noncomputable section

namespace Cert.Proof.PI

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

variable (m : (ℓ : Loc nD τ sig) → Buf (Elt F) ℓ) (ρ : Dev nD → PrngReg)

/-! ## What the buffers hold -/

/-- The products a point before the last one leaves for the next. -/
def prodAt (c : Dev nD) (t : Fin cfg0.N) : S8x720x128.Idx → F .f32 := prod9 (iblk m c 0 t) (iblk m c 1 t) (iblk m c 2 t) (iblk m c 3 t)

/-- The products a point finds: none at the first, else those of the point before. -/
def prevAt (c : Dev nD) (t : Fin cfg0.N) : S8x720x128.Idx → F .f32 :=
  if t.val = 0 then none9 else prodAt m c ⟨t.val - 1, lt_of_le_of_lt (Nat.sub_le _ _) t.isLt⟩

/-- The output block a point leaves. -/
def outAt (c : Dev nD) (t : Fin cfg0.N) : S720x1024.Idx → F .bf16 := out9 (prevAt m c t) (iblk m c 4 t)

/-- What is carried from point to point: the two tables at anything, the products at what the point before left. -/
def track (c : Dev nD) (n : ℕ) : sProp 𝕄 :=
  iprop((∃ d, owns (c : Thread nD τ) (Memref.whole cc0_scratch0) fullShare d) ∗ (∃ d, owns (c : Thread nD τ) (Memref.whole cc0_scratch1) fullShare d)
    ∗ (∃ y : S8x720x128.Idx → F .f32, ⌜∀ s : Fin cfg0.N, s.val + 1 = n → s.val < 7 → y = prodAt m c s⌝ ∗ owns (c : Thread nD τ) (Memref.whole cc0_scratch2) fullShare y)
    ∗ (∃ r, prngReg c r))

/-- The proof data: inputs stay, the output block is `outAt`, the invariant is `track`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := track m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

/-! ## The three kinds of point -/

theorem c1_iff : ∀ t : Fin grid0.N, cond1 (grid0.coords t) = 1#1 ↔ t.val = 0 := by decide +kernel
theorem c2_iff : ∀ t : Fin grid0.N, k0_cond2 (grid0.coords t) = 1#1 ↔ t.val < 7 := by decide +kernel
theorem c3_iff : ∀ t : Fin grid0.N, k0_cond3 (grid0.coords t) = 1#1 ↔ t.val = 7 := by decide +kernel

theorem prevAt_zero (c : Dev nD) (t : Fin cfg0.N) (h : t.val = 0) : prevAt m c t = none9 := if_pos h

theorem prevAt_of (c : Dev nD) (t : Fin cfg0.N) (h : t.val ≠ 0) (y : S8x720x128.Idx → F .f32)
    (hy : ∀ s : Fin cfg0.N, s.val + 1 = t.val → s.val < 7 → y = prodAt m c s) : prevAt m c t = y := by
  have ht : t.val < 8 := lt_of_lt_of_eq t.isLt N_0
  refine (if_neg h).trans (hy _ ?_ ?_).symm
  · show t.val - 1 + 1 = t.val; omega
  · show t.val - 1 < 7; omega

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = track m c (t.val + 1) from rfl, show (dats m 0 c).Φ t.castSucc = track m c t.val from rfl,
    show (dats m 0 c).owesAt () t.succ = (dats m 0 c).owesAt () t.castSucc from rfl,
    after0_0, after0_1, after0_2, after0_3, after0_4, after0_5]
  unfold track outAt
  iintro ⟨⟨H7, H8, ⟨%y, %hy, H9⟩, HR⟩, Ho, ⟨%d0, H1⟩, ⟨%d1, H2⟩, ⟨%d2, H3⟩, ⟨%d3, H4⟩, ⟨%d4, H5⟩, ⟨%d5, H6⟩⟩
  by_cases h1 : t.val = 0
  · have h2 : t.val < 7 := by omega
    have h3 : ¬ t.val = 7 := by omega
    rw [prevAt_zero m c t h1]
    iapply (sound_A c Set.univ (grid0.coords t) _ _ _ _ _ _ _ _ _ _ _ _ _ _ _ _ _ _ ((c1_iff t).2 h1) ((c2_iff t).2 h2) (fun h => h3 ((c3_iff t).1 h)) (iblk m c 0 t) (iblk m c 1 t) (iblk m c 2 t) (iblk m c 3 t) (iblk m c 4 t) _)
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexists _; iexact H9
    iintro ⟨H1, H2, H3, H4, H5, H6, H7, H8, H9⟩
    isplitl [H7 H8 H9 HR]
    · isplitl [H7]; · iexact H7
      isplitl [H8]; · iexact H8
      isplitl [H9]
      · iexists _
        isplitr
        swap; · iexact H9
        ipureintro
        intro s hs _; obtain rfl : s = t := Fin.ext (by omega); rfl
      iexact HR
    isplitl [Ho]; · iexact Ho
    isplitl [H1]; · iexact H1
    isplitl [H2]; · iexact H2
    isplitl [H3]; · iexact H3
    isplitl [H4]; · iexact H4
    isplitl [H5]; · iexact H5
    iexact H6
  by_cases h3 : t.val = 7
  · have h2 : ¬ t.val < 7 := by omega
    rw [prevAt_of m c t h1 y hy]
    iapply (sound_C c Set.univ (grid0.coords t) _ _ _ _ _ _ _ _ _ _ _ _ _ _ _ _ _ _ (fun h => h1 ((c1_iff t).1 h)) (fun h => h2 ((c2_iff t).1 h)) ((c3_iff t).2 h3) (iblk m c 0 t) (iblk m c 1 t) (iblk m c 2 t) (iblk m c 3 t) (iblk m c 4 t) y _)
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    iintro ⟨H1, H2, H3, H4, H5, H6, H7, H8, H9⟩
    isplitl [H7 H8 H9 HR]
    · isplitl [H7]; · iexact H7
      isplitl [H8]; · iexact H8
      isplitl [H9]
      · iexists _
        isplitr
        swap; · iexact H9
        ipureintro
        intro s hs hs7; exact absurd hs (by omega)
      iexact HR
    isplitl [Ho]; · iexact Ho
    isplitl [H1]; · iexact H1
    isplitl [H2]; · iexact H2
    isplitl [H3]; · iexact H3
    isplitl [H4]; · iexact H4
    isplitl [H5]; · iexact H5
    iexact H6
  · have h2 : t.val < 7 := by have ht : t.val < 8 := lt_of_lt_of_eq t.isLt N_0; omega
    rw [prevAt_of m c t h1 y hy]
    iapply (sound_B c Set.univ (grid0.coords t) _ _ _ _ _ _ _ _ _ _ _ _ _ _ _ _ _ _ (fun h => h1 ((c1_iff t).1 h)) ((c2_iff t).2 h2) (fun h => h3 ((c3_iff t).1 h)) (iblk m c 0 t) (iblk m c 1 t) (iblk m c 2 t) (iblk m c 3 t) (iblk m c 4 t) y _)
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    iintro ⟨H1, H2, H3, H4, H5, H6, H7, H8, H9⟩
    isplitl [H7 H8 H9 HR]
    · isplitl [H7]; · iexact H7
      isplitl [H8]; · iexact H8
      isplitl [H9]
      · iexists _
        isplitr
        swap; · iexact H9
        ipureintro
        intro s hs _; obtain rfl : s = t := Fin.ext (by omega); rfl
      iexact HR
    isplitl [Ho]; · iexact Ho
    isplitl [H1]; · iexact H1
    isplitl [H2]; · iexact H2
    isplitl [H3]; · iexact H3
    isplitl [H4]; · iexact H4
    isplitl [H5]; · iexact H5
    iexact H6

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The output block is stored at every point. -/
theorem idle5 : ∀ t : Fin cfg0.N, cfg0.idle 5 (cfg0.grid.coords t) = false := by decide +kernel

/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  have h := idle5 t
  revert h
  generalize cfg0.idle 5 (cfg0.grid.coords t) = b
  intro h
  subst h
  exact .rfl

/-! ## The run and the frame -/

theorem scratch_in (c : Dev nD) : (Pipeline.ΦA (U := UR sig nD τ) (Val := Elt F) spec0 c : sProp 𝕄) ⊢ (dats m 0 c).Φ 0 := by
  rw [show (dats m 0 c).Φ 0 = track m c 0 from rfl]
  unfold Pipeline.ΦA track
  rw [scopedRest0_eq]
  simp only [owns_whole]
  iintro ⟨⟨⟨%f0, H0⟩, ⟨%f1, H1⟩, ⟨%f2, H2⟩⟩, HR⟩
  isplitl [H0]; · iexists f0; iexact H0
  isplitl [H1]; · iexists f1; iexact H1
  isplitl [H2]
  · iexists f2
    isplitr
    · ipureintro; intro s hs; exact absurd hs (Nat.succ_ne_zero _)
    iexact H2
  iexact HR

theorem scratch_out (c : Dev nD) : (dats m 0 c).Φ (Fin.last cfg0.N) ⊢ (Pipeline.ΦA (U := UR sig nD τ) (Val := Elt F) spec0 c : sProp 𝕄) := by
  rw [show (dats m 0 c).Φ (Fin.last cfg0.N) = track m c cfg0.N from rfl]
  unfold Pipeline.ΦA track
  rw [scopedRest0_eq]
  simp only [owns_whole]
  iintro ⟨⟨%f0, H0⟩, ⟨%f1, H1⟩, ⟨%f2, -, H2⟩, HR⟩
  isplitl [H0 H1 H2]
  · isplitl [H0]; · iexists f0; iexact H0
    isplitl [H1]; · iexists f1; iexact H1
    iexists f2; iexact H2
  iexact HR

set_option backward.isDefEq.respectTransparency.types false in
/-- The run, every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := scratch_in m) (hout := scratch_out m)

/-- The run. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.PI

end
-- ==== Proof.Nib.lean ====
/-
  The words of the quantized weights over the extended reals: a biased nibble is 2²³ plus the nibble at its place, and
  the two ways a binary16 word is read (by its exponent and significand, and through a binary32 word) give one number.
-/
module

public import proofs.«01_k».proof.Proof.Spec

@[expose] public section

set_option maxRecDepth 4000

noncomputable section

namespace Cert.Proof.Nib

open Idealize.ShloMosaic Cert.Proof.Tile Cert.Proof.Spec

/-! ## Binary32 words by their fields -/

/-- A positive normal binary32 word. -/
theorem ieee_normal (b : BitVec 32) (E T : ℕ) (hs : b.extractLsb' 31 1 = 0#1) (he : (b.extractLsb' 23 8).toNat = E) (hf : (b.extractLsb' 0 23).toNat = T)
    (h0 : E ≠ 0) (h1 : E ≠ 255) : Ideal.ofBits .f32 b = (((8388608 + T : ℕ) : ℝ) * (2 : ℝ) ^ ((E : ℤ) - 150) : ℝ) := by
  have hs' : (b.extractLsb' (8 + 23) 1 == 1#1) = false := by rw [show 8 + 23 = 31 from rfl, hs]; decide
  unfold Ideal.ofBits Ideal.ieee
  simp only [hs', he, hf]
  rw [if_neg (by omega), if_neg h0]
  congr 1
  rw [show (E : ℤ) - (2 ^ (8 - 1) - 1) - ((23 : ℕ) : ℤ) = (E : ℤ) - 150 by norm_num; ring]
  norm_num

/-- A positive binary32 word of the largest exponent: an infinity, or no number. -/
theorem ieee_special (b : BitVec 32) (T : ℕ) (hs : b.extractLsb' 31 1 = 0#1) (he : (b.extractLsb' 23 8).toNat = 255) (hf : (b.extractLsb' 0 23).toNat = T) :
    Ideal.ofBits .f32 b = if T = 0 then ⊤ else ⊥ := by
  have hs' : (b.extractLsb' (8 + 23) 1 == 1#1) = false := by rw [show 8 + 23 = 31 from rfl, hs]; decide
  unfold Ideal.ofBits Ideal.ieee
  simp only [hs', he, hf]
  rfl

/-! ## A nibble -/

/-- Nibble `f` of a word. -/
def nib (w : BitVec 32) (f : ℕ) : BitVec 32 := (w >>> (4 * f)) &&& 15#32

theorem nib_lt (w : BitVec 32) (f : ℕ) : (nib w f).toNat < 16 := by
  unfold nib
  rw [BitVec.toNat_and]
  exact lt_of_le_of_lt Nat.and_le_right (by decide)

theorem and_place (h : BitVec 32) (s : ℕ) : h &&& (15#32 <<< s) = ((h >>> s) &&& 15#32) <<< s := by
  apply BitVec.eq_of_getLsbD_eq
  intro i hi
  simp only [BitVec.getLsbD_and, BitVec.getLsbD_shiftLeft, BitVec.getLsbD_ushiftRight]
  by_cases hs : i < s
  · simp [hs]
  · rw [show s + (i - s) = i by omega]
    cases h.getLsbD i <;> simp

/-- A half word, biased and masked to nibble `t`. -/
theorem half_word (t : Fin 4) (h : BitVec 32) (hh : h &&& 65535#32 = h) :
    (h ||| 1258291200#32) &&& maskW t = 1258291200#32 ||| (((h >>> (4 * t.val)) &&& 15#32) <<< (4 * t.val)) := by
  have hm : maskW t &&& 65535#32 = 15#32 <<< (4 * t.val) ∧ 1258291200#32 &&& maskW t = 1258291200#32 := by revert t; decide
  have e : h &&& maskW t = h &&& (15#32 <<< (4 * t.val)) := by
    rw [← hm.1, BitVec.and_comm (maskW t), ← BitVec.and_assoc, hh]
  have d : ∀ a b c : BitVec 32, (a ||| b) &&& c = (b &&& c) ||| (a &&& c) := by
    intro a b c
    apply BitVec.eq_of_getLsbD_eq
    intro i _
    simp only [BitVec.getLsbD_and, BitVec.getLsbD_or]
    cases a.getLsbD i <;> cases b.getLsbD i <;> cases c.getLsbD i <;> rfl
  rw [d, hm.2, e, and_place]

/-- The word of a biased field is 2²³'s with the nibble at its place. -/
theorem field_word (p : Fin 2) (t : Fin 4) (w : BitVec 32) :
    fieldW (F := Ideal) p t w = Ideal.ofBits .f32 (1258291200#32 ||| (nib w (4 * p.val + t.val) <<< (4 * t.val))) := by
  match p with
  | 0 =>
    refine congrArg (Ideal.ofBits .f32) ((half_word t (w &&& 65535#32) ?_).trans ?_)
    · rw [BitVec.and_assoc]; rfl
    · unfold nib
      have h : (65535#32 >>> (4 * t.val)) &&& 15#32 = 15#32 := by revert t; decide
      rw [BitVec.ushiftRight_and_distrib, BitVec.and_assoc, h]
      simp
  | 1 =>
    have h16 : IntOp.shrui .vector w 16#32 = w >>> 16 := rfl
    refine congrArg (Ideal.ofBits .f32) ((half_word t (IntOp.shrui .vector w 16#32) ?_).trans ?_)
    · rw [h16]
      apply BitVec.eq_of_toNat_eq
      have := w.isLt
      rw [BitVec.toNat_and, BitVec.toNat_ushiftRight, Nat.shiftRight_eq_div_pow]
      refine (Nat.and_two_pow_sub_one_eq_mod _ 16).trans (Nat.mod_eq_of_lt ?_)
      omega
    · unfold nib
      rw [h16, ← BitVec.shiftRight_add, show 16 + 4 * t.val = 4 * (4 * (1 : Fin 2).val + t.val) by simp; omega]

theorem field_parts : ∀ n : Fin 16, ∀ t : Fin 4, let b := 1258291200#32 ||| (BitVec.ofNat 32 n.val <<< (4 * t.val))
    b.extractLsb' 31 1 = 0#1 ∧ (b.extractLsb' 23 8).toNat = 150 ∧ (b.extractLsb' 0 23).toNat = n.val * 16 ^ t.val := by decide +kernel

/-- A biased field: 2²³ plus the nibble at its place. -/
theorem fieldW_eq (p : Fin 2) (t : Fin 4) (w : BitVec 32) :
    (fieldW (F := Ideal) p t w : EReal) = ((8388608 + (nib w (4 * p.val + t.val)).toNat * 16 ^ t.val : ℝ) : EReal) := by
  have hn := nib_lt w (4 * p.val + t.val)
  rw [field_word]
  generalize nib w (4 * p.val + t.val) = x at hn ⊢
  obtain ⟨h1, h2, h3⟩ := field_parts ⟨x.toNat, hn⟩ t
  simp only [BitVec.ofNat_toNat, BitVec.setWidth_eq] at h1 h2 h3
  refine (ieee_normal _ _ _ h1 h2 h3 (by decide) (by decide)).trans ?_
  congr 1
  push_cast
  norm_num

/-! ## The factor of a field's place -/

theorem unshift_eq (t : Fin 4) : (unshift (F := Ideal) t.val : EReal) = ((((16 : ℝ) ^ t.val)⁻¹ : ℝ) : EReal) := by
  fin_cases t
  · refine (ieee_normal 0x3F800000#32 127 0 (by decide) (by decide) (by decide) (by decide) (by decide)).trans ?_
    congr 1; norm_num
  · refine (ieee_normal 0x3D800000#32 123 0 (by decide) (by decide) (by decide) (by decide) (by decide)).trans ?_
    congr 1; norm_num
  · refine (ieee_normal 0x3B800000#32 119 0 (by decide) (by decide) (by decide) (by decide) (by decide)).trans ?_
    congr 1; norm_num
  · refine (ieee_normal 0x39800000#32 115 0 (by decide) (by decide) (by decide) (by decide) (by decide)).trans ?_
    congr 1; norm_num

/-- A weight: the field less its zero, times the scale and the factor of its place, is the nibbles' difference times the scale. -/
theorem weight_eq (p : Fin 2) (t : Fin 4) (w z : BitVec 32) (s : EReal) :
    (fieldW (F := Ideal) p t w - fieldW (F := Ideal) p t z : EReal) * (s * unshift (F := Ideal) t.val)
      = ((((nib w (4 * p.val + t.val) - nib z (4 * p.val + t.val)).toInt : ℤ) : ℝ) : EReal) * s := by
  have hw := nib_lt w (4 * p.val + t.val)
  have hz := nib_lt z (4 * p.val + t.val)
  rw [fieldW_eq, fieldW_eq, unshift_eq]
  generalize nib w (4 * p.val + t.val) = x at hw ⊢
  generalize nib z (4 * p.val + t.val) = y at hz ⊢
  have e : (x - y).toInt = (x.toNat : ℤ) - y.toNat := by
    rw [BitVec.toInt_sub, BitVec.toInt_eq_toNat_of_lt (by omega), BitVec.toInt_eq_toNat_of_lt (by omega), Int.bmod_def]
    omega
  rw [e, ← EReal.coe_sub, mul_comm s, ← mul_assoc, ← EReal.coe_mul]
  congr 2
  have : (16 : ℝ) ^ t.val ≠ 0 := pow_ne_zero _ (by norm_num)
  push_cast
  field_simp
  ring

end Cert.Proof.Nib

end
-- ==== Proof.Half.lean ====
/-
  The binary16 scales over the extended reals: the two ways a word is read (by its sign, exponent and significand, and
  through a binary32 word) give one number.
-/
module

public import proofs.«01_k».proof.Proof.Nib

@[expose] public section

set_option maxRecDepth 4000

noncomputable section

namespace Cert.Proof.Half

open Idealize.ShloMosaic Cert.Proof.Tile Cert.Proof.Spec Cert.Proof.Nib

/-! ## The binary16 scales -/

/-- The value of a binary16 word by its sign, exponent and significand. -/
def half (b : BitVec 16) : EReal :=
  let h := IntOp.andi (b.signExtend 32) 65535#32
  let e := IntOp.andi (IntOp.shrsi .host h 10#32) 31#32
  let m := IntOp.andi h 1023#32
  let mag : EReal := Scalar.select (IntOp.cmpi .eq e 0#32) (((m.toInt : ℝ) : EReal) * Ideal.ofBits .f32 0x33800000#32)
    (Scalar.select (IntOp.cmpi .eq e 31#32) (Scalar.select (IntOp.cmpi .eq m 0#32) (Ideal.ofBits .f32 0x7F800000#32) (Ideal.ofBits .f32 0x7FC00000#32))
      ((Ideal.ofBits .f32 0x44800000#32 + ((m.toInt : ℝ) : EReal)) * Ideal.pow (Ideal.ofBits .f32 0x40000000#32) (((e.toInt : ℝ) : EReal) - Ideal.ofBits .f32 0x41C80000#32)))
  Scalar.select (IntOp.cmpi .sge h 32768#32) (-mag) mag

theorem low16 (b : BitVec 16) : (b.signExtend 32 &&& 65535#32).toNat = b.toNat := by
  have e : b.signExtend 32 &&& 65535#32 = b.setWidth 32 := by
    apply BitVec.eq_of_getLsbD_eq
    intro i hi
    have hm : ∀ i : Fin 32, (65535#32).getLsbD i.val = decide (i.val < 16) := by decide
    rw [BitVec.getLsbD_and, hm ⟨i, hi⟩, BitVec.getLsbD_signExtend, BitVec.getLsbD_setWidth]
    by_cases h : i < 16
    · simp [h, hi]
    · simp [h, BitVec.getLsbD_of_ge b i (by omega)]
  rw [e, BitVec.toNat_setWidth]
  exact Nat.mod_eq_of_lt (by have := b.isLt; omega)

theorem and_low (x : BitVec 32) (k : ℕ) (hk : k < 32) : (x &&& BitVec.ofNat 32 (2 ^ k - 1)).toNat = x.toNat % 2 ^ k := by
  rw [BitVec.toNat_and, BitVec.toNat_ofNat, Nat.mod_eq_of_lt, Nat.and_two_pow_sub_one_eq_mod]
  have : 2 ^ k < 2 ^ 32 := Nat.pow_lt_pow_right (by norm_num) hk
  omega

variable (b : BitVec 16)

theorem em_eq : b.signExtend 32 &&& 32767#32 = BitVec.ofNat 32 (b.toNat % 32768) := by
  have h : 32767#32 = 65535#32 &&& 32767#32 := by decide
  rw [h, ← BitVec.and_assoc]
  apply BitVec.eq_of_toNat_eq
  refine (and_low _ 15 (by norm_num)).trans ?_
  rw [low16, BitVec.toNat_ofNat]
  omega

theorem h_eq : b.signExtend 32 &&& 65535#32 = BitVec.ofNat 32 b.toNat := by
  apply BitVec.eq_of_toNat_eq
  have := b.isLt
  rw [low16, BitVec.toNat_ofNat]
  omega

theorem sign_eq : IntOp.cmpi .ne (b.signExtend 32 &&& 32768#32) 0#32 = BitVec.ofBool (decide (32768 ≤ b.toNat)) := by
  have h : 32768#32 = 65535#32 &&& 32768#32 := by decide
  have hb := b.isLt
  rw [h, ← BitVec.and_assoc]
  generalize hx : b.signExtend 32 &&& 65535#32 = x
  have hn : x.toNat = b.toNat := by rw [← hx, low16]
  have hbit : x.getLsbD 15 = decide (32768 ≤ b.toNat) := by
    rw [← BitVec.testBit_toNat, hn, Nat.testBit_eq_decide_div_mod_eq]
    refine decide_eq_decide.mpr ?_
    omega
  have e : x &&& 32768#32 = if x.getLsbD 15 then 32768#32 else 0#32 := by
    apply BitVec.eq_of_getLsbD_eq
    intro i hi
    have hm : ∀ i : Fin 32, (32768#32).getLsbD i.val = decide (i.val = 15) := by decide
    rw [BitVec.getLsbD_and, hm ⟨i, hi⟩]
    by_cases h15 : i = 15
    · subst h15
      cases x.getLsbD 15 <;> rfl
    · rw [decide_eq_false h15, Bool.and_false]
      cases x.getLsbD 15
      · simp
      · exact ((hm ⟨i, hi⟩).trans (decide_eq_false h15)).symm
  rw [e, hbit]
  by_cases hc : 32768 ≤ b.toNat
  · rw [decide_eq_true hc]; rfl
  · rw [decide_eq_false hc]; rfl

theorem toInt_small (n : ℕ) (hn : n < 65536) : (BitVec.ofNat 32 n).toInt = n := by
  rw [BitVec.toInt_eq_toNat_of_lt (by rw [BitVec.toNat_ofNat]; omega), BitVec.toNat_ofNat]
  omega

theorem sle_small (a n : ℕ) (ha : a < 65536) (hn : n < 65536) : BitVec.sle (BitVec.ofNat 32 a) (BitVec.ofNat 32 n) = decide (a ≤ n) := by
  rw [BitVec.sle_eq_decide, toInt_small a ha, toInt_small n hn]
  simp

theorem slt_small (n a : ℕ) (ha : a < 65536) (hn : n < 65536) : BitVec.slt (BitVec.ofNat 32 n) (BitVec.ofNat 32 a) = decide (n < a) := by
  rw [BitVec.slt_eq_decide, toInt_small a ha, toInt_small n hn]
  simp

theorem exp_eq (n : ℕ) (hn : n < 65536) : IntOp.andi (IntOp.shrsi .host (BitVec.ofNat 32 n) 10#32) 31#32 = BitVec.ofNat 32 (n / 1024 % 32) := by
  have h10 : IntOp.shrsi .host (BitVec.ofNat 32 n) 10#32 = (BitVec.ofNat 32 n).sshiftRight 10 := rfl
  have hmsb : (BitVec.ofNat 32 n).msb = false := by
    rw [BitVec.msb_eq_false_iff_two_mul_lt, BitVec.toNat_ofNat]; omega
  rw [h10, BitVec.sshiftRight_eq_of_msb_false hmsb]
  apply BitVec.eq_of_toNat_eq
  refine (and_low _ 5 (by norm_num)).trans ?_
  rw [BitVec.toNat_ushiftRight, Nat.shiftRight_eq_div_pow, BitVec.toNat_ofNat, BitVec.toNat_ofNat]
  omega

theorem man_eq (n : ℕ) (hn : n < 65536) : IntOp.andi (BitVec.ofNat 32 n) 1023#32 = BitVec.ofNat 32 (n % 1024) := by
  apply BitVec.eq_of_toNat_eq
  refine (and_low _ 10 (by norm_num)).trans ?_
  rw [BitVec.toNat_ofNat, BitVec.toNat_ofNat]
  omega

theorem wide (n k : ℕ) (hn : n < 32768) (hk : k < 131072) : (IntOp.addi (IntOp.shli .vector (BitVec.ofNat 32 n) 13#32) (BitVec.ofNat 32 (k * 16384))).toNat = (n * 8192 + k * 16384) % 4294967296 := by
  have h13 : IntOp.shli .vector (BitVec.ofNat 32 n) 13#32 = BitVec.ofNat 32 n <<< 13 := rfl
  rw [h13]
  unfold IntOp.addi
  rw [BitVec.toNat_add, BitVec.toNat_shiftLeft, BitVec.toNat_ofNat, BitVec.toNat_ofNat, Nat.shiftLeft_eq]
  omega

theorem wide_parts (x : BitVec 32) (E T : ℕ) (hE : E < 256) (hT : T < 8388608) (h : x.toNat = E * 8388608 + T) :
    x.extractLsb' 31 1 = 0#1 ∧ (x.extractLsb' 23 8).toNat = E ∧ (x.extractLsb' 0 23).toNat = T := by
  refine ⟨BitVec.eq_of_toNat_eq ?_, ?_, ?_⟩
  · rw [BitVec.extractLsb'_toNat, h, Nat.shiftRight_eq_div_pow]; simp; omega
  · rw [BitVec.extractLsb'_toNat, h, Nat.shiftRight_eq_div_pow]; omega
  · rw [BitVec.extractLsb'_toNat, h, Nat.shiftRight_eq_div_pow]; omega

theorem two : Ideal.ofBits .f32 0x40000000#32 = ((2 : ℝ) : EReal) := by
  refine (ieee_normal _ 128 0 (by decide) (by decide) (by decide) (by decide) (by decide)).trans ?_
  congr 1; norm_num
theorem k1024 : Ideal.ofBits .f32 0x44800000#32 = ((1024 : ℝ) : EReal) := by
  refine (ieee_normal _ 137 0 (by decide) (by decide) (by decide) (by decide) (by decide)).trans ?_
  congr 1; norm_num
theorem k25 : Ideal.ofBits .f32 0x41C80000#32 = ((25 : ℝ) : EReal) := by
  refine (ieee_normal _ 131 4718592 (by decide) (by decide) (by decide) (by decide) (by decide)).trans ?_
  congr 1; norm_num

theorem sel_true {α : Type} {p : Prop} [Decidable p] (h : p) (x y : α) : Scalar.select (BitVec.ofBool (decide p)) x y = x := by
  rw [decide_eq_true h]; rfl
theorem sel_false {α : Type} {p : Prop} [Decidable p] (h : ¬p) (x y : α) : Scalar.select (BitVec.ofBool (decide p)) x y = y := by
  rw [decide_eq_false h]; rfl

theorem beq_small (n a : ℕ) (ha : a < 65536) (hn : n < 65536) : IntOp.cmpi .eq (BitVec.ofNat 32 n) (BitVec.ofNat 32 a) = BitVec.ofBool (decide (n = a)) := by
  unfold IntOp.cmpi
  refine congrArg BitVec.ofBool ?_
  rw [Bool.eq_iff_iff, beq_iff_eq, decide_eq_true_iff]
  constructor
  · intro h
    have := congrArg BitVec.toNat h
    rw [BitVec.toNat_ofNat, BitVec.toNat_ofNat] at this
    omega
  · rintro rfl; rfl

/-- The kernel's reading of a word's magnitude. -/
theorem mag_eq (n : ℕ) (hn : n < 32768) :
    (Scalar.select (IntOp.cmpi .slt (BitVec.ofNat 32 n) 1024#32) ((((BitVec.ofNat 32 n).toInt : ℝ) : EReal) * Ideal.ofBits .f32 0x33800000#32)
      (Scalar.select (IntOp.cmpi .sge (BitVec.ofNat 32 n) 31744#32) (Ideal.ofBits .f32 (IntOp.addi (IntOp.shli .vector (BitVec.ofNat 32 n) 13#32) 1879048192#32))
        (Ideal.ofBits .f32 (IntOp.addi (IntOp.shli .vector (BitVec.ofNat 32 n) 13#32) 939524096#32))) : EReal)
    = Scalar.select (IntOp.cmpi .eq (BitVec.ofNat 32 (n / 1024)) 0#32) ((((BitVec.ofNat 32 (n % 1024)).toInt : ℝ) : EReal) * Ideal.ofBits .f32 0x33800000#32)
    (Scalar.select (IntOp.cmpi .eq (BitVec.ofNat 32 (n / 1024)) 31#32) (Scalar.select (IntOp.cmpi .eq (BitVec.ofNat 32 (n % 1024)) 0#32) (Ideal.ofBits .f32 0x7F800000#32) (Ideal.ofBits .f32 0x7FC00000#32))
      ((Ideal.ofBits .f32 0x44800000#32 + (((BitVec.ofNat 32 (n % 1024)).toInt : ℝ) : EReal)) * Ideal.pow (Ideal.ofBits .f32 0x40000000#32) ((((BitVec.ofNat 32 (n / 1024)).toInt : ℝ) : EReal) - Ideal.ofBits .f32 0x41C80000#32))) := by
  have c1 : IntOp.cmpi .slt (BitVec.ofNat 32 n) 1024#32 = BitVec.ofBool (decide (n < 1024)) := congrArg BitVec.ofBool (slt_small n 1024 (by omega) (by omega))
  have c2 : IntOp.cmpi .sge (BitVec.ofNat 32 n) 31744#32 = BitVec.ofBool (decide (31744 ≤ n)) := congrArg BitVec.ofBool (sle_small 31744 n (by omega) (by omega))
  rw [c1, c2, beq_small (n / 1024) 0 (by omega) (by omega), beq_small (n / 1024) 31 (by omega) (by omega), beq_small (n % 1024) 0 (by omega) (by omega)]
  by_cases h1 : n < 1024
  · rw [sel_true h1, sel_true (by omega : n / 1024 = 0), show n % 1024 = n by omega]
  rw [sel_false h1, sel_false (by omega : ¬ n / 1024 = 0)]
  by_cases h2 : 31744 ≤ n
  · rw [sel_true h2, sel_true (by omega : n / 1024 = 31)]
    obtain ⟨a1, a2, a3⟩ := wide_parts (IntOp.addi (IntOp.shli .vector (BitVec.ofNat 32 n) 13#32) 1879048192#32) 255 (n % 1024 * 8192) (by omega) (by omega)
      ((wide n 114688 hn (by omega)).trans (by omega))
    rw [ieee_special _ _ a1 a2 a3, ieee_special 0x7F800000#32 0 (by decide) (by decide) (by decide), ieee_special 0x7FC00000#32 4194304 (by decide) (by decide) (by decide)]
    by_cases h3 : n % 1024 = 0
    · rw [sel_true h3, if_pos (by omega), if_pos rfl]
    · rw [sel_false h3, if_neg (by omega), if_neg (by omega)]
  · rw [sel_false h2, sel_false (by omega : ¬ n / 1024 = 31)]
    obtain ⟨a1, a2, a3⟩ := wide_parts (IntOp.addi (IntOp.shli .vector (BitVec.ofNat 32 n) 13#32) 939524096#32) (n / 1024 + 112) (n % 1024 * 8192) (by omega) (by omega)
      ((wide n 57344 hn (by omega)).trans (by omega))
    rw [ieee_normal _ _ _ a1 a2 a3 (by omega) (by omega), two, k1024, k25, toInt_small _ (by omega : n % 1024 < 65536), toInt_small _ (by omega : n / 1024 < 65536),
      ← EReal.coe_sub, Ideal.pow_coe_coe, ← EReal.coe_add, ← EReal.coe_mul]
    refine congrArg (fun x : ℝ => (x : EReal)) ?_
    have e : Real.rpow 2 (((n / 1024 : ℕ) : ℤ) - 25 : ℝ) = (2 : ℝ) ^ (((n / 1024 : ℕ) : ℤ) - 25) := by
      rw [← Real.rpow_intCast]
      push_cast
      rfl
    rw [e, show ((n / 1024 + 112 : ℕ) : ℤ) - 150 = (((n / 1024 : ℕ) : ℤ) - 25) + (-13) by push_cast; ring, zpow_add₀ (by norm_num : (2 : ℝ) ≠ 0)]
    generalize (2 : ℝ) ^ (((n / 1024 : ℕ) : ℤ) - 25) = A
    rw [Nat.cast_add, Nat.cast_mul, show (2 : ℝ) ^ (-13 : ℤ) = 1 / 8192 by norm_num, Int.cast_natCast]
    push_cast
    ring

theorem zero_sub_e (x : EReal) : 0 - x = -x := by rw [sub_eq_add_neg, zero_add]

/-- The two readings of a scale give one number. -/
theorem decode_eq : (decode (F := Ideal) b : EReal) = half b := by
  have hb := b.isLt
  have e1 : (decode (F := Ideal) b : EReal) = Scalar.select (IntOp.cmpi .ne (b.signExtend 32 &&& 32768#32) 0#32)
      (Ideal.ofBits .f32 0x00000000#32 - (Scalar.select (IntOp.cmpi .slt (b.signExtend 32 &&& 32767#32) 1024#32) ((((b.signExtend 32 &&& 32767#32).toInt : ℝ) : EReal) * Ideal.ofBits .f32 0x33800000#32)
      (Scalar.select (IntOp.cmpi .sge (b.signExtend 32 &&& 32767#32) 31744#32) (Ideal.ofBits .f32 (IntOp.addi (IntOp.shli .vector (b.signExtend 32 &&& 32767#32) 13#32) 1879048192#32))
        (Ideal.ofBits .f32 (IntOp.addi (IntOp.shli .vector (b.signExtend 32 &&& 32767#32) 13#32) 939524096#32))) : EReal))
      (Scalar.select (IntOp.cmpi .slt (b.signExtend 32 &&& 32767#32) 1024#32) ((((b.signExtend 32 &&& 32767#32).toInt : ℝ) : EReal) * Ideal.ofBits .f32 0x33800000#32)
      (Scalar.select (IntOp.cmpi .sge (b.signExtend 32 &&& 32767#32) 31744#32) (Ideal.ofBits .f32 (IntOp.addi (IntOp.shli .vector (b.signExtend 32 &&& 32767#32) 13#32) 1879048192#32))
        (Ideal.ofBits .f32 (IntOp.addi (IntOp.shli .vector (b.signExtend 32 &&& 32767#32) 13#32) 939524096#32))) : EReal) := rfl
  rw [e1, sign_eq, em_eq, mag_eq _ (by omega), Ideal.ofBits_zero_f32, zero_sub_e]
  unfold half
  have h0 : IntOp.andi (b.signExtend 32) 65535#32 = BitVec.ofNat 32 b.toNat := h_eq b
  have c : IntOp.cmpi .sge (BitVec.ofNat 32 b.toNat) 32768#32 = BitVec.ofBool (decide (32768 ≤ b.toNat)) := congrArg BitVec.ofBool (sle_small 32768 b.toNat (by omega) (by omega))
  rw [h0]
  simp only [exp_eq b.toNat (by omega), man_eq b.toNat (by omega), c]
  rw [show b.toNat % 32768 / 1024 = b.toNat / 1024 % 32 by omega, show b.toNat % 32768 % 1024 = b.toNat % 1024 by omega]

/-! ## The product of the down projection -/

/-- One place of the result: the residual plus the activations' row against the column of weights, each weight the
    difference of its nibble and its group's nibble times its group's scale. -/
def down (X : Shape.Idx ⟨2, ![720, 20480]⟩ → EReal) (W : Shape.Idx ⟨2, ![20480, 896]⟩ → BitVec 32) (Z : Shape.Idx ⟨2, ![160, 896]⟩ → BitVec 32)
    (S : Shape.Idx ⟨2, ![160, 7168]⟩ → BitVec 16) (R : Shape.Idx ⟨2, ![720, 7168]⟩ → EReal) (r : Fin 720) (l : Fin 7168) : EReal :=
  R (ix2 r l) + ∑ k : Fin 20480, X (ix2 r k) * (((((nib (W (ix2 k ⟨l.val / 8, by omega⟩)) (inv (l.val % 8))
      - nib (Z (ix2 ⟨k.val / 128, by omega⟩ ⟨l.val / 8, by omega⟩)) (inv (l.val % 8))).toInt : ℤ) : ℝ) : EReal)
    * half (S (ix2 ⟨k.val / 128, by omega⟩ l)))

end Cert.Proof.Half

end
-- ==== Proof.Val.lean ====
/-
  The output block over the extended reals: the residual plus the activations' row against the column of weights, each
  weight the difference of two nibbles times its group's scale.
-/
module

public import proofs.«01_k».proof.Proof.Nib
public import Idealize.ShloMosaic.Lib.MatmulPlain
public import Idealize.ShloMosaic.Lib.Pointwise.Sums

@[expose] public section

set_option maxRecDepth 4000

noncomputable section

namespace Cert.Proof.Val

open Idealize.ShloMosaic Cert.Proof.Net Cert.Proof.Tile Cert.Proof.Spec Cert.Proof.Nib

/-- One pass of the matrix unit. -/
theorem pass_at {M : ℕ} (x : FVec Ideal ⟨2, ![M, 256]⟩ .bf16) (T : FVec Ideal T256x256 .bf16) (r : Fin M) (c : Fin 256) :
    (FloatOps.mxuPass (DotDims.plain M 256 256) x T (ix2 r c) : EReal) = ∑ k : Fin 256, (x (ix2 r k) : EReal) * T (ix2 k c) := by
  have h := Ideal.matmul_plain_apply (M := M) (K := 256) (N := 256) none x T (fun _ => 0) r c
  rw [zero_add] at h
  refine Eq.trans ?_ h
  show _ = Ideal.matmul (DotDims.plain M 256 256) x T (fun _ => 0) (ix2 r c)
  unfold Ideal.matmul
  rw [zero_add]
  rfl

/-- The sums after `n` tiles. -/
theorem sums_at {M : ℕ} (X : ℕ → FVec Ideal ⟨2, ![M, 256]⟩ .bf16) (T : ℕ → FVec Ideal T256x256 .bf16) (r : Fin M) (c : Fin 256) :
    ∀ n : ℕ, (sums X T n (ix2 r c) : EReal) = ∑ j : Fin n, ∑ k : Fin 256, (X j.val (ix2 r k) : EReal) * T j.val (ix2 k c)
  | 0 => by
    rw [Fin.sum_univ_zero]
    exact Ideal.ofBits_zero_f32
  | 1 => by
    rw [Fin.sum_univ_one]
    exact pass_at _ _ r c
  | n + 2 => by
    rw [Fin.sum_univ_castSucc]
    refine congrArg₂ (fun a b : EReal => a + b) (sums_at X T r c (n + 1)) (pass_at _ _ r c)

theorem order_inv : ∀ j : Fin 8, order (inv j.val) = j.val ∧ inv j.val < 8 ∧ 4 * (inv j.val / 4) + inv j.val % 4 = inv j.val := by decide

/-- One place of a tile of weights. -/
theorem tile_at {K G N : ℕ} [NeZero K] [NeZero G] [NeZero N] (W : (TW K).Idx → BitVec 32) (Z : (Sh G).Idx → BitVec 32) (S : Shape.Idx ⟨2, ![G, N]⟩ → BitVec 16)
    (f : Fin 8) (n : ℕ) (k : Fin 256) (l : Fin 128) :
    (tileF (F := Ideal) W (zcF Z) (scF S) (at' 2 (f.val / 4)) (at' 2 (f.val / 2 % 2)) n (ix2 k (at' 256 (128 * (f.val % 2) + l.val))) : EReal)
      = ((((nib (W (ix2 (at' K (256 * n + k.val)) l)) f.val - nib (Z (ix2 (at' G (2 * n + k.val / 128)) l)) f.val).toInt : ℤ) : ℝ) : EReal)
        * decode (F := Ideal) (S (ix2 (at' G (2 * n + k.val / 128)) (at' N (8 * l.val + order f.val)))) := by
  have hf := f.isLt
  have hl := l.isLt
  have e1 : (at' 256 (128 * (f.val % 2) + l.val)).val = 128 * (f.val % 2) + l.val := by simp [at']; omega
  have p1 : (at' 2 (f.val / 4)).val = f.val / 4 := by simp [at']; omega
  have p2 : (at' 2 (f.val / 2 % 2)).val = f.val / 2 % 2 := by simp [at']
  unfold tileF elt
  simp only [ix2_0, ix2_1, e1, p1, p2]
  rw [show (128 * (f.val % 2) + l.val) / 128 = f.val % 2 by omega, show (128 * (f.val % 2) + l.val) % 128 = l.val by omega,
    show (at' 128 l.val) = l from Fin.ext (by simp [at']),
    show (at' 8 (4 * (f.val / 4) + 2 * (f.val / 2 % 2) + f.val % 2)) = f from Fin.ext (by simp [at']; omega),
    zcF_at Z f _ l (at' 2 (f.val / 4)) (at' 4 (f.val % 4)) rfl rfl, scF_at S f _ l (f.val % 4) rfl,
    show (at' 4 (2 * (f.val / 2 % 2) + f.val % 2)) = at' 4 (f.val % 4) from Fin.ext (by simp [at']; omega)]
  have p3 : (at' 4 (f.val % 4)).val = f.val % 4 := by simp [at']
  have h := weight_eq (at' 2 (f.val / 4)) (at' 4 (f.val % 4)) (W (ix2 (at' K (256 * n + k.val)) l)) (Z (ix2 (at' G (2 * n + k.val / 128)) l))
    (decode (F := Ideal) (S (ix2 (at' G (2 * n + k.val / 128)) (at' N (8 * l.val + order f.val)))))
  rw [p1, p3, show 4 * (f.val / 4) + f.val % 4 = f.val by omega] at h
  exact h

/-- The products of one column of a block. -/
theorem prod_at {M K G N : ℕ} [NeZero K] [NeZero G] [NeZero N] (n : ℕ) (hK : K = 256 * n) (hG : G = 2 * n)
    (X : Shape.Idx ⟨2, ![M, K]⟩ → EReal) (W : (TW K).Idx → BitVec 32) (Z : (Sh G).Idx → BitVec 32) (S : Shape.Idx ⟨2, ![G, N]⟩ → BitVec 16)
    (f : Fin 8) (r : Fin M) (l : Fin 128) :
    (prodF (F := Ideal) n X W (zcF Z) (scF S) (ix3 f r l) : EReal)
      = ∑ k : Fin K, X (ix2 r k) * (((((nib (W (ix2 k l)) f.val - nib (Z (ix2 (at' G (k.val / 128)) l)) f.val).toInt : ℤ) : ℝ) : EReal)
        * decode (F := Ideal) (S (ix2 (at' G (k.val / 128)) (at' N (8 * l.val + order f.val))))) := by
  rw [prodF_at (F := Ideal) n X W (zcF Z) (scF S) f r l _ _ _ rfl rfl rfl, sums_at,
    Fin.sum_univ_tiles n 256 (by omega : n * 256 = K)]
  refine Finset.sum_congr rfl fun j _ => Finset.sum_congr rfl fun k _ => ?_
  have hj := j.isLt
  have hk := k.isLt
  rw [tile_at]
  have e1 : at' K (256 * j.val + k.val) = ⟨j.val * 256 + k.val, by subst hK; omega⟩ := by
    refine Fin.ext ?_
    show (256 * j.val + k.val) % K = j.val * 256 + k.val
    rw [Nat.mod_eq_of_lt (by subst hK; omega)]; ring
  have e2 : (2 * j.val + k.val / 128) = (j.val * 256 + k.val) / 128 := by omega
  unfold xcol
  simp only [ix2_0, ix2_1]
  rw [e1, e2]

/-- The output block, at one place. -/
theorem out_at {M K G N : ℕ} [NeZero K] [NeZero G] [NeZero N] (hN : N = 1024) (n : ℕ) (hK : K = 256 * n) (hG : G = 2 * n)
    (X : Shape.Idx ⟨2, ![M, K]⟩ → EReal) (W : (TW K).Idx → BitVec 32) (Z : (Sh G).Idx → BitVec 32) (S : Shape.Idx ⟨2, ![G, N]⟩ → BitVec 16)
    (R : Shape.Idx ⟨2, ![M, N]⟩ → EReal) (r : Fin M) (c : Fin N) :
    (outF (F := Ideal) (prodF (F := Ideal) n X W (zcF Z) (scF S)) R (ix2 r c) : EReal)
      = R (ix2 r c) + ∑ k : Fin K, X (ix2 r k) * (((((nib (W (ix2 k (at' 128 (c.val / 8)))) (inv (c.val % 8))
          - nib (Z (ix2 (at' G (k.val / 128)) (at' 128 (c.val / 8)))) (inv (c.val % 8))).toInt : ℤ) : ℝ) : EReal)
        * decode (F := Ideal) (S (ix2 (at' G (k.val / 128)) c))) := by
  have hc := c.isLt
  obtain ⟨ho, hi, -⟩ := order_inv ⟨c.val % 8, by omega⟩
  simp only at ho hi
  have e1 : (at' 8 (inv (c.val % 8))).val = inv (c.val % 8) := Nat.mod_eq_of_lt hi
  have e2 : (at' 128 (c.val / 8)).val = c.val / 8 := Nat.mod_eq_of_lt (by omega)
  unfold outF
  simp only [ix2_0, ix2_1]
  refine congrArg (fun a : EReal => R (ix2 r c) + a) ?_
  rw [prod_at n hK hG]
  refine Finset.sum_congr rfl fun k _ => ?_
  rw [e1, e2, ho, show at' N (8 * (c.val / 8) + c.val % 8) = c from Fin.ext (by
    show (8 * (c.val / 8) + c.val % 8) % N = c.val
    rw [Nat.mod_eq_of_lt (by omega)]; omega)]

end Cert.Proof.Val

end
-- ==== Proof.Final.lean ====
/-
  The kernel's result over the extended reals: the blocks its grid points write back are the blocks of one array.
-/
module

public import proofs.«01_k».proof.Proof.Half
public import proofs.«01_k».proof.Proof.Val
public import proofs.«01_k».proof.Proof.PI.Run
public import Idealize.ShloMosaic.Lib.Pipeline.ValueKit

@[expose] public section

set_option maxRecDepth 16384

noncomputable section

namespace Cert.Proof.Final

open Cert.DownIdeal Cert.DownIdeal.Gen
open Idealize.ShloMosaic Idealize.ShloMosaic.TcCoe
open Cert.Proof.Tile Cert.Proof.Spec Cert.Proof.Net Cert.Proof.Nib Cert.Proof.Half Cert.Proof.Val Cert.Proof.PI

variable (m : (ℓ : Loc nD τ sig) → Buf (Elt Ideal) ℓ) (c : Dev nD)

/-! ## The arguments -/

abbrev argX : Shape.Idx ⟨2, ![720, 20480]⟩ → EReal := m ((c.tc : Thread nD τ).loc main_arg0)
abbrev argW : Shape.Idx ⟨2, ![20480, 896]⟩ → BitVec 32 := m ((c.tc : Thread nD τ).loc main_arg1)
abbrev argZ : Shape.Idx ⟨2, ![160, 896]⟩ → BitVec 32 := m ((c.tc : Thread nD τ).loc main_arg2)
abbrev argS : Shape.Idx ⟨2, ![160, 7168]⟩ → BitVec 16 := m ((c.tc : Thread nD τ).loc main_arg3)
abbrev argR : Shape.Idx ⟨2, ![720, 7168]⟩ → EReal := m ((c.tc : Thread nD τ).loc main_arg4)

/-! ## The windows' blocks -/

theorem idx0 : ∀ t : Fin grid0.N, win0_0.index t = ![0, 0] := by decide +kernel
theorem idx1 : ∀ t : Fin grid0.N, win0_1.index t = ![0, min t.val 6] := by decide +kernel
theorem idx2 : ∀ t : Fin grid0.N, win0_2.index t = ![0, min t.val 6] := by decide +kernel
theorem idx3 : ∀ t : Fin grid0.N, win0_3.index t = ![0, min t.val 6] := by decide +kernel
theorem idx4 : ∀ t : Fin grid0.N, win0_4.index t = ![0, t.val - 1] := by decide +kernel
theorem idx5 : ∀ t : Fin grid0.N, win0_5.index t = ![0, t.val - 1] := by decide +kernel
theorem flush5 : ∀ t : Fin grid0.N, (cfg0.win 5).flush t = true → t.val ≠ 0 := by decide +kernel

theorem blk0 (t : Fin cfg0.N) (r : Fin 720) (k : Fin 20480) : (iblk m c 0 t (ix2 r k) : EReal) = argX m c (ix2 r k) := by
  blk_simp [iblk, idx0 t]
  refine congrArg (argX m c) ?_
  blk_ext [idx0 t]

theorem blk1 (t : Fin cfg0.N) (b : ℕ) (hb : min t.val 6 = b) (k : Fin 20480) (l : Fin 128) (h : 128 * b + l.val < 896) :
    (iblk m c 1 t (ix2 k l) : BitVec 32) = argW m c (ix2 k ⟨128 * b + l.val, h⟩) := by
  subst hb
  blk_simp [iblk, idx1 t]
  refine congrArg (argW m c) ?_
  blk_ext [idx1 t]

theorem blk2 (t : Fin cfg0.N) (b : ℕ) (hb : min t.val 6 = b) (k : Fin 160) (l : Fin 128) (h : 128 * b + l.val < 896) :
    (iblk m c 2 t (ix2 k l) : BitVec 32) = argZ m c (ix2 k ⟨128 * b + l.val, h⟩) := by
  subst hb
  blk_simp [iblk, idx2 t]
  refine congrArg (argZ m c) ?_
  blk_ext [idx2 t]

theorem blk3 (t : Fin cfg0.N) (b : ℕ) (hb : min t.val 6 = b) (k : Fin 160) (l : Fin 1024) (h : 1024 * b + l.val < 7168) :
    (iblk m c 3 t (ix2 k l) : BitVec 16) = argS m c (ix2 k ⟨1024 * b + l.val, h⟩) := by
  subst hb
  blk_simp [iblk, idx3 t]
  refine congrArg (argS m c) ?_
  blk_ext [idx3 t]

theorem blk4 (t : Fin cfg0.N) (b : ℕ) (hb : t.val - 1 = b) (r : Fin 720) (l : Fin 1024) (h : 1024 * b + l.val < 7168) :
    (iblk m c 4 t (ix2 r l) : EReal) = argR m c (ix2 r ⟨1024 * b + l.val, h⟩) := by
  subst hb
  blk_simp [iblk, idx4 t]
  refine congrArg (argR m c) ?_
  blk_ext [idx4 t]

/-! ## The result -/

/-- The output block of a point after the first, at one place. -/
theorem out_point (t : Fin cfg0.N) (b : ℕ) (hb : t.val = b + 1) (hb7 : b < 7) (r : Fin 720) (l : Fin 1024) :
    (outAt m c t (ix2 r l) : EReal) = down (argX m c) (argW m c) (argZ m c) (argS m c) (argR m c) r ⟨1024 * b + l.val, by omega⟩ := by
  have hl := l.isLt
  unfold outAt
  rw [show prevAt m c t = prodAt m c ⟨t.val - 1, lt_of_le_of_lt (Nat.sub_le _ _) t.isLt⟩ from if_neg (by omega)]
  refine (out_at (M := 720) (K := 20480) (G := 160) (N := 1024) rfl 80 rfl rfl _ _ _ _ _ r l).trans ?_
  unfold down
  refine congrArg₂ (fun a b : EReal => a + b) (blk4 m c t b (by omega) r l _) (Finset.sum_congr rfl fun k _ => ?_)
  have hk := k.isLt
  have e1 : (⟨(1024 * b + l.val) / 8, by omega⟩ : Fin 896) = ⟨128 * b + (at' 128 (l.val / 8)).val, by
      show 128 * b + l.val / 8 % 128 < 896; omega⟩ := Fin.ext (by show (1024 * b + l.val) / 8 = 128 * b + l.val / 8 % 128; omega)
  have e2 : (1024 * b + l.val) % 8 = l.val % 8 := by omega
  have e3 : at' 160 (k.val / 128) = ⟨k.val / 128, by omega⟩ := Fin.ext (Nat.mod_eq_of_lt (by omega))
  rw [decode_eq, blk0 m c _ r k, blk1 m c _ b (by show min (t.val - 1) 6 = b; omega) k _ (by show 128 * b + l.val / 8 % 128 < 896; omega),
    blk2 m c _ b (by show min (t.val - 1) 6 = b; omega) _ _ (by show 128 * b + l.val / 8 % 128 < 896; omega),
    blk3 m c _ b (by show min (t.val - 1) 6 = b; omega) _ l (by omega)]
  simp only [e1, e2, e3]

/-- The result array after the run. -/
theorem final : (dats m 0 c).arrAt 5 cfg0.N
    = (fun i => down (argX m c) (argW m c) (argZ m c) (argS m c) (argR m c) (i 0) (i 1) : Shape.Idx ⟨2, ![720, 7168]⟩ → EReal) := by
  refine (dats m 0 c).arrAt_eq_of_covers 5 _ (by decide +kernel) fun t hf y => ?_
  blk_simp
  rw [after0_5]
  have h0 := flush5 t hf
  have ht : t.val < 8 := lt_of_lt_of_eq t.isLt N_0
  obtain ⟨r, l, rfl⟩ : ∃ (r : Fin 720) (l : Fin 1024), y = ix2 r l := ⟨y 0, y 1, (ix2_eta y).symm⟩
  refine (out_point m c t (t.val - 1) (by omega) (by omega) r l).trans ?_
  refine congrArg₂ (down (argX m c) (argW m c) (argZ m c) (argS m c) (argR m c)) (Fin.ext ?_) (Fin.ext ?_)
  · blk_simp [idx5 t]
  · blk_simp [idx5 t]
    show 1024 * (t.val - 1) + l.val = (t.val - 1) * 1024 + l.val
    omega

end Cert.Proof.Final

end
-- ==== Proof.RefVal.lean ====
/-
  The reference's result over the extended reals, at one place: the residual plus the activations' row against the column
  of weights, each weight the difference of two nibbles times its group's scale.
-/
module

public import proofs.«01_k».proof.Proof.Half
public import proofs.«01_k».proof.Proof.Gen.DownRefIdeal.Run
public import Idealize.ShloMosaic.Lib.StackMember

@[expose] public section

set_option maxRecDepth 8192

noncomputable section

namespace Cert.Proof.RefVal

open Idealize.ShloMosaic Idealize.ShloMosaic.TcCoe Cert.DownRefIdeal Cert.DownRefIdeal.Gen Cert.Proof.Spec Cert.Proof.Nib Cert.Proof.Half

/-! ## The parts of the reference's term -/

/-- The scales. -/
def refScale (S : IVec S160x7168 16) : FVec Ideal S160x7168 .f32 :=
  let h := (andi (extsi 32 S natLt_16_32) (broadcastInDim S160x7168 ![] bcast_S_S160x7168 (constantI S_ 32 65535#32)))
  let e := (andi (Host.shrsi h (broadcastInDim S160x7168 ![] bcast_S_S160x7168 (constantI S_ 32 10#32))) (broadcastInDim S160x7168 ![] bcast_S_S160x7168 (constantI S_ 32 31#32)))
  let mt := (andi h (broadcastInDim S160x7168 ![] bcast_S_S160x7168 (constantI S_ 32 1023#32)))
  let mag : FVec Ideal S160x7168 .f32 := (select (cmpi .eq e (broadcastInDim S160x7168 ![] bcast_S_S160x7168 (constantI S_ 32 0#32))) (mulf (sitofp .f32 mt) (broadcastInDim S160x7168 ![] bcast_S_S160x7168 (constant S_ .f32 0x33800000#32))) (select (cmpi .eq e (broadcastInDim S160x7168 ![] bcast_S_S160x7168 (constantI S_ 32 31#32))) (id (select (cmpi .eq mt (broadcastInDim S160x7168 ![] bcast_S_S160x7168 (constantI S_ 32 0#32))) (broadcastInDim S160x7168 ![] bcast_S_S160x7168 (constant S_ .f32 0x7F800000#32)) (broadcastInDim S160x7168 ![] bcast_S_S160x7168 (constant S_ .f32 0x7FC00000#32)))) (mulf (addf (broadcastInDim S160x7168 ![] bcast_S_S160x7168 (constant S_ .f32 0x44800000#32)) (sitofp .f32 mt)) (Host.powf (broadcastInDim S160x7168 ![] bcast_S_S160x7168 (constant S_ .f32 0x40000000#32)) (subf (sitofp .f32 e) (broadcastInDim S160x7168 ![] bcast_S_S160x7168 (constant S_ .f32 0x41C80000#32)))))))
  (select (cmpi .sge h (broadcastInDim S160x7168 ![] bcast_S_S160x7168 (constantI S_ 32 32768#32))) (Host.negf mag) mag)

/-- The nibbles of the weights. -/
def refNibW (W : IVec S20480x896 32) : IVec S20480x896x8 32 :=
  (andi (Host.shrui (broadcastInDim S20480x896x8 ![0, 1, 2] bcast_S20480x896x1_S20480x896x8_0_1_2 (broadcastInDim S20480x896x1 ![0, 1] bcast_S20480x896_S20480x896x1_0_1 W)) (broadcastInDim S20480x896x8 ![2] bcast_S8_S20480x896x8_2 (muli (broadcastInDim S8 ![] bcast_S_S8 (constantI S_ 32 4#32)) ((fun i => lit0 (S8.rowMajor i)))))) (broadcastInDim S20480x896x8 ![] bcast_S_S20480x896x8 (constantI S_ 32 15#32)))

/-- The nibbles of the zero points. -/
def refNibZ (Z : IVec S160x896 32) : IVec S160x896x8 32 :=
  (andi (Host.shrui (broadcastInDim S160x896x8 ![0, 1, 2] bcast_S160x896x1_S160x896x8_0_1_2 (broadcastInDim S160x896x1 ![0, 1] bcast_S160x896_S160x896x1_0_1 Z)) (broadcastInDim S160x896x8 ![2] bcast_S8_S160x896x8_2 (muli (broadcastInDim S8 ![] bcast_S_S8 (constantI S_ 32 4#32)) ((fun i => lit1 (S8.rowMajor i)))))) (broadcastInDim S160x896x8 ![] bcast_S_S160x896x8 (constantI S_ 32 15#32)))

/-- The weights. -/
def refW (W : IVec S20480x896 32) (Z : IVec S160x896 32) (S : IVec S160x7168 16) : FVec Ideal S20480x7168 .bf16 :=
  (truncf .bf16 (shapeCast _ (mulf (sitofp .f32 (subi (shapeCast _ (shapeCast _ (refNibW W) shapeCasts_S20480x896x8_S20480x7168) shapeCasts_S20480x7168_S160x128x7168) (broadcastInDim S160x128x7168 ![0, 1, 2] bcast_S160x1x7168_S160x128x7168_0_1_2 (broadcastInDim S160x1x7168 ![0, 2] bcast_S160x7168_S160x1x7168_0_2 (shapeCast _ (refNibZ Z) shapeCasts_S160x896x8_S160x7168))))) (broadcastInDim S160x128x7168 ![0, 1, 2] bcast_S160x1x7168_S160x128x7168_0_1_2 (broadcastInDim S160x1x7168 ![0, 2] bcast_S160x7168_S160x1x7168_0_2 (refScale S)))) shapeCasts_S160x128x7168_S20480x7168) bitsLt_bf16_f32)

theorem res_eq (m : (ℓ : Loc nD τ sig) → Buf (Elt Ideal) ℓ) (c : Dev nD) (X : FVec Ideal S720x20480 .bf16) (W : IVec S20480x896 32) (Z : IVec S160x896 32) (S : IVec S160x7168 16) (R : FVec Ideal S720x7168 .bf16)
    (h0 : m ((c.tc : Thread nD τ).loc main_arg0) = X) (h1 : m ((c.tc : Thread nD τ).loc main_arg1) = W) (h2 : m ((c.tc : Thread nD τ).loc main_arg2) = Z)
    (h3 : m ((c.tc : Thread nD τ).loc main_arg3) = S) (h4 : m ((c.tc : Thread nD τ).loc main_arg4) = R) :
    Value.res_main_v64 m c = (truncf .bf16 (addf (extf .f32 R bitsLt_bf16_f32)
        (Host.dotGeneral dot_S720x20480_S20480x7168_S720x7168_1_0_0_1_n_n none X (refW W Z S))) bitsLt_bf16_f32 : FVec Ideal S720x7168 .bf16) := by
  subst h0 h1 h2 h3 h4
  rfl

theorem scale_at (S : IVec S160x7168 16) (i : S160x7168.Idx) : (refScale S i : EReal) = half (S i) := rfl

theorem row_at (j : Fin 8) : (S8.rowMajor (ix1 j) : Fin 8) = j := Fin.ext (Shape.rowMajor_val_one _)

theorem shift_at (j : Fin 8) (w : BitVec 32) : IntOp.andi (IntOp.shrui .host w (IntOp.muli 4#32 (lit0 j))) 15#32 = nib w (inv j.val) ∧ lit1 j = lit0 j := by
  match j with
  | 0 => exact ⟨rfl, rfl⟩
  | 1 => exact ⟨rfl, rfl⟩
  | 2 => exact ⟨rfl, rfl⟩
  | 3 => exact ⟨rfl, rfl⟩
  | 4 => exact ⟨rfl, rfl⟩
  | 5 => exact ⟨rfl, rfl⟩
  | 6 => exact ⟨rfl, rfl⟩
  | 7 => exact ⟨rfl, rfl⟩

theorem nibW_at (W : IVec S20480x896 32) (k : Fin 20480) (n : Fin 896) (j : Fin 8) : refNibW W (ix3 k n j) = nib (W (ix2 k n)) (inv j.val) := by
  refine Eq.trans ?_ (shift_at j (W (ix2 k n))).1
  unfold refNibW
  pointwise
  exact congrArg (fun j => IntOp.andi (IntOp.shrui .host (W (ix2 k n)) (IntOp.muli 4#32 (lit0 j))) 15#32) (row_at j)

theorem nibZ_at (Z : IVec S160x896 32) (k : Fin 160) (n : Fin 896) (j : Fin 8) : refNibZ Z (ix3 k n j) = nib (Z (ix2 k n)) (inv j.val) := by
  refine Eq.trans ?_ (shift_at j (Z (ix2 k n))).1
  rw [← (shift_at j 0).2]
  unfold refNibZ
  pointwise
  exact congrArg (fun j => IntOp.andi (IntOp.shrui .host (Z (ix2 k n)) (IntOp.muli 4#32 (lit1 j))) 15#32) (row_at j)

theorem w_at (W : IVec S20480x896 32) (Z : IVec S160x896 32) (S : IVec S160x7168 16) (k : Fin 20480) (l : Fin 7168) :
    (refW W Z S (ix2 k l) : EReal) = ((((nib (W (ix2 k ⟨l.val / 8, by omega⟩)) (inv (l.val % 8)) - nib (Z (ix2 ⟨k.val / 128, by omega⟩ ⟨l.val / 8, by omega⟩)) (inv (l.val % 8))).toInt : ℤ) : ℝ) : EReal)
      * half (S (ix2 ⟨k.val / 128, by omega⟩ l)) := by
  unfold refW
  pointwise
  rw [nibW_at, nibZ_at, scale_at]
  rfl

/-- The reference's result at one place. -/
theorem ref_at (m : (ℓ : Loc nD τ sig) → Buf (Elt Ideal) ℓ) (c : Dev nD) (X : FVec Ideal S720x20480 .bf16) (W : IVec S20480x896 32) (Z : IVec S160x896 32) (S : IVec S160x7168 16) (R : FVec Ideal S720x7168 .bf16)
    (h0 : m ((c.tc : Thread nD τ).loc main_arg0) = X) (h1 : m ((c.tc : Thread nD τ).loc main_arg1) = W) (h2 : m ((c.tc : Thread nD τ).loc main_arg2) = Z)
    (h3 : m ((c.tc : Thread nD τ).loc main_arg3) = S) (h4 : m ((c.tc : Thread nD τ).loc main_arg4) = R) (r : Fin 720) (l : Fin 7168) :
    (Value.res_main_v64 m c (ix2 r l) : EReal) = down X W Z S R r l := by
  rw [res_eq m c X W Z S R h0 h1 h2 h3 h4]
  refine congrArg (fun a : EReal => R (ix2 r l) + a) ?_
  refine (StackMember.dotGeneral_plain_apply (m := 720) (n := 7168) none X (refW W Z S) r l).trans ?_
  exact Finset.sum_congr rfl fun k _ => congrArg (fun a : EReal => X (ix2 r k) * a) (w_at W Z S k l)

end Cert.Proof.RefVal

end
-- ==== Proof.GI.Base.lean ====
/-
  The buffers of the gate and up projections' kernel, and its first test.
-/
module

public import proofs.«01_k».proof.Proof.Gen.GateUpIdeal.Frame
public import proofs.«01_k».proof.Proof.Gen.GateUpIdeal.Skeleton
public import proofs.«01_k».proof.Proof.Gen.GateUpIdeal.Loops
public import Idealize.ShloMosaic.Lib.Mxu.Walk

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test for the first grid point, which clears the kept products. -/
abbrev cond1 (i : grid0.Coords) : BitVec 1 :=
  Scalar.cmpi .ne (Scalar.extui (Scalar.cmpi .eq (BitVec.ofNat 32 (i 0).val) 0#32) : BitVec 32) 0#32

/-- The body's buffers, each whole at its contents. -/
abbrev Res (c : Dev nD) (arg1 : Memref sig .tc .vmem S720x7168 .bf16) (arg2 : Memref sig .tc .vmem S1x7168 .f32) (arg3 : Memref sig .tc .vmem S7168x128 .i32) (arg4 : Memref sig .tc .vmem S56x128 .i32) (arg5 : Memref sig .tc .vmem S56x1024 .i16) (arg6 : Memref sig .tc .vmem S7168x128 .i32) (arg7 : Memref sig .tc .vmem S56x128 .i32) (arg8 : Memref sig .tc .vmem S56x1024 .i16) (arg9 : Memref sig .tc .vmem S720x1024 .bf16) (arg10 : Memref sig .tc .vmem S720x7168 .bf16) (arg11 : Memref sig .tc .vmem S8x56x128 .f32) (arg12 : Memref sig .tc .vmem S8x56x128 .f32) (arg13 : Memref sig .tc .vmem S8x56x128 .f32) (arg14 : Memref sig .tc .vmem S8x56x128 .f32) (arg15 : Memref sig .tc .vmem S8x720x128 .f32) (arg16 : Memref sig .tc .vmem S8x720x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16))

end Cert.Proof.GI

end
-- ==== Proof.GI.T2.lean ====
/-
  Loop 2 of the gate and up projections' kernel: one trip, the state before each trip as a recursion over the trips, and the
  invariant the loop goes through with.
-/
module

public import proofs.«01_k».proof.Proof.GI.Base

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h3 : k0_cond3 i = 1#1) (u : Mxu F) (v1 : FVec F S256x128 .f32) (v2 v3 v4 : FVec F S256x128 .bf16) (v5 : Vec F S1x1x128 .f32) (X10 : BufTy.Contents (Elt F) arg10.view.ty) (X3 : BufTy.Contents (Elt F) arg3.view.ty) (X11 : BufTy.Contents (Elt F) arg11.view.ty) (X12 : BufTy.Contents (Elt F) arg12.view.ty) (X15 : BufTy.Contents (Elt F) arg15.view.ty) (X16 : BufTy.Contents (Elt F) arg16.view.ty)

/-- What one trip holds: the buffers it reads at their contents, the output block it writes at any. -/
abbrev Trip2 (f9 : BufTy.Contents (Elt F) arg9.view.ty) : sProp 𝕄 :=
  iprop((arg10.view.loc (c : Thread nD τ) ↦[arg10.view.set]{fullShare} X10) ∗ (arg3.view.loc (c : Thread nD τ) ↦[arg3.view.set]{fullShare} X3) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16) ∗ (arg9.view.loc (c : Thread nD τ) ↦[arg9.view.set]{fullShare} f9))

set_option maxHeartbeats 8000000 in
/-- One trip at a symbolic trip number and state of the matrix unit: what it yields and what it writes, as functions of the
    state; every tile is pushed into a register the accumulation before it emptied. -/
@[irreducible] def trip2 (k : Fin k0_t2_loop.trips) :
    Σ' (R : BitVec 32 × Mxu F → BitVec 32 × Mxu F), { L : BitVec 32 × Mxu F → List (View.Piece (Elt F) S720x1024 .bf16) // ∀ (E : Set ℕ) (acc : BitVec 32 × Mxu F) (f9 : BufTy.Contents (Elt F) arg9.view.ty),
      Trip2 (F := F) c arg3 arg9 arg10 arg11 arg12 arg15 arg16 X10 X3 X11 X12 X15 X16 f9
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 k acc)
          (fun yld => iprop(⌜yld = R acc⌝ ∗ Trip2 (F := F) c arg3 arg9 arg10 arg11 arg12 arg15 arg16 X10 X3 X11 X12 X15 X16 (arg9.view.writes (Elt F) f9 (L acc)))) } := by
  have hk : k.val < 13 := Nat.lt_of_lt_of_le k.isLt k0_t2_abs.2.1
  refine ⟨?_, ?_, fun E acc f9 => ?run⟩
  case run =>
    unfold k0_t2_body
    iintro ⟨H10, H3, H11, H12, H15, H16, H9⟩
    sl_exec (disch := mxu_pushok_peel)
    sl_step
    sl_close

/-- The state after trip `k` from the state `prev` before it. -/
@[irreducible] def st2Step (k : ℕ) (prev : (BitVec 32 × Mxu F) × List (View.Piece (Elt F) S720x1024 .bf16)) : (BitVec 32 × Mxu F) × List (View.Piece (Elt F) S720x1024 .bf16) :=
  if h : k < k0_t2_loop.trips then ((trip2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 ⟨k, h⟩).1 prev.1, (trip2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 ⟨k, h⟩).2.1 prev.1 ++ prev.2) else prev

/-- The state before trip `k`: what the loop carries and the pieces written so far, last first. -/
def st2 (init : BitVec 32 × Mxu F) : ℕ → (BitVec 32 × Mxu F) × List (View.Piece (Elt F) S720x1024 .bf16)
  | 0 => (init, [])
  | k + 1 => st2Step (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 k (st2 init k)

theorem st2_succ (init : BitVec 32 × Mxu F) (k : Fin k0_t2_loop.trips) :
    st2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init (k.val + 1) = ((trip2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 k).1 (st2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init k.val).1, (trip2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 k).2.1 (st2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init k.val).1 ++ (st2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init k.val).2) := by
  rw [st2.eq_2]; unfold st2Step; exact dif_pos k.isLt

theorem st2_zero (init : BitVec 32 × Mxu F) : (st2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init 0).1 = init := rfl

/-- The invariant before trip `k`: the read buffers at their contents, the carried state that of the recursion, the output block the pieces so far over its contents at entry. -/
abbrev inv2 (G9 : BufTy.Contents (Elt F) arg9.view.ty) (init : BitVec 32 × Mxu F) (k : ℕ) (acc : BitVec 32 × Mxu F) : sProp 𝕄 :=
  iprop((arg10.view.loc (c : Thread nD τ) ↦[arg10.view.set]{fullShare} X10) ∗ (arg3.view.loc (c : Thread nD τ) ↦[arg3.view.set]{fullShare} X3) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16) ∗ (∃ f, (arg9.view.loc (c : Thread nD τ) ↦[arg9.view.set]{fullShare} f) ∗ ⌜f = arg9.view.writes (Elt F) G9 (st2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init k).2⌝) ∗ ⌜acc = (st2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init k).1⌝)

set_option warn.classDefReducibility false in
/-- The invariant as the executor finds it. -/
@[sl_loop] def loopInv2 (E : Set ℕ) (G9 : BufTy.Contents (Elt F) arg9.view.ty) (init : BitVec 32 × Mxu F) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 init where
  inv := inv2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 G9 init
  step k acc := by
    iintro ⟨H10, H3, H11, H12, H15, H16, ⟨%f9, H9, %h9⟩, %h_acc⟩
    subst h_acc
    iapply (wp_wand_r Idealize.ShloMosaic.frame (wpE (defs₀ (F := F)) Variants.none (c : Thread nD τ) none) E)
    isplitl [H10 H3 H11 H12 H15 H16 H9]
    · iapply ((trip2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 k).2.2 E (st2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init k).1 f9)
      isplitl [H10]; · iexact H10
      isplitl [H3]; · iexact H3
      isplitl [H11]; · iexact H11
      isplitl [H12]; · iexact H12
      isplitl [H15]; · iexact H15
      isplitl [H16]; · iexact H16
      iexact H9
    · iintro %yld ⟨%h_res, H10, H3, H11, H12, H15, H16, H9⟩
      isplitl [H10]; · iexact H10
      isplitl [H3]; · iexact H3
      isplitl [H11]; · iexact H11
      isplitl [H12]; · iexact H12
      isplitl [H15]; · iexact H15
      isplitl [H16]; · iexact H16
      simp only [st2_succ]
      isplitl [H9]
      · iexists _; isplitl [H9]; · iexact H9
        ipureintro; rw [h9, ← View.writes_append]
      ipureintro; rw [h_res]

end Cert.Proof.GI

end
-- ==== Proof.GI.T3.lean ====
/-
  Loop 3 of the gate and up projections' kernel: one trip, the state before each trip as a recursion over the trips, and the
  invariant the loop goes through with.
-/
module

public import proofs.«01_k».proof.Proof.GI.Base

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h3 : k0_cond3 i = 1#1) (u : Mxu F) (c0 c1 : BitVec 32) (X10 : BufTy.Contents (Elt F) arg10.view.ty) (X6 : BufTy.Contents (Elt F) arg6.view.ty) (X13 : BufTy.Contents (Elt F) arg13.view.ty) (X14 : BufTy.Contents (Elt F) arg14.view.ty)

/-- What one trip holds: the buffers it reads at their contents. -/
abbrev Trip3 : sProp 𝕄 :=
  iprop((arg10.view.loc (c : Thread nD τ) ↦[arg10.view.set]{fullShare} X10) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14))

set_option maxHeartbeats 8000000 in
/-- One trip at a symbolic trip number and state of the matrix unit: what it yields, as functions of the
    state; every tile is pushed into a register the accumulation before it emptied. -/
@[irreducible] def trip3 (k : Fin k0_t3_loop.trips) :
    { R : BitVec 32 × Mxu F → BitVec 32 × Mxu F // ∀ (E : Set ℕ) (acc : BitVec 32 × Mxu F),
      Trip3 (F := F) c arg6 arg10 arg13 arg14 X10 X6 X13 X14
      ⊢ wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 k acc)
          (fun yld => iprop(⌜yld = R acc⌝ ∗ Trip3 (F := F) c arg6 arg10 arg13 arg14 X10 X6 X13 X14)) } := by
  have hk : k.val < 13 := Nat.lt_of_lt_of_le k.isLt k0_t3_abs.2.1
  refine ⟨?_, fun E acc => ?run⟩
  case run =>
    unfold k0_t3_body
    iintro ⟨H10, H6, H13, H14⟩
    sl_exec (disch := mxu_pushok_peel)
    sl_step
    sl_close

/-- The state after trip `k` from the state `prev` before it. -/
@[irreducible] def st3Step (k : ℕ) (prev : BitVec 32 × Mxu F) : BitVec 32 × Mxu F :=
  if h : k < k0_t3_loop.trips then (trip3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 ⟨k, h⟩).1 prev else prev

/-- The state before trip `k`. -/
def st3 (init : BitVec 32 × Mxu F) : ℕ → BitVec 32 × Mxu F
  | 0 => init
  | k + 1 => st3Step (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 k (st3 init k)

theorem st3_succ (init : BitVec 32 × Mxu F) (k : Fin k0_t3_loop.trips) :
    st3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 init (k.val + 1) = (trip3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 k).1 (st3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 init k.val) := by
  rw [st3.eq_2]; unfold st3Step; exact dif_pos k.isLt

theorem st3_zero (init : BitVec 32 × Mxu F) : (st3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 init 0) = init := rfl

/-- The invariant before trip `k`: the read buffers at their contents, the carried state that of the recursion. -/
abbrev inv3 (init : BitVec 32 × Mxu F) (k : ℕ) (acc : BitVec 32 × Mxu F) : sProp 𝕄 :=
  iprop((arg10.view.loc (c : Thread nD τ) ↦[arg10.view.set]{fullShare} X10) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ ⌜acc = (st3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 init k)⌝)

set_option warn.classDefReducibility false in
/-- The invariant as the executor finds it. -/
@[sl_loop] def loopInv3 (E : Set ℕ) (init : BitVec 32 × Mxu F) :
    LoopInvTy_k0_t3 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 init where
  inv := inv3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 init
  step k acc := by
    iintro ⟨H10, H6, H13, H14, %h_acc⟩
    subst h_acc
    iapply (wp_wand_r Idealize.ShloMosaic.frame (wpE (defs₀ (F := F)) Variants.none (c : Thread nD τ) none) E)
    isplitl [H10 H6 H13 H14]
    · iapply ((trip3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 k).2 E (st3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 init k))
      isplitl [H10]; · iexact H10
      isplitl [H6]; · iexact H6
      isplitl [H13]; · iexact H13
      iexact H14
    · iintro %yld ⟨%h_res, H10, H6, H13, H14⟩
      isplitl [H10]; · iexact H10
      isplitl [H6]; · iexact H6
      isplitl [H13]; · iexact H13
      isplitl [H14]; · iexact H14
      simp only [st3_succ]
      ipureintro; rw [h_res]

end Cert.Proof.GI

end
-- ==== Proof.GI.T4.lean ====
/-
  Loop 4 of the gate and up projections' kernel: one trip, the state before each trip as a recursion over the trips, and the
  invariant the loop goes through with.
-/
module

public import proofs.«01_k».proof.Proof.GI.Base

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h3 : k0_cond3 i = 1#1) (u : Mxu F) (v1 : FVec F S256x128 .f32) (v2 v3 v4 : FVec F S256x128 .bf16) (v5 : FVec F S128x128 .bf16) (X10 : BufTy.Contents (Elt F) arg10.view.ty) (X3 : BufTy.Contents (Elt F) arg3.view.ty) (X11 : BufTy.Contents (Elt F) arg11.view.ty) (X12 : BufTy.Contents (Elt F) arg12.view.ty)

/-- What one trip holds: the buffers it reads at their contents. -/
abbrev Trip4 : sProp 𝕄 :=
  iprop((arg10.view.loc (c : Thread nD τ) ↦[arg10.view.set]{fullShare} X10) ∗ (arg3.view.loc (c : Thread nD τ) ↦[arg3.view.set]{fullShare} X3) ∗ (arg11.view.loc (c : Thread nD τ) ↦[arg11.view.set]{fullShare} X11) ∗ (arg12.view.loc (c : Thread nD τ) ↦[arg12.view.set]{fullShare} X12))

set_option maxHeartbeats 8000000 in
/-- One trip at a symbolic trip number and state of the matrix unit: what it yields, as functions of the
    state; every tile is pushed into a register the accumulation before it emptied. -/
@[irreducible] def trip4 (k : Fin k0_t4_loop.trips) :
    { R : BitVec 32 × Mxu F → BitVec 32 × Mxu F // ∀ (E : Set ℕ) (acc : BitVec 32 × Mxu F),
      Trip4 (F := F) c arg3 arg10 arg11 arg12 X10 X3 X11 X12
      ⊢ wp frame (wpE (defs₀ (F := F)) Variants.none (c : Thread nD τ) none) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 k acc)
          (fun yld => iprop(⌜yld = R acc⌝ ∗ Trip4 (F := F) c arg3 arg10 arg11 arg12 X10 X3 X11 X12)) } := by
  have hk : k.val < 13 := Nat.lt_of_lt_of_le k.isLt k0_t4_abs.2.1
  refine ⟨?_, fun E acc => ?run⟩
  case run =>
    unfold k0_t4_body
    iintro ⟨H10, H3, H11, H12⟩
    sl_exec (disch := mxu_pushok_peel)
    sl_step
    sl_close

/-- The state after trip `k` from the state `prev` before it. -/
@[irreducible] def st4Step (k : ℕ) (prev : BitVec 32 × Mxu F) : BitVec 32 × Mxu F :=
  if h : k < k0_t4_loop.trips then (trip4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 ⟨k, h⟩).1 prev else prev

/-- The state before trip `k`. -/
def st4 (init : BitVec 32 × Mxu F) : ℕ → BitVec 32 × Mxu F
  | 0 => init
  | k + 1 => st4Step (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 k (st4 init k)

theorem st4_succ (init : BitVec 32 × Mxu F) (k : Fin k0_t4_loop.trips) :
    st4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 init (k.val + 1) = (trip4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 k).1 (st4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 init k.val) := by
  rw [st4.eq_2]; unfold st4Step; exact dif_pos k.isLt

theorem st4_zero (init : BitVec 32 × Mxu F) : (st4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 init 0) = init := rfl

/-- The invariant before trip `k`: the read buffers at their contents, the carried state that of the recursion. -/
abbrev inv4 (init : BitVec 32 × Mxu F) (k : ℕ) (acc : BitVec 32 × Mxu F) : sProp 𝕄 :=
  iprop((arg10.view.loc (c : Thread nD τ) ↦[arg10.view.set]{fullShare} X10) ∗ (arg3.view.loc (c : Thread nD τ) ↦[arg3.view.set]{fullShare} X3) ∗ (arg11.view.loc (c : Thread nD τ) ↦[arg11.view.set]{fullShare} X11) ∗ (arg12.view.loc (c : Thread nD τ) ↦[arg12.view.set]{fullShare} X12) ∗ ⌜acc = (st4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 init k)⌝)

set_option warn.classDefReducibility false in
/-- The invariant as the executor finds it. -/
@[sl_loop] def loopInv4 (E : Set ℕ) (init : BitVec 32 × Mxu F) :
    LoopInvTy_k0_t4 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 init where
  inv := inv4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 init
  step k acc := by
    iintro ⟨H10, H3, H11, H12, %h_acc⟩
    subst h_acc
    iapply (wp_wand_r Idealize.ShloMosaic.frame (wpE (defs₀ (F := F)) Variants.none (c : Thread nD τ) none) E)
    isplitl [H10 H3 H11 H12]
    · iapply ((trip4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 k).2 E (st4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 init k))
      isplitl [H10]; · iexact H10
      isplitl [H3]; · iexact H3
      isplitl [H11]; · iexact H11
      iexact H12
    · iintro %yld ⟨%h_res, H10, H3, H11, H12⟩
      isplitl [H10]; · iexact H10
      isplitl [H3]; · iexact H3
      isplitl [H11]; · iexact H11
      isplitl [H12]; · iexact H12
      simp only [st4_succ]
      ipureintro; rw [h_res]

end Cert.Proof.GI

end
-- ==== Proof.GI.T5.lean ====
/-
  Loop 5 of the gate and up projections' kernel: one trip, the state before each trip as a recursion over the trips, and the
  invariant the loop goes through with.
-/
module

public import proofs.«01_k».proof.Proof.GI.Base

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h3 : k0_cond3 i = 1#1) (u : Mxu F) (v1 : FVec F S256x128 .f32) (v2 v3 : FVec F S256x128 .bf16) (v4 : FVec F S128x128 .bf16) (v5 : FVec F S1x128 .f32) (v6 v7 : FVec F S128x128 .f32) (X10 : BufTy.Contents (Elt F) arg10.view.ty) (X6 : BufTy.Contents (Elt F) arg6.view.ty) (X13 : BufTy.Contents (Elt F) arg13.view.ty) (X14 : BufTy.Contents (Elt F) arg14.view.ty)

/-- What one trip holds: the buffers it reads at their contents. -/
abbrev Trip5 : sProp 𝕄 :=
  iprop((arg10.view.loc (c : Thread nD τ) ↦[arg10.view.set]{fullShare} X10) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14))

set_option maxHeartbeats 8000000 in
/-- One trip at a symbolic trip number and state of the matrix unit: what it yields, as functions of the
    state; every tile is pushed into a register the accumulation before it emptied. -/
@[irreducible] def trip5 (k : Fin k0_t5_loop.trips) :
    { R : BitVec 32 × Mxu F → BitVec 32 × Mxu F // ∀ (E : Set ℕ) (acc : BitVec 32 × Mxu F),
      Trip5 (F := F) c arg6 arg10 arg13 arg14 X10 X6 X13 X14
      ⊢ wp frame (wpE (defs₀ (F := F)) Variants.none (c : Thread nD τ) none) E (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 k acc)
          (fun yld => iprop(⌜yld = R acc⌝ ∗ Trip5 (F := F) c arg6 arg10 arg13 arg14 X10 X6 X13 X14)) } := by
  have hk : k.val < 13 := Nat.lt_of_lt_of_le k.isLt k0_t5_abs.2.1
  refine ⟨?_, fun E acc => ?run⟩
  case run =>
    unfold k0_t5_body
    iintro ⟨H10, H6, H13, H14⟩
    sl_exec (disch := mxu_pushok_peel)
    sl_step
    sl_close

/-- The state after trip `k` from the state `prev` before it. -/
@[irreducible] def st5Step (k : ℕ) (prev : BitVec 32 × Mxu F) : BitVec 32 × Mxu F :=
  if h : k < k0_t5_loop.trips then (trip5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 ⟨k, h⟩).1 prev else prev

/-- The state before trip `k`. -/
def st5 (init : BitVec 32 × Mxu F) : ℕ → BitVec 32 × Mxu F
  | 0 => init
  | k + 1 => st5Step (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 k (st5 init k)

theorem st5_succ (init : BitVec 32 × Mxu F) (k : Fin k0_t5_loop.trips) :
    st5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 init (k.val + 1) = (trip5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 k).1 (st5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 init k.val) := by
  rw [st5.eq_2]; unfold st5Step; exact dif_pos k.isLt

theorem st5_zero (init : BitVec 32 × Mxu F) : (st5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 init 0) = init := rfl

/-- The invariant before trip `k`: the read buffers at their contents, the carried state that of the recursion. -/
abbrev inv5 (init : BitVec 32 × Mxu F) (k : ℕ) (acc : BitVec 32 × Mxu F) : sProp 𝕄 :=
  iprop((arg10.view.loc (c : Thread nD τ) ↦[arg10.view.set]{fullShare} X10) ∗ (arg6.view.loc (c : Thread nD τ) ↦[arg6.view.set]{fullShare} X6) ∗ (arg13.view.loc (c : Thread nD τ) ↦[arg13.view.set]{fullShare} X13) ∗ (arg14.view.loc (c : Thread nD τ) ↦[arg14.view.set]{fullShare} X14) ∗ ⌜acc = (st5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 init k)⌝)

set_option warn.classDefReducibility false in
/-- The invariant as the executor finds it. -/
@[sl_loop] def loopInv5 (E : Set ℕ) (init : BitVec 32 × Mxu F) :
    LoopInvTy_k0_t5 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 init where
  inv := inv5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 init
  step k acc := by
    iintro ⟨H10, H6, H13, H14, %h_acc⟩
    subst h_acc
    iapply (wp_wand_r Idealize.ShloMosaic.frame (wpE (defs₀ (F := F)) Variants.none (c : Thread nD τ) none) E)
    isplitl [H10 H6 H13 H14]
    · iapply ((trip5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 k).2 E (st5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 init k))
      isplitl [H10]; · iexact H10
      isplitl [H6]; · iexact H6
      isplitl [H13]; · iexact H13
      iexact H14
    · iintro %yld ⟨%h_res, H10, H6, H13, H14⟩
      isplitl [H10]; · iexact H10
      isplitl [H6]; · iexact H6
      isplitl [H13]; · iexact H13
      isplitl [H14]; · iexact H14
      simp only [st5_succ]
      ipureintro; rw [h_res]

end Cert.Proof.GI

end
-- ==== Proof.GI.Chain.lean ====
/-
  The matrix unit's state along the kernel body: after any number of tiles each unit's rows hold the sum of their passes.
-/
module

public import proofs.«01_k».proof.Proof.GI.T2
public import proofs.«01_k».proof.Proof.GI.T3
public import proofs.«01_k».proof.Proof.GI.T4
public import proofs.«01_k».proof.Proof.GI.T5
public import proofs.«01_k».proof.Proof.Tile
public import Idealize.ShloMosaic.Lib.Pipeline.ValueKit.Tiles

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile

/-- What a buffer of the body holds, read through its whole view. -/
abbrev rd {s : Shape} {e : EltTy} (m : Memref sig .tc .vmem s e) (X : BufTy.Contents (Elt F) m.view.ty) : s.Idx → Elt F e := m.view.read (Elt F) X

/-- The columns of the activations, by tile number. -/
abbrev XC (X : S720x7168.Idx → Elt F .bf16) : ℕ → FVec F S720x256 .bf16 := xcol (M := 720) (K := 7168) X

/-- The tiles of pass `p`, by unit and number. -/
abbrev TF (p : Fin 2) (W : S7168x128.Idx → BitVec 32) (Z S : S8x56x128.Idx → F .f32) : Fin 2 → ℕ → FVec F S256x256 .bf16 := fun q n =>
  tileF (K := 7168) (G := 56) W Z S p q n

theorem xc_of {arg1 : Memref sig .tc .vmem S720x7168 .bf16} {X1 : BufTy.Contents (Elt F) arg1.view.ty} {off : Fin 2 → ℕ} {inb} (n : ℕ) (hn : n < 28) (ho : off = ![0, 256 * n]) :
    arg1.view.readAt (Elt F) (Rect.unit (s := S720x7168) off S720x256.size inb).toLoadRect X1 = XC (rd arg1 X1) n := by
  subst ho
  funext x
  refine View.ld_unit_apply_of (rd arg1 X1) _ _ _ x _ fun a => ?_
  match a with
  | ⟨0, _⟩ => simp
  | ⟨1, _⟩ =>
    have h : (x 1).val < 256 := (x 1).isLt
    change (Fin.ofNat 7168 (256 * n + (x 1).val)).val = 256 * n + (x 1).val
    simp; omega

theorem w_of {arg2 : Memref sig .tc .vmem S7168x128 .i32} {X2 : BufTy.Contents (Elt F) arg2.view.ty} {off : Fin 2 → ℕ} {inb} (n : ℕ) (hn : n < 28) (ho : off = ![256 * n, 0]) (r : Fin 256) (l : Fin 128) :
    arg2.view.readAt (Elt F) (Rect.unit (s := S7168x128) off S256x128.size inb).toLoadRect X2 (ix2 r l) = rd arg2 X2 (ix2 (at' 7168 (256 * n + r.val)) l) := by
  subst ho
  refine View.ld_unit_apply_of (rd arg2 X2) _ _ _ _ _ fun a => ?_
  match a with
  | ⟨0, _⟩ => have := r.isLt; simp [at']; omega
  | ⟨1, _⟩ => simp

theorem z_of {arg7 : Memref sig .tc .vmem S8x56x128 .f32} {X7 : BufTy.Contents (Elt F) arg7.view.ty} {off : Fin 3 → ℕ} {inb} (f g : ℕ) (hf : f < 8) (hg : g < 56) (ho : off = ![f, g, 0]) (l : Fin 128) :
    arg7.view.readAt (Elt F) (Rect.unit (s := S8x56x128) off S1x1x128.size inb).toLoadRect X7 (ix3 0 0 l) = rd arg7 X7 (ix3 (at' 8 f) (at' 56 g) l) := by
  subst ho
  refine View.ld_unit_apply_of (rd arg7 X7) _ _ _ _ _ fun a => ?_
  match a with
  | ⟨0, _⟩ => simp [at']; omega
  | ⟨1, _⟩ => simp [at']; omega
  | ⟨2, _⟩ => simp

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h3 : k0_cond3 i = 1#1)

set_option maxHeartbeats 1000000 in
/-- One trip of loop 2: two accumulations, two tiles pushed. -/
theorem trip2_ready (u : Mxu F) (v1 : FVec F S256x128 .f32) (v2 v3 v4 : FVec F S256x128 .bf16) (v5 : Vec F S1x1x128 .f32) (X10 : BufTy.Contents (Elt F) arg10.view.ty) (X3 : BufTy.Contents (Elt F) arg3.view.ty) (X11 : BufTy.Contents (Elt F) arg11.view.ty) (X12 : BufTy.Contents (Elt F) arg12.view.ty) (X15 : BufTy.Contents (Elt F) arg15.view.ty) (X16 : BufTy.Contents (Elt F) arg16.view.ty) (k : Fin k0_t2_loop.trips) (a : BitVec 32 × Mxu F)
    (ha : Ready fits_0_720 (XC (rd arg10 X10)) (TF 0 (rd arg3 X3) (rd arg11 X11) (rd arg12 X12)) (fun q => TF 0 (rd arg3 X3) (rd arg11 X11) (rd arg12 X12) q (2 * k.val + 1)) (2 * k.val + 1) a.2) :
    Ready fits_0_720 (XC (rd arg10 X10)) (TF 0 (rd arg3 X3) (rd arg11 X11) (rd arg12 X12)) (fun q => TF 0 (rd arg3 X3) (rd arg11 X11) (rd arg12 X12) q (2 * k.val + 1 + 1 + 1)) (2 * k.val + 1 + 1 + 1) ((trip2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 k).1 a).2 := by
  have hk : k.val < 13 := Nat.lt_of_lt_of_le k.isLt k0_t2_abs.2.1
  unfold trip2
  dsimp only
  refine push_ready _ (acc_idle _ (push_ready (B := fun q => TF 0 (rd arg3 X3) (rd arg11 X11) (rd arg12 X12) q (2 * k.val + 1 + 1)) _ (acc_idle _ ha ?x1) ?a1 ?b1) ?x2) ?a2 ?b2
  case x1 =>
    sl_unfold_words
    refine xc_of _ (by omega) ?_
    clear * - k; revert k; decide +kernel
  case x2 =>
    sl_unfold_words
    refine xc_of _ (by omega) ?_
    clear * - k; revert k; decide +kernel
  case a1 =>
    sl_unfold_words
    refine vTile_eq (K := 7168) (G := 56) _ _ _ 0 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b1 =>
    sl_unfold_words
    refine vTile_eq (K := 7168) (G := 56) _ _ _ 0 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case a2 =>
    sl_unfold_words
    refine vTile_eq (K := 7168) (G := 56) _ _ _ 0 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b2 =>
    sl_unfold_words
    refine vTile_eq (K := 7168) (G := 56) _ _ _ 0 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)

/-- The state before trip `k`. -/
theorem st2_ready (u : Mxu F) (v1 : FVec F S256x128 .f32) (v2 v3 v4 : FVec F S256x128 .bf16) (v5 : Vec F S1x1x128 .f32) (X10 : BufTy.Contents (Elt F) arg10.view.ty) (X3 : BufTy.Contents (Elt F) arg3.view.ty) (X11 : BufTy.Contents (Elt F) arg11.view.ty) (X12 : BufTy.Contents (Elt F) arg12.view.ty) (X15 : BufTy.Contents (Elt F) arg15.view.ty) (X16 : BufTy.Contents (Elt F) arg16.view.ty) (init : BitVec 32 × Mxu F)
    (hi : Ready fits_0_720 (XC (rd arg10 X10)) (TF 0 (rd arg3 X3) (rd arg11 X11) (rd arg12 X12)) (fun q => TF 0 (rd arg3 X3) (rd arg11 X11) (rd arg12 X12) q (1)) (1) init.2) (k : ℕ) (hk : k ≤ k0_t2_loop.trips) :
    Ready fits_0_720 (XC (rd arg10 X10)) (TF 0 (rd arg3 X3) (rd arg11 X11) (rd arg12 X12)) (fun q => TF 0 (rd arg3 X3) (rd arg11 X11) (rd arg12 X12) q (2 * k + 1)) (2 * k + 1) (st2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init k).1.2 := by
  induction k with
  | zero => exact hi
  | succ k ih =>
    have e := st2_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init ⟨k, hk⟩
    dsimp only at e
    rw [e]
    exact trip2_ready c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 ⟨k, hk⟩ _ (ih (Nat.le_of_succ_le hk))

set_option maxHeartbeats 1000000 in
/-- One trip of loop 3: two accumulations, two tiles pushed. -/
theorem trip3_ready (u : Mxu F) (c0 c1 : BitVec 32) (X10 : BufTy.Contents (Elt F) arg10.view.ty) (X6 : BufTy.Contents (Elt F) arg6.view.ty) (X13 : BufTy.Contents (Elt F) arg13.view.ty) (X14 : BufTy.Contents (Elt F) arg14.view.ty) (k : Fin k0_t3_loop.trips) (a : BitVec 32 × Mxu F)
    (ha : Ready fits_0_720 (XC (rd arg10 X10)) (TF 0 (rd arg6 X6) (rd arg13 X13) (rd arg14 X14)) (fun q => TF 0 (rd arg6 X6) (rd arg13 X13) (rd arg14 X14) q (2 * k.val + 1)) (2 * k.val + 1) a.2) :
    Ready fits_0_720 (XC (rd arg10 X10)) (TF 0 (rd arg6 X6) (rd arg13 X13) (rd arg14 X14)) (fun q => TF 0 (rd arg6 X6) (rd arg13 X13) (rd arg14 X14) q (2 * k.val + 1 + 1 + 1)) (2 * k.val + 1 + 1 + 1) ((trip3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 k).1 a).2 := by
  have hk : k.val < 13 := Nat.lt_of_lt_of_le k.isLt k0_t3_abs.2.1
  unfold trip3
  dsimp only
  refine push_ready _ (acc_idle _ (push_ready (B := fun q => TF 0 (rd arg6 X6) (rd arg13 X13) (rd arg14 X14) q (2 * k.val + 1 + 1)) _ (acc_idle _ ha ?x1) ?a1 ?b1) ?x2) ?a2 ?b2
  case x1 =>
    sl_unfold_words
    refine xc_of _ (by omega) ?_
    clear * - k; revert k; decide +kernel
  case x2 =>
    sl_unfold_words
    refine xc_of _ (by omega) ?_
    clear * - k; revert k; decide +kernel
  case a1 =>
    sl_unfold_words
    refine vTile_eq (K := 7168) (G := 56) _ _ _ 0 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b1 =>
    sl_unfold_words
    refine vTile_eq (K := 7168) (G := 56) _ _ _ 0 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case a2 =>
    sl_unfold_words
    refine vTile_eq (K := 7168) (G := 56) _ _ _ 0 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b2 =>
    sl_unfold_words
    refine vTile_eq (K := 7168) (G := 56) _ _ _ 0 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)

/-- The state before trip `k`. -/
theorem st3_ready (u : Mxu F) (c0 c1 : BitVec 32) (X10 : BufTy.Contents (Elt F) arg10.view.ty) (X6 : BufTy.Contents (Elt F) arg6.view.ty) (X13 : BufTy.Contents (Elt F) arg13.view.ty) (X14 : BufTy.Contents (Elt F) arg14.view.ty) (init : BitVec 32 × Mxu F)
    (hi : Ready fits_0_720 (XC (rd arg10 X10)) (TF 0 (rd arg6 X6) (rd arg13 X13) (rd arg14 X14)) (fun q => TF 0 (rd arg6 X6) (rd arg13 X13) (rd arg14 X14) q (1)) (1) init.2) (k : ℕ) (hk : k ≤ k0_t3_loop.trips) :
    Ready fits_0_720 (XC (rd arg10 X10)) (TF 0 (rd arg6 X6) (rd arg13 X13) (rd arg14 X14)) (fun q => TF 0 (rd arg6 X6) (rd arg13 X13) (rd arg14 X14) q (2 * k + 1)) (2 * k + 1) (st3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 init k).2 := by
  induction k with
  | zero => exact hi
  | succ k ih =>
    have e := st3_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 init ⟨k, hk⟩
    dsimp only at e
    rw [e]
    exact trip3_ready c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u c0 c1 X10 X6 X13 X14 ⟨k, hk⟩ _ (ih (Nat.le_of_succ_le hk))

set_option maxHeartbeats 1000000 in
/-- One trip of loop 4: two accumulations, two tiles pushed. -/
theorem trip4_ready (u : Mxu F) (v1 : FVec F S256x128 .f32) (v2 v3 v4 : FVec F S256x128 .bf16) (v5 : FVec F S128x128 .bf16) (X10 : BufTy.Contents (Elt F) arg10.view.ty) (X3 : BufTy.Contents (Elt F) arg3.view.ty) (X11 : BufTy.Contents (Elt F) arg11.view.ty) (X12 : BufTy.Contents (Elt F) arg12.view.ty) (k : Fin k0_t4_loop.trips) (a : BitVec 32 × Mxu F)
    (ha : Ready fits_0_720 (XC (rd arg10 X10)) (TF 1 (rd arg3 X3) (rd arg11 X11) (rd arg12 X12)) (fun q => TF 1 (rd arg3 X3) (rd arg11 X11) (rd arg12 X12) q (2 * k.val + 1)) (2 * k.val + 1) a.2) :
    Ready fits_0_720 (XC (rd arg10 X10)) (TF 1 (rd arg3 X3) (rd arg11 X11) (rd arg12 X12)) (fun q => TF 1 (rd arg3 X3) (rd arg11 X11) (rd arg12 X12) q (2 * k.val + 1 + 1 + 1)) (2 * k.val + 1 + 1 + 1) ((trip4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 k).1 a).2 := by
  have hk : k.val < 13 := Nat.lt_of_lt_of_le k.isLt k0_t4_abs.2.1
  unfold trip4
  dsimp only
  refine push_ready _ (acc_idle _ (push_ready (B := fun q => TF 1 (rd arg3 X3) (rd arg11 X11) (rd arg12 X12) q (2 * k.val + 1 + 1)) _ (acc_idle _ ha ?x1) ?a1 ?b1) ?x2) ?a2 ?b2
  case x1 =>
    sl_unfold_words
    refine xc_of _ (by omega) ?_
    clear * - k; revert k; decide +kernel
  case x2 =>
    sl_unfold_words
    refine xc_of _ (by omega) ?_
    clear * - k; revert k; decide +kernel
  case a1 =>
    sl_unfold_words
    refine vTile_eq (K := 7168) (G := 56) _ _ _ 1 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b1 =>
    sl_unfold_words
    refine vTile_eq (K := 7168) (G := 56) _ _ _ 1 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case a2 =>
    sl_unfold_words
    refine vTile_eq (K := 7168) (G := 56) _ _ _ 1 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b2 =>
    sl_unfold_words
    refine vTile_eq (K := 7168) (G := 56) _ _ _ 1 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)

/-- The state before trip `k`. -/
theorem st4_ready (u : Mxu F) (v1 : FVec F S256x128 .f32) (v2 v3 v4 : FVec F S256x128 .bf16) (v5 : FVec F S128x128 .bf16) (X10 : BufTy.Contents (Elt F) arg10.view.ty) (X3 : BufTy.Contents (Elt F) arg3.view.ty) (X11 : BufTy.Contents (Elt F) arg11.view.ty) (X12 : BufTy.Contents (Elt F) arg12.view.ty) (init : BitVec 32 × Mxu F)
    (hi : Ready fits_0_720 (XC (rd arg10 X10)) (TF 1 (rd arg3 X3) (rd arg11 X11) (rd arg12 X12)) (fun q => TF 1 (rd arg3 X3) (rd arg11 X11) (rd arg12 X12) q (1)) (1) init.2) (k : ℕ) (hk : k ≤ k0_t4_loop.trips) :
    Ready fits_0_720 (XC (rd arg10 X10)) (TF 1 (rd arg3 X3) (rd arg11 X11) (rd arg12 X12)) (fun q => TF 1 (rd arg3 X3) (rd arg11 X11) (rd arg12 X12) q (2 * k + 1)) (2 * k + 1) (st4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 init k).2 := by
  induction k with
  | zero => exact hi
  | succ k ih =>
    have e := st4_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 init ⟨k, hk⟩
    dsimp only at e
    rw [e]
    exact trip4_ready c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 ⟨k, hk⟩ _ (ih (Nat.le_of_succ_le hk))

set_option maxHeartbeats 1000000 in
/-- One trip of loop 5: two accumulations, two tiles pushed. -/
theorem trip5_ready (u : Mxu F) (v1 : FVec F S256x128 .f32) (v2 v3 : FVec F S256x128 .bf16) (v4 : FVec F S128x128 .bf16) (v5 : FVec F S1x128 .f32) (v6 v7 : FVec F S128x128 .f32) (X10 : BufTy.Contents (Elt F) arg10.view.ty) (X6 : BufTy.Contents (Elt F) arg6.view.ty) (X13 : BufTy.Contents (Elt F) arg13.view.ty) (X14 : BufTy.Contents (Elt F) arg14.view.ty) (k : Fin k0_t5_loop.trips) (a : BitVec 32 × Mxu F)
    (ha : Ready fits_0_720 (XC (rd arg10 X10)) (TF 1 (rd arg6 X6) (rd arg13 X13) (rd arg14 X14)) (fun q => TF 1 (rd arg6 X6) (rd arg13 X13) (rd arg14 X14) q (2 * k.val + 1)) (2 * k.val + 1) a.2) :
    Ready fits_0_720 (XC (rd arg10 X10)) (TF 1 (rd arg6 X6) (rd arg13 X13) (rd arg14 X14)) (fun q => TF 1 (rd arg6 X6) (rd arg13 X13) (rd arg14 X14) q (2 * k.val + 1 + 1 + 1)) (2 * k.val + 1 + 1 + 1) ((trip5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 k).1 a).2 := by
  have hk : k.val < 13 := Nat.lt_of_lt_of_le k.isLt k0_t5_abs.2.1
  unfold trip5
  dsimp only
  refine push_ready _ (acc_idle _ (push_ready (B := fun q => TF 1 (rd arg6 X6) (rd arg13 X13) (rd arg14 X14) q (2 * k.val + 1 + 1)) _ (acc_idle _ ha ?x1) ?a1 ?b1) ?x2) ?a2 ?b2
  case x1 =>
    sl_unfold_words
    refine xc_of _ (by omega) ?_
    clear * - k; revert k; decide +kernel
  case x2 =>
    sl_unfold_words
    refine xc_of _ (by omega) ?_
    clear * - k; revert k; decide +kernel
  case a1 =>
    sl_unfold_words
    refine vTile_eq (K := 7168) (G := 56) _ _ _ 1 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b1 =>
    sl_unfold_words
    refine vTile_eq (K := 7168) (G := 56) _ _ _ 1 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case a2 =>
    sl_unfold_words
    refine vTile_eq (K := 7168) (G := 56) _ _ _ 1 0 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)
  case b2 =>
    sl_unfold_words
    refine vTile_eq (K := 7168) (G := 56) _ _ _ 1 1 _ (w_of _ (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_) (z_of _ _ (by decide) (by omega) ?_)
    all_goals (clear * - k; revert k; decide +kernel)

/-- The state before trip `k`. -/
theorem st5_ready (u : Mxu F) (v1 : FVec F S256x128 .f32) (v2 v3 : FVec F S256x128 .bf16) (v4 : FVec F S128x128 .bf16) (v5 : FVec F S1x128 .f32) (v6 v7 : FVec F S128x128 .f32) (X10 : BufTy.Contents (Elt F) arg10.view.ty) (X6 : BufTy.Contents (Elt F) arg6.view.ty) (X13 : BufTy.Contents (Elt F) arg13.view.ty) (X14 : BufTy.Contents (Elt F) arg14.view.ty) (init : BitVec 32 × Mxu F)
    (hi : Ready fits_0_720 (XC (rd arg10 X10)) (TF 1 (rd arg6 X6) (rd arg13 X13) (rd arg14 X14)) (fun q => TF 1 (rd arg6 X6) (rd arg13 X13) (rd arg14 X14) q (1)) (1) init.2) (k : ℕ) (hk : k ≤ k0_t5_loop.trips) :
    Ready fits_0_720 (XC (rd arg10 X10)) (TF 1 (rd arg6 X6) (rd arg13 X13) (rd arg14 X14)) (fun q => TF 1 (rd arg6 X6) (rd arg13 X13) (rd arg14 X14) q (2 * k + 1)) (2 * k + 1) (st5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 init k).2 := by
  induction k with
  | zero => exact hi
  | succ k ih =>
    have e := st5_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 init ⟨k, hk⟩
    dsimp only at e
    rw [e]
    exact trip5_ready c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 v6 v7 X10 X6 X13 X14 ⟨k, hk⟩ _ (ih (Nat.le_of_succ_le hk))

end Cert.Proof.GI

end
-- ==== Proof.GI.Out.lean ====
/-
  The output block of a grid point: what the gate and up products of the block before give, thirty-two rows at a time.
-/
module

public import proofs.«01_k».proof.Proof.GI.Chain
public import proofs.«01_k».proof.Proof.Spec

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

/-- One element: the gate product times its logistic, times the up product, rounded. -/
def actE (g u : F .f32) : F .bf16 := FloatOps.truncf .bf16 (by decide) (FloatOps.mulf (FloatOps.mulf g (FloatOps.logistic g)) u)

/-- The output block: each column's field's element. -/
def outG (Y U : S8x720x128.Idx → F .f32) : S720x1024.Idx → F .bf16 := fun i =>
  FloatOps.truncf .bf16 (by decide) (FloatOps.extf .f32 (by decide) (actE (Y (ix3 (at' 8 (inv ((i 1).val % 8))) (i 0) (at' 128 ((i 1).val / 8)))) (U (ix3 (at' 8 (inv ((i 1).val % 8))) (i 0) (at' 128 ((i 1).val / 8))))))

/-- The elements of the eight fields, as the kernel computes them. -/
abbrev acts (g u : Fin 8 → FVec F S32x128 .f32) : Fin 8 → FVec F S32x128 .f32 := fun f =>
  extf .f32 (truncf .bf16 (mulf (mulf (g f) (logistic (g f))) (u f)) bitsLt_bf16_f32) bitsLt_bf16_f32

/-- One stored tile: the fields' elements taken back to columns. -/
theorem piece_at (Y U : S8x720x128.Idx → F .f32) (g u : Fin 8 → FVec F S32x128 .f32) (s : ℕ) (t : Fin 8)
    (h : (Sh 32).Rotates 1 none) (h1 : (Sh 32).ShapeCasts (ShT 32)) (h2 : (ShT 32).ShapeCasts (Sh 32)) (hi : Shape.Iotas (Sh 32) .tc 32 [1])
    (hg : ∀ f r l, g f (ix r l) = Y (ix3 f (at' 720 (s + r.val)) l)) (hu : ∀ f r l, u f (ix r l) = U (ix3 f (at' 720 (s + r.val)) l)) (o : ℕ) (ho : o = 128 * t.val) (r : Fin 32) (l : Fin 128) :
    truncf (F := F) .bf16 (vToC h h1 h2 hi (acts g u) t) bitsLt_bf16_f32 (ix r l) = outG Y U (ix2 (at' 720 (s + r.val)) (at' 1024 (o + l.val))) := by
  subst ho
  refine Eq.trans (b := FloatOps.truncf .bf16 bitsLt_bf16_f32 (vToC h h1 h2 hi (acts g u) t (ix r l))) rfl ?_
  rw [vToC_at]
  refine Eq.trans (b := FloatOps.truncf .bf16 bitsLt_bf16_f32 (FloatOps.extf .f32 bitsLt_bf16_f32 (actE (g (at' 8 (inv (l.val % 8))) (ix r (at' 128 (16 * t.val + l.val / 8)))) (u (at' 8 (inv (l.val % 8))) (ix r (at' 128 (16 * t.val + l.val / 8))))))) rfl ?_
  rw [hg, hu]
  unfold outG
  have ht := t.isLt; have hl := l.isLt
  have e1 : ((at' 1024 (128 * t.val + l.val)).val) = 128 * t.val + l.val := by simp [at']; omega
  simp only [ix2_0, ix2_1, e1]
  rw [show (128 * t.val + l.val) % 8 = l.val % 8 by omega, show (128 * t.val + l.val) / 8 = 16 * t.val + l.val / 8 by omega]

/-- A load of thirty-two rows of one field's products. -/
theorem y_of {arg9 : Memref sig .tc .vmem S8x720x128 .f32} {X9 : BufTy.Contents (Elt F) arg9.view.ty} {off : Fin 3 → ℕ} {inb} {h} (f : Fin 8) (s : ℕ) (hs : s ≤ 688) (ho : off = ![f.val, s, 0]) (r : Fin 32) (l : Fin 128) :
    shapeCast S32x128 (arg9.view.readAt (Elt F) (Rect.unit (s := S8x720x128) off S1x32x128.size inb).toLoadRect X9) h (ix2 r l) = rd arg9 X9 (ix3 f (at' 720 (s + r.val)) l) := by
  subst ho
  refine (cast_off _ h r l).trans ?_
  refine View.ld_unit_apply_of (rd arg9 X9) _ _ _ _ _ fun a => ?_
  match a with
  | ⟨0, _⟩ => simp
  | ⟨1, _⟩ => have := r.isLt; simp [at']; omega
  | ⟨2, _⟩ => simp

/-- The eight fields' rows loaded in a trip. -/
abbrev rows2a (i : grid0.Coords) (arg15 : Memref sig .tc .vmem S8x720x128 .f32) (X15 : BufTy.Contents (Elt F) arg15.view.ty) (h3 : k0_cond3 i = 1#1) (k : Fin k0_t2_loop.trips) : Fin 8 → FVec F S32x128 .f32 :=
  fun f => match f with | 0 => shapeCast S32x128 (arg15.view.readAt (Elt F) (Rect.unit (s := S8x720x128) (k0_off70 k 0#32) S1x32x128.size (k0_off70_inb i k h3 0)).toLoadRect X15) shapeCasts_S1x32x128_S32x128 | 1 => shapeCast S32x128 (arg15.view.readAt (Elt F) (Rect.unit (s := S8x720x128) (k0_off71 k 0#32) S1x32x128.size (k0_off71_inb i k h3 0)).toLoadRect X15) shapeCasts_S1x32x128_S32x128 | 2 => shapeCast S32x128 (arg15.view.readAt (Elt F) (Rect.unit (s := S8x720x128) (k0_off72 k 0#32) S1x32x128.size (k0_off72_inb i k h3 0)).toLoadRect X15) shapeCasts_S1x32x128_S32x128 | 3 => shapeCast S32x128 (arg15.view.readAt (Elt F) (Rect.unit (s := S8x720x128) (k0_off73 k 0#32) S1x32x128.size (k0_off73_inb i k h3 0)).toLoadRect X15) shapeCasts_S1x32x128_S32x128 | 4 => shapeCast S32x128 (arg15.view.readAt (Elt F) (Rect.unit (s := S8x720x128) (k0_off74 k 0#32) S1x32x128.size (k0_off74_inb i k h3 0)).toLoadRect X15) shapeCasts_S1x32x128_S32x128 | 5 => shapeCast S32x128 (arg15.view.readAt (Elt F) (Rect.unit (s := S8x720x128) (k0_off75 k 0#32) S1x32x128.size (k0_off75_inb i k h3 0)).toLoadRect X15) shapeCasts_S1x32x128_S32x128 | 6 => shapeCast S32x128 (arg15.view.readAt (Elt F) (Rect.unit (s := S8x720x128) (k0_off76 k 0#32) S1x32x128.size (k0_off76_inb i k h3 0)).toLoadRect X15) shapeCasts_S1x32x128_S32x128 | 7 => shapeCast S32x128 (arg15.view.readAt (Elt F) (Rect.unit (s := S8x720x128) (k0_off77 k 0#32) S1x32x128.size (k0_off77_inb i k h3 0)).toLoadRect X15) shapeCasts_S1x32x128_S32x128

theorem rows2a_at (i : grid0.Coords) (arg15 : Memref sig .tc .vmem S8x720x128 .f32) (X15 : BufTy.Contents (Elt F) arg15.view.ty) (h3 : k0_cond3 i = 1#1) (k : Fin k0_t2_loop.trips) (f : Fin 8) (r : Fin 32) (l : Fin 128) :
    rows2a i arg15 X15 h3 k f (ix2 r l) = rd arg15 X15 (ix3 f (at' 720 (min (32 * (2 * k.val)) 688 + r.val)) l) := by
  match f with
  | 0 => exact y_of 0 _ (Nat.min_le_right _ _) (by clear * - k; revert k; decide +kernel) r l
  | 1 => exact y_of 1 _ (Nat.min_le_right _ _) (by clear * - k; revert k; decide +kernel) r l
  | 2 => exact y_of 2 _ (Nat.min_le_right _ _) (by clear * - k; revert k; decide +kernel) r l
  | 3 => exact y_of 3 _ (Nat.min_le_right _ _) (by clear * - k; revert k; decide +kernel) r l
  | 4 => exact y_of 4 _ (Nat.min_le_right _ _) (by clear * - k; revert k; decide +kernel) r l
  | 5 => exact y_of 5 _ (Nat.min_le_right _ _) (by clear * - k; revert k; decide +kernel) r l
  | 6 => exact y_of 6 _ (Nat.min_le_right _ _) (by clear * - k; revert k; decide +kernel) r l
  | 7 => exact y_of 7 _ (Nat.min_le_right _ _) (by clear * - k; revert k; decide +kernel) r l

/-- The eight fields' rows loaded in a trip. -/
abbrev rows2b (i : grid0.Coords) (arg15 : Memref sig .tc .vmem S8x720x128 .f32) (X15 : BufTy.Contents (Elt F) arg15.view.ty) (h3 : k0_cond3 i = 1#1) (k : Fin k0_t2_loop.trips) : Fin 8 → FVec F S32x128 .f32 :=
  fun f => match f with | 0 => shapeCast S32x128 (arg15.view.readAt (Elt F) (Rect.unit (s := S8x720x128) (k0_off70 k 1#32) S1x32x128.size (k0_off70_inb i k h3 1)).toLoadRect X15) shapeCasts_S1x32x128_S32x128 | 1 => shapeCast S32x128 (arg15.view.readAt (Elt F) (Rect.unit (s := S8x720x128) (k0_off71 k 1#32) S1x32x128.size (k0_off71_inb i k h3 1)).toLoadRect X15) shapeCasts_S1x32x128_S32x128 | 2 => shapeCast S32x128 (arg15.view.readAt (Elt F) (Rect.unit (s := S8x720x128) (k0_off72 k 1#32) S1x32x128.size (k0_off72_inb i k h3 1)).toLoadRect X15) shapeCasts_S1x32x128_S32x128 | 3 => shapeCast S32x128 (arg15.view.readAt (Elt F) (Rect.unit (s := S8x720x128) (k0_off73 k 1#32) S1x32x128.size (k0_off73_inb i k h3 1)).toLoadRect X15) shapeCasts_S1x32x128_S32x128 | 4 => shapeCast S32x128 (arg15.view.readAt (Elt F) (Rect.unit (s := S8x720x128) (k0_off74 k 1#32) S1x32x128.size (k0_off74_inb i k h3 1)).toLoadRect X15) shapeCasts_S1x32x128_S32x128 | 5 => shapeCast S32x128 (arg15.view.readAt (Elt F) (Rect.unit (s := S8x720x128) (k0_off75 k 1#32) S1x32x128.size (k0_off75_inb i k h3 1)).toLoadRect X15) shapeCasts_S1x32x128_S32x128 | 6 => shapeCast S32x128 (arg15.view.readAt (Elt F) (Rect.unit (s := S8x720x128) (k0_off76 k 1#32) S1x32x128.size (k0_off76_inb i k h3 1)).toLoadRect X15) shapeCasts_S1x32x128_S32x128 | 7 => shapeCast S32x128 (arg15.view.readAt (Elt F) (Rect.unit (s := S8x720x128) (k0_off77 k 1#32) S1x32x128.size (k0_off77_inb i k h3 1)).toLoadRect X15) shapeCasts_S1x32x128_S32x128

theorem rows2b_at (i : grid0.Coords) (arg15 : Memref sig .tc .vmem S8x720x128 .f32) (X15 : BufTy.Contents (Elt F) arg15.view.ty) (h3 : k0_cond3 i = 1#1) (k : Fin k0_t2_loop.trips) (f : Fin 8) (r : Fin 32) (l : Fin 128) :
    rows2b i arg15 X15 h3 k f (ix2 r l) = rd arg15 X15 (ix3 f (at' 720 (min (32 * (2 * k.val + 1)) 688 + r.val)) l) := by
  match f with
  | 0 => exact y_of 0 _ (Nat.min_le_right _ _) (by clear * - k; revert k; decide +kernel) r l
  | 1 => exact y_of 1 _ (Nat.min_le_right _ _) (by clear * - k; revert k; decide +kernel) r l
  | 2 => exact y_of 2 _ (Nat.min_le_right _ _) (by clear * - k; revert k; decide +kernel) r l
  | 3 => exact y_of 3 _ (Nat.min_le_right _ _) (by clear * - k; revert k; decide +kernel) r l
  | 4 => exact y_of 4 _ (Nat.min_le_right _ _) (by clear * - k; revert k; decide +kernel) r l
  | 5 => exact y_of 5 _ (Nat.min_le_right _ _) (by clear * - k; revert k; decide +kernel) r l
  | 6 => exact y_of 6 _ (Nat.min_le_right _ _) (by clear * - k; revert k; decide +kernel) r l
  | 7 => exact y_of 7 _ (Nat.min_le_right _ _) (by clear * - k; revert k; decide +kernel) r l

/-- The eight fields' rows loaded in a trip. -/
abbrev rows6 (i : grid0.Coords) (arg15 : Memref sig .tc .vmem S8x720x128 .f32) (X15 : BufTy.Contents (Elt F) arg15.view.ty) (h4 : k0_cond4 i = 1#1) (k : Fin k0_t6_loop.trips) : Fin 8 → FVec F S32x128 .f32 :=
  fun f => match f with | 0 => shapeCast S32x128 (arg15.view.readAt (Elt F) (Rect.unit (s := S8x720x128) (k0_off104 k) S1x32x128.size (k0_off104_inb i k h4)).toLoadRect X15) shapeCasts_S1x32x128_S32x128 | 1 => shapeCast S32x128 (arg15.view.readAt (Elt F) (Rect.unit (s := S8x720x128) (k0_off105 k) S1x32x128.size (k0_off105_inb i k h4)).toLoadRect X15) shapeCasts_S1x32x128_S32x128 | 2 => shapeCast S32x128 (arg15.view.readAt (Elt F) (Rect.unit (s := S8x720x128) (k0_off106 k) S1x32x128.size (k0_off106_inb i k h4)).toLoadRect X15) shapeCasts_S1x32x128_S32x128 | 3 => shapeCast S32x128 (arg15.view.readAt (Elt F) (Rect.unit (s := S8x720x128) (k0_off107 k) S1x32x128.size (k0_off107_inb i k h4)).toLoadRect X15) shapeCasts_S1x32x128_S32x128 | 4 => shapeCast S32x128 (arg15.view.readAt (Elt F) (Rect.unit (s := S8x720x128) (k0_off108 k) S1x32x128.size (k0_off108_inb i k h4)).toLoadRect X15) shapeCasts_S1x32x128_S32x128 | 5 => shapeCast S32x128 (arg15.view.readAt (Elt F) (Rect.unit (s := S8x720x128) (k0_off109 k) S1x32x128.size (k0_off109_inb i k h4)).toLoadRect X15) shapeCasts_S1x32x128_S32x128 | 6 => shapeCast S32x128 (arg15.view.readAt (Elt F) (Rect.unit (s := S8x720x128) (k0_off110 k) S1x32x128.size (k0_off110_inb i k h4)).toLoadRect X15) shapeCasts_S1x32x128_S32x128 | 7 => shapeCast S32x128 (arg15.view.readAt (Elt F) (Rect.unit (s := S8x720x128) (k0_off111 k) S1x32x128.size (k0_off111_inb i k h4)).toLoadRect X15) shapeCasts_S1x32x128_S32x128

theorem rows6_at (i : grid0.Coords) (arg15 : Memref sig .tc .vmem S8x720x128 .f32) (X15 : BufTy.Contents (Elt F) arg15.view.ty) (h4 : k0_cond4 i = 1#1) (k : Fin k0_t6_loop.trips) (f : Fin 8) (r : Fin 32) (l : Fin 128) :
    rows6 i arg15 X15 h4 k f (ix2 r l) = rd arg15 X15 (ix3 f (at' 720 (min (32 * k.val) 688 + r.val)) l) := by
  match f with
  | 0 => exact y_of 0 _ (Nat.min_le_right _ _) (by clear * - k; revert k; decide +kernel) r l
  | 1 => exact y_of 1 _ (Nat.min_le_right _ _) (by clear * - k; revert k; decide +kernel) r l
  | 2 => exact y_of 2 _ (Nat.min_le_right _ _) (by clear * - k; revert k; decide +kernel) r l
  | 3 => exact y_of 3 _ (Nat.min_le_right _ _) (by clear * - k; revert k; decide +kernel) r l
  | 4 => exact y_of 4 _ (Nat.min_le_right _ _) (by clear * - k; revert k; decide +kernel) r l
  | 5 => exact y_of 5 _ (Nat.min_le_right _ _) (by clear * - k; revert k; decide +kernel) r l
  | 6 => exact y_of 6 _ (Nat.min_le_right _ _) (by clear * - k; revert k; decide +kernel) r l
  | 7 => exact y_of 7 _ (Nat.min_le_right _ _) (by clear * - k; revert k; decide +kernel) r l

set_option maxHeartbeats 1000000 in
/-- One trip's stores, at the last grid point. -/
theorem trip6_out (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h4 : k0_cond4 i = 1#1) (X15 : BufTy.Contents (Elt F) arg15.view.ty) (X16 : BufTy.Contents (Elt F) arg16.view.ty) (k : Fin k0_t6_loop.trips) (a : BitVec 32) (L : List (View.Piece (Elt F) S720x1024 .bf16)) (hL : Blocks (outG (rd arg15 X15) (rd arg16 X16)) (32 * k.val) L) :
    Blocks (outG (rd arg15 X15) (rd arg16 X16)) (32 * (k.val + 1)) ((trip_k0_t6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 X15 X16 k).2.1 a ++ L) := by
  have hk : k.val < 23 := Nat.lt_of_lt_of_le k.isLt k0_t6_abs.2.1
  unfold trip_k0_t6
  dsimp only
  refine Blocks.step (k := k.val) (s := min (32 * (k.val)) 688) hL rfl ?e0 ?e1 ?e2 ?e3 ?e4 ?e5 ?e6 ?e7 _ _ _ _ _ _ _ _ _ _ _ _ _ _ _ _ ?h0 ?h1 ?h2 ?h3 ?h4 ?h5 ?h6 ?h7
  case e0 => clear * - k; revert k; decide +kernel
  case h0 =>
    intro r l
    sl_unfold_words
    exact piece_at (rd arg15 X15) (rd arg16 X16) (rows6 i arg15 X15 h4 k) (rows6 i arg16 X16 h4 k) _ 0 rotates_S32x128_d1 shapeCasts_S32x128_S32x128x1 shapeCasts_S32x128x1_S32x128 iota_S32x128_d1_w32
      (rows6_at i arg15 X15 h4 k) (rows6_at i arg16 X16 h4 k) 0 rfl r l
  case e1 => clear * - k; revert k; decide +kernel
  case h1 =>
    intro r l
    sl_unfold_words
    exact piece_at (rd arg15 X15) (rd arg16 X16) (rows6 i arg15 X15 h4 k) (rows6 i arg16 X16 h4 k) _ 1 rotates_S32x128_d1 shapeCasts_S32x128_S32x128x1 shapeCasts_S32x128x1_S32x128 iota_S32x128_d1_w32
      (rows6_at i arg15 X15 h4 k) (rows6_at i arg16 X16 h4 k) 128 rfl r l
  case e2 => clear * - k; revert k; decide +kernel
  case h2 =>
    intro r l
    sl_unfold_words
    exact piece_at (rd arg15 X15) (rd arg16 X16) (rows6 i arg15 X15 h4 k) (rows6 i arg16 X16 h4 k) _ 2 rotates_S32x128_d1 shapeCasts_S32x128_S32x128x1 shapeCasts_S32x128x1_S32x128 iota_S32x128_d1_w32
      (rows6_at i arg15 X15 h4 k) (rows6_at i arg16 X16 h4 k) 256 rfl r l
  case e3 => clear * - k; revert k; decide +kernel
  case h3 =>
    intro r l
    sl_unfold_words
    exact piece_at (rd arg15 X15) (rd arg16 X16) (rows6 i arg15 X15 h4 k) (rows6 i arg16 X16 h4 k) _ 3 rotates_S32x128_d1 shapeCasts_S32x128_S32x128x1 shapeCasts_S32x128x1_S32x128 iota_S32x128_d1_w32
      (rows6_at i arg15 X15 h4 k) (rows6_at i arg16 X16 h4 k) 384 rfl r l
  case e4 => clear * - k; revert k; decide +kernel
  case h4 =>
    intro r l
    sl_unfold_words
    exact piece_at (rd arg15 X15) (rd arg16 X16) (rows6 i arg15 X15 h4 k) (rows6 i arg16 X16 h4 k) _ 4 rotates_S32x128_d1 shapeCasts_S32x128_S32x128x1 shapeCasts_S32x128x1_S32x128 iota_S32x128_d1_w32
      (rows6_at i arg15 X15 h4 k) (rows6_at i arg16 X16 h4 k) 512 rfl r l
  case e5 => clear * - k; revert k; decide +kernel
  case h5 =>
    intro r l
    sl_unfold_words
    exact piece_at (rd arg15 X15) (rd arg16 X16) (rows6 i arg15 X15 h4 k) (rows6 i arg16 X16 h4 k) _ 5 rotates_S32x128_d1 shapeCasts_S32x128_S32x128x1 shapeCasts_S32x128x1_S32x128 iota_S32x128_d1_w32
      (rows6_at i arg15 X15 h4 k) (rows6_at i arg16 X16 h4 k) 640 rfl r l
  case e6 => clear * - k; revert k; decide +kernel
  case h6 =>
    intro r l
    sl_unfold_words
    exact piece_at (rd arg15 X15) (rd arg16 X16) (rows6 i arg15 X15 h4 k) (rows6 i arg16 X16 h4 k) _ 6 rotates_S32x128_d1 shapeCasts_S32x128_S32x128x1 shapeCasts_S32x128x1_S32x128 iota_S32x128_d1_w32
      (rows6_at i arg15 X15 h4 k) (rows6_at i arg16 X16 h4 k) 768 rfl r l
  case e7 => clear * - k; revert k; decide +kernel
  case h7 =>
    intro r l
    sl_unfold_words
    exact piece_at (rd arg15 X15) (rd arg16 X16) (rows6 i arg15 X15 h4 k) (rows6 i arg16 X16 h4 k) _ 7 rotates_S32x128_d1 shapeCasts_S32x128_S32x128x1 shapeCasts_S32x128x1_S32x128 iota_S32x128_d1_w32
      (rows6_at i arg15 X15 h4 k) (rows6_at i arg16 X16 h4 k) 896 rfl r l

/-- The stores of the trips before trip `k`. -/
theorem st6_out (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h4 : k0_cond4 i = 1#1)  (X15 : BufTy.Contents (Elt F) arg15.view.ty) (X16 : BufTy.Contents (Elt F) arg16.view.ty) (init : BitVec 32) (k : ℕ) (hk : k ≤ k0_t6_loop.trips) :
    Blocks (outG (rd arg15 X15) (rd arg16 X16)) (32 * (k)) (st_k0_t6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 X15 X16 init k).2 := by
  induction k with
  | zero => exact Blocks.nil _
  | succ k ih =>
    have e := st_k0_t6_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 X15 X16 init ⟨k, hk⟩
    dsimp only at e
    rw [e]
    exact trip6_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 X15 X16 ⟨k, hk⟩ _ _ (ih (Nat.le_of_succ_le hk))

set_option maxHeartbeats 2000000 in
/-- One trip's stores: two chunks of thirty-two rows. -/
theorem trip2_out (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h3 : k0_cond3 i = 1#1) (u : Mxu F) (v1 : FVec F S256x128 .f32) (v2 v3 v4 : FVec F S256x128 .bf16) (v5 : Vec F S1x1x128 .f32) (X10 : BufTy.Contents (Elt F) arg10.view.ty) (X3 : BufTy.Contents (Elt F) arg3.view.ty) (X11 : BufTy.Contents (Elt F) arg11.view.ty) (X12 : BufTy.Contents (Elt F) arg12.view.ty) (X15 : BufTy.Contents (Elt F) arg15.view.ty) (X16 : BufTy.Contents (Elt F) arg16.view.ty) (k : Fin k0_t2_loop.trips) (a : BitVec 32 × Mxu F) (L : List (View.Piece (Elt F) S720x1024 .bf16)) (hL : Blocks (outG (rd arg15 X15) (rd arg16 X16)) (32 * (2 * k.val)) L) :
    Blocks (outG (rd arg15 X15) (rd arg16 X16)) (32 * (2 * (k.val + 1))) ((trip2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 k).2.1 a ++ L) := by
  have hk : k.val < 13 := Nat.lt_of_lt_of_le k.isLt k0_t2_abs.2.1
  unfold trip2
  dsimp only
  refine Blocks.step (k := 2 * k.val + 1) (s := min (32 * (2 * k.val + 1)) 688) ?hM rfl ?e0 ?e1 ?e2 ?e3 ?e4 ?e5 ?e6 ?e7 _ _ _ _ _ _ _ _ _ _ _ _ _ _ _ _ ?h0 ?h1 ?h2 ?h3 ?h4 ?h5 ?h6 ?h7
  case e0 => clear * - k; revert k; decide +kernel
  case h0 =>
    intro r l
    sl_unfold_words
    exact piece_at (rd arg15 X15) (rd arg16 X16) (rows2b i arg15 X15 h3 k) (rows2b i arg16 X16 h3 k) _ 0 rotates_S32x128_d1 shapeCasts_S32x128_S32x128x1 shapeCasts_S32x128x1_S32x128 iota_S32x128_d1_w32
      (rows2b_at i arg15 X15 h3 k) (rows2b_at i arg16 X16 h3 k) 0 rfl r l
  case e1 => clear * - k; revert k; decide +kernel
  case h1 =>
    intro r l
    sl_unfold_words
    exact piece_at (rd arg15 X15) (rd arg16 X16) (rows2b i arg15 X15 h3 k) (rows2b i arg16 X16 h3 k) _ 1 rotates_S32x128_d1 shapeCasts_S32x128_S32x128x1 shapeCasts_S32x128x1_S32x128 iota_S32x128_d1_w32
      (rows2b_at i arg15 X15 h3 k) (rows2b_at i arg16 X16 h3 k) 128 rfl r l
  case e2 => clear * - k; revert k; decide +kernel
  case h2 =>
    intro r l
    sl_unfold_words
    exact piece_at (rd arg15 X15) (rd arg16 X16) (rows2b i arg15 X15 h3 k) (rows2b i arg16 X16 h3 k) _ 2 rotates_S32x128_d1 shapeCasts_S32x128_S32x128x1 shapeCasts_S32x128x1_S32x128 iota_S32x128_d1_w32
      (rows2b_at i arg15 X15 h3 k) (rows2b_at i arg16 X16 h3 k) 256 rfl r l
  case e3 => clear * - k; revert k; decide +kernel
  case h3 =>
    intro r l
    sl_unfold_words
    exact piece_at (rd arg15 X15) (rd arg16 X16) (rows2b i arg15 X15 h3 k) (rows2b i arg16 X16 h3 k) _ 3 rotates_S32x128_d1 shapeCasts_S32x128_S32x128x1 shapeCasts_S32x128x1_S32x128 iota_S32x128_d1_w32
      (rows2b_at i arg15 X15 h3 k) (rows2b_at i arg16 X16 h3 k) 384 rfl r l
  case e4 => clear * - k; revert k; decide +kernel
  case h4 =>
    intro r l
    sl_unfold_words
    exact piece_at (rd arg15 X15) (rd arg16 X16) (rows2b i arg15 X15 h3 k) (rows2b i arg16 X16 h3 k) _ 4 rotates_S32x128_d1 shapeCasts_S32x128_S32x128x1 shapeCasts_S32x128x1_S32x128 iota_S32x128_d1_w32
      (rows2b_at i arg15 X15 h3 k) (rows2b_at i arg16 X16 h3 k) 512 rfl r l
  case e5 => clear * - k; revert k; decide +kernel
  case h5 =>
    intro r l
    sl_unfold_words
    exact piece_at (rd arg15 X15) (rd arg16 X16) (rows2b i arg15 X15 h3 k) (rows2b i arg16 X16 h3 k) _ 5 rotates_S32x128_d1 shapeCasts_S32x128_S32x128x1 shapeCasts_S32x128x1_S32x128 iota_S32x128_d1_w32
      (rows2b_at i arg15 X15 h3 k) (rows2b_at i arg16 X16 h3 k) 640 rfl r l
  case e6 => clear * - k; revert k; decide +kernel
  case h6 =>
    intro r l
    sl_unfold_words
    exact piece_at (rd arg15 X15) (rd arg16 X16) (rows2b i arg15 X15 h3 k) (rows2b i arg16 X16 h3 k) _ 6 rotates_S32x128_d1 shapeCasts_S32x128_S32x128x1 shapeCasts_S32x128x1_S32x128 iota_S32x128_d1_w32
      (rows2b_at i arg15 X15 h3 k) (rows2b_at i arg16 X16 h3 k) 768 rfl r l
  case e7 => clear * - k; revert k; decide +kernel
  case h7 =>
    intro r l
    sl_unfold_words
    exact piece_at (rd arg15 X15) (rd arg16 X16) (rows2b i arg15 X15 h3 k) (rows2b i arg16 X16 h3 k) _ 7 rotates_S32x128_d1 shapeCasts_S32x128_S32x128x1 shapeCasts_S32x128x1_S32x128 iota_S32x128_d1_w32
      (rows2b_at i arg15 X15 h3 k) (rows2b_at i arg16 X16 h3 k) 896 rfl r l
  case hM =>
    refine Blocks.step (k := 2 * k.val) (s := min (32 * (2 * k.val)) 688) hL rfl ?e0 ?e1 ?e2 ?e3 ?e4 ?e5 ?e6 ?e7 _ _ _ _ _ _ _ _ _ _ _ _ _ _ _ _ ?h0 ?h1 ?h2 ?h3 ?h4 ?h5 ?h6 ?h7
    case e0 => clear * - k; revert k; decide +kernel
    case h0 =>
      intro r l
      sl_unfold_words
      exact piece_at (rd arg15 X15) (rd arg16 X16) (rows2a i arg15 X15 h3 k) (rows2a i arg16 X16 h3 k) _ 0 rotates_S32x128_d1 shapeCasts_S32x128_S32x128x1 shapeCasts_S32x128x1_S32x128 iota_S32x128_d1_w32
        (rows2a_at i arg15 X15 h3 k) (rows2a_at i arg16 X16 h3 k) 0 rfl r l
    case e1 => clear * - k; revert k; decide +kernel
    case h1 =>
      intro r l
      sl_unfold_words
      exact piece_at (rd arg15 X15) (rd arg16 X16) (rows2a i arg15 X15 h3 k) (rows2a i arg16 X16 h3 k) _ 1 rotates_S32x128_d1 shapeCasts_S32x128_S32x128x1 shapeCasts_S32x128x1_S32x128 iota_S32x128_d1_w32
        (rows2a_at i arg15 X15 h3 k) (rows2a_at i arg16 X16 h3 k) 128 rfl r l
    case e2 => clear * - k; revert k; decide +kernel
    case h2 =>
      intro r l
      sl_unfold_words
      exact piece_at (rd arg15 X15) (rd arg16 X16) (rows2a i arg15 X15 h3 k) (rows2a i arg16 X16 h3 k) _ 2 rotates_S32x128_d1 shapeCasts_S32x128_S32x128x1 shapeCasts_S32x128x1_S32x128 iota_S32x128_d1_w32
        (rows2a_at i arg15 X15 h3 k) (rows2a_at i arg16 X16 h3 k) 256 rfl r l
    case e3 => clear * - k; revert k; decide +kernel
    case h3 =>
      intro r l
      sl_unfold_words
      exact piece_at (rd arg15 X15) (rd arg16 X16) (rows2a i arg15 X15 h3 k) (rows2a i arg16 X16 h3 k) _ 3 rotates_S32x128_d1 shapeCasts_S32x128_S32x128x1 shapeCasts_S32x128x1_S32x128 iota_S32x128_d1_w32
        (rows2a_at i arg15 X15 h3 k) (rows2a_at i arg16 X16 h3 k) 384 rfl r l
    case e4 => clear * - k; revert k; decide +kernel
    case h4 =>
      intro r l
      sl_unfold_words
      exact piece_at (rd arg15 X15) (rd arg16 X16) (rows2a i arg15 X15 h3 k) (rows2a i arg16 X16 h3 k) _ 4 rotates_S32x128_d1 shapeCasts_S32x128_S32x128x1 shapeCasts_S32x128x1_S32x128 iota_S32x128_d1_w32
        (rows2a_at i arg15 X15 h3 k) (rows2a_at i arg16 X16 h3 k) 512 rfl r l
    case e5 => clear * - k; revert k; decide +kernel
    case h5 =>
      intro r l
      sl_unfold_words
      exact piece_at (rd arg15 X15) (rd arg16 X16) (rows2a i arg15 X15 h3 k) (rows2a i arg16 X16 h3 k) _ 5 rotates_S32x128_d1 shapeCasts_S32x128_S32x128x1 shapeCasts_S32x128x1_S32x128 iota_S32x128_d1_w32
        (rows2a_at i arg15 X15 h3 k) (rows2a_at i arg16 X16 h3 k) 640 rfl r l
    case e6 => clear * - k; revert k; decide +kernel
    case h6 =>
      intro r l
      sl_unfold_words
      exact piece_at (rd arg15 X15) (rd arg16 X16) (rows2a i arg15 X15 h3 k) (rows2a i arg16 X16 h3 k) _ 6 rotates_S32x128_d1 shapeCasts_S32x128_S32x128x1 shapeCasts_S32x128x1_S32x128 iota_S32x128_d1_w32
        (rows2a_at i arg15 X15 h3 k) (rows2a_at i arg16 X16 h3 k) 768 rfl r l
    case e7 => clear * - k; revert k; decide +kernel
    case h7 =>
      intro r l
      sl_unfold_words
      exact piece_at (rd arg15 X15) (rd arg16 X16) (rows2a i arg15 X15 h3 k) (rows2a i arg16 X16 h3 k) _ 7 rotates_S32x128_d1 shapeCasts_S32x128_S32x128x1 shapeCasts_S32x128x1_S32x128 iota_S32x128_d1_w32
        (rows2a_at i arg15 X15 h3 k) (rows2a_at i arg16 X16 h3 k) 896 rfl r l

/-- The stores of the trips before trip `k`. -/
theorem st2_out (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h3 : k0_cond3 i = 1#1) (u : Mxu F) (v1 : FVec F S256x128 .f32) (v2 v3 v4 : FVec F S256x128 .bf16) (v5 : Vec F S1x1x128 .f32) (X10 : BufTy.Contents (Elt F) arg10.view.ty) (X3 : BufTy.Contents (Elt F) arg3.view.ty) (X11 : BufTy.Contents (Elt F) arg11.view.ty) (X12 : BufTy.Contents (Elt F) arg12.view.ty) (X15 : BufTy.Contents (Elt F) arg15.view.ty) (X16 : BufTy.Contents (Elt F) arg16.view.ty) (init : BitVec 32 × Mxu F) (k : ℕ) (hk : k ≤ k0_t2_loop.trips) :
    Blocks (outG (rd arg15 X15) (rd arg16 X16)) (32 * (2 * k)) (st2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init k).2 := by
  induction k with
  | zero => exact Blocks.nil _
  | succ k ih =>
    have e := st2_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 init ⟨k, hk⟩
    dsimp only at e
    rw [e]
    exact trip2_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 u v1 v2 v3 v4 v5 X10 X3 X11 X12 X15 X16 ⟨k, hk⟩ _ _ (ih (Nat.le_of_succ_le hk))

end Cert.Proof.GI

end
-- ==== Proof.GI.Norm.lean ====
/-
  The normalized rows that the first grid point keeps: sixteen rows at a trip.
-/
module

public import proofs.«01_k».proof.Proof.GI.Chain
public import proofs.«01_k».proof.Proof.Spec

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

/-- The squares of the first `n` lane tiles, added up lane by lane. -/
def ssq (x : ℕ → FVec F S16x128 .bf16) : ℕ → FVec F S16x128 .f32
  | 0 => broadcast S16x128 (Scalar.ofBits .f32 0x00000000#32)
  | n + 1 => addf (ssq x n) (mulf (extf .f32 (x n) bitsLt_bf16_f32) (extf .f32 (x n) bitsLt_bf16_f32))

theorem ssq_congr (x y : ℕ → FVec F S16x128 .bf16) (n : ℕ) (h : ∀ k < n, x k = y k) : ssq x n = ssq y n := by
  induction n with
  | zero => rfl
  | succ n ih =>
    unfold ssq
    rw [ih fun k hk => h k (Nat.lt_succ_of_lt hk), h n (Nat.lt_succ_self n)]

/-- The rows' factor from the added squares: one over the root of their mean plus a small number. -/
def invV (v : FVec F S16x128 .f32) : FVec F S16x1 .f32 :=
  rsqrt (addf (divf (shapeCast S16x1 (multiReduction .add [1] S16 v 0x00000000#32 reduces_S16x128_S16 (.inl rfl) rfl) shapeCasts_S16_S16x1)
    (broadcast S16x1 (Scalar.ofBits .f32 0x45E00000#32))) (broadcast S16x1 (Scalar.ofBits .f32 0x3727C5AC#32)))

/-- Sixteen rows of one column tile, normalized. -/
def normV (v : FVec F S16x1 .f32) (x : FVec F S16x1024 .bf16) (w : FVec F S1x1024 .f32) : FVec F S16x1024 .bf16 :=
  shapeCast S16x1024 (truncf .bf16 (mulf (mulf (extf .f32 x bitsLt_bf16_f32) (broadcastTo S16x1024 v broadcasts_S16x1_S16x1024)) (broadcastTo S16x1024 w broadcasts_S1x1024_S16x1024)) bitsLt_bf16_f32) shapeCasts_S16x1024_S16x1024

theorem normV_at (v : FVec F S16x1 .f32) (x : FVec F S16x1024 .bf16) (w : FVec F S1x1024 .f32) (r : Fin 16) (l : Fin 1024) :
    normV v x w (ix2 r l) = FloatOps.truncf .bf16 bitsLt_bf16_f32 (FloatOps.mulf (FloatOps.mulf (FloatOps.extf .f32 bitsLt_bf16_f32 (x (ix2 r l))) (v (ix2 r 0))) (w (ix2 0 l))) := by
  unfold normV
  pointwise

/-- Lane tile `n` of the sixteen rows from `s`. -/
def blk (X : S720x7168.Idx → F .bf16) (s n : ℕ) : FVec F S16x128 .bf16 := fun i => X (ix2 (at' 720 (s + (i 0).val)) (at' 7168 (128 * n + (i 1).val)))

/-- A row's factor. -/
def invF (X : S720x7168.Idx → F .bf16) (r : ℕ) : F .f32 := invV (ssq (blk X (16 * (r / 16))) 56) (ix2 (at' 16 (r % 16)) 0)

/-- The normalized rows. -/
def normF (X : S720x7168.Idx → F .bf16) (W : S1x7168.Idx → F .f32) : S720x7168.Idx → F .bf16 := fun i =>
  FloatOps.truncf .bf16 bitsLt_bf16_f32 (FloatOps.mulf (FloatOps.mulf (FloatOps.extf .f32 bitsLt_bf16_f32 (X i)) (invF X (i 0).val)) (W (ix2 0 (i 1))))

theorem norm_piece (X : S720x7168.Idx → F .bf16) (W : S1x7168.Idx → F .f32) (f : ℕ → FVec F S16x128 .bf16) (x : FVec F S16x1024 .bf16) (w : FVec F S1x1024 .f32) (k o : ℕ) (hk : k < 45) (ho : o + 1024 ≤ 7168)
    (hf : ∀ n < 56, f n = blk X (16 * k) n) (hx : ∀ r l, x (ix2 r l) = X (ix2 (at' 720 (16 * k + r.val)) (at' 7168 (o + l.val)))) (hw : ∀ l, w (ix2 0 l) = W (ix2 0 (at' 7168 (o + l.val)))) (r : Fin 16) (l : Fin 1024) :
    normV (invV (ssq f 56)) x w (ix2 r l) = normF X W (ix2 (at' 720 (16 * k + r.val)) (at' 7168 (o + l.val))) := by
  rw [normV_at, hx, hw, ssq_congr f _ 56 hf]
  have e : ((at' 720 (16 * k + r.val)).val) = 16 * k + r.val := by have := r.isLt; simp [at']; omega
  unfold normF invF
  simp only [ix2_0, ix2_1, e]
  rw [show (16 * k + r.val) / 16 = k by omega, show (16 * k + r.val) % 16 = r.val by omega]
  rw [show (at' 16 r.val) = r from Fin.ext (by have := r.isLt; simp [at'])]

/-- A load of sixteen rows of one lane tile. -/
theorem blk_of {arg1 : Memref sig .tc .vmem S720x7168 .bf16} {X1 : BufTy.Contents (Elt F) arg1.view.ty} {off : Fin 2 → ℕ} {inb} (n k : ℕ) (hk : k < 45) (hn : n < 56) (ho : off = ![16 * k, 128 * n]) :
    arg1.view.readAt (Elt F) (Rect.unit (s := S720x7168) off S16x128.size inb).toLoadRect X1 = blk (rd arg1 X1) (16 * k) n := by
  subst ho
  funext i
  refine View.ld_unit_apply_of (rd arg1 X1) _ _ _ _ _ fun a => ?_
  have h0 : (i 0).val < 16 := (i 0).isLt
  have h1 : (i 1).val < 128 := (i 1).isLt
  match a with
  | ⟨0, _⟩ => simp [at']; omega
  | ⟨1, _⟩ => simp [at']; omega

/-- A load of sixteen rows of one column tile. -/
theorem x_of {arg1 : Memref sig .tc .vmem S720x7168 .bf16} {X1 : BufTy.Contents (Elt F) arg1.view.ty} {off : Fin 2 → ℕ} {inb} (o k : ℕ) (hk : k < 45) (hn : o + 1024 ≤ 7168) (ho : off = ![16 * k, o]) (r : Fin 16) (l : Fin 1024) :
    arg1.view.readAt (Elt F) (Rect.unit (s := S720x7168) off S16x1024.size inb).toLoadRect X1 (ix2 r l) = rd arg1 X1 (ix2 (at' 720 (16 * k + r.val)) (at' 7168 (o + l.val))) := by
  subst ho
  refine View.ld_unit_apply_of (rd arg1 X1) _ _ _ _ _ fun a => ?_
  have h0 := r.isLt
  have h1 := l.isLt
  match a with
  | ⟨0, _⟩ => simp [at']; omega
  | ⟨1, _⟩ => simp [at']; omega

/-- A load of one column tile of the weight. -/
theorem nw_of {arg2 : Memref sig .tc .vmem S1x7168 .f32} {X2 : BufTy.Contents (Elt F) arg2.view.ty} (o : ℕ) {inb : ∀ a, (![0, o] : Fin 2 → ℕ) a + S1x1024.size a ≤ S1x7168.size a} (hn : o + 1024 ≤ 7168) (l : Fin 1024) :
    arg2.view.readAt (Elt F) (Rect.unit (s := S1x7168) ![0, o] S1x1024.size inb).toLoadRect X2 (ix2 0 l) = rd arg2 X2 (ix2 0 (at' 7168 (o + l.val))) := by
  refine View.ld_unit_apply_of (rd arg2 X2) _ _ _ _ _ fun a => ?_
  have h1 := l.isLt
  match a with
  | ⟨0, _⟩ => simp
  | ⟨1, _⟩ => simp [at']; omega

/-- One trip's seven stores, the seven column tiles of sixteen rows. -/
theorem step7 {G : S720x7168.Idx → F .bf16} {k : ℕ} (hk : k < 45) {L : List (View.Piece (Elt F) S720x7168 .bf16)} (hL : Blocks (Val := Elt F) (e := .bf16) G (16 * k) L)
    {o0 o1 o2 o3 o4 o5 o6 : Fin 2 → ℕ} (e0 : o0 = ![16 * k, 0]) (e1 : o1 = ![16 * k, 1024]) (e2 : o2 = ![16 * k, 2048]) (e3 : o3 = ![16 * k, 3072]) (e4 : o4 = ![16 * k, 4096]) (e5 : o5 = ![16 * k, 5120]) (e6 : o6 = ![16 * k, 6144]) (b0 b1 b2 b3 b4 b5 b6) (p0 p1 p2 p3 p4 p5 p6 : FVec F S16x1024 .bf16)
    (h0 : ∀ r l, p0 (ix2 r l) = G (ix2 (at' 720 (16 * k + r.val)) (at' 7168 (0 + l.val)))) (h1 : ∀ r l, p1 (ix2 r l) = G (ix2 (at' 720 (16 * k + r.val)) (at' 7168 (1024 + l.val)))) (h2 : ∀ r l, p2 (ix2 r l) = G (ix2 (at' 720 (16 * k + r.val)) (at' 7168 (2048 + l.val)))) (h3 : ∀ r l, p3 (ix2 r l) = G (ix2 (at' 720 (16 * k + r.val)) (at' 7168 (3072 + l.val)))) (h4 : ∀ r l, p4 (ix2 r l) = G (ix2 (at' 720 (16 * k + r.val)) (at' 7168 (4096 + l.val)))) (h5 : ∀ r l, p5 (ix2 r l) = G (ix2 (at' 720 (16 * k + r.val)) (at' 7168 (5120 + l.val)))) (h6 : ∀ r l, p6 (ix2 r l) = G (ix2 (at' 720 (16 * k + r.val)) (at' 7168 (6144 + l.val)))) :
    Blocks (Val := Elt F) (e := .bf16) G (16 * (k + 1)) ([⟨Rect.unit (s := S720x7168) o6 ![16, 1024] b6, p6⟩, ⟨Rect.unit (s := S720x7168) o5 ![16, 1024] b5, p5⟩, ⟨Rect.unit (s := S720x7168) o4 ![16, 1024] b4, p4⟩, ⟨Rect.unit (s := S720x7168) o3 ![16, 1024] b3, p3⟩, ⟨Rect.unit (s := S720x7168) o2 ![16, 1024] b2, p2⟩, ⟨Rect.unit (s := S720x7168) o1 ![16, 1024] b1, p1⟩, ⟨Rect.unit (s := S720x7168) o0 ![16, 1024] b0, p0⟩] ++ L) := by
  subst e0 e1 e2 e3 e4 e5 e6
  have key : ∀ (c : ℕ) (P : FVec F S16x1024 .bf16) (hP : ∀ r l, P (ix2 r l) = G (ix2 (at' 720 (16 * k + r.val)) (at' 7168 (c + l.val)))) (hc : c + 1024 ≤ 7168) (b),
      (∀ x, P x = G ((Rect.unit (s := S720x7168) ![16 * k, c] ![16, 1024] b).emb x)) ∧
      ∀ y : S720x7168.Idx, 16 * k ≤ (y 0).val → (y 0).val < 16 * k + 16 → c ≤ (y 1).val → (y 1).val < c + 1024 → y ∈ (Rect.unit (s := S720x7168) ![16 * k, c] ![16, 1024] b).set := by
    intro c P hP hc b
    refine ⟨fun x => ?_, fun y a1 a2 a3 a4 => ?_⟩
    · obtain ⟨r, l, rfl⟩ : ∃ r l, x = ix2 r l := ⟨x 0, x 1, (ix2_eta x).symm⟩
      rw [hP]
      refine congrArg G ?_
      funext a
      have := r.isLt; have := l.isLt
      refine Fin.ext ?_
      match a with
      | ⟨0, _⟩ => simp [at']; omega
      | ⟨1, _⟩ => simp [at']; omega
    · rw [Rect.mem_set_unit]
      intro a
      match a with
      | ⟨0, _⟩ => exact ⟨a1, a2⟩
      | ⟨1, _⟩ => exact ⟨a3, a4⟩
  have PO : View.PiecesOf (Val := Elt F) (e := .bf16) G [⟨Rect.unit (s := S720x7168) _ ![16, 1024] b6, p6⟩, ⟨Rect.unit (s := S720x7168) _ ![16, 1024] b5, p5⟩, ⟨Rect.unit (s := S720x7168) _ ![16, 1024] b4, p4⟩, ⟨Rect.unit (s := S720x7168) _ ![16, 1024] b3, p3⟩, ⟨Rect.unit (s := S720x7168) _ ![16, 1024] b2, p2⟩, ⟨Rect.unit (s := S720x7168) _ ![16, 1024] b1, p1⟩, ⟨Rect.unit (s := S720x7168) _ ![16, 1024] b0, p0⟩] :=
    ⟨(key _ p6 h6 (by decide) b6).1, (key _ p5 h5 (by decide) b5).1, (key _ p4 h4 (by decide) b4).1, (key _ p3 h3 (by decide) b3).1, (key _ p2 h2 (by decide) b2).1, (key _ p1 h1 (by decide) b1).1, (key _ p0 h0 (by decide) b0).1, trivial⟩
  refine ⟨fun p hp => ?_, fun y hy => ?_⟩
  · rcases List.mem_append.1 hp with hp | hp
    · exact PO.mem p hp
    · exact hL.1 p hp
  · by_cases hk' : (y 0).val < 16 * k
    · obtain ⟨p, hp, h⟩ := hL.2 y hk'
      exact ⟨p, List.mem_append_right _ hp, h⟩
    · have hc : (y 1).val < 7168 := (y 1).isLt
      have a1 : 16 * k ≤ (y 0).val := by omega
      have a2 : (y 0).val < 16 * k + 16 := by omega
      obtain h | h | h | h | h | h | h : (y 1).val / 1024 = 0 ∨ (y 1).val / 1024 = 1 ∨ (y 1).val / 1024 = 2 ∨ (y 1).val / 1024 = 3 ∨ (y 1).val / 1024 = 4 ∨ (y 1).val / 1024 = 5 ∨ (y 1).val / 1024 = 6 := by omega
      · exact ⟨_, List.mem_append_left _ (.tail _ (.tail _ (.tail _ (.tail _ (.tail _ (.tail _ (.head _))))))), (key _ p0 h0 (by decide) b0).2 y a1 a2 (by omega) (by omega)⟩
      · exact ⟨_, List.mem_append_left _ (.tail _ (.tail _ (.tail _ (.tail _ (.tail _ (.head _)))))), (key _ p1 h1 (by decide) b1).2 y a1 a2 (by omega) (by omega)⟩
      · exact ⟨_, List.mem_append_left _ (.tail _ (.tail _ (.tail _ (.tail _ (.head _))))), (key _ p2 h2 (by decide) b2).2 y a1 a2 (by omega) (by omega)⟩
      · exact ⟨_, List.mem_append_left _ (.tail _ (.tail _ (.tail _ (.head _)))), (key _ p3 h3 (by decide) b3).2 y a1 a2 (by omega) (by omega)⟩
      · exact ⟨_, List.mem_append_left _ (.tail _ (.tail _ (.head _))), (key _ p4 h4 (by decide) b4).2 y a1 a2 (by omega) (by omega)⟩
      · exact ⟨_, List.mem_append_left _ (.tail _ (.head _)), (key _ p5 h5 (by decide) b5).2 y a1 a2 (by omega) (by omega)⟩
      · exact ⟨_, List.mem_append_left _ (.head _), (key _ p6 h6 (by decide) b6).2 y a1 a2 (by omega) (by omega)⟩

/-- The lane tiles loaded in a trip. -/
def lanes (i : grid0.Coords) (arg1 : Memref sig .tc .vmem S720x7168 .bf16) (h2 : k0_cond2 i = 1#1) (X1 : BufTy.Contents (Elt F) arg1.view.ty) (k : Fin k0_t1_loop.trips) : ℕ → FVec F S16x128 .bf16 := fun n => match n with | 0 => arg1.view.readAt (Elt F) (Rect.unit (s := S720x7168) (k0_off1 k) S16x128.size (k0_off1_inb i k h2)).toLoadRect X1 | 1 => arg1.view.readAt (Elt F) (Rect.unit (s := S720x7168) (k0_off2 k) S16x128.size (k0_off2_inb i k h2)).toLoadRect X1 | 2 => arg1.view.readAt (Elt F) (Rect.unit (s := S720x7168) (k0_off3 k) S16x128.size (k0_off3_inb i k h2)).toLoadRect X1 | 3 => arg1.view.readAt (Elt F) (Rect.unit (s := S720x7168) (k0_off4 k) S16x128.size (k0_off4_inb i k h2)).toLoadRect X1 | 4 => arg1.view.readAt (Elt F) (Rect.unit (s := S720x7168) (k0_off5 k) S16x128.size (k0_off5_inb i k h2)).toLoadRect X1 | 5 => arg1.view.readAt (Elt F) (Rect.unit (s := S720x7168) (k0_off6 k) S16x128.size (k0_off6_inb i k h2)).toLoadRect X1 | 6 => arg1.view.readAt (Elt F) (Rect.unit (s := S720x7168) (k0_off7 k) S16x128.size (k0_off7_inb i k h2)).toLoadRect X1 | 7 => arg1.view.readAt (Elt F) (Rect.unit (s := S720x7168) (k0_off8 k) S16x128.size (k0_off8_inb i k h2)).toLoadRect X1 | 8 => arg1.view.readAt (Elt F) (Rect.unit (s := S720x7168) (k0_off9 k) S16x128.size (k0_off9_inb i k h2)).toLoadRect X1 | 9 => arg1.view.readAt (Elt F) (Rect.unit (s := S720x7168) (k0_off10 k) S16x128.size (k0_off10_inb i k h2)).toLoadRect X1 | 10 => arg1.view.readAt (Elt F) (Rect.unit (s := S720x7168) (k0_off11 k) S16x128.size (k0_off11_inb i k h2)).toLoadRect X1 | 11 => arg1.view.readAt (Elt F) (Rect.unit (s := S720x7168) (k0_off12 k) S16x128.size (k0_off12_inb i k h2)).toLoadRect X1 | 12 => arg1.view.readAt (Elt F) (Rect.unit (s := S720x7168) (k0_off13 k) S16x128.size (k0_off13_inb i k h2)).toLoadRect X1 | 13 => arg1.view.readAt (Elt F) (Rect.unit (s := S720x7168) (k0_off14 k) S16x128.size (k0_off14_inb i k h2)).toLoadRect X1 | 14 => arg1.view.readAt (Elt F) (Rect.unit (s := S720x7168) (k0_off15 k) S16x128.size (k0_off15_inb i k h2)).toLoadRect X1 | 15 => arg1.view.readAt (Elt F) (Rect.unit (s := S720x7168) (k0_off16 k) S16x128.size (k0_off16_inb i k h2)).toLoadRect X1 | 16 => arg1.view.readAt (Elt F) (Rect.unit (s := S720x7168) (k0_off17 k) S16x128.size (k0_off17_inb i k h2)).toLoadRect X1 | 17 => arg1.view.readAt (Elt F) (Rect.unit (s := S720x7168) (k0_off18 k) S16x128.size (k0_off18_inb i k h2)).toLoadRect X1 | 18 => arg1.view.readAt (Elt F) (Rect.unit (s := S720x7168) (k0_off19 k) S16x128.size (k0_off19_inb i k h2)).toLoadRect X1 | 19 => arg1.view.readAt (Elt F) (Rect.unit (s := S720x7168) (k0_off20 k) S16x128.size (k0_off20_inb i k h2)).toLoadRect X1 | 20 => arg1.view.readAt (Elt F) (Rect.unit (s := S720x7168) (k0_off21 k) S16x128.size (k0_off21_inb i k h2)).toLoadRect X1 | 21 => arg1.view.readAt (Elt F) (Rect.unit (s := S720x7168) (k0_off22 k) S16x128.size (k0_off22_inb i k h2)).toLoadRect X1 | 22 => arg1.view.readAt (Elt F) (Rect.unit (s := S720x7168) (k0_off23 k) S16x128.size (k0_off23_inb i k h2)).toLoadRect X1 | 23 => arg1.view.readAt (Elt F) (Rect.unit (s := S720x7168) (k0_off24 k) S16x128.size (k0_off24_inb i k h2)).toLoadRect X1 | 24 => arg1.view.readAt (Elt F) (Rect.unit (s := S720x7168) (k0_off25 k) S16x128.size (k0_off25_inb i k h2)).toLoadRect X1 | 25 => arg1.view.readAt (Elt F) (Rect.unit (s := S720x7168) (k0_off26 k) S16x128.size (k0_off26_inb i k h2)).toLoadRect X1 | 26 => arg1.view.readAt (Elt F) (Rect.unit (s := S720x7168) (k0_off27 k) S16x128.size (k0_off27_inb i k h2)).toLoadRect X1 | 27 => arg1.view.readAt (Elt F) (Rect.unit (s := S720x7168) (k0_off28 k) S16x128.size (k0_off28_inb i k h2)).toLoadRect X1 | 28 => arg1.view.readAt (Elt F) (Rect.unit (s := S720x7168) (k0_off29 k) S16x128.size (k0_off29_inb i k h2)).toLoadRect X1 | 29 => arg1.view.readAt (Elt F) (Rect.unit (s := S720x7168) (k0_off30 k) S16x128.size (k0_off30_inb i k h2)).toLoadRect X1 | 30 => arg1.view.readAt (Elt F) (Rect.unit (s := S720x7168) (k0_off31 k) S16x128.size (k0_off31_inb i k h2)).toLoadRect X1 | 31 => arg1.view.readAt (Elt F) (Rect.unit (s := S720x7168) (k0_off32 k) S16x128.size (k0_off32_inb i k h2)).toLoadRect X1 | 32 => arg1.view.readAt (Elt F) (Rect.unit (s := S720x7168) (k0_off33 k) S16x128.size (k0_off33_inb i k h2)).toLoadRect X1 | 33 => arg1.view.readAt (Elt F) (Rect.unit (s := S720x7168) (k0_off34 k) S16x128.size (k0_off34_inb i k h2)).toLoadRect X1 | 34 => arg1.view.readAt (Elt F) (Rect.unit (s := S720x7168) (k0_off35 k) S16x128.size (k0_off35_inb i k h2)).toLoadRect X1 | 35 => arg1.view.readAt (Elt F) (Rect.unit (s := S720x7168) (k0_off36 k) S16x128.size (k0_off36_inb i k h2)).toLoadRect X1 | 36 => arg1.view.readAt (Elt F) (Rect.unit (s := S720x7168) (k0_off37 k) S16x128.size (k0_off37_inb i k h2)).toLoadRect X1 | 37 => arg1.view.readAt (Elt F) (Rect.unit (s := S720x7168) (k0_off38 k) S16x128.size (k0_off38_inb i k h2)).toLoadRect X1 | 38 => arg1.view.readAt (Elt F) (Rect.unit (s := S720x7168) (k0_off39 k) S16x128.size (k0_off39_inb i k h2)).toLoadRect X1 | 39 => arg1.view.readAt (Elt F) (Rect.unit (s := S720x7168) (k0_off40 k) S16x128.size (k0_off40_inb i k h2)).toLoadRect X1 | 40 => arg1.view.readAt (Elt F) (Rect.unit (s := S720x7168) (k0_off41 k) S16x128.size (k0_off41_inb i k h2)).toLoadRect X1 | 41 => arg1.view.readAt (Elt F) (Rect.unit (s := S720x7168) (k0_off42 k) S16x128.size (k0_off42_inb i k h2)).toLoadRect X1 | 42 => arg1.view.readAt (Elt F) (Rect.unit (s := S720x7168) (k0_off43 k) S16x128.size (k0_off43_inb i k h2)).toLoadRect X1 | 43 => arg1.view.readAt (Elt F) (Rect.unit (s := S720x7168) (k0_off44 k) S16x128.size (k0_off44_inb i k h2)).toLoadRect X1 | 44 => arg1.view.readAt (Elt F) (Rect.unit (s := S720x7168) (k0_off45 k) S16x128.size (k0_off45_inb i k h2)).toLoadRect X1 | 45 => arg1.view.readAt (Elt F) (Rect.unit (s := S720x7168) (k0_off46 k) S16x128.size (k0_off46_inb i k h2)).toLoadRect X1 | 46 => arg1.view.readAt (Elt F) (Rect.unit (s := S720x7168) (k0_off47 k) S16x128.size (k0_off47_inb i k h2)).toLoadRect X1 | 47 => arg1.view.readAt (Elt F) (Rect.unit (s := S720x7168) (k0_off48 k) S16x128.size (k0_off48_inb i k h2)).toLoadRect X1 | 48 => arg1.view.readAt (Elt F) (Rect.unit (s := S720x7168) (k0_off49 k) S16x128.size (k0_off49_inb i k h2)).toLoadRect X1 | 49 => arg1.view.readAt (Elt F) (Rect.unit (s := S720x7168) (k0_off50 k) S16x128.size (k0_off50_inb i k h2)).toLoadRect X1 | 50 => arg1.view.readAt (Elt F) (Rect.unit (s := S720x7168) (k0_off51 k) S16x128.size (k0_off51_inb i k h2)).toLoadRect X1 | 51 => arg1.view.readAt (Elt F) (Rect.unit (s := S720x7168) (k0_off52 k) S16x128.size (k0_off52_inb i k h2)).toLoadRect X1 | 52 => arg1.view.readAt (Elt F) (Rect.unit (s := S720x7168) (k0_off53 k) S16x128.size (k0_off53_inb i k h2)).toLoadRect X1 | 53 => arg1.view.readAt (Elt F) (Rect.unit (s := S720x7168) (k0_off54 k) S16x128.size (k0_off54_inb i k h2)).toLoadRect X1 | 54 => arg1.view.readAt (Elt F) (Rect.unit (s := S720x7168) (k0_off55 k) S16x128.size (k0_off55_inb i k h2)).toLoadRect X1 | 55 => arg1.view.readAt (Elt F) (Rect.unit (s := S720x7168) (k0_off56 k) S16x128.size (k0_off56_inb i k h2)).toLoadRect X1 | _ => fun _ => FloatOps.truncf .bf16 bitsLt_bf16_f32 (Scalar.ofBits .f32 0x00000000#32)

set_option maxHeartbeats 1000000 in
theorem lanes_at (i : grid0.Coords) (arg1 : Memref sig .tc .vmem S720x7168 .bf16) (h2 : k0_cond2 i = 1#1) (X1 : BufTy.Contents (Elt F) arg1.view.ty) (k : Fin k0_t1_loop.trips) (n : ℕ) (hn : n < 56) : lanes i arg1 h2 X1 k n = blk (rd arg1 X1) (16 * k.val) n := by
  have hk : k.val < 45 := Nat.lt_of_lt_of_le k.isLt k0_t1_abs.2.1
  match n, hn with
  | 0, _ => exact blk_of 0 k.val hk (by decide) (by clear * - k; revert k; decide +kernel)
  | 1, _ => exact blk_of 1 k.val hk (by decide) (by clear * - k; revert k; decide +kernel)
  | 2, _ => exact blk_of 2 k.val hk (by decide) (by clear * - k; revert k; decide +kernel)
  | 3, _ => exact blk_of 3 k.val hk (by decide) (by clear * - k; revert k; decide +kernel)
  | 4, _ => exact blk_of 4 k.val hk (by decide) (by clear * - k; revert k; decide +kernel)
  | 5, _ => exact blk_of 5 k.val hk (by decide) (by clear * - k; revert k; decide +kernel)
  | 6, _ => exact blk_of 6 k.val hk (by decide) (by clear * - k; revert k; decide +kernel)
  | 7, _ => exact blk_of 7 k.val hk (by decide) (by clear * - k; revert k; decide +kernel)
  | 8, _ => exact blk_of 8 k.val hk (by decide) (by clear * - k; revert k; decide +kernel)
  | 9, _ => exact blk_of 9 k.val hk (by decide) (by clear * - k; revert k; decide +kernel)
  | 10, _ => exact blk_of 10 k.val hk (by decide) (by clear * - k; revert k; decide +kernel)
  | 11, _ => exact blk_of 11 k.val hk (by decide) (by clear * - k; revert k; decide +kernel)
  | 12, _ => exact blk_of 12 k.val hk (by decide) (by clear * - k; revert k; decide +kernel)
  | 13, _ => exact blk_of 13 k.val hk (by decide) (by clear * - k; revert k; decide +kernel)
  | 14, _ => exact blk_of 14 k.val hk (by decide) (by clear * - k; revert k; decide +kernel)
  | 15, _ => exact blk_of 15 k.val hk (by decide) (by clear * - k; revert k; decide +kernel)
  | 16, _ => exact blk_of 16 k.val hk (by decide) (by clear * - k; revert k; decide +kernel)
  | 17, _ => exact blk_of 17 k.val hk (by decide) (by clear * - k; revert k; decide +kernel)
  | 18, _ => exact blk_of 18 k.val hk (by decide) (by clear * - k; revert k; decide +kernel)
  | 19, _ => exact blk_of 19 k.val hk (by decide) (by clear * - k; revert k; decide +kernel)
  | 20, _ => exact blk_of 20 k.val hk (by decide) (by clear * - k; revert k; decide +kernel)
  | 21, _ => exact blk_of 21 k.val hk (by decide) (by clear * - k; revert k; decide +kernel)
  | 22, _ => exact blk_of 22 k.val hk (by decide) (by clear * - k; revert k; decide +kernel)
  | 23, _ => exact blk_of 23 k.val hk (by decide) (by clear * - k; revert k; decide +kernel)
  | 24, _ => exact blk_of 24 k.val hk (by decide) (by clear * - k; revert k; decide +kernel)
  | 25, _ => exact blk_of 25 k.val hk (by decide) (by clear * - k; revert k; decide +kernel)
  | 26, _ => exact blk_of 26 k.val hk (by decide) (by clear * - k; revert k; decide +kernel)
  | 27, _ => exact blk_of 27 k.val hk (by decide) (by clear * - k; revert k; decide +kernel)
  | 28, _ => exact blk_of 28 k.val hk (by decide) (by clear * - k; revert k; decide +kernel)
  | 29, _ => exact blk_of 29 k.val hk (by decide) (by clear * - k; revert k; decide +kernel)
  | 30, _ => exact blk_of 30 k.val hk (by decide) (by clear * - k; revert k; decide +kernel)
  | 31, _ => exact blk_of 31 k.val hk (by decide) (by clear * - k; revert k; decide +kernel)
  | 32, _ => exact blk_of 32 k.val hk (by decide) (by clear * - k; revert k; decide +kernel)
  | 33, _ => exact blk_of 33 k.val hk (by decide) (by clear * - k; revert k; decide +kernel)
  | 34, _ => exact blk_of 34 k.val hk (by decide) (by clear * - k; revert k; decide +kernel)
  | 35, _ => exact blk_of 35 k.val hk (by decide) (by clear * - k; revert k; decide +kernel)
  | 36, _ => exact blk_of 36 k.val hk (by decide) (by clear * - k; revert k; decide +kernel)
  | 37, _ => exact blk_of 37 k.val hk (by decide) (by clear * - k; revert k; decide +kernel)
  | 38, _ => exact blk_of 38 k.val hk (by decide) (by clear * - k; revert k; decide +kernel)
  | 39, _ => exact blk_of 39 k.val hk (by decide) (by clear * - k; revert k; decide +kernel)
  | 40, _ => exact blk_of 40 k.val hk (by decide) (by clear * - k; revert k; decide +kernel)
  | 41, _ => exact blk_of 41 k.val hk (by decide) (by clear * - k; revert k; decide +kernel)
  | 42, _ => exact blk_of 42 k.val hk (by decide) (by clear * - k; revert k; decide +kernel)
  | 43, _ => exact blk_of 43 k.val hk (by decide) (by clear * - k; revert k; decide +kernel)
  | 44, _ => exact blk_of 44 k.val hk (by decide) (by clear * - k; revert k; decide +kernel)
  | 45, _ => exact blk_of 45 k.val hk (by decide) (by clear * - k; revert k; decide +kernel)
  | 46, _ => exact blk_of 46 k.val hk (by decide) (by clear * - k; revert k; decide +kernel)
  | 47, _ => exact blk_of 47 k.val hk (by decide) (by clear * - k; revert k; decide +kernel)
  | 48, _ => exact blk_of 48 k.val hk (by decide) (by clear * - k; revert k; decide +kernel)
  | 49, _ => exact blk_of 49 k.val hk (by decide) (by clear * - k; revert k; decide +kernel)
  | 50, _ => exact blk_of 50 k.val hk (by decide) (by clear * - k; revert k; decide +kernel)
  | 51, _ => exact blk_of 51 k.val hk (by decide) (by clear * - k; revert k; decide +kernel)
  | 52, _ => exact blk_of 52 k.val hk (by decide) (by clear * - k; revert k; decide +kernel)
  | 53, _ => exact blk_of 53 k.val hk (by decide) (by clear * - k; revert k; decide +kernel)
  | 54, _ => exact blk_of 54 k.val hk (by decide) (by clear * - k; revert k; decide +kernel)
  | 55, _ => exact blk_of 55 k.val hk (by decide) (by clear * - k; revert k; decide +kernel)
  | n + 56, h => exact absurd h (by omega)

set_option maxHeartbeats 1000000 in
theorem inv_of (i : grid0.Coords) (arg1 : Memref sig .tc .vmem S720x7168 .bf16) (h2 : k0_cond2 i = 1#1) (X1 : BufTy.Contents (Elt F) arg1.view.ty) (k : Fin k0_t1_loop.trips) (hk : k.val < 45) : trip_k0_t1.sl.r_5 i arg1 h2 X1 k = invV (ssq (lanes i arg1 h2 X1 k) 56) := by
  rfl

set_option maxHeartbeats 2000000 in
/-- One trip's stores. -/
theorem trip1_out (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h2 : k0_cond2 i = 1#1) (X1 : BufTy.Contents (Elt F) arg1.view.ty) (X2 : BufTy.Contents (Elt F) arg2.view.ty) (k : Fin k0_t1_loop.trips) (a : BitVec 32) (L : List (View.Piece (Elt F) S720x7168 .bf16)) (hL : Blocks (Val := Elt F) (e := .bf16) (normF (rd arg1 X1) (rd arg2 X2)) (16 * k.val) L) :
    Blocks (Val := Elt F) (e := .bf16) (normF (rd arg1 X1) (rd arg2 X2)) (16 * (k.val + 1)) ((trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 k).2.1 a ++ L) := by
  have hk : k.val < 45 := Nat.lt_of_lt_of_le k.isLt k0_t1_abs.2.1
  unfold trip_k0_t1
  dsimp only
  refine step7 (k := k.val) hk hL ?e0 ?e1 ?e2 ?e3 ?e4 ?e5 ?e6 _ _ _ _ _ _ _ _ _ _ _ _ _ _  ?h0 ?h1 ?h2 ?h3 ?h4 ?h5 ?h6
  case e0 => clear * - k; revert k; decide +kernel
  case h0 =>
    intro r l
    refine Eq.trans ?_ (norm_piece (rd arg1 X1) (rd arg2 X2) (lanes i arg1 h2 X1 k) (arg1.view.readAt (Elt F) (Rect.unit (s := S720x7168) (k0_off57 k) S16x1024.size (k0_off57_inb i k h2)).toLoadRect X1) (arg2.view.readAt (Elt F) (Rect.unit (s := S1x7168) ![0, 0] S1x1024.size inb_S1x7168_S1x1024_0_0).toLoadRect X2) k.val 0 hk (by decide) (lanes_at i arg1 h2 X1 k) (x_of 0 k.val hk (by decide) (by clear * - k; revert k; decide +kernel)) (nw_of 0 (by decide)) r l)
    rw [← inv_of i arg1 h2 X1 k hk]
    rfl
  case e1 => clear * - k; revert k; decide +kernel
  case h1 =>
    intro r l
    refine Eq.trans ?_ (norm_piece (rd arg1 X1) (rd arg2 X2) (lanes i arg1 h2 X1 k) (arg1.view.readAt (Elt F) (Rect.unit (s := S720x7168) (k0_off58 k) S16x1024.size (k0_off58_inb i k h2)).toLoadRect X1) (arg2.view.readAt (Elt F) (Rect.unit (s := S1x7168) ![0, 1024] S1x1024.size inb_S1x7168_S1x1024_0_1024).toLoadRect X2) k.val 1024 hk (by decide) (lanes_at i arg1 h2 X1 k) (x_of 1024 k.val hk (by decide) (by clear * - k; revert k; decide +kernel)) (nw_of 1024 (by decide)) r l)
    rw [← inv_of i arg1 h2 X1 k hk]
    rfl
  case e2 => clear * - k; revert k; decide +kernel
  case h2 =>
    intro r l
    refine Eq.trans ?_ (norm_piece (rd arg1 X1) (rd arg2 X2) (lanes i arg1 h2 X1 k) (arg1.view.readAt (Elt F) (Rect.unit (s := S720x7168) (k0_off59 k) S16x1024.size (k0_off59_inb i k h2)).toLoadRect X1) (arg2.view.readAt (Elt F) (Rect.unit (s := S1x7168) ![0, 2048] S1x1024.size inb_S1x7168_S1x1024_0_2048).toLoadRect X2) k.val 2048 hk (by decide) (lanes_at i arg1 h2 X1 k) (x_of 2048 k.val hk (by decide) (by clear * - k; revert k; decide +kernel)) (nw_of 2048 (by decide)) r l)
    rw [← inv_of i arg1 h2 X1 k hk]
    rfl
  case e3 => clear * - k; revert k; decide +kernel
  case h3 =>
    intro r l
    refine Eq.trans ?_ (norm_piece (rd arg1 X1) (rd arg2 X2) (lanes i arg1 h2 X1 k) (arg1.view.readAt (Elt F) (Rect.unit (s := S720x7168) (k0_off60 k) S16x1024.size (k0_off60_inb i k h2)).toLoadRect X1) (arg2.view.readAt (Elt F) (Rect.unit (s := S1x7168) ![0, 3072] S1x1024.size inb_S1x7168_S1x1024_0_3072).toLoadRect X2) k.val 3072 hk (by decide) (lanes_at i arg1 h2 X1 k) (x_of 3072 k.val hk (by decide) (by clear * - k; revert k; decide +kernel)) (nw_of 3072 (by decide)) r l)
    rw [← inv_of i arg1 h2 X1 k hk]
    rfl
  case e4 => clear * - k; revert k; decide +kernel
  case h4 =>
    intro r l
    refine Eq.trans ?_ (norm_piece (rd arg1 X1) (rd arg2 X2) (lanes i arg1 h2 X1 k) (arg1.view.readAt (Elt F) (Rect.unit (s := S720x7168) (k0_off61 k) S16x1024.size (k0_off61_inb i k h2)).toLoadRect X1) (arg2.view.readAt (Elt F) (Rect.unit (s := S1x7168) ![0, 4096] S1x1024.size inb_S1x7168_S1x1024_0_4096).toLoadRect X2) k.val 4096 hk (by decide) (lanes_at i arg1 h2 X1 k) (x_of 4096 k.val hk (by decide) (by clear * - k; revert k; decide +kernel)) (nw_of 4096 (by decide)) r l)
    rw [← inv_of i arg1 h2 X1 k hk]
    rfl
  case e5 => clear * - k; revert k; decide +kernel
  case h5 =>
    intro r l
    refine Eq.trans ?_ (norm_piece (rd arg1 X1) (rd arg2 X2) (lanes i arg1 h2 X1 k) (arg1.view.readAt (Elt F) (Rect.unit (s := S720x7168) (k0_off62 k) S16x1024.size (k0_off62_inb i k h2)).toLoadRect X1) (arg2.view.readAt (Elt F) (Rect.unit (s := S1x7168) ![0, 5120] S1x1024.size inb_S1x7168_S1x1024_0_5120).toLoadRect X2) k.val 5120 hk (by decide) (lanes_at i arg1 h2 X1 k) (x_of 5120 k.val hk (by decide) (by clear * - k; revert k; decide +kernel)) (nw_of 5120 (by decide)) r l)
    rw [← inv_of i arg1 h2 X1 k hk]
    rfl
  case e6 => clear * - k; revert k; decide +kernel
  case h6 =>
    intro r l
    refine Eq.trans ?_ (norm_piece (rd arg1 X1) (rd arg2 X2) (lanes i arg1 h2 X1 k) (arg1.view.readAt (Elt F) (Rect.unit (s := S720x7168) (k0_off63 k) S16x1024.size (k0_off63_inb i k h2)).toLoadRect X1) (arg2.view.readAt (Elt F) (Rect.unit (s := S1x7168) ![0, 6144] S1x1024.size inb_S1x7168_S1x1024_0_6144).toLoadRect X2) k.val 6144 hk (by decide) (lanes_at i arg1 h2 X1 k) (x_of 6144 k.val hk (by decide) (by clear * - k; revert k; decide +kernel)) (nw_of 6144 (by decide)) r l)
    rw [← inv_of i arg1 h2 X1 k hk]
    rfl

/-- The stores of the trips before trip `k`. -/
theorem st1_out (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h2 : k0_cond2 i = 1#1) (X1 : BufTy.Contents (Elt F) arg1.view.ty) (X2 : BufTy.Contents (Elt F) arg2.view.ty) (init : BitVec 32) (k : ℕ) (hk : k ≤ k0_t1_loop.trips) :
    Blocks (Val := Elt F) (e := .bf16) (normF (rd arg1 X1) (rd arg2 X2)) (16 * k) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 init k).2 := by
  induction k with
  | zero => exact Blocks.nil _
  | succ k ih =>
    have e := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 init ⟨k, hk⟩
    dsimp only at e
    rw [e]
    exact trip1_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 ⟨k, hk⟩ _ _ (ih (Nat.le_of_succ_le hk))

end Cert.Proof.GI

end
-- ==== Proof.GI.RunA.lean ====
/-
  The body of the gate and up projections' kernel at one kind of grid point.
-/
module

public import proofs.«01_k».proof.Proof.GI.T2
public import proofs.«01_k».proof.Proof.GI.T3
public import proofs.«01_k».proof.Proof.GI.T4
public import proofs.«01_k».proof.Proof.GI.T5

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : cond1 i = 1#1) (h2 : k0_cond2 i = 1#1) (h3 : k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty)

set_option maxHeartbeats 16000000 in
/-- The first grid point. -/
@[irreducible] def runA :
    Σ' (L9 : List (View.Piece (Elt F) S720x1024 .bf16)), Σ' (L10 : List (View.Piece (Elt F) S720x7168 .bf16)), Σ' (L11 : List (View.Piece (Elt F) S8x56x128 .f32)), Σ' (L12 : List (View.Piece (Elt F) S8x56x128 .f32)), Σ' (L13 : List (View.Piece (Elt F) S8x56x128 .f32)), Σ' (L14 : List (View.Piece (Elt F) S8x56x128 .f32)), Σ' (L15 : List (View.Piece (Elt F) S8x720x128 .f32)), { L16 : List (View.Piece (Elt F) S8x720x128 .f32) // ∀ (E : Set ℕ) (f9 : BufTy.Contents (Elt F) arg9.view.ty),
      Res (F := F) c arg1 arg2 arg3 arg4 arg5 arg6 arg7 arg8 arg9 arg10 arg11 arg12 arg13 arg14 arg15 arg16 X1 X2 X3 X4 X5 X6 X7 X8 f9 X10 X11 X12 X13 X14 X15 X16
      ⊢ wp frame (wpE (defs₀ (F := F)) Variants.none (c : Thread nD τ) none) E (cc0_gate_up (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Res (F := F) c arg1 arg2 arg3 arg4 arg5 arg6 arg7 arg8 arg9 arg10 arg11 arg12 arg13 arg14 arg15 arg16 X1 X2 X3 X4 X5 X6 X7 X8 (arg9.view.writes (Elt F) f9 L9) (arg10.view.writes (Elt F) X10 L10) (arg11.view.writes (Elt F) arg11.view.junk L11) (arg12.view.writes (Elt F) arg12.view.junk L12) (arg13.view.writes (Elt F) arg13.view.junk L13) (arg14.view.writes (Elt F) arg14.view.junk L14) (arg15.view.writes (Elt F) arg15.view.junk L15) (arg16.view.writes (Elt F) arg16.view.junk L16)) } := by
  refine ⟨?_, ?_, ?_, ?_, ?_, ?_, ?_, ?_, fun E f9 => ?run⟩
  case run =>
    simp only [cc0_gate_up_eq_skeleton]; unfold cc0_gate_up_skel
    iintro ⟨H1, H2, H3, H4, H5, H6, H7, H8, H9, H10, H11, H12, H13, H14, H15, H16⟩
    sl_exec (disch := mxu_pushok_peel)
    sl_step
    sl_close

end Cert.Proof.GI

end
-- ==== Proof.GI.ChainA.lean ====
/-
  The sums the matrix unit gives at a grid point of case A.
-/
module

public import proofs.«01_k».proof.Proof.GI.Chain
public import proofs.«01_k».proof.Proof.GI.RunA

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h2 : k0_cond2 i = 1#1) (h3 : k0_cond3 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty)

set_option maxHeartbeats 4000000 in
/-- Before the first loop: the first tile's pass in the rows, the second tile waiting. -/
theorem ready1_A : Ready fits_0_720 (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) (TF 0 (rd arg3 X3) (rd arg11 (arg11.view.writes (Elt F) arg11.view.junk (runA.sl.H11_8 arg4 X4))) (rd arg12 (arg12.view.writes (Elt F) arg12.view.junk (runA.sl.H12_8 arg5 X5)))) (fun q => TF 0 (rd arg3 X3) (rd arg11 (arg11.view.writes (Elt F) arg11.view.junk (runA.sl.H11_8 arg4 X4))) (rd arg12 (arg12.view.writes (Elt F) arg12.view.junk (runA.sl.H12_8 arg5 X5))) q (1)) 1 (runA.sl.r_97 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 X3 X4 X5 X10) := by
  refine push_ready _ (acc_idle _ (push_ready (B := (fun q => TF 0 (rd arg3 X3) (rd arg11 (arg11.view.writes (Elt F) arg11.view.junk (runA.sl.H11_8 arg4 X4))) (rd arg12 (arg12.view.writes (Elt F) arg12.view.junk (runA.sl.H12_8 arg5 X5))) q (0))) _ (idle_init _) ?a1 ?b1) ?x) ?a2 ?b2
  case a1 => exact (by sl_unfold_words; exact vTile_eq (K := 7168) (G := 56) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b1 => exact (by sl_unfold_words; exact vTile_eq (K := 7168) (G := 56) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case a2 => exact (by sl_unfold_words; exact vTile_eq (K := 7168) (G := 56) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 7168) (G := 56) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)

set_option maxHeartbeats 4000000 in
/-- After the first loop: the gate's passes of the low half words, the up matrix's first tile waiting. -/
theorem ready2_A : Ready fits_0_720 (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) (TF 0 (rd arg3 X3) (rd arg11 (arg11.view.writes (Elt F) arg11.view.junk (runA.sl.H11_8 arg4 X4))) (rd arg12 (arg12.view.writes (Elt F) arg12.view.junk (runA.sl.H12_8 arg5 X5)))) (fun q => TF 0 (rd arg6 X6) (rd arg13 (arg13.view.writes (Elt F) arg13.view.junk (runA.sl.H13_8 arg7 X7))) (rd arg14 (arg14.view.writes (Elt F) arg14.view.junk (runA.sl.H14_8 arg8 X8))) q (0)) 28 (runA.sl.r_109 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10) := by
  refine push_ready _ (acc_idle _ (st2_ready (hi := ready1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 X3 X4 X5 X10) (k := 13) (hk := by decide) ..) ?x) ?a2 ?b2
  case a2 => exact (by sl_unfold_words; exact vTile_eq (K := 7168) (G := 56) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 7168) (G := 56) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)

set_option maxHeartbeats 4000000 in
/-- After loop 3. -/
theorem ready3_A : Ready fits_0_720 (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) (TF 0 (rd arg6 X6) (rd arg13 (arg13.view.writes (Elt F) arg13.view.junk (runA.sl.H13_8 arg7 X7))) (rd arg14 (arg14.view.writes (Elt F) arg14.view.junk (runA.sl.H14_8 arg8 X8)))) (fun q => TF 1 (rd arg3 X3) (rd arg11 (arg11.view.writes (Elt F) arg11.view.junk (runA.sl.H11_8 arg4 X4))) (rd arg12 (arg12.view.writes (Elt F) arg12.view.junk (runA.sl.H12_8 arg5 X5))) q (0)) 28 (runA.sl.r_132 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10) := by
  refine push_ready _ (acc_idle _ (st3_ready (hi := push_ready _ (acc_idle _ (out_ready (T' := (TF 0 (rd arg6 X6) (rd arg13 (arg13.view.writes (Elt F) arg13.view.junk (runA.sl.H13_8 arg7 X7))) (rd arg14 (arg14.view.writes (Elt F) arg14.view.junk (runA.sl.H14_8 arg8 X8))))) _ (ready2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10)) ?x1) ?a ?b) (k := 13) (hk := by decide) ..) ?x) ?a2 ?b2
  case a => exact (by sl_unfold_words; exact vTile_eq (K := 7168) (G := 56) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b => exact (by sl_unfold_words; exact vTile_eq (K := 7168) (G := 56) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case a2 => exact (by sl_unfold_words; exact vTile_eq (K := 7168) (G := 56) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 7168) (G := 56) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)
  case x1 => exact (by sl_unfold_words; exact xc_of _ (by decide) rfl)

set_option maxHeartbeats 4000000 in
/-- After loop 4. -/
theorem ready4_A : Ready fits_0_720 (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) (TF 1 (rd arg3 X3) (rd arg11 (arg11.view.writes (Elt F) arg11.view.junk (runA.sl.H11_8 arg4 X4))) (rd arg12 (arg12.view.writes (Elt F) arg12.view.junk (runA.sl.H12_8 arg5 X5)))) (fun q => TF 1 (rd arg6 X6) (rd arg13 (arg13.view.writes (Elt F) arg13.view.junk (runA.sl.H13_8 arg7 X7))) (rd arg14 (arg14.view.writes (Elt F) arg14.view.junk (runA.sl.H14_8 arg8 X8))) q (0)) 28 (runA.sl.r_161 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10) := by
  refine push_ready _ (acc_idle _ (st4_ready (hi := push_ready _ (acc_idle _ (out_ready (T' := (TF 1 (rd arg3 X3) (rd arg11 (arg11.view.writes (Elt F) arg11.view.junk (runA.sl.H11_8 arg4 X4))) (rd arg12 (arg12.view.writes (Elt F) arg12.view.junk (runA.sl.H12_8 arg5 X5))))) _ (ready3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10)) ?x1) ?a ?b) (k := 13) (hk := by decide) ..) ?x) ?a2 ?b2
  case a => exact (by sl_unfold_words; exact vTile_eq (K := 7168) (G := 56) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b => exact (by sl_unfold_words; exact vTile_eq (K := 7168) (G := 56) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case a2 => exact (by sl_unfold_words; exact vTile_eq (K := 7168) (G := 56) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 7168) (G := 56) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)
  case x1 => exact (by sl_unfold_words; exact xc_of _ (by decide) rfl)

set_option maxHeartbeats 4000000 in
/-- At the end. -/
theorem idle_A : Idle fits_0_720 (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) (TF 1 (rd arg6 X6) (rd arg13 (arg13.view.writes (Elt F) arg13.view.junk (runA.sl.H13_8 arg7 X7))) (rd arg14 (arg14.view.writes (Elt F) arg14.view.junk (runA.sl.H14_8 arg8 X8)))) 28 (runA.sl.k0_mxu80 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10) := by
  refine acc_idle _ (st5_ready (hi := push_ready _ (acc_idle _ (out_ready (T' := (TF 1 (rd arg6 X6) (rd arg13 (arg13.view.writes (Elt F) arg13.view.junk (runA.sl.H13_8 arg7 X7))) (rd arg14 (arg14.view.writes (Elt F) arg14.view.junk (runA.sl.H14_8 arg8 X8))))) _ (ready4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10)) ?x1) ?a ?b) (k := 13) (hk := by decide) ..) ?x
  case a => exact (by sl_unfold_words; exact vTile_eq (K := 7168) (G := 56) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b => exact (by sl_unfold_words; exact vTile_eq (K := 7168) (G := 56) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)
  case x1 => exact (by sl_unfold_words; exact xc_of _ (by decide) rfl)

/-- The sums taken out, pass by pass and unit by unit. -/
theorem v1295_A : runA.sl.v1295_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10 = sums (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) ((TF 0 (rd arg3 X3) (rd arg11 (arg11.view.writes (Elt F) arg11.view.junk (runA.sl.H11_8 arg4 X4))) (rd arg12 (arg12.view.writes (Elt F) arg12.view.junk (runA.sl.H12_8 arg5 X5)))) 0) 28 := (ready2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10).read0
theorem v1296_A : runA.sl.v1296_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10 = sums (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) ((TF 0 (rd arg3 X3) (rd arg11 (arg11.view.writes (Elt F) arg11.view.junk (runA.sl.H11_8 arg4 X4))) (rd arg12 (arg12.view.writes (Elt F) arg12.view.junk (runA.sl.H12_8 arg5 X5)))) 1) 28 := (ready2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10).read1
theorem v1531_A : runA.sl.v1531_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10 = sums (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) ((TF 0 (rd arg6 X6) (rd arg13 (arg13.view.writes (Elt F) arg13.view.junk (runA.sl.H13_8 arg7 X7))) (rd arg14 (arg14.view.writes (Elt F) arg14.view.junk (runA.sl.H14_8 arg8 X8)))) 0) 28 := (ready3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10).read0
theorem v1532_A : runA.sl.v1532_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10 = sums (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) ((TF 0 (rd arg6 X6) (rd arg13 (arg13.view.writes (Elt F) arg13.view.junk (runA.sl.H13_8 arg7 X7))) (rd arg14 (arg14.view.writes (Elt F) arg14.view.junk (runA.sl.H14_8 arg8 X8)))) 1) 28 := (ready3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10).read1
theorem v1767_A : runA.sl.v1767_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10 = sums (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) ((TF 1 (rd arg3 X3) (rd arg11 (arg11.view.writes (Elt F) arg11.view.junk (runA.sl.H11_8 arg4 X4))) (rd arg12 (arg12.view.writes (Elt F) arg12.view.junk (runA.sl.H12_8 arg5 X5)))) 0) 28 := (ready4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10).read0
theorem v1768_A : runA.sl.v1768_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10 = sums (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) ((TF 1 (rd arg3 X3) (rd arg11 (arg11.view.writes (Elt F) arg11.view.junk (runA.sl.H11_8 arg4 X4))) (rd arg12 (arg12.view.writes (Elt F) arg12.view.junk (runA.sl.H12_8 arg5 X5)))) 1) 28 := (ready4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10).read1
theorem v1898_A : runA.sl.v1898_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10 = sums (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) ((TF 1 (rd arg6 X6) (rd arg13 (arg13.view.writes (Elt F) arg13.view.junk (runA.sl.H13_8 arg7 X7))) (rd arg14 (arg14.view.writes (Elt F) arg14.view.junk (runA.sl.H14_8 arg8 X8)))) 0) 28 := (idle_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10).read0
theorem v1899_A : runA.sl.v1899_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10 = sums (XC (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2))) ((TF 1 (rd arg6 X6) (rd arg13 (arg13.view.writes (Elt F) arg13.view.junk (runA.sl.H13_8 arg7 X7))) (rd arg14 (arg14.view.writes (Elt F) arg14.view.junk (runA.sl.H14_8 arg8 X8)))) 1) 28 := (idle_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10).read1

end Cert.Proof.GI

end
-- ==== Proof.GI.Kept.lean ====
/-
  Loads and stores that fill the scratch buffers, at one place.
-/
module

public import proofs.«01_k».proof.Proof.GI.Chain
public import proofs.«01_k».proof.Proof.Spec

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

/-- A whole load of the packed zeros. -/
theorem q_of {arg3 : Memref sig .tc .vmem S56x128 .i32} {X3 : BufTy.Contents (Elt F) arg3.view.ty} {inb} (r : Fin 56) (l : Fin 128) :
    arg3.view.readAt (Elt F) (Rect.unit (s := S56x128) ![0, 0] S56x128.size inb).toLoadRect X3 (ix2 r l) = rd arg3 X3 (ix2 r l) := by
  refine View.ld_unit_apply_of (rd arg3 X3) _ _ _ _ _ fun a => ?_
  match a with
  | ⟨0, _⟩ => simp
  | ⟨1, _⟩ => simp

/-- One field of the packed zeros, as stored. -/
theorem z_piece {arg3 : Memref sig .tc .vmem S56x128 .i32} {X3 : BufTy.Contents (Elt F) arg3.view.ty} (p : Fin 2) (t : Fin 4) (r : Fin 56) (l : Fin 128) :
    shapeCast S1x56x128 (vField (F := F) p t (View.readAt (Elt F) arg3.view (Rect.unit ![0, 0] S56x128.size inb_S56x128_S56x128_0_0).toLoadRect X3)) shapeCasts_S56x128_S1x56x128 (ix3 0 r l)
      = fieldW p t (rd arg3 X3 (ix2 r l)) := by
  rw [cast_on, vField_at, q_of]

/-- A load of one column tile of the scales. -/
theorem s_of {arg4 : Memref sig .tc .vmem S56x1024 .i16} {X4 : BufTy.Contents (Elt F) arg4.view.ty} (j : ℕ) {inb} (hj : j < 8) (r : Fin 56) (l : Fin 128) :
    arg4.view.readAt (Elt F) (Rect.unit (s := S56x1024) ![0, 128 * j] S56x128.size inb).toLoadRect X4 (ix2 r l) = rd arg4 X4 (ix2 r (at' 1024 (128 * j + l.val))) := by
  refine View.ld_unit_apply_of (rd arg4 X4) _ _ _ _ _ fun a => ?_
  match a with
  | ⟨0, _⟩ => simp
  | ⟨1, _⟩ => have := l.isLt; simp [at']; omega

/-- The left or the right half of a pair of fields' products. -/
theorem half_at (v : FVec F S720x256 .f32) (o : ℕ) (ho : o = 0 ∨ o = 128) (h : S720x256.Slices ![0, o] S720x128) (r : Fin 720) (l : Fin 128) :
    extractStridedSlice S720x128 ![0, o] v h (ix2 r l) = v (ix2 r (at' 256 (o + l.val))) := by
  have := l.isLt
  rcases ho with rfl | rfl <;> pointwise <;> refine congrArg (fun k => v (ix2 r k)) (Fin.ext ?_) <;> simp [at'] <;> omega

theorem col_label : ∀ l : Fin 128, ∀ f : Fin 8,
    at' 1024 (128 * (at' 8 (l.val / 16)).val + (at' 128 (8 * (l.val % 16) + order f.val)).val) = at' 1024 (8 * l.val + order f.val) := by decide +kernel

/-- The eight column tiles of the scales, decoded. -/
def vCols (arg4 : Memref sig .tc .vmem S56x1024 .i16) (X4 : BufTy.Contents (Elt F) arg4.view.ty) : Fin 8 → FVec F S56x128 .f32 := fun j => match j with
  | 0 => vDec (F := F) natLt_16_32 (View.readAt (Elt F) arg4.view (Rect.unit ![0, 0] S56x128.size inb_S56x1024_S56x128_0_0 : Rect S56x1024).toLoadRect X4)
  | 1 => vDec (F := F) natLt_16_32 (View.readAt (Elt F) arg4.view (Rect.unit ![0, 128] S56x128.size inb_S56x1024_S56x128_0_128 : Rect S56x1024).toLoadRect X4)
  | 2 => vDec (F := F) natLt_16_32 (View.readAt (Elt F) arg4.view (Rect.unit ![0, 256] S56x128.size inb_S56x1024_S56x128_0_256 : Rect S56x1024).toLoadRect X4)
  | 3 => vDec (F := F) natLt_16_32 (View.readAt (Elt F) arg4.view (Rect.unit ![0, 384] S56x128.size inb_S56x1024_S56x128_0_384 : Rect S56x1024).toLoadRect X4)
  | 4 => vDec (F := F) natLt_16_32 (View.readAt (Elt F) arg4.view (Rect.unit ![0, 512] S56x128.size inb_S56x1024_S56x128_0_512 : Rect S56x1024).toLoadRect X4)
  | 5 => vDec (F := F) natLt_16_32 (View.readAt (Elt F) arg4.view (Rect.unit ![0, 640] S56x128.size inb_S56x1024_S56x128_0_640 : Rect S56x1024).toLoadRect X4)
  | 6 => vDec (F := F) natLt_16_32 (View.readAt (Elt F) arg4.view (Rect.unit ![0, 768] S56x128.size inb_S56x1024_S56x128_0_768 : Rect S56x1024).toLoadRect X4)
  | 7 => vDec (F := F) natLt_16_32 (View.readAt (Elt F) arg4.view (Rect.unit ![0, 896] S56x128.size inb_S56x1024_S56x128_0_896 : Rect S56x1024).toLoadRect X4)

theorem vCols_at (arg4 : Memref sig .tc .vmem S56x1024 .i16) (X4 : BufTy.Contents (Elt F) arg4.view.ty) (k : Fin 8) (r : Fin 56) (l : Fin 128) :
    vToF (R := 56) rotates_S56x128_d1 shapeCasts_S56x128_S56x128x1 shapeCasts_S56x128x1_S56x128 iota_S56x128_d1_w32 (vCols arg4 X4) k (ix2 r l)
      = decode (rd arg4 X4 (ix2 r (at' 1024 (8 * l.val + order k.val)))) := by
  rw [vToF_at]
  refine Eq.trans (b := decode (rd arg4 X4 (ix2 r (at' 1024 (128 * (at' 8 (l.val / 16)).val + (at' 128 (8 * (l.val % 16) + order k.val)).val))))) ?_ ?_
  · generalize at' 8 (l.val / 16) = j
    generalize at' 128 (8 * (l.val % 16) + order k.val) = m
    match j with
    | 0 => exact (vDec_at _ _ _).trans (congrArg decode (s_of 0 (by decide) r m))
    | 1 => exact (vDec_at _ _ _).trans (congrArg decode (s_of 1 (by decide) r m))
    | 2 => exact (vDec_at _ _ _).trans (congrArg decode (s_of 2 (by decide) r m))
    | 3 => exact (vDec_at _ _ _).trans (congrArg decode (s_of 3 (by decide) r m))
    | 4 => exact (vDec_at _ _ _).trans (congrArg decode (s_of 4 (by decide) r m))
    | 5 => exact (vDec_at _ _ _).trans (congrArg decode (s_of 5 (by decide) r m))
    | 6 => exact (vDec_at _ _ _).trans (congrArg decode (s_of 6 (by decide) r m))
    | 7 => exact (vDec_at _ _ _).trans (congrArg decode (s_of 7 (by decide) r m))
  · rw [col_label]

set_option maxHeartbeats 400000 in
/-- The eight fields of the packed zeros, stacked. -/
theorem z_stack (arg3 : Memref sig .tc .vmem S56x128 .i32) (X3 : BufTy.Contents (Elt F) arg3.view.ty) (m : Memref sig .tc .vmem S8x56x128 .f32) (b0 b1 b2 b3 b4 b5 b6 b7) :
    rd m (m.view.writes (Elt F) m.view.junk (⟨Rect.unit ![7, 0, 0] S1x56x128.size b7, shapeCast S1x56x128 (vField (F := F) 1 3 (View.readAt (Elt F) arg3.view (Rect.unit ![0, 0] S56x128.size inb_S56x128_S56x128_0_0).toLoadRect X3)) shapeCasts_S56x128_S1x56x128⟩ :: ⟨Rect.unit ![6, 0, 0] S1x56x128.size b6, shapeCast S1x56x128 (vField (F := F) 1 2 (View.readAt (Elt F) arg3.view (Rect.unit ![0, 0] S56x128.size inb_S56x128_S56x128_0_0).toLoadRect X3)) shapeCasts_S56x128_S1x56x128⟩ :: ⟨Rect.unit ![5, 0, 0] S1x56x128.size b5, shapeCast S1x56x128 (vField (F := F) 1 1 (View.readAt (Elt F) arg3.view (Rect.unit ![0, 0] S56x128.size inb_S56x128_S56x128_0_0).toLoadRect X3)) shapeCasts_S56x128_S1x56x128⟩ :: ⟨Rect.unit ![4, 0, 0] S1x56x128.size b4, shapeCast S1x56x128 (vField (F := F) 1 0 (View.readAt (Elt F) arg3.view (Rect.unit ![0, 0] S56x128.size inb_S56x128_S56x128_0_0).toLoadRect X3)) shapeCasts_S56x128_S1x56x128⟩ :: ⟨Rect.unit ![3, 0, 0] S1x56x128.size b3, shapeCast S1x56x128 (vField (F := F) 0 3 (View.readAt (Elt F) arg3.view (Rect.unit ![0, 0] S56x128.size inb_S56x128_S56x128_0_0).toLoadRect X3)) shapeCasts_S56x128_S1x56x128⟩ :: ⟨Rect.unit ![2, 0, 0] S1x56x128.size b2, shapeCast S1x56x128 (vField (F := F) 0 2 (View.readAt (Elt F) arg3.view (Rect.unit ![0, 0] S56x128.size inb_S56x128_S56x128_0_0).toLoadRect X3)) shapeCasts_S56x128_S1x56x128⟩ :: ⟨Rect.unit ![1, 0, 0] S1x56x128.size b1, shapeCast S1x56x128 (vField (F := F) 0 1 (View.readAt (Elt F) arg3.view (Rect.unit ![0, 0] S56x128.size inb_S56x128_S56x128_0_0).toLoadRect X3)) shapeCasts_S56x128_S1x56x128⟩ :: ⟨Rect.unit ![0, 0, 0] S1x56x128.size b0, shapeCast S1x56x128 (vField (F := F) 0 0 (View.readAt (Elt F) arg3.view (Rect.unit ![0, 0] S56x128.size inb_S56x128_S56x128_0_0).toLoadRect X3)) shapeCasts_S56x128_S1x56x128⟩ :: [])) = zcF (G := 56) (rd arg3 X3) := by
  refine stack8 (R := 56) m.view _ _ [] _ _ _ _ _ _ _ _ _ _ _ _ _ _ _ _ ?_ ?_ ?_ ?_ ?_ ?_ ?_ ?_
  · intro r l; exact (z_piece 0 0 r l).trans (zcF_at (rd arg3 X3) 0 r l 0 0 (by decide) (by decide)).symm
  · intro r l; exact (z_piece 0 1 r l).trans (zcF_at (rd arg3 X3) 1 r l 0 1 (by decide) (by decide)).symm
  · intro r l; exact (z_piece 0 2 r l).trans (zcF_at (rd arg3 X3) 2 r l 0 2 (by decide) (by decide)).symm
  · intro r l; exact (z_piece 0 3 r l).trans (zcF_at (rd arg3 X3) 3 r l 0 3 (by decide) (by decide)).symm
  · intro r l; exact (z_piece 1 0 r l).trans (zcF_at (rd arg3 X3) 4 r l 1 0 (by decide) (by decide)).symm
  · intro r l; exact (z_piece 1 1 r l).trans (zcF_at (rd arg3 X3) 5 r l 1 1 (by decide) (by decide)).symm
  · intro r l; exact (z_piece 1 2 r l).trans (zcF_at (rd arg3 X3) 6 r l 1 2 (by decide) (by decide)).symm
  · intro r l; exact (z_piece 1 3 r l).trans (zcF_at (rd arg3 X3) 7 r l 1 3 (by decide) (by decide)).symm

set_option maxHeartbeats 400000 in
/-- The eight fields of the scales, stacked. -/
theorem s_stack (arg4 : Memref sig .tc .vmem S56x1024 .i16) (X4 : BufTy.Contents (Elt F) arg4.view.ty) (m : Memref sig .tc .vmem S8x56x128 .f32) (b0 b1 b2 b3 b4 b5 b6 b7) :
    rd m (m.view.writes (Elt F) m.view.junk (⟨Rect.unit ![7, 0, 0] S1x56x128.size b7, shapeCast S1x56x128 (mulf (vToF (R := 56) rotates_S56x128_d1 shapeCasts_S56x128_S56x128x1 shapeCasts_S56x128x1_S56x128 iota_S56x128_d1_w32 (vCols arg4 X4) 7) (broadcast S56x128 (unshift (F := F) 3))) shapeCasts_S56x128_S1x56x128⟩ :: ⟨Rect.unit ![6, 0, 0] S1x56x128.size b6, shapeCast S1x56x128 (mulf (vToF (R := 56) rotates_S56x128_d1 shapeCasts_S56x128_S56x128x1 shapeCasts_S56x128x1_S56x128 iota_S56x128_d1_w32 (vCols arg4 X4) 6) (broadcast S56x128 (unshift (F := F) 2))) shapeCasts_S56x128_S1x56x128⟩ :: ⟨Rect.unit ![5, 0, 0] S1x56x128.size b5, shapeCast S1x56x128 (mulf (vToF (R := 56) rotates_S56x128_d1 shapeCasts_S56x128_S56x128x1 shapeCasts_S56x128x1_S56x128 iota_S56x128_d1_w32 (vCols arg4 X4) 5) (broadcast S56x128 (unshift (F := F) 1))) shapeCasts_S56x128_S1x56x128⟩ :: ⟨Rect.unit ![4, 0, 0] S1x56x128.size b4, shapeCast S1x56x128 (mulf (vToF (R := 56) rotates_S56x128_d1 shapeCasts_S56x128_S56x128x1 shapeCasts_S56x128x1_S56x128 iota_S56x128_d1_w32 (vCols arg4 X4) 4) (broadcast S56x128 (unshift (F := F) 0))) shapeCasts_S56x128_S1x56x128⟩ :: ⟨Rect.unit ![3, 0, 0] S1x56x128.size b3, shapeCast S1x56x128 (mulf (vToF (R := 56) rotates_S56x128_d1 shapeCasts_S56x128_S56x128x1 shapeCasts_S56x128x1_S56x128 iota_S56x128_d1_w32 (vCols arg4 X4) 3) (broadcast S56x128 (unshift (F := F) 3))) shapeCasts_S56x128_S1x56x128⟩ :: ⟨Rect.unit ![2, 0, 0] S1x56x128.size b2, shapeCast S1x56x128 (mulf (vToF (R := 56) rotates_S56x128_d1 shapeCasts_S56x128_S56x128x1 shapeCasts_S56x128x1_S56x128 iota_S56x128_d1_w32 (vCols arg4 X4) 2) (broadcast S56x128 (unshift (F := F) 2))) shapeCasts_S56x128_S1x56x128⟩ :: ⟨Rect.unit ![1, 0, 0] S1x56x128.size b1, shapeCast S1x56x128 (mulf (vToF (R := 56) rotates_S56x128_d1 shapeCasts_S56x128_S56x128x1 shapeCasts_S56x128x1_S56x128 iota_S56x128_d1_w32 (vCols arg4 X4) 1) (broadcast S56x128 (unshift (F := F) 1))) shapeCasts_S56x128_S1x56x128⟩ :: ⟨Rect.unit ![0, 0, 0] S1x56x128.size b0, shapeCast S1x56x128 (mulf (vToF (R := 56) rotates_S56x128_d1 shapeCasts_S56x128_S56x128x1 shapeCasts_S56x128x1_S56x128 iota_S56x128_d1_w32 (vCols arg4 X4) 0) (broadcast S56x128 (unshift (F := F) 0))) shapeCasts_S56x128_S1x56x128⟩ :: [])) = scF (G := 56) (N := 1024) (rd arg4 X4) := by
  refine stack8 (R := 56) m.view _ _ [] _ _ _ _ _ _ _ _ _ _ _ _ _ _ _ _ ?_ ?_ ?_ ?_ ?_ ?_ ?_ ?_
  · intro r l; exact (cast_on _ _ r l).trans (congrArg (fun a => FloatOps.mulf a (unshift (F := F) 0)) (vCols_at arg4 X4 0 r l) |>.trans (scF_at _ 0 r l 0 (by decide)).symm)
  · intro r l; exact (cast_on _ _ r l).trans (congrArg (fun a => FloatOps.mulf a (unshift (F := F) 1)) (vCols_at arg4 X4 1 r l) |>.trans (scF_at _ 1 r l 1 (by decide)).symm)
  · intro r l; exact (cast_on _ _ r l).trans (congrArg (fun a => FloatOps.mulf a (unshift (F := F) 2)) (vCols_at arg4 X4 2 r l) |>.trans (scF_at _ 2 r l 2 (by decide)).symm)
  · intro r l; exact (cast_on _ _ r l).trans (congrArg (fun a => FloatOps.mulf a (unshift (F := F) 3)) (vCols_at arg4 X4 3 r l) |>.trans (scF_at _ 3 r l 3 (by decide)).symm)
  · intro r l; exact (cast_on _ _ r l).trans (congrArg (fun a => FloatOps.mulf a (unshift (F := F) 0)) (vCols_at arg4 X4 4 r l) |>.trans (scF_at _ 4 r l 0 (by decide)).symm)
  · intro r l; exact (cast_on _ _ r l).trans (congrArg (fun a => FloatOps.mulf a (unshift (F := F) 1)) (vCols_at arg4 X4 5 r l) |>.trans (scF_at _ 5 r l 1 (by decide)).symm)
  · intro r l; exact (cast_on _ _ r l).trans (congrArg (fun a => FloatOps.mulf a (unshift (F := F) 2)) (vCols_at arg4 X4 6 r l) |>.trans (scF_at _ 6 r l 2 (by decide)).symm)
  · intro r l; exact (cast_on _ _ r l).trans (congrArg (fun a => FloatOps.mulf a (unshift (F := F) 3)) (vCols_at arg4 X4 7 r l) |>.trans (scF_at _ 7 r l 3 (by decide)).symm)

set_option maxHeartbeats 400000 in
/-- The products of the eight fields, stacked. -/
theorem y_stack (m : Memref sig .tc .vmem S8x720x128 .f32) (f : BufTy.Contents (Elt F) m.view.ty) (L : List (View.Piece (Elt F) S8x720x128 .f32)) (b0 b1 b2 b3 b4 b5 b6 b7)
    (X : S720x7168.Idx → Elt F .bf16) (W : S7168x128.Idx → BitVec 32) (Z S : S8x56x128.Idx → F .f32) (v0 v1 v2 v3 : FVec F S720x256 .f32)
    (e0 : v0 = sums (XC X) (TF 0 W Z S 0) 28) (e1 : v1 = sums (XC X) (TF 0 W Z S 1) 28) (e2 : v2 = sums (XC X) (TF 1 W Z S 0) 28) (e3 : v3 = sums (XC X) (TF 1 W Z S 1) 28) :
    rd m (m.view.writes (Elt F) f (⟨Rect.unit ![7, 0, 0] S1x720x128.size b7, shapeCast S1x720x128 (extractStridedSlice S720x128 ![0, 128] v3 slices_S720x256_o0_128_S720x128) shapeCasts_S720x128_S1x720x128⟩ :: ⟨Rect.unit ![6, 0, 0] S1x720x128.size b6, shapeCast S1x720x128 (extractStridedSlice S720x128 ![0, 0] v3 slices_S720x256_o0_0_S720x128) shapeCasts_S720x128_S1x720x128⟩ :: ⟨Rect.unit ![5, 0, 0] S1x720x128.size b5, shapeCast S1x720x128 (extractStridedSlice S720x128 ![0, 128] v2 slices_S720x256_o0_128_S720x128) shapeCasts_S720x128_S1x720x128⟩ :: ⟨Rect.unit ![4, 0, 0] S1x720x128.size b4, shapeCast S1x720x128 (extractStridedSlice S720x128 ![0, 0] v2 slices_S720x256_o0_0_S720x128) shapeCasts_S720x128_S1x720x128⟩ :: ⟨Rect.unit ![3, 0, 0] S1x720x128.size b3, shapeCast S1x720x128 (extractStridedSlice S720x128 ![0, 128] v1 slices_S720x256_o0_128_S720x128) shapeCasts_S720x128_S1x720x128⟩ :: ⟨Rect.unit ![2, 0, 0] S1x720x128.size b2, shapeCast S1x720x128 (extractStridedSlice S720x128 ![0, 0] v1 slices_S720x256_o0_0_S720x128) shapeCasts_S720x128_S1x720x128⟩ :: ⟨Rect.unit ![1, 0, 0] S1x720x128.size b1, shapeCast S1x720x128 (extractStridedSlice S720x128 ![0, 128] v0 slices_S720x256_o0_128_S720x128) shapeCasts_S720x128_S1x720x128⟩ :: ⟨Rect.unit ![0, 0, 0] S1x720x128.size b0, shapeCast S1x720x128 (extractStridedSlice S720x128 ![0, 0] v0 slices_S720x256_o0_0_S720x128) shapeCasts_S720x128_S1x720x128⟩ :: L)) = prodF (M := 720) (K := 7168) (G := 56) 28 X W Z S := by
  refine stack8 (R := 720) m.view _ _ L _ _ _ _ _ _ _ _ _ _ _ _ _ _ _ _ ?_ ?_ ?_ ?_ ?_ ?_ ?_ ?_
  · intro r l; exact (cast_on _ _ r l).trans ((half_at _ 0 (by decide) _ r l).trans ((congrFun e0 _).trans (prodF_at _ _ _ _ _ 0 r l 0 0 0 (by decide) (by decide) (by decide)).symm))
  · intro r l; exact (cast_on _ _ r l).trans ((half_at _ 128 (by decide) _ r l).trans ((congrFun e0 _).trans (prodF_at _ _ _ _ _ 1 r l 0 0 128 (by decide) (by decide) (by decide)).symm))
  · intro r l; exact (cast_on _ _ r l).trans ((half_at _ 0 (by decide) _ r l).trans ((congrFun e1 _).trans (prodF_at _ _ _ _ _ 2 r l 0 1 0 (by decide) (by decide) (by decide)).symm))
  · intro r l; exact (cast_on _ _ r l).trans ((half_at _ 128 (by decide) _ r l).trans ((congrFun e1 _).trans (prodF_at _ _ _ _ _ 3 r l 0 1 128 (by decide) (by decide) (by decide)).symm))
  · intro r l; exact (cast_on _ _ r l).trans ((half_at _ 0 (by decide) _ r l).trans ((congrFun e2 _).trans (prodF_at _ _ _ _ _ 4 r l 1 0 0 (by decide) (by decide) (by decide)).symm))
  · intro r l; exact (cast_on _ _ r l).trans ((half_at _ 128 (by decide) _ r l).trans ((congrFun e2 _).trans (prodF_at _ _ _ _ _ 5 r l 1 0 128 (by decide) (by decide) (by decide)).symm))
  · intro r l; exact (cast_on _ _ r l).trans ((half_at _ 0 (by decide) _ r l).trans ((congrFun e3 _).trans (prodF_at _ _ _ _ _ 6 r l 1 1 0 (by decide) (by decide) (by decide)).symm))
  · intro r l; exact (cast_on _ _ r l).trans ((half_at _ 128 (by decide) _ r l).trans ((congrFun e3 _).trans (prodF_at _ _ _ _ _ 7 r l 1 1 128 (by decide) (by decide) (by decide)).symm))

end Cert.Proof.GI

end
-- ==== Proof.GI.KeptA.lean ====
/-
  What a grid point of case A leaves in the scratch buffers, at one place.
-/
module

public import proofs.«01_k».proof.Proof.GI.ChainA
public import proofs.«01_k».proof.Proof.GI.Kept

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h2 : k0_cond2 i = 1#1) (h3 : k0_cond3 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty)

/-- The zeros and the scales kept. -/
theorem z11_A : rd arg11 (arg11.view.writes (Elt F) arg11.view.junk (runA.sl.H11_8 arg4 X4)) = zcF (G := 56) (rd arg4 X4) := by
  unfold runA.sl.H11_8
  exact z_stack arg4 X4 arg11 _ _ _ _ _ _ _ _

theorem s12_A : rd arg12 (arg12.view.writes (Elt F) arg12.view.junk (runA.sl.H12_8 arg5 X5)) = scF (G := 56) (N := 1024) (rd arg5 X5) := by
  unfold runA.sl.H12_8
  exact s_stack arg5 X5 arg12 _ _ _ _ _ _ _ _

/-- The zeros and the scales kept. -/
theorem z13_A : rd arg13 (arg13.view.writes (Elt F) arg13.view.junk (runA.sl.H13_8 arg7 X7)) = zcF (G := 56) (rd arg7 X7) := by
  unfold runA.sl.H13_8
  exact z_stack arg7 X7 arg13 _ _ _ _ _ _ _ _

theorem s14_A : rd arg14 (arg14.view.writes (Elt F) arg14.view.junk (runA.sl.H14_8 arg8 X8)) = scF (G := 56) (N := 1024) (rd arg8 X8) := by
  unfold runA.sl.H14_8
  exact s_stack arg8 X8 arg14 _ _ _ _ _ _ _ _

end Cert.Proof.GI

end
-- ==== Proof.GI.ProdA.lean ====
/-
  The products that a grid point of case A keeps for the next.
-/
module

public import proofs.«01_k».proof.Proof.GI.KeptA

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

set_option maxHeartbeats 800000 in
theorem y15_A (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : cond1 i = 1#1) (h2 : k0_cond2 i = 1#1) (h3 : k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f : BufTy.Contents (Elt F) arg15.view.ty) :
    rd arg15 (arg15.view.writes (Elt F) f (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).2.2.2.2.2.2.1) = prodF (M := 720) (K := 7168) (G := 56) 28 (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2)) (rd arg3 X3) (zcF (G := 56) (rd arg4 X4)) (scF (G := 56) (N := 1024) (rd arg5 X5)) := by
  have e0 := v1295_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10
  have e1 := v1296_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10
  have e2 := v1767_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10
  have e3 := v1768_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10
  rw [z11_A, s12_A] at e0 e1 e2 e3
  unfold runA
  exact y_stack arg15 f _ _ _ _ _ _ _ _ _ _ _ _ _ _ _ _ _ e0 e1 e2 e3

/-- Before the first block the products are zero. -/
theorem zero15_A {arg15 : Memref sig .tc .vmem S8x720x128 .f32} (f : BufTy.Contents (Elt F) arg15.view.ty) : rd arg15 (arg15.view.writes (Elt F) f runA.sl.H15_8) = fun _ => Scalar.ofBits .f32 0x00000000#32 := by
  unfold runA.sl.H15_8
  refine stack8 (R := 720) arg15.view _ _ [] _ _ _ _ _ _ _ _ _ _ _ _ _ _ _ _ ?_ ?_ ?_ ?_ ?_ ?_ ?_ ?_
  all_goals (intro r l; exact cast_on (broadcast S720x128 (Scalar.ofBits (F := F) .f32 0x00000000#32)) shapeCasts_S720x128_S1x720x128 r l)

set_option maxHeartbeats 800000 in
theorem y16_A (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : cond1 i = 1#1) (h2 : k0_cond2 i = 1#1) (h3 : k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f : BufTy.Contents (Elt F) arg16.view.ty) :
    rd arg16 (arg16.view.writes (Elt F) f (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).2.2.2.2.2.2.2.1) = prodF (M := 720) (K := 7168) (G := 56) 28 (rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2)) (rd arg6 X6) (zcF (G := 56) (rd arg7 X7)) (scF (G := 56) (N := 1024) (rd arg8 X8)) := by
  have e0 := v1531_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10
  have e1 := v1532_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10
  have e2 := v1898_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10
  have e3 := v1899_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 X1 X2 X3 X4 X5 X6 X7 X8 X10
  rw [z13_A, s14_A] at e0 e1 e2 e3
  unfold runA
  exact y_stack arg16 f _ _ _ _ _ _ _ _ _ _ _ _ _ _ _ _ _ e0 e1 e2 e3

/-- Before the first block the products are zero. -/
theorem zero16_A {arg16 : Memref sig .tc .vmem S8x720x128 .f32} (f : BufTy.Contents (Elt F) arg16.view.ty) : rd arg16 (arg16.view.writes (Elt F) f runA.sl.H16_8) = fun _ => Scalar.ofBits .f32 0x00000000#32 := by
  unfold runA.sl.H16_8
  refine stack8 (R := 720) arg16.view _ _ [] _ _ _ _ _ _ _ _ _ _ _ _ _ _ _ _ ?_ ?_ ?_ ?_ ?_ ?_ ?_ ?_
  all_goals (intro r l; exact cast_on (broadcast S720x128 (Scalar.ofBits (F := F) .f32 0x00000000#32)) shapeCasts_S720x128_S1x720x128 r l)

end Cert.Proof.GI

end
-- ==== Proof.GI.RunB.lean ====
/-
  The body of the gate and up projections' kernel at one kind of grid point.
-/
module

public import proofs.«01_k».proof.Proof.GI.T2
public import proofs.«01_k».proof.Proof.GI.T3
public import proofs.«01_k».proof.Proof.GI.T4
public import proofs.«01_k».proof.Proof.GI.T5

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : ¬ cond1 i = 1#1) (h2 : ¬ k0_cond2 i = 1#1) (h3 : k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty)

set_option maxHeartbeats 16000000 in
/-- A middle grid point. -/
@[irreducible] def runB :
    Σ' (L9 : List (View.Piece (Elt F) S720x1024 .bf16)), Σ' (L11 : List (View.Piece (Elt F) S8x56x128 .f32)), Σ' (L12 : List (View.Piece (Elt F) S8x56x128 .f32)), Σ' (L13 : List (View.Piece (Elt F) S8x56x128 .f32)), Σ' (L14 : List (View.Piece (Elt F) S8x56x128 .f32)), Σ' (L15 : List (View.Piece (Elt F) S8x720x128 .f32)), { L16 : List (View.Piece (Elt F) S8x720x128 .f32) // ∀ (E : Set ℕ) (f9 : BufTy.Contents (Elt F) arg9.view.ty),
      Res (F := F) c arg1 arg2 arg3 arg4 arg5 arg6 arg7 arg8 arg9 arg10 arg11 arg12 arg13 arg14 arg15 arg16 X1 X2 X3 X4 X5 X6 X7 X8 f9 X10 X11 X12 X13 X14 X15 X16
      ⊢ wp frame (wpE (defs₀ (F := F)) Variants.none (c : Thread nD τ) none) E (cc0_gate_up (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Res (F := F) c arg1 arg2 arg3 arg4 arg5 arg6 arg7 arg8 arg9 arg10 arg11 arg12 arg13 arg14 arg15 arg16 X1 X2 X3 X4 X5 X6 X7 X8 (arg9.view.writes (Elt F) f9 L9) X10 (arg11.view.writes (Elt F) arg11.view.junk L11) (arg12.view.writes (Elt F) arg12.view.junk L12) (arg13.view.writes (Elt F) arg13.view.junk L13) (arg14.view.writes (Elt F) arg14.view.junk L14) (arg15.view.writes (Elt F) arg15.view.junk L15) (arg16.view.writes (Elt F) X16 L16)) } := by
  refine ⟨?_, ?_, ?_, ?_, ?_, ?_, ?_, fun E f9 => ?run⟩
  case run =>
    simp only [cc0_gate_up_eq_skeleton]; unfold cc0_gate_up_skel
    iintro ⟨H1, H2, H3, H4, H5, H6, H7, H8, H9, H10, H11, H12, H13, H14, H15, H16⟩
    sl_exec (disch := mxu_pushok_peel)
    sl_step
    sl_close

end Cert.Proof.GI

end
-- ==== Proof.GI.ChainB.lean ====
/-
  The sums the matrix unit gives at a grid point of case B.
-/
module

public import proofs.«01_k».proof.Proof.GI.Chain
public import proofs.«01_k».proof.Proof.GI.RunB

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h3 : k0_cond3 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X15 : BufTy.Contents (Elt F) arg15.view.ty) (X16 : BufTy.Contents (Elt F) arg16.view.ty)

set_option maxHeartbeats 4000000 in
/-- Before the first loop: the first tile's pass in the rows, the second tile waiting. -/
theorem ready1_B : Ready fits_0_720 (XC (rd arg10 X10)) (TF 0 (rd arg3 X3) (rd arg11 (arg11.view.writes (Elt F) arg11.view.junk (runB.sl.H11_8 arg4 X4))) (rd arg12 (arg12.view.writes (Elt F) arg12.view.junk (runB.sl.H12_8 arg5 X5)))) (fun q => TF 0 (rd arg3 X3) (rd arg11 (arg11.view.writes (Elt F) arg11.view.junk (runB.sl.H11_8 arg4 X4))) (rd arg12 (arg12.view.writes (Elt F) arg12.view.junk (runB.sl.H12_8 arg5 X5))) q (1)) 1 (runB.sl.r_97 arg3 arg4 arg5 arg10 arg11 arg12 X3 X4 X5 X10) := by
  refine push_ready _ (acc_idle _ (push_ready (B := (fun q => TF 0 (rd arg3 X3) (rd arg11 (arg11.view.writes (Elt F) arg11.view.junk (runB.sl.H11_8 arg4 X4))) (rd arg12 (arg12.view.writes (Elt F) arg12.view.junk (runB.sl.H12_8 arg5 X5))) q (0))) _ (idle_init _) ?a1 ?b1) ?x) ?a2 ?b2
  case a1 => exact (by sl_unfold_words; exact vTile_eq (K := 7168) (G := 56) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b1 => exact (by sl_unfold_words; exact vTile_eq (K := 7168) (G := 56) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case a2 => exact (by sl_unfold_words; exact vTile_eq (K := 7168) (G := 56) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 7168) (G := 56) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)

set_option maxHeartbeats 4000000 in
/-- After the first loop: the gate's passes of the low half words, the up matrix's first tile waiting. -/
theorem ready2_B : Ready fits_0_720 (XC (rd arg10 X10)) (TF 0 (rd arg3 X3) (rd arg11 (arg11.view.writes (Elt F) arg11.view.junk (runB.sl.H11_8 arg4 X4))) (rd arg12 (arg12.view.writes (Elt F) arg12.view.junk (runB.sl.H12_8 arg5 X5)))) (fun q => TF 0 (rd arg6 X6) (rd arg13 (arg13.view.writes (Elt F) arg13.view.junk (runB.sl.H13_8 arg7 X7))) (rd arg14 (arg14.view.writes (Elt F) arg14.view.junk (runB.sl.H14_8 arg8 X8))) q (0)) 28 (runB.sl.r_109 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16) := by
  refine push_ready _ (acc_idle _ (st2_ready (hi := ready1_B arg3 arg4 arg5 arg10 arg11 arg12 X3 X4 X5 X10) (k := 13) (hk := by decide) ..) ?x) ?a2 ?b2
  case a2 => exact (by sl_unfold_words; exact vTile_eq (K := 7168) (G := 56) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 7168) (G := 56) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)

set_option maxHeartbeats 4000000 in
/-- After loop 3. -/
theorem ready3_B : Ready fits_0_720 (XC (rd arg10 X10)) (TF 0 (rd arg6 X6) (rd arg13 (arg13.view.writes (Elt F) arg13.view.junk (runB.sl.H13_8 arg7 X7))) (rd arg14 (arg14.view.writes (Elt F) arg14.view.junk (runB.sl.H14_8 arg8 X8)))) (fun q => TF 1 (rd arg3 X3) (rd arg11 (arg11.view.writes (Elt F) arg11.view.junk (runB.sl.H11_8 arg4 X4))) (rd arg12 (arg12.view.writes (Elt F) arg12.view.junk (runB.sl.H12_8 arg5 X5))) q (0)) 28 (runB.sl.r_132 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16) := by
  refine push_ready _ (acc_idle _ (st3_ready (hi := push_ready _ (acc_idle _ (out_ready (T' := (TF 0 (rd arg6 X6) (rd arg13 (arg13.view.writes (Elt F) arg13.view.junk (runB.sl.H13_8 arg7 X7))) (rd arg14 (arg14.view.writes (Elt F) arg14.view.junk (runB.sl.H14_8 arg8 X8))))) _ (ready2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16)) ?x1) ?a ?b) (k := 13) (hk := by decide) ..) ?x) ?a2 ?b2
  case a => exact (by sl_unfold_words; exact vTile_eq (K := 7168) (G := 56) _ _ _ 0 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b => exact (by sl_unfold_words; exact vTile_eq (K := 7168) (G := 56) _ _ _ 0 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case a2 => exact (by sl_unfold_words; exact vTile_eq (K := 7168) (G := 56) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 7168) (G := 56) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)
  case x1 => exact (by sl_unfold_words; exact xc_of _ (by decide) rfl)

set_option maxHeartbeats 4000000 in
/-- After loop 4. -/
theorem ready4_B : Ready fits_0_720 (XC (rd arg10 X10)) (TF 1 (rd arg3 X3) (rd arg11 (arg11.view.writes (Elt F) arg11.view.junk (runB.sl.H11_8 arg4 X4))) (rd arg12 (arg12.view.writes (Elt F) arg12.view.junk (runB.sl.H12_8 arg5 X5)))) (fun q => TF 1 (rd arg6 X6) (rd arg13 (arg13.view.writes (Elt F) arg13.view.junk (runB.sl.H13_8 arg7 X7))) (rd arg14 (arg14.view.writes (Elt F) arg14.view.junk (runB.sl.H14_8 arg8 X8))) q (0)) 28 (runB.sl.r_161 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16) := by
  refine push_ready _ (acc_idle _ (st4_ready (hi := push_ready _ (acc_idle _ (out_ready (T' := (TF 1 (rd arg3 X3) (rd arg11 (arg11.view.writes (Elt F) arg11.view.junk (runB.sl.H11_8 arg4 X4))) (rd arg12 (arg12.view.writes (Elt F) arg12.view.junk (runB.sl.H12_8 arg5 X5))))) _ (ready3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16)) ?x1) ?a ?b) (k := 13) (hk := by decide) ..) ?x) ?a2 ?b2
  case a => exact (by sl_unfold_words; exact vTile_eq (K := 7168) (G := 56) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b => exact (by sl_unfold_words; exact vTile_eq (K := 7168) (G := 56) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case a2 => exact (by sl_unfold_words; exact vTile_eq (K := 7168) (G := 56) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b2 => exact (by sl_unfold_words; exact vTile_eq (K := 7168) (G := 56) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)
  case x1 => exact (by sl_unfold_words; exact xc_of _ (by decide) rfl)

set_option maxHeartbeats 4000000 in
/-- At the end. -/
theorem idle_B : Idle fits_0_720 (XC (rd arg10 X10)) (TF 1 (rd arg6 X6) (rd arg13 (arg13.view.writes (Elt F) arg13.view.junk (runB.sl.H13_8 arg7 X7))) (rd arg14 (arg14.view.writes (Elt F) arg14.view.junk (runB.sl.H14_8 arg8 X8)))) 28 (runB.sl.k0_mxu80 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16) := by
  refine acc_idle _ (st5_ready (hi := push_ready _ (acc_idle _ (out_ready (T' := (TF 1 (rd arg6 X6) (rd arg13 (arg13.view.writes (Elt F) arg13.view.junk (runB.sl.H13_8 arg7 X7))) (rd arg14 (arg14.view.writes (Elt F) arg14.view.junk (runB.sl.H14_8 arg8 X8))))) _ (ready4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16)) ?x1) ?a ?b) (k := 13) (hk := by decide) ..) ?x
  case a => exact (by sl_unfold_words; exact vTile_eq (K := 7168) (G := 56) _ _ _ 1 0 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case b => exact (by sl_unfold_words; exact vTile_eq (K := 7168) (G := 56) _ _ _ 1 1 _ (w_of _ (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl) (z_of _ _ (by decide) (by decide) rfl))
  case x => exact (by sl_unfold_words; exact xc_of _ (by decide) rfl)
  case x1 => exact (by sl_unfold_words; exact xc_of _ (by decide) rfl)

/-- The sums taken out, pass by pass and unit by unit. -/
theorem v1295_B : runB.sl.v1295_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16 = sums (XC (rd arg10 X10)) ((TF 0 (rd arg3 X3) (rd arg11 (arg11.view.writes (Elt F) arg11.view.junk (runB.sl.H11_8 arg4 X4))) (rd arg12 (arg12.view.writes (Elt F) arg12.view.junk (runB.sl.H12_8 arg5 X5)))) 0) 28 := (ready2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16).read0
theorem v1296_B : runB.sl.v1296_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16 = sums (XC (rd arg10 X10)) ((TF 0 (rd arg3 X3) (rd arg11 (arg11.view.writes (Elt F) arg11.view.junk (runB.sl.H11_8 arg4 X4))) (rd arg12 (arg12.view.writes (Elt F) arg12.view.junk (runB.sl.H12_8 arg5 X5)))) 1) 28 := (ready2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16).read1
theorem v1531_B : runB.sl.v1531_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16 = sums (XC (rd arg10 X10)) ((TF 0 (rd arg6 X6) (rd arg13 (arg13.view.writes (Elt F) arg13.view.junk (runB.sl.H13_8 arg7 X7))) (rd arg14 (arg14.view.writes (Elt F) arg14.view.junk (runB.sl.H14_8 arg8 X8)))) 0) 28 := (ready3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16).read0
theorem v1532_B : runB.sl.v1532_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16 = sums (XC (rd arg10 X10)) ((TF 0 (rd arg6 X6) (rd arg13 (arg13.view.writes (Elt F) arg13.view.junk (runB.sl.H13_8 arg7 X7))) (rd arg14 (arg14.view.writes (Elt F) arg14.view.junk (runB.sl.H14_8 arg8 X8)))) 1) 28 := (ready3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16).read1
theorem v1767_B : runB.sl.v1767_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16 = sums (XC (rd arg10 X10)) ((TF 1 (rd arg3 X3) (rd arg11 (arg11.view.writes (Elt F) arg11.view.junk (runB.sl.H11_8 arg4 X4))) (rd arg12 (arg12.view.writes (Elt F) arg12.view.junk (runB.sl.H12_8 arg5 X5)))) 0) 28 := (ready4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16).read0
theorem v1768_B : runB.sl.v1768_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16 = sums (XC (rd arg10 X10)) ((TF 1 (rd arg3 X3) (rd arg11 (arg11.view.writes (Elt F) arg11.view.junk (runB.sl.H11_8 arg4 X4))) (rd arg12 (arg12.view.writes (Elt F) arg12.view.junk (runB.sl.H12_8 arg5 X5)))) 1) 28 := (ready4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16).read1
theorem v1898_B : runB.sl.v1898_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16 = sums (XC (rd arg10 X10)) ((TF 1 (rd arg6 X6) (rd arg13 (arg13.view.writes (Elt F) arg13.view.junk (runB.sl.H13_8 arg7 X7))) (rd arg14 (arg14.view.writes (Elt F) arg14.view.junk (runB.sl.H14_8 arg8 X8)))) 0) 28 := (idle_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16).read0
theorem v1899_B : runB.sl.v1899_r0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16 = sums (XC (rd arg10 X10)) ((TF 1 (rd arg6 X6) (rd arg13 (arg13.view.writes (Elt F) arg13.view.junk (runB.sl.H13_8 arg7 X7))) (rd arg14 (arg14.view.writes (Elt F) arg14.view.junk (runB.sl.H14_8 arg8 X8)))) 1) 28 := (idle_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16).read1

end Cert.Proof.GI

end
-- ==== Proof.GI.KeptB.lean ====
/-
  What a grid point of case B leaves in the scratch buffers, at one place.
-/
module

public import proofs.«01_k».proof.Proof.GI.ChainB
public import proofs.«01_k».proof.Proof.GI.Kept

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h3 : k0_cond3 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X15 : BufTy.Contents (Elt F) arg15.view.ty) (X16 : BufTy.Contents (Elt F) arg16.view.ty)

/-- The zeros and the scales kept. -/
theorem z11_B : rd arg11 (arg11.view.writes (Elt F) arg11.view.junk (runB.sl.H11_8 arg4 X4)) = zcF (G := 56) (rd arg4 X4) := by
  unfold runB.sl.H11_8
  exact z_stack arg4 X4 arg11 _ _ _ _ _ _ _ _

theorem s12_B : rd arg12 (arg12.view.writes (Elt F) arg12.view.junk (runB.sl.H12_8 arg5 X5)) = scF (G := 56) (N := 1024) (rd arg5 X5) := by
  unfold runB.sl.H12_8
  exact s_stack arg5 X5 arg12 _ _ _ _ _ _ _ _

/-- The zeros and the scales kept. -/
theorem z13_B : rd arg13 (arg13.view.writes (Elt F) arg13.view.junk (runB.sl.H13_8 arg7 X7)) = zcF (G := 56) (rd arg7 X7) := by
  unfold runB.sl.H13_8
  exact z_stack arg7 X7 arg13 _ _ _ _ _ _ _ _

theorem s14_B : rd arg14 (arg14.view.writes (Elt F) arg14.view.junk (runB.sl.H14_8 arg8 X8)) = scF (G := 56) (N := 1024) (rd arg8 X8) := by
  unfold runB.sl.H14_8
  exact s_stack arg8 X8 arg14 _ _ _ _ _ _ _ _

end Cert.Proof.GI

end
-- ==== Proof.GI.ProdB.lean ====
/-
  The products that a grid point of case B keeps for the next.
-/
module

public import proofs.«01_k».proof.Proof.GI.KeptB

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

set_option maxHeartbeats 800000 in
theorem y15_B (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : ¬ cond1 i = 1#1) (h2 : ¬ k0_cond2 i = 1#1) (h3 : k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f : BufTy.Contents (Elt F) arg15.view.ty) :
    rd arg15 (arg15.view.writes (Elt F) f (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).2.2.2.2.2.1) = prodF (M := 720) (K := 7168) (G := 56) 28 (rd arg10 X10) (rd arg3 X3) (zcF (G := 56) (rd arg4 X4)) (scF (G := 56) (N := 1024) (rd arg5 X5)) := by
  have e0 := v1295_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16
  have e1 := v1296_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16
  have e2 := v1767_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16
  have e3 := v1768_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16
  rw [z11_B, s12_B] at e0 e1 e2 e3
  unfold runB
  exact y_stack arg15 f _ _ _ _ _ _ _ _ _ _ _ _ _ _ _ _ _ e0 e1 e2 e3

set_option maxHeartbeats 800000 in
theorem y16_B (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : ¬ cond1 i = 1#1) (h2 : ¬ k0_cond2 i = 1#1) (h3 : k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f : BufTy.Contents (Elt F) arg16.view.ty) :
    rd arg16 (arg16.view.writes (Elt F) f (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).2.2.2.2.2.2.1) = prodF (M := 720) (K := 7168) (G := 56) 28 (rd arg10 X10) (rd arg6 X6) (zcF (G := 56) (rd arg7 X7)) (scF (G := 56) (N := 1024) (rd arg8 X8)) := by
  have e0 := v1531_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16
  have e1 := v1532_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16
  have e2 := v1898_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16
  have e3 := v1899_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 X3 X4 X5 X6 X7 X8 X10 X15 X16
  rw [z13_B, s14_B] at e0 e1 e2 e3
  unfold runB
  exact y_stack arg16 f _ _ _ _ _ _ _ _ _ _ _ _ _ _ _ _ _ e0 e1 e2 e3

end Cert.Proof.GI

end
-- ==== Proof.GI.RunC.lean ====
/-
  The body of the gate and up projections' kernel at one kind of grid point.
-/
module

public import proofs.«01_k».proof.Proof.GI.T2
public import proofs.«01_k».proof.Proof.GI.T3
public import proofs.«01_k».proof.Proof.GI.T4
public import proofs.«01_k».proof.Proof.GI.T5

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : ¬ cond1 i = 1#1) (h2 : ¬ k0_cond2 i = 1#1) (h3 : ¬ k0_cond3 i = 1#1) (h4 : k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty)

set_option maxHeartbeats 16000000 in
/-- The last grid point. -/
@[irreducible] def runC :
    Σ' (L9 : List (View.Piece (Elt F) S720x1024 .bf16)), Σ' (L11 : List (View.Piece (Elt F) S8x56x128 .f32)), Σ' (L12 : List (View.Piece (Elt F) S8x56x128 .f32)), Σ' (L13 : List (View.Piece (Elt F) S8x56x128 .f32)), { L14 : List (View.Piece (Elt F) S8x56x128 .f32) // ∀ (E : Set ℕ) (f9 : BufTy.Contents (Elt F) arg9.view.ty),
      Res (F := F) c arg1 arg2 arg3 arg4 arg5 arg6 arg7 arg8 arg9 arg10 arg11 arg12 arg13 arg14 arg15 arg16 X1 X2 X3 X4 X5 X6 X7 X8 f9 X10 X11 X12 X13 X14 X15 X16
      ⊢ wp frame (wpE (defs₀ (F := F)) Variants.none (c : Thread nD τ) none) E (cc0_gate_up (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Res (F := F) c arg1 arg2 arg3 arg4 arg5 arg6 arg7 arg8 arg9 arg10 arg11 arg12 arg13 arg14 arg15 arg16 X1 X2 X3 X4 X5 X6 X7 X8 (arg9.view.writes (Elt F) f9 L9) X10 (arg11.view.writes (Elt F) arg11.view.junk L11) (arg12.view.writes (Elt F) arg12.view.junk L12) (arg13.view.writes (Elt F) arg13.view.junk L13) (arg14.view.writes (Elt F) arg14.view.junk L14) X15 X16) } := by
  refine ⟨?_, ?_, ?_, ?_, ?_, fun E f9 => ?run⟩
  case run =>
    simp only [cc0_gate_up_eq_skeleton]; unfold cc0_gate_up_skel
    iintro ⟨H1, H2, H3, H4, H5, H6, H7, H8, H9, H10, H11, H12, H13, H14, H15, H16⟩
    sl_exec (disch := mxu_pushok_peel)
    sl_step
    sl_close

end Cert.Proof.GI

end
-- ==== Proof.GI.Body.lean ====
/-
  What the kernel's body leaves in its buffers at a grid point: at the first one, at those in between, at the last.
-/
module

public import proofs.«01_k».proof.Proof.GI.Out
public import proofs.«01_k».proof.Proof.GI.Norm
public import proofs.«01_k».proof.Proof.GI.ProdA
public import proofs.«01_k».proof.Proof.GI.ProdB
public import proofs.«01_k».proof.Proof.GI.RunC

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

/-- The products before the first block: none. -/
abbrev none8 : S8x720x128.Idx → F .f32 := fun _ => Scalar.ofBits .f32 0x00000000#32

/-- The products of one block, field by field. -/
abbrev prodG (x : S720x7168.Idx → F .bf16) (w : Vec F S7168x128 .i32) (z : Vec F S56x128 .i32) (s : Vec F S56x1024 .i16) : S8x720x128.Idx → F .f32 :=
  prodF (M := 720) (K := 7168) (G := 56) 28 x w (zcF (G := 56) z) (scF (G := 56) (N := 1024) s)

set_option maxHeartbeats 800000 in
/-- Case A: the output block. -/
theorem out_A (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : cond1 i = 1#1) (h2 : k0_cond2 i = 1#1) (h3 : k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f9 : BufTy.Contents (Elt F) arg9.view.ty) :
    rd arg9 (arg9.view.writes (Elt F) f9 (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).1) = outG none8 none8 := by
  unfold runA
  refine ((st2_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 _ _ _ _ _ _ _ X3 _ _ _ _ _ k0_t2_loop.trips le_rfl).out (by decide +kernel) arg9.view f9).trans ?_
  rw [zero15_A, zero16_A]

set_option maxHeartbeats 800000 in
/-- Case A: the rows kept, normalized. -/
theorem xs_A (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : cond1 i = 1#1) (h2 : k0_cond2 i = 1#1) (h3 : k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    rd arg10 (arg10.view.writes (Elt F) X10 (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).2.1) = normF (rd arg1 X1) (rd arg2 X2) := by
  unfold runA
  exact (st1_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 _ k0_t1_loop.trips le_rfl).out (by decide +kernel) arg10.view X10

set_option maxHeartbeats 800000 in
theorem xs1_A (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h2 : k0_cond2 i = 1#1) (X1 : BufTy.Contents (Elt F) arg1.view.ty) (X2 : BufTy.Contents (Elt F) arg2.view.ty) (X10 : BufTy.Contents (Elt F) arg10.view.ty) :
    rd arg10 (arg10.view.writes (Elt F) X10 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 (0#32) (Scf.trips (0#32) (Scalar.addi 0#32 45#32) 1#32)).2) = normF (rd arg1 X1) (rd arg2 X2) :=
  (st1_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 _ k0_t1_loop.trips le_rfl).out (by decide +kernel) arg10.view X10

set_option maxHeartbeats 800000 in
/-- Case A: the body's run. -/
theorem sound_A (c : Dev nD) (E : Set ℕ) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : cond1 i = 1#1) (h2 : k0_cond2 i = 1#1) (h3 : k0_cond3 i = 1#1) (h4 : ¬ k0_cond4 i = 1#1) (x1 : Vec F S720x7168 .bf16) (x2 : Vec F S1x7168 .f32) (x3 : Vec F S7168x128 .i32) (x4 : Vec F S56x128 .i32) (x5 : Vec F S56x1024 .i16) (x6 : Vec F S7168x128 .i32) (x7 : Vec F S56x128 .i32) (x8 : Vec F S56x1024 .i16) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outG none8 none8) ∗ owns (c : Thread nD τ) arg10 fullShare (normF x1 x2) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare (prodG (normF x1 x2) x3 x4 x5) ∗ owns (c : Thread nD τ) arg16 fullShare (prodG (normF x1 x2) x6 x7 x8)) -∗ Q ⟨⟩))
      ⊢ wp frame (wpE (defs₀ (F := F)) Variants.none (c : Thread nD τ) none) E (cc0_gate_up (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold owns
  iintro ⟨⟨%X1, %e1, H1⟩, ⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%d9, %f9, -, H9⟩, ⟨%d10, %X10, -, H10⟩, ⟨%d11, %X11, -, H11⟩, ⟨%d12, %X12, -, H12⟩, ⟨%d13, %X13, -, H13⟩, ⟨%d14, %X14, -, H14⟩, ⟨%d15, %X15, -, H15⟩, ⟨%d16, %X16, -, H16⟩, Hk⟩
  subst e1 e2 e3 e4 e5 e6 e7 e8
  iapply wp_wand_r
  isplitl [H1 H2 H3 H4 H5 H6 H7 H8 H9 H10 H11 H12 H13 H14 H15 H16]
  · iapply ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).2.2.2.2.2.2.2.2 E f9)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %_ ⟨H1, H2, H3, H4, H5, H6, H7, H8, H9, H10, H11, H12, H13, H14, H15, H16⟩
  iapply Hk
  isplitl [H1]
  · iexists _; isplitr
    swap; · iexact H1
    ipureintro
    rfl
  isplitl [H2]
  · iexists _; isplitr
    swap; · iexact H2
    ipureintro
    rfl
  isplitl [H3]
  · iexists _; isplitr
    swap; · iexact H3
    ipureintro
    rfl
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    exact out_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16 f9
  isplitl [H10]
  · iexists _; isplitr
    swap; · iexact H10
    ipureintro
    exact xs_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; isplitr
    swap; · iexact H15
    ipureintro
    exact (y15_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16 _).trans (congrArg (fun x => prodG x (rd arg3 X3) (rd arg4 X4) (rd arg5 X5)) (xs1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 X10))
  iexists _; isplitr
  swap; · iexact H16
  ipureintro
  exact (y16_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16 _).trans (congrArg (fun x => prodG x (rd arg6 X6) (rd arg7 X7) (rd arg8 X8)) (xs1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h2 X1 X2 X10))

set_option maxHeartbeats 800000 in
/-- Case B: the output block. -/
theorem out_B (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : ¬ cond1 i = 1#1) (h2 : ¬ k0_cond2 i = 1#1) (h3 : k0_cond3 i = 1#1) (h4 : ¬ k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f9 : BufTy.Contents (Elt F) arg9.view.ty) :
    rd arg9 (arg9.view.writes (Elt F) f9 (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).1) = outG (rd arg15 X15) (rd arg16 X16) := by
  unfold runB
  exact (st2_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h3 _ _ _ _ _ _ X10 X3 _ _ X15 X16 _ k0_t2_loop.trips le_rfl).out (by decide +kernel) arg9.view f9

set_option maxHeartbeats 800000 in
/-- Case B: the body's run. -/
theorem sound_B (c : Dev nD) (E : Set ℕ) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : ¬ cond1 i = 1#1) (h2 : ¬ k0_cond2 i = 1#1) (h3 : k0_cond3 i = 1#1) (h4 : ¬ k0_cond4 i = 1#1) (x1 : Vec F S720x7168 .bf16) (x2 : Vec F S1x7168 .f32) (x3 : Vec F S7168x128 .i32) (x4 : Vec F S56x128 .i32) (x5 : Vec F S56x1024 .i16) (x6 : Vec F S7168x128 .i32) (x7 : Vec F S56x128 .i32) (x8 : Vec F S56x1024 .i16) (x : S720x7168.Idx → F .bf16) (y u : S8x720x128.Idx → F .f32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y ∗ owns (c : Thread nD τ) arg16 fullShare u ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outG y u) ∗ owns (c : Thread nD τ) arg10 fullShare x ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare (prodG x x3 x4 x5) ∗ owns (c : Thread nD τ) arg16 fullShare (prodG x x6 x7 x8)) -∗ Q ⟨⟩))
      ⊢ wp frame (wpE (defs₀ (F := F)) Variants.none (c : Thread nD τ) none) E (cc0_gate_up (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold owns
  iintro ⟨⟨%X1, %e1, H1⟩, ⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%d9, %f9, -, H9⟩, ⟨%X10, %e10, H10⟩, ⟨%d11, %X11, -, H11⟩, ⟨%d12, %X12, -, H12⟩, ⟨%d13, %X13, -, H13⟩, ⟨%d14, %X14, -, H14⟩, ⟨%X15, %e15, H15⟩, ⟨%X16, %e16, H16⟩, Hk⟩
  subst e1 e2 e3 e4 e5 e6 e7 e8 e10 e15 e16
  iapply wp_wand_r
  isplitl [H1 H2 H3 H4 H5 H6 H7 H8 H9 H10 H11 H12 H13 H14 H15 H16]
  · iapply ((runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).2.2.2.2.2.2.2 E f9)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %_ ⟨H1, H2, H3, H4, H5, H6, H7, H8, H9, H10, H11, H12, H13, H14, H15, H16⟩
  iapply Hk
  isplitl [H1]
  · iexists _; isplitr
    swap; · iexact H1
    ipureintro
    rfl
  isplitl [H2]
  · iexists _; isplitr
    swap; · iexact H2
    ipureintro
    rfl
  isplitl [H3]
  · iexists _; isplitr
    swap; · iexact H3
    ipureintro
    rfl
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    exact out_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16 f9
  isplitl [H10]
  · iexists _; isplitr
    swap; · iexact H10
    ipureintro
    rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; isplitr
    swap; · iexact H15
    ipureintro
    exact y15_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16 _
  iexists _; isplitr
  swap; · iexact H16
  ipureintro
  exact y16_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16 _

set_option maxHeartbeats 800000 in
/-- Case C: the output block. -/
theorem out_C (c : Dev nD) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : ¬ cond1 i = 1#1) (h2 : ¬ k0_cond2 i = 1#1) (h3 : ¬ k0_cond3 i = 1#1) (h4 : k0_cond4 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (f9 : BufTy.Contents (Elt F) arg9.view.ty) :
    rd arg9 (arg9.view.writes (Elt F) f9 (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).1) = outG (rd arg15 X15) (rd arg16 X16) := by
  unfold runC
  exact (st6_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h4 X15 X16 _ k0_t6_loop.trips le_rfl).out (by decide +kernel) arg9.view f9

set_option maxHeartbeats 800000 in
/-- Case C: the body's run. -/
theorem sound_C (c : Dev nD) (E : Set ℕ) (i : grid0.Coords) (arg1 : Memref sig .tc .vmem S720x7168 .bf16) (harg1 : arg1.IsWhole) (arg2 : Memref sig .tc .vmem S1x7168 .f32) (harg2 : arg2.IsWhole) (arg3 : Memref sig .tc .vmem S7168x128 .i32) (harg3 : arg3.IsWhole) (arg4 : Memref sig .tc .vmem S56x128 .i32) (harg4 : arg4.IsWhole) (arg5 : Memref sig .tc .vmem S56x1024 .i16) (harg5 : arg5.IsWhole) (arg6 : Memref sig .tc .vmem S7168x128 .i32) (harg6 : arg6.IsWhole) (arg7 : Memref sig .tc .vmem S56x128 .i32) (harg7 : arg7.IsWhole) (arg8 : Memref sig .tc .vmem S56x1024 .i16) (harg8 : arg8.IsWhole) (arg9 : Memref sig .tc .vmem S720x1024 .bf16) (harg9 : arg9.IsWhole) (arg10 : Memref sig .tc .vmem S720x7168 .bf16) (harg10 : arg10.IsWhole) (arg11 : Memref sig .tc .vmem S8x56x128 .f32) (harg11 : arg11.IsWhole) (arg12 : Memref sig .tc .vmem S8x56x128 .f32) (harg12 : arg12.IsWhole) (arg13 : Memref sig .tc .vmem S8x56x128 .f32) (harg13 : arg13.IsWhole) (arg14 : Memref sig .tc .vmem S8x56x128 .f32) (harg14 : arg14.IsWhole) (arg15 : Memref sig .tc .vmem S8x720x128 .f32) (harg15 : arg15.IsWhole) (arg16 : Memref sig .tc .vmem S8x720x128 .f32) (harg16 : arg16.IsWhole) (h1 : ¬ cond1 i = 1#1) (h2 : ¬ k0_cond2 i = 1#1) (h3 : ¬ k0_cond3 i = 1#1) (h4 : k0_cond4 i = 1#1) (x1 : Vec F S720x7168 .bf16) (x2 : Vec F S1x7168 .f32) (x3 : Vec F S7168x128 .i32) (x4 : Vec F S56x128 .i32) (x5 : Vec F S56x1024 .i16) (x6 : Vec F S7168x128 .i32) (x7 : Vec F S56x128 .i32) (x8 : Vec F S56x1024 .i16) (x : S720x7168.Idx → F .bf16) (y u : S8x720x128.Idx → F .f32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y ∗ owns (c : Thread nD τ) arg16 fullShare u ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outG y u) ∗ owns (c : Thread nD τ) arg10 fullShare x ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y ∗ owns (c : Thread nD τ) arg16 fullShare u) -∗ Q ⟨⟩))
      ⊢ wp frame (wpE (defs₀ (F := F)) Variants.none (c : Thread nD τ) none) E (cc0_gate_up (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold owns
  iintro ⟨⟨%X1, %e1, H1⟩, ⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%d9, %f9, -, H9⟩, ⟨%X10, %e10, H10⟩, ⟨%d11, %X11, -, H11⟩, ⟨%d12, %X12, -, H12⟩, ⟨%d13, %X13, -, H13⟩, ⟨%d14, %X14, -, H14⟩, ⟨%X15, %e15, H15⟩, ⟨%X16, %e16, H16⟩, Hk⟩
  subst e1 e2 e3 e4 e5 e6 e7 e8 e10 e15 e16
  iapply wp_wand_r
  isplitl [H1 H2 H3 H4 H5 H6 H7 H8 H9 H10 H11 H12 H13 H14 H15 H16]
  · iapply ((runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16).2.2.2.2.2 E f9)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %_ ⟨H1, H2, H3, H4, H5, H6, H7, H8, H9, H10, H11, H12, H13, H14, H15, H16⟩
  iapply Hk
  isplitl [H1]
  · iexists _; isplitr
    swap; · iexact H1
    ipureintro
    rfl
  isplitl [H2]
  · iexists _; isplitr
    swap; · iexact H2
    ipureintro
    rfl
  isplitl [H3]
  · iexists _; isplitr
    swap; · iexact H3
    ipureintro
    rfl
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    exact out_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 X1 X2 X3 X4 X5 X6 X7 X8 X10 X11 X12 X13 X14 X15 X16 f9
  isplitl [H10]
  · iexists _; isplitr
    swap; · iexact H10
    ipureintro
    rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; isplitr
    swap; · iexact H15
    ipureintro
    rfl
  iexists _; isplitr
  swap; · iexact H16
  ipureintro
  rfl

end Cert.Proof.GI

end
-- ==== Proof.GI.Run.lean ====
/-
  The run of the kernel: what every buffer holds at every grid point, and that the arguments end unchanged.
-/
module

public import proofs.«01_k».proof.Proof.GI.Body
public import proofs.«01_k».proof.Proof.Gen.GateUpIdeal.Frame
public import Idealize.ShloMosaic.Lib.Claim

@[expose] public section

set_option maxRecDepth 16384

noncomputable section

namespace Cert.Proof.GI

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Tile Cert.Proof.Spec Cert.Proof.Net

variable (m : (ℓ : Loc nD τ sig) → Buf (Elt F) ℓ) (ρ : Dev nD → PrngReg)

/-! ## What the buffers hold -/

/-- The first grid point. -/
abbrev fst : Fin cfg0.N := ⟨0, by decide +kernel⟩

/-- The normalized rows, which the first point leaves for all others. -/
def xsAt (c : Dev nD) : S720x7168.Idx → F .bf16 := normF (iblk m c 0 fst) (iblk m c 1 fst)

/-- The gate products a point before the last one leaves for the next, -/
def gateAt (c : Dev nD) (t : Fin cfg0.N) : S8x720x128.Idx → F .f32 := prodG (xsAt m c) (iblk m c 2 t) (iblk m c 3 t) (iblk m c 4 t)

/-- and the up products. -/
def upAt (c : Dev nD) (t : Fin cfg0.N) : S8x720x128.Idx → F .f32 := prodG (xsAt m c) (iblk m c 5 t) (iblk m c 6 t) (iblk m c 7 t)

/-- The gate products a point finds: none at the first, else those of the point before; -/
def prevG (c : Dev nD) (t : Fin cfg0.N) : S8x720x128.Idx → F .f32 :=
  if t.val = 0 then none8 else gateAt m c ⟨t.val - 1, lt_of_le_of_lt (Nat.sub_le _ _) t.isLt⟩

/-- and the up products. -/
def prevU (c : Dev nD) (t : Fin cfg0.N) : S8x720x128.Idx → F .f32 :=
  if t.val = 0 then none8 else upAt m c ⟨t.val - 1, lt_of_le_of_lt (Nat.sub_le _ _) t.isLt⟩

/-- The output block a point leaves. -/
def outAt (c : Dev nD) (t : Fin cfg0.N) : S720x1024.Idx → F .bf16 := outG (prevG m c t) (prevU m c t)

/-- What is carried from point to point: the normalized rows once the first point has run, the tables at anything, the
   products at what the point before left. -/
def track (c : Dev nD) (n : ℕ) : sProp 𝕄 :=
  iprop((∃ x : S720x7168.Idx → F .bf16, ⌜n ≠ 0 → x = xsAt m c⌝ ∗ owns (c : Thread nD τ) (Memref.whole cc0_scratch0) fullShare x)
    ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)
    ∗ (∃ y : S8x720x128.Idx → F .f32, ⌜∀ s : Fin cfg0.N, s.val + 1 = n → s.val < 20 → y = gateAt m c s⌝ ∗ owns (c : Thread nD τ) (Memref.whole cc0_scratch5) fullShare y)
    ∗ (∃ u : S8x720x128.Idx → F .f32, ⌜∀ s : Fin cfg0.N, s.val + 1 = n → s.val < 20 → u = upAt m c s⌝ ∗ owns (c : Thread nD τ) (Memref.whole cc0_scratch6) fullShare u)
    ∗ (∃ r, prngReg c r))

/-- The proof data: inputs stay, the output block is `outAt`, the invariant is `track`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := track m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

/-! ## The three kinds of point -/

theorem c1_iff : ∀ t : Fin grid0.N, cond1 (grid0.coords t) = 1#1 ↔ t.val = 0 := by decide +kernel
theorem c2_iff : ∀ t : Fin grid0.N, k0_cond2 (grid0.coords t) = 1#1 ↔ t.val = 0 := by decide +kernel
theorem c3_iff : ∀ t : Fin grid0.N, k0_cond3 (grid0.coords t) = 1#1 ↔ t.val < 20 := by decide +kernel
theorem c4_iff : ∀ t : Fin grid0.N, k0_cond4 (grid0.coords t) = 1#1 ↔ t.val = 20 := by decide +kernel

theorem prevG_zero (c : Dev nD) (t : Fin cfg0.N) (h : t.val = 0) : prevG m c t = none8 := if_pos h
theorem prevU_zero (c : Dev nD) (t : Fin cfg0.N) (h : t.val = 0) : prevU m c t = none8 := if_pos h

theorem prevG_of (c : Dev nD) (t : Fin cfg0.N) (h : t.val ≠ 0) (y : S8x720x128.Idx → F .f32)
    (hy : ∀ s : Fin cfg0.N, s.val + 1 = t.val → s.val < 20 → y = gateAt m c s) : prevG m c t = y := by
  have ht : t.val < 21 := lt_of_lt_of_eq t.isLt N_0
  refine (if_neg h).trans (hy _ ?_ ?_).symm
  · show t.val - 1 + 1 = t.val; omega
  · show t.val - 1 < 20; omega

theorem prevU_of (c : Dev nD) (t : Fin cfg0.N) (h : t.val ≠ 0) (y : S8x720x128.Idx → F .f32)
    (hy : ∀ s : Fin cfg0.N, s.val + 1 = t.val → s.val < 20 → y = upAt m c s) : prevU m c t = y := by
  have ht : t.val < 21 := lt_of_lt_of_eq t.isLt N_0
  refine (if_neg h).trans (hy _ ?_ ?_).symm
  · show t.val - 1 + 1 = t.val; omega
  · show t.val - 1 < 20; omega

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = track m c (t.val + 1) from rfl, show (dats m 0 c).Φ t.castSucc = track m c t.val from rfl,
    show (dats m 0 c).owesAt () t.succ = (dats m 0 c).owesAt () t.castSucc from rfl,
    after0_0, after0_1, after0_2, after0_3, after0_4, after0_5, after0_6, after0_7, after0_8]
  unfold track outAt
  iintro ⟨⟨⟨%x, %hx, H10⟩, H11, H12, H13, H14, ⟨%y, %hy, H15⟩, ⟨%u, %hu, H16⟩, HR⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h1 : t.val = 0
  · have h3 : t.val < 20 := by omega
    have h4 : ¬ t.val = 20 := by omega
    have hxs : normF (iblk m c 0 t) (iblk m c 1 t) = xsAt m c := by
      obtain rfl : t = fst := Fin.ext h1
      rfl
    rw [prevG_zero m c t h1, prevU_zero m c t h1]
    iapply (sound_A c Set.univ (grid0.coords t) _ _ _ _ _ _ _ _ _ _ _ _ _ _ _ _ _ _ _ _ _ _ _ _ _ _ _ _ _ _ _ _ ((c1_iff t).2 h1) ((c2_iff t).2 h1) ((c3_iff t).2 h3) (fun h => h4 ((c4_iff t).1 h)) (iblk m c 0 t) (iblk m c 1 t) (iblk m c 2 t) (iblk m c 3 t) (iblk m c 4 t) (iblk m c 5 t) (iblk m c 6 t) (iblk m c 7 t) _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H1, H2, H3, H4, H5, H6, H7, H8, H9, H10, H11, H12, H13, H14, H15, H16⟩
    isplitl [H10 H11 H12 H13 H14 H15 H16 HR]
    · isplitl [H10]
      · iexists _
        isplitr
        swap; · iexact H10
        ipureintro
        intro _; exact hxs
      isplitl [H11]; · iexact H11
      isplitl [H12]; · iexact H12
      isplitl [H13]; · iexact H13
      isplitl [H14]; · iexact H14
      isplitl [H15]
      · iexists _
        isplitr
        swap; · iexact H15
        ipureintro
        intro s hs _; obtain rfl : s = t := Fin.ext (by omega); exact congrArg (fun x => prodG x _ _ _) hxs
      isplitl [H16]
      · iexists _
        isplitr
        swap; · iexact H16
        ipureintro
        intro s hs _; obtain rfl : s = t := Fin.ext (by omega); exact congrArg (fun x => prodG x _ _ _) hxs
      iexact HR
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  obtain rfl := hx h1
  rw [prevG_of m c t h1 y hy, prevU_of m c t h1 u hu]
  by_cases h4 : t.val = 20
  · have h3 : ¬ t.val < 20 := by omega
    iapply (sound_C c Set.univ (grid0.coords t) _ _ _ _ _ _ _ _ _ _ _ _ _ _ _ _ _ _ _ _ _ _ _ _ _ _ _ _ _ _ _ _ (fun h => h1 ((c1_iff t).1 h)) (fun h => h1 ((c2_iff t).1 h)) (fun h => h3 ((c3_iff t).1 h)) ((c4_iff t).2 h4) (iblk m c 0 t) (iblk m c 1 t) (iblk m c 2 t) (iblk m c 3 t) (iblk m c 4 t) (iblk m c 5 t) (iblk m c 6 t) (iblk m c 7 t) (xsAt m c) y u _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    isplitl [H10 H11 H12 H13 H14 H15 H16 HR]
    · isplitl [H10]
      · iexists _
        isplitr
        swap; · iexact H10
        ipureintro
        intro _; rfl
      isplitl [H11]; · iexact H11
      isplitl [H12]; · iexact H12
      isplitl [H13]; · iexact H13
      isplitl [H14]; · iexact H14
      isplitl [H15]
      · iexists _
        isplitr
        swap; · iexact H15
        ipureintro
        intro s hs hs7; exact absurd hs (by omega)
      isplitl [H16]
      · iexists _
        isplitr
        swap; · iexact H16
        ipureintro
        intro s hs hs7; exact absurd hs (by omega)
      iexact HR
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have h3 : t.val < 20 := by have ht : t.val < 21 := lt_of_lt_of_eq t.isLt N_0; omega
    iapply (sound_B c Set.univ (grid0.coords t) _ _ _ _ _ _ _ _ _ _ _ _ _ _ _ _ _ _ _ _ _ _ _ _ _ _ _ _ _ _ _ _ (fun h => h1 ((c1_iff t).1 h)) (fun h => h1 ((c2_iff t).1 h)) ((c3_iff t).2 h3) (fun h => h4 ((c4_iff t).1 h)) (iblk m c 0 t) (iblk m c 1 t) (iblk m c 2 t) (iblk m c 3 t) (iblk m c 4 t) (iblk m c 5 t) (iblk m c 6 t) (iblk m c 7 t) (xsAt m c) y u _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    isplitl [H10 H11 H12 H13 H14 H15 H16 HR]
    · isplitl [H10]
      · iexists _
        isplitr
        swap; · iexact H10
        ipureintro
        intro _; rfl
      isplitl [H11]; · iexact H11
      isplitl [H12]; · iexact H12
      isplitl [H13]; · iexact H13
      isplitl [H14]; · iexact H14
      isplitl [H15]
      · iexists _
        isplitr
        swap; · iexact H15
        ipureintro
        intro s hs _; obtain rfl : s = t := Fin.ext (by omega); rfl
      isplitl [H16]
      · iexists _
        isplitr
        swap; · iexact H16
        ipureintro
        intro s hs _; obtain rfl : s = t := Fin.ext (by omega); rfl
      iexact HR
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The output block is stored at every point. -/
theorem idle8 : ∀ t : Fin cfg0.N, cfg0.idle 8 (cfg0.grid.coords t) = false := by decide +kernel

/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  have h := idle8 t
  revert h
  generalize cfg0.idle 8 (cfg0.grid.coords t) = b
  intro h
  subst h
  exact .rfl

/-! ## The run and the frame -/

theorem scratch_in (c : Dev nD) : (Pipeline.ΦA (U := UR sig nD τ) (Val := Elt F) spec0 c : sProp 𝕄) ⊢ (dats m 0 c).Φ 0 := by
  rw [show (dats m 0 c).Φ 0 = track m c 0 from rfl]
  unfold Pipeline.ΦA track
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩⟩, HR⟩
  isplitl [H0]
  · iexists f0
    isplitr
    · ipureintro; intro h; exact absurd rfl h
    iexact H0
  isplitl [H1]; · iexists f1; iexact H1
  isplitl [H2]; · iexists f2; iexact H2
  isplitl [H3]; · iexists f3; iexact H3
  isplitl [H4]; · iexists f4; iexact H4
  isplitl [H5]
  · iexists f5
    isplitr
    · ipureintro; intro s hs; exact absurd hs (Nat.succ_ne_zero _)
    iexact H5
  isplitl [H6]
  · iexists f6
    isplitr
    · ipureintro; intro s hs; exact absurd hs (Nat.succ_ne_zero _)
    iexact H6
  iexact HR

theorem scratch_out (c : Dev nD) : (dats m 0 c).Φ (Fin.last cfg0.N) ⊢ (Pipeline.ΦA (U := UR sig nD τ) (Val := Elt F) spec0 c : sProp 𝕄) := by
  rw [show (dats m 0 c).Φ (Fin.last cfg0.N) = track m c cfg0.N from rfl]
  unfold Pipeline.ΦA track
  rw [scopedRest0_eq]
  simp only [owns_whole]
  iintro ⟨⟨%f0, -, H0⟩, ⟨%f1, H1⟩, ⟨%f2, H2⟩, ⟨%f3, H3⟩, ⟨%f4, H4⟩, ⟨%f5, -, H5⟩, ⟨%f6, -, H6⟩, HR⟩
  isplitl [H0 H1 H2 H3 H4 H5 H6]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    iexists f6; iexact H6
  iexact HR

set_option backward.isDefEq.respectTransparency.types false in
/-- The run, every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := scratch_in m) (hout := scratch_out m)

/-- The run. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Proof.GI

end
-- ==== Proof.Same.lean ====
/-
  The idealized programs are the printed ones' own text (no rewrite), so the runs proved of the former for any floats are
  runs of the latter at the machine's floats.
-/
module

public import proofs.«01_k».proof.Defs
public import proofs.«01_k».proof.Proof.PI.Run
public import proofs.«01_k».proof.Proof.GI.Run
public import proofs.«01_k».proof.Proof.Gen.Down.Skeleton
public import proofs.«01_k».proof.Proof.Gen.GateUp.Skeleton

@[expose] public section

set_option maxRecDepth 65536
set_option maxHeartbeats 4000000

noncomputable section

namespace Cert.Proof.Same

open Idealize.ShloMosaic Idealize.SL.Sem

/-! ## The down projection -/

theorem down_defs₀ : @Cert.Down.defs₀ Bits _ Cert.Down.Gen.facts = @Cert.DownIdeal.defs₀ Bits _ Cert.DownIdeal.Gen.facts := by
  unfold Cert.Down.defs₀ Cert.DownIdeal.defs₀
  refine congrArg Defs.onTc ?_
  funext a b
  match a, b with
  | 0, (t, s) => rfl
  | ⟨_ + 1, h⟩, _ => exact absurd h (Nat.not_lt.2 (Nat.le_add_left _ _))

theorem down_defs : @Cert.Down.defs Bits _ Cert.Down.Gen.facts = @Cert.DownIdeal.defs Bits _ Cert.DownIdeal.Gen.facts :=
  congrArg (Pipeline.defs (Cert.DownIdeal.pcfgs (F := Bits))) down_defs₀

/-- The kernel leaves its arguments as they were, at the machine's floats. -/
theorem frame_down : Cert.quiescent_Down := fun m ρ _ => by
  have h := Cert.Proof.PI.frame (F := Bits) m ρ
  rw [← down_defs] at h
  exact h

/-! ## Gate and up -/

theorem gate_defs₀ : @Cert.GateUp.defs₀ Bits _ Cert.GateUp.Gen.facts = @Cert.GateUpIdeal.defs₀ Bits _ Cert.GateUpIdeal.Gen.facts := by
  unfold Cert.GateUp.defs₀ Cert.GateUpIdeal.defs₀
  refine congrArg Defs.onTc ?_
  funext a b
  match a, b with
  | 0, (t, s) => rfl
  | ⟨_ + 1, h⟩, _ => exact absurd h (Nat.not_lt.2 (Nat.le_add_left _ _))

theorem gate_defs : @Cert.GateUp.defs Bits _ Cert.GateUp.Gen.facts = @Cert.GateUpIdeal.defs Bits _ Cert.GateUpIdeal.Gen.facts :=
  congrArg (Pipeline.defs (Cert.GateUpIdeal.pcfgs (F := Bits))) gate_defs₀

/-- The kernel leaves its arguments as they were, at the machine's floats. -/
theorem frame_gate : Cert.quiescent_GateUp := fun m ρ _ => by
  have h := Cert.Proof.GI.frame (F := Bits) m ρ
  rw [← gate_defs] at h
  exact h

end Cert.Proof.Same

end
-- ==== Proof.GSpec.lean ====
/-
  The mathematics of gate and up: a row normalized by the root of its mean square, the two products against columns of
  weights, and the gate's value times its logistic times the up product.
-/
module

public import proofs.«01_k».proof.Proof.Half

@[expose] public section

set_option maxRecDepth 8192

noncomputable section

namespace Cert.Proof.GSpec

open Idealize.ShloMosaic Cert.Proof.Spec Cert.Proof.Nib Cert.Proof.Half

/-- A row's factor: one over the root of the mean of its squares plus a small number. -/
def rms (X : Shape.Idx ⟨2, ![720, 7168]⟩ → EReal) (r : Fin 720) : EReal :=
  Ideal.rsqrt (Ideal.div (∑ k : Fin 7168, X (ix2 r k) * X (ix2 r k)) (Ideal.ofBits .f32 0x45E00000#32) + Ideal.ofBits .f32 0x3727C5AC#32)

/-- One place of the normalized rows. -/
def nrm (X : Shape.Idx ⟨2, ![720, 7168]⟩ → EReal) (V : Shape.Idx ⟨2, ![1, 7168]⟩ → EReal) (r : Fin 720) (k : Fin 7168) : EReal :=
  X (ix2 r k) * rms X r * V (ix2 0 k)

/-- One place of a product: a normalized row against a column of weights, each weight the difference of its nibble and
    its group's nibble times its group's scale. -/
def gprod (X : Shape.Idx ⟨2, ![720, 7168]⟩ → EReal) (V : Shape.Idx ⟨2, ![1, 7168]⟩ → EReal) (W : Shape.Idx ⟨2, ![7168, 2560]⟩ → BitVec 32)
    (Z : Shape.Idx ⟨2, ![56, 2560]⟩ → BitVec 32) (S : Shape.Idx ⟨2, ![56, 20480]⟩ → BitVec 16) (r : Fin 720) (l : Fin 20480) : EReal :=
  ∑ k : Fin 7168, nrm X V r k * (((((nib (W (ix2 k ⟨l.val / 8, by omega⟩)) (inv (l.val % 8))
      - nib (Z (ix2 ⟨k.val / 128, by omega⟩ ⟨l.val / 8, by omega⟩)) (inv (l.val % 8))).toInt : ℤ) : ℝ) : EReal)
    * half (S (ix2 ⟨k.val / 128, by omega⟩ l)))

/-- The gate's value times its logistic times the up product. -/
def act (g u : EReal) : EReal := g * Ideal.logistic g * u

end Cert.Proof.GSpec

end
-- ==== Proof.GFinal.lean ====
/-
  The result of gate and up over the extended reals: the blocks its grid points write back are the blocks of one array.
-/
module

public import proofs.«01_k».proof.Proof.GSpec
public import proofs.«01_k».proof.Proof.Val
public import proofs.«01_k».proof.Proof.GI.Run
public import Idealize.ShloMosaic.Lib.Pipeline.ValueKit
public import Idealize.ShloMosaic.Lib.Pointwise.Reduce

@[expose] public section

set_option maxRecDepth 16384

noncomputable section

namespace Cert.Proof.GFinal

open Cert.GateUpIdeal Cert.GateUpIdeal.Gen
open Idealize.ShloMosaic Idealize.ShloMosaic.TcCoe
open Cert.Proof.Tile Cert.Proof.Spec Cert.Proof.Net Cert.Proof.Nib Cert.Proof.Half Cert.Proof.Val Cert.Proof.GSpec Cert.Proof.GI

/-! ## The normalized rows -/

/-- The squares of the first `n` lane tiles at one place. -/
theorem ssq_at (x : ℕ → FVec Ideal S16x128 .bf16) (r : Fin 16) (l : Fin 128) :
    ∀ n : ℕ, (ssq x n (ix2 r l) : EReal) = ∑ j : Fin n, (x j.val (ix2 r l) : EReal) * x j.val (ix2 r l)
  | 0 => by
    rw [Fin.sum_univ_zero]
    exact Ideal.ofBits_zero_f32
  | n + 1 => by
    rw [Fin.sum_univ_castSucc]
    exact congrArg (fun a : EReal => a + x n (ix2 r l) * x n (ix2 r l)) (ssq_at x r l n)

theorem invV_at (v : FVec Ideal S16x128 .f32) (r : Fin 16) :
    (invV v (ix2 r 0) : EReal) = Ideal.rsqrt (Ideal.div (∑ l : Fin 128, (v (ix2 r l) : EReal)) (Ideal.ofBits .f32 0x45E00000#32) + Ideal.ofBits .f32 0x3727C5AC#32) := by
  unfold invV
  pointwise

theorem inv_at (X : Shape.Idx ⟨2, ![720, 7168]⟩ → EReal) (r : Fin 720) : (invF (F := Ideal) X r.val : EReal) = rms X r := by
  have hr := r.isLt
  unfold invF rms
  rw [invV_at]
  refine congrArg (fun a : EReal => Ideal.rsqrt (Ideal.div a (Ideal.ofBits .f32 0x45E00000#32) + Ideal.ofBits .f32 0x3727C5AC#32)) ?_
  rw [Fin.sum_univ_tiles 56 128 (by omega : 56 * 128 = 7168), Finset.sum_comm]
  refine Finset.sum_congr rfl fun l _ => ?_
  rw [ssq_at]
  refine Finset.sum_congr rfl fun j _ => ?_
  have hj := j.isLt
  have hl := l.isLt
  have e : blk (F := Ideal) X (16 * (r.val / 16)) j.val (ix2 (at' 16 (r.val % 16)) l) = X (ix2 r ⟨j.val * 128 + l.val, by omega⟩) := by
    refine congrArg X (congrArg₂ ix2 (Fin.ext ?_) (Fin.ext ?_))
    · show (16 * (r.val / 16) + r.val % 16 % 16) % 720 = r.val; omega
    · show (128 * j.val + l.val) % 7168 = j.val * 128 + l.val; omega
  rw [e]

theorem norm_at (X : Shape.Idx ⟨2, ![720, 7168]⟩ → EReal) (V : Shape.Idx ⟨2, ![1, 7168]⟩ → EReal) (r : Fin 720) (k : Fin 7168) :
    (normF (F := Ideal) X V (ix2 r k) : EReal) = nrm X V r k :=
  congrArg (fun a : EReal => X (ix2 r k) * a * V (ix2 0 k)) (inv_at X r)

/-- The products of one column of a block, the column named by its place among the block's thousand and twenty-four. -/
theorem col_at {M K G N : ℕ} [NeZero K] [NeZero G] [NeZero N] (hN : N = 1024) (n : ℕ) (hK : K = 256 * n) (hG : G = 2 * n)
    (X : Shape.Idx ⟨2, ![M, K]⟩ → EReal) (W : (TW K).Idx → BitVec 32) (Z : (Sh G).Idx → BitVec 32) (S : Shape.Idx ⟨2, ![G, N]⟩ → BitVec 16) (r : Fin M) (c : Fin N) :
    (prodF (F := Ideal) n X W (zcF Z) (scF S) (ix3 (at' 8 (inv (c.val % 8))) r (at' 128 (c.val / 8))) : EReal)
      = ∑ k : Fin K, X (ix2 r k) * (((((nib (W (ix2 k (at' 128 (c.val / 8)))) (inv (c.val % 8))
          - nib (Z (ix2 (at' G (k.val / 128)) (at' 128 (c.val / 8)))) (inv (c.val % 8))).toInt : ℤ) : ℝ) : EReal)
        * decode (F := Ideal) (S (ix2 (at' G (k.val / 128)) c))) := by
  have hc := c.isLt
  obtain ⟨ho, hi, -⟩ := order_inv ⟨c.val % 8, by omega⟩
  simp only at ho hi
  have e1 : (at' 8 (inv (c.val % 8))).val = inv (c.val % 8) := Nat.mod_eq_of_lt hi
  have e2 : (at' 128 (c.val / 8)).val = c.val / 8 := Nat.mod_eq_of_lt (by omega)
  rw [prod_at n hK hG]
  refine Finset.sum_congr rfl fun k _ => ?_
  rw [e1, e2, ho, show at' N (8 * (c.val / 8) + c.val % 8) = c from Fin.ext (by
    show (8 * (c.val / 8) + c.val % 8) % N = c.val
    rw [Nat.mod_eq_of_lt (by omega)]; omega)]

variable (m : (ℓ : Loc nD τ sig) → Buf (Elt Ideal) ℓ) (c : Dev nD)

/-! ## The arguments -/

abbrev argX : Shape.Idx ⟨2, ![720, 7168]⟩ → EReal := m ((c.tc : Thread nD τ).loc main_arg0)
abbrev argV : Shape.Idx ⟨2, ![1, 7168]⟩ → EReal := m ((c.tc : Thread nD τ).loc main_arg1)
abbrev argGW : Shape.Idx ⟨2, ![7168, 2560]⟩ → BitVec 32 := m ((c.tc : Thread nD τ).loc main_arg2)
abbrev argGZ : Shape.Idx ⟨2, ![56, 2560]⟩ → BitVec 32 := m ((c.tc : Thread nD τ).loc main_arg3)
abbrev argGS : Shape.Idx ⟨2, ![56, 20480]⟩ → BitVec 16 := m ((c.tc : Thread nD τ).loc main_arg4)
abbrev argUW : Shape.Idx ⟨2, ![7168, 2560]⟩ → BitVec 32 := m ((c.tc : Thread nD τ).loc main_arg5)
abbrev argUZ : Shape.Idx ⟨2, ![56, 2560]⟩ → BitVec 32 := m ((c.tc : Thread nD τ).loc main_arg6)
abbrev argUS : Shape.Idx ⟨2, ![56, 20480]⟩ → BitVec 16 := m ((c.tc : Thread nD τ).loc main_arg7)

/-! ## The windows' blocks -/

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, min t.val 19] := by decide +kernel
theorem idx3 : ∀ t : Fin grid0.N, win0_3.index t = ![0, min t.val 19] := by decide +kernel
theorem idx4 : ∀ t : Fin grid0.N, win0_4.index t = ![0, min t.val 19] := by decide +kernel
theorem idx5 : ∀ t : Fin grid0.N, win0_5.index t = ![0, min t.val 19] := by decide +kernel
theorem idx6 : ∀ t : Fin grid0.N, win0_6.index t = ![0, min t.val 19] := by decide +kernel
theorem idx7 : ∀ t : Fin grid0.N, win0_7.index t = ![0, min t.val 19] := by decide +kernel
theorem idx8 : ∀ t : Fin grid0.N, win0_8.index t = ![0, t.val - 1] := by decide +kernel
theorem flush8 : ∀ t : Fin grid0.N, (cfg0.win 8).flush t = true → t.val ≠ 0 := by decide +kernel

theorem blk0 (t : Fin cfg0.N) : (iblk m c 0 t : Shape.Idx ⟨2, ![720, 7168]⟩ → EReal) = argX m c := by
  funext i
  obtain ⟨r, k, rfl⟩ : ∃ (r : Fin 720) (k : Fin 7168), i = ix2 r k := ⟨i 0, i 1, (ix2_eta i).symm⟩
  blk_simp [iblk, idx0 t]
  refine congrArg (argX m c) ?_
  blk_ext [idx0 t]

theorem blk1 (t : Fin cfg0.N) : (iblk m c 1 t : Shape.Idx ⟨2, ![1, 7168]⟩ → EReal) = argV m c := by
  funext i
  obtain ⟨r, k, rfl⟩ : ∃ (r : Fin 1) (k : Fin 7168), i = ix2 r k := ⟨i 0, i 1, (ix2_eta i).symm⟩
  blk_simp [iblk, idx1 t]
  refine congrArg (argV m c) ?_
  blk_ext [idx1 t]

theorem blk2 (t : Fin cfg0.N) (b : ℕ) (hb : min t.val 19 = b) (k : Fin 7168) (l : Fin 128) (h : 128 * b + l.val < 2560) :
    (iblk m c 2 t (ix2 k l) : BitVec 32) = argGW m c (ix2 k ⟨128 * b + l.val, h⟩) := by
  subst hb
  blk_simp [iblk, idx2 t]
  refine congrArg (argGW m c) ?_
  blk_ext [idx2 t]

theorem blk3 (t : Fin cfg0.N) (b : ℕ) (hb : min t.val 19 = b) (k : Fin 56) (l : Fin 128) (h : 128 * b + l.val < 2560) :
    (iblk m c 3 t (ix2 k l) : BitVec 32) = argGZ m c (ix2 k ⟨128 * b + l.val, h⟩) := by
  subst hb
  blk_simp [iblk, idx3 t]
  refine congrArg (argGZ m c) ?_
  blk_ext [idx3 t]

theorem blk4 (t : Fin cfg0.N) (b : ℕ) (hb : min t.val 19 = b) (k : Fin 56) (l : Fin 1024) (h : 1024 * b + l.val < 20480) :
    (iblk m c 4 t (ix2 k l) : BitVec 16) = argGS m c (ix2 k ⟨1024 * b + l.val, h⟩) := by
  subst hb
  blk_simp [iblk, idx4 t]
  refine congrArg (argGS m c) ?_
  blk_ext [idx4 t]

theorem blk5 (t : Fin cfg0.N) (b : ℕ) (hb : min t.val 19 = b) (k : Fin 7168) (l : Fin 128) (h : 128 * b + l.val < 2560) :
    (iblk m c 5 t (ix2 k l) : BitVec 32) = argUW m c (ix2 k ⟨128 * b + l.val, h⟩) := by
  subst hb
  blk_simp [iblk, idx5 t]
  refine congrArg (argUW m c) ?_
  blk_ext [idx5 t]

theorem blk6 (t : Fin cfg0.N) (b : ℕ) (hb : min t.val 19 = b) (k : Fin 56) (l : Fin 128) (h : 128 * b + l.val < 2560) :
    (iblk m c 6 t (ix2 k l) : BitVec 32) = argUZ m c (ix2 k ⟨128 * b + l.val, h⟩) := by
  subst hb
  blk_simp [iblk, idx6 t]
  refine congrArg (argUZ m c) ?_
  blk_ext [idx6 t]

theorem blk7 (t : Fin cfg0.N) (b : ℕ) (hb : min t.val 19 = b) (k : Fin 56) (l : Fin 1024) (h : 1024 * b + l.val < 20480) :
    (iblk m c 7 t (ix2 k l) : BitVec 16) = argUS m c (ix2 k ⟨1024 * b + l.val, h⟩) := by
  subst hb
  blk_simp [iblk, idx7 t]
  refine congrArg (argUS m c) ?_
  blk_ext [idx7 t]

/-! ## The result -/

theorem xs_at (r : Fin 720) (k : Fin 7168) : (xsAt m c (ix2 r k) : EReal) = nrm (argX m c) (argV m c) r k := by
  unfold xsAt
  rw [blk0 m c, blk1 m c]
  exact norm_at _ _ r k

/-- The gate products of a point before the last, at one place of its block. -/
theorem gate_point (t : Fin cfg0.N) (b : ℕ) (hb : t.val = b) (hb7 : b < 20) (r : Fin 720) (l : Fin 1024) :
    (gateAt m c t (ix3 (at' 8 (inv (l.val % 8))) r (at' 128 (l.val / 8))) : EReal)
      = gprod (argX m c) (argV m c) (argGW m c) (argGZ m c) (argGS m c) r ⟨1024 * b + l.val, by omega⟩ := by
  have hl := l.isLt
  unfold gateAt prodG
  refine (col_at (M := 720) (K := 7168) (G := 56) (N := 1024) rfl 28 rfl rfl _ _ _ _ r l).trans ?_
  unfold gprod
  refine Finset.sum_congr rfl fun k _ => ?_
  have hk := k.isLt
  have e1 : (⟨(1024 * b + l.val) / 8, by omega⟩ : Fin 2560) = ⟨128 * b + (at' 128 (l.val / 8)).val, by
      show 128 * b + l.val / 8 % 128 < 2560; omega⟩ := Fin.ext (by show (1024 * b + l.val) / 8 = 128 * b + l.val / 8 % 128; omega)
  have e2 : (1024 * b + l.val) % 8 = l.val % 8 := by omega
  have e3 : at' 56 (k.val / 128) = ⟨k.val / 128, by omega⟩ := Fin.ext (Nat.mod_eq_of_lt (by omega))
  rw [decode_eq, xs_at m c r k, blk2 m c _ b (by omega) k _ (by show 128 * b + l.val / 8 % 128 < 2560; omega),
    blk3 m c _ b (by omega) _ _ (by show 128 * b + l.val / 8 % 128 < 2560; omega), blk4 m c _ b (by omega) _ l (by omega)]
  simp only [e1, e2, e3]

/-- The up products of a point before the last, at one place of its block. -/
theorem up_point (t : Fin cfg0.N) (b : ℕ) (hb : t.val = b) (hb7 : b < 20) (r : Fin 720) (l : Fin 1024) :
    (upAt m c t (ix3 (at' 8 (inv (l.val % 8))) r (at' 128 (l.val / 8))) : EReal)
      = gprod (argX m c) (argV m c) (argUW m c) (argUZ m c) (argUS m c) r ⟨1024 * b + l.val, by omega⟩ := by
  have hl := l.isLt
  unfold upAt prodG
  refine (col_at (M := 720) (K := 7168) (G := 56) (N := 1024) rfl 28 rfl rfl _ _ _ _ r l).trans ?_
  unfold gprod
  refine Finset.sum_congr rfl fun k _ => ?_
  have hk := k.isLt
  have e1 : (⟨(1024 * b + l.val) / 8, by omega⟩ : Fin 2560) = ⟨128 * b + (at' 128 (l.val / 8)).val, by
      show 128 * b + l.val / 8 % 128 < 2560; omega⟩ := Fin.ext (by show (1024 * b + l.val) / 8 = 128 * b + l.val / 8 % 128; omega)
  have e2 : (1024 * b + l.val) % 8 = l.val % 8 := by omega
  have e3 : at' 56 (k.val / 128) = ⟨k.val / 128, by omega⟩ := Fin.ext (Nat.mod_eq_of_lt (by omega))
  rw [decode_eq, xs_at m c r k, blk5 m c _ b (by omega) k _ (by show 128 * b + l.val / 8 % 128 < 2560; omega),
    blk6 m c _ b (by omega) _ _ (by show 128 * b + l.val / 8 % 128 < 2560; omega), blk7 m c _ b (by omega) _ l (by omega)]
  simp only [e1, e2, e3]

/-- One place of the result. -/
def res (r : Fin 720) (l : Fin 20480) : EReal :=
  act (gprod (argX m c) (argV m c) (argGW m c) (argGZ m c) (argGS m c) r l) (gprod (argX m c) (argV m c) (argUW m c) (argUZ m c) (argUS m c) r l)

/-- The output block of a point after the first, at one place. -/
theorem out_point (t : Fin cfg0.N) (b : ℕ) (hb : t.val = b + 1) (hb7 : b < 20) (r : Fin 720) (l : Fin 1024) :
    (outAt m c t (ix2 r l) : EReal) = res m c r ⟨1024 * b + l.val, by omega⟩ := by
  unfold outAt res
  rw [show prevG m c t = gateAt m c ⟨t.val - 1, lt_of_le_of_lt (Nat.sub_le _ _) t.isLt⟩ from if_neg (by omega),
    show prevU m c t = upAt m c ⟨t.val - 1, lt_of_le_of_lt (Nat.sub_le _ _) t.isLt⟩ from if_neg (by omega)]
  exact congrArg₂ act (gate_point m c _ b (by show t.val - 1 = b; omega) hb7 r l) (up_point m c _ b (by show t.val - 1 = b; omega) hb7 r l)

/-- The result array after the run. -/
theorem final : (dats m 0 c).arrAt 8 cfg0.N = (fun i => res m c (i 0) (i 1) : Shape.Idx ⟨2, ![720, 20480]⟩ → EReal) := by
  refine (dats m 0 c).arrAt_eq_of_covers 8 _ (by decide +kernel) fun t hf y => ?_
  blk_simp
  rw [after0_8]
  have h0 := flush8 t hf
  have ht : t.val < 21 := lt_of_lt_of_eq t.isLt N_0
  obtain ⟨r, l, rfl⟩ : ∃ (r : Fin 720) (l : Fin 1024), y = ix2 r l := ⟨y 0, y 1, (ix2_eta y).symm⟩
  refine (out_point m c t (t.val - 1) (by omega) (by omega) r l).trans ?_
  refine congrArg₂ (res m c) (Fin.ext ?_) (Fin.ext ?_)
  · blk_simp [idx8 t]
  · blk_simp [idx8 t]
    show 1024 * (t.val - 1) + l.val = (t.val - 1) * 1024 + l.val
    omega

end Cert.Proof.GFinal

end
-- ==== Proof.GRefVal.lean ====
/-
  The reference's gate and up over the extended reals, at one place: the row normalized by the root of its mean square, the
  two products against columns of weights, and the gate's value times its logistic times the up product.
-/
module

public import proofs.«01_k».proof.Proof.GSpec
public import proofs.«01_k».proof.Proof.Gen.GateUpRefIdeal.Run
public import Idealize.ShloMosaic.Lib.StackMember
public import Idealize.ShloMosaic.Lib.Pointwise.Reduce

@[expose] public section

set_option maxRecDepth 8192

noncomputable section

namespace Cert.Proof.GRefVal

open Idealize.ShloMosaic Idealize.ShloMosaic.TcCoe Cert.GateUpRefIdeal Cert.GateUpRefIdeal.Gen Cert.Proof.Spec Cert.Proof.Nib Cert.Proof.Half Cert.Proof.GSpec

/-! ## The parts of the reference's term -/

/-- The scales. -/
def refScale (S : IVec S56x20480 16) : FVec Ideal S56x20480 .f32 :=
  let h := (andi (extsi 32 S natLt_16_32) (broadcastInDim S56x20480 ![] bcast_S_S56x20480 (constantI S_ 32 65535#32)))
  let e := (andi (Host.shrsi h (broadcastInDim S56x20480 ![] bcast_S_S56x20480 (constantI S_ 32 10#32))) (broadcastInDim S56x20480 ![] bcast_S_S56x20480 (constantI S_ 32 31#32)))
  let mt := (andi h (broadcastInDim S56x20480 ![] bcast_S_S56x20480 (constantI S_ 32 1023#32)))
  let mag : FVec Ideal S56x20480 .f32 := (select (cmpi .eq e (broadcastInDim S56x20480 ![] bcast_S_S56x20480 (constantI S_ 32 0#32))) (mulf (sitofp .f32 mt) (broadcastInDim S56x20480 ![] bcast_S_S56x20480 (constant S_ .f32 0x33800000#32))) (select (cmpi .eq e (broadcastInDim S56x20480 ![] bcast_S_S56x20480 (constantI S_ 32 31#32))) (id (select (cmpi .eq mt (broadcastInDim S56x20480 ![] bcast_S_S56x20480 (constantI S_ 32 0#32))) (broadcastInDim S56x20480 ![] bcast_S_S56x20480 (constant S_ .f32 0x7F800000#32)) (broadcastInDim S56x20480 ![] bcast_S_S56x20480 (constant S_ .f32 0x7FC00000#32)))) (mulf (addf (broadcastInDim S56x20480 ![] bcast_S_S56x20480 (constant S_ .f32 0x44800000#32)) (sitofp .f32 mt)) (Host.powf (broadcastInDim S56x20480 ![] bcast_S_S56x20480 (constant S_ .f32 0x40000000#32)) (subf (sitofp .f32 e) (broadcastInDim S56x20480 ![] bcast_S_S56x20480 (constant S_ .f32 0x41C80000#32)))))))
  (select (cmpi .sge h (broadcastInDim S56x20480 ![] bcast_S_S56x20480 (constantI S_ 32 32768#32))) (Host.negf mag) mag)

/-- The nibbles of the weights. -/
def refNibW (W : IVec S7168x2560 32) : IVec S7168x2560x8 32 :=
  (andi (Host.shrui (broadcastInDim S7168x2560x8 ![0, 1, 2] bcast_S7168x2560x1_S7168x2560x8_0_1_2 (broadcastInDim S7168x2560x1 ![0, 1] bcast_S7168x2560_S7168x2560x1_0_1 W)) (broadcastInDim S7168x2560x8 ![2] bcast_S8_S7168x2560x8_2 (muli (broadcastInDim S8 ![] bcast_S_S8 (constantI S_ 32 4#32)) ((fun i => lit0 (S8.rowMajor i)))))) (broadcastInDim S7168x2560x8 ![] bcast_S_S7168x2560x8 (constantI S_ 32 15#32)))

/-- The nibbles of the zero points. -/
def refNibZ (Z : IVec S56x2560 32) : IVec S56x2560x8 32 :=
  (andi (Host.shrui (broadcastInDim S56x2560x8 ![0, 1, 2] bcast_S56x2560x1_S56x2560x8_0_1_2 (broadcastInDim S56x2560x1 ![0, 1] bcast_S56x2560_S56x2560x1_0_1 Z)) (broadcastInDim S56x2560x8 ![2] bcast_S8_S56x2560x8_2 (muli (broadcastInDim S8 ![] bcast_S_S8 (constantI S_ 32 4#32)) ((fun i => lit1 (S8.rowMajor i)))))) (broadcastInDim S56x2560x8 ![] bcast_S_S56x2560x8 (constantI S_ 32 15#32)))

/-- The weights. -/
def refW (W : IVec S7168x2560 32) (Z : IVec S56x2560 32) (S : IVec S56x20480 16) : FVec Ideal S7168x20480 .bf16 :=
  (truncf .bf16 (shapeCast _ (mulf (sitofp .f32 (subi (shapeCast _ (shapeCast _ (refNibW W) shapeCasts_S7168x2560x8_S7168x20480) shapeCasts_S7168x20480_S56x128x20480) (broadcastInDim S56x128x20480 ![0, 1, 2] bcast_S56x1x20480_S56x128x20480_0_1_2 (broadcastInDim S56x1x20480 ![0, 2] bcast_S56x20480_S56x1x20480_0_2 (shapeCast _ (refNibZ Z) shapeCasts_S56x2560x8_S56x20480))))) (broadcastInDim S56x128x20480 ![0, 1, 2] bcast_S56x1x20480_S56x128x20480_0_1_2 (broadcastInDim S56x1x20480 ![0, 2] bcast_S56x20480_S56x1x20480_0_2 (refScale S)))) shapeCasts_S56x128x20480_S7168x20480) bitsLt_bf16_f32)

/-- The normalized rows. -/
def refN (X : FVec Ideal S720x7168 .bf16) (V : FVec Ideal S1x7168 .f32) : FVec Ideal S720x7168 .bf16 :=
  let h : FVec Ideal S720x7168 .f32 := extf .f32 X bitsLt_bf16_f32
  (truncf .bf16 (mulf (mulf h (broadcastInDim S720x7168 ![0, 1] bcast_S720x1_S720x7168_0_1 (Host.rsqrt (addf (Host.divf (broadcastInDim S720x1 ![0] bcast_S720_S720x1_0 (Host.reduceAdd (mulf h h) (constant S_ .f32 0x00000000#32) reducesTo_S720x7168_S720_d1 h_S_)) (broadcastInDim S720x1 ![] bcast_S_S720x1 (constant S_ .f32 0x45E00000#32))) (broadcastInDim S720x1 ![] bcast_S_S720x1 (constant S_ .f32 0x3727C5AC#32)))))) (broadcastInDim S720x7168 ![0, 1] bcast_S1x7168_S720x7168_0_1 V)) bitsLt_bf16_f32)

/-- A product of the rows with the weights. -/
def refP (Y : FVec Ideal S720x7168 .bf16) (W : IVec S7168x2560 32) (Z : IVec S56x2560 32) (S : IVec S56x20480 16) : FVec Ideal S720x20480 .f32 :=
  (Host.dotGeneral dot_S720x7168_S7168x20480_S720x20480_1_0_0_1_n_n none Y (refW W Z S))

/-- The result from the two products. -/
def refA (g u : FVec Ideal S720x20480 .f32) : FVec Ideal S720x20480 .bf16 :=
  (truncf .bf16 (mulf (mulf g (Host.divf (broadcastInDim S720x20480 ![] bcast_S_S720x20480 (constant S_ .f32 0x3F800000#32)) (addf (broadcastInDim S720x20480 ![] bcast_S_S720x20480 (constant S_ .f32 0x3F800000#32)) (Host.exp (Host.negf g))))) u) bitsLt_bf16_f32)

theorem scale_at (S : IVec S56x20480 16) (i : S56x20480.Idx) : (refScale S i : EReal) = half (S i) := rfl

theorem row_at (j : Fin 8) : (S8.rowMajor (ix1 j) : Fin 8) = j := Fin.ext (Shape.rowMajor_val_one _)

theorem shift_at (j : Fin 8) (w : BitVec 32) : IntOp.andi (IntOp.shrui .host w (IntOp.muli 4#32 (lit0 j))) 15#32 = nib w (inv j.val) ∧ lit1 j = lit0 j := by
  match j with
  | 0 => exact ⟨rfl, rfl⟩
  | 1 => exact ⟨rfl, rfl⟩
  | 2 => exact ⟨rfl, rfl⟩
  | 3 => exact ⟨rfl, rfl⟩
  | 4 => exact ⟨rfl, rfl⟩
  | 5 => exact ⟨rfl, rfl⟩
  | 6 => exact ⟨rfl, rfl⟩
  | 7 => exact ⟨rfl, rfl⟩

theorem nibW_at (W : IVec S7168x2560 32) (k : Fin 7168) (n : Fin 2560) (j : Fin 8) : refNibW W (ix3 k n j) = nib (W (ix2 k n)) (inv j.val) := by
  refine Eq.trans ?_ (shift_at j (W (ix2 k n))).1
  unfold refNibW
  pointwise
  exact congrArg (fun j => IntOp.andi (IntOp.shrui .host (W (ix2 k n)) (IntOp.muli 4#32 (lit0 j))) 15#32) (row_at j)

theorem nibZ_at (Z : IVec S56x2560 32) (k : Fin 56) (n : Fin 2560) (j : Fin 8) : refNibZ Z (ix3 k n j) = nib (Z (ix2 k n)) (inv j.val) := by
  refine Eq.trans ?_ (shift_at j (Z (ix2 k n))).1
  rw [← (shift_at j 0).2]
  unfold refNibZ
  pointwise
  exact congrArg (fun j => IntOp.andi (IntOp.shrui .host (Z (ix2 k n)) (IntOp.muli 4#32 (lit1 j))) 15#32) (row_at j)

theorem w_at (W : IVec S7168x2560 32) (Z : IVec S56x2560 32) (S : IVec S56x20480 16) (k : Fin 7168) (l : Fin 20480) :
    (refW W Z S (ix2 k l) : EReal) = ((((nib (W (ix2 k ⟨l.val / 8, by omega⟩)) (inv (l.val % 8)) - nib (Z (ix2 ⟨k.val / 128, by omega⟩ ⟨l.val / 8, by omega⟩)) (inv (l.val % 8))).toInt : ℤ) : ℝ) : EReal)
      * half (S (ix2 ⟨k.val / 128, by omega⟩ l)) := by
  unfold refW
  pointwise
  rw [nibW_at, nibZ_at, scale_at]
  rfl

/-! ## The result at one place -/

theorem one_f32 : Ideal.ofBits .f32 0x3F800000#32 = 1 := by simp [Ideal.ofBits, Ideal.ieee, -EReal.coe_mul]; norm_num

theorem n_at (X : FVec Ideal S720x7168 .bf16) (V : FVec Ideal S1x7168 .f32) (r : Fin 720) (k : Fin 7168) : (refN X V (ix2 r k) : EReal) = nrm X V r k := by
  unfold refN nrm rms
  pointwise

theorem p_at (X : FVec Ideal S720x7168 .bf16) (V : FVec Ideal S1x7168 .f32) (W : IVec S7168x2560 32) (Z : IVec S56x2560 32) (S : IVec S56x20480 16) (r : Fin 720) (l : Fin 20480) :
    (refP (refN X V) W Z S (ix2 r l) : EReal) = gprod X V W Z S r l := by
  unfold refP gprod
  refine (StackMember.dotGeneral_plain_apply (m := 720) (n := 20480) none (refN X V) (refW W Z S) r l).trans ?_
  exact Finset.sum_congr rfl fun k _ => congrArg₂ (fun a b : EReal => a * b) (n_at X V r k) (w_at W Z S k l)

theorem a_at (g u : FVec Ideal S720x20480 .f32) (i : S720x20480.Idx) : (refA g u i : EReal) = act (g i) (u i) := by
  have h : (refA g u i : EReal) = (g i : EReal) * Ideal.div (Ideal.ofBits .f32 0x3F800000#32) (Ideal.ofBits .f32 0x3F800000#32 + Ideal.exp (-(g i : EReal))) * (u i : EReal) := rfl
  rw [h, one_f32]
  rfl

/-- The reference's result, of its arguments. -/
def refOut (X : FVec Ideal S720x7168 .bf16) (V : FVec Ideal S1x7168 .f32) (GW : IVec S7168x2560 32) (GZ : IVec S56x2560 32) (GS : IVec S56x20480 16)
    (UW : IVec S7168x2560 32) (UZ : IVec S56x2560 32) (US : IVec S56x20480 16) : FVec Ideal S720x20480 .bf16 :=
  refA (refP (refN X V) GW GZ GS) (refP (refN X V) UW UZ US)

theorem out_at (X : FVec Ideal S720x7168 .bf16) (V : FVec Ideal S1x7168 .f32) (GW : IVec S7168x2560 32) (GZ : IVec S56x2560 32) (GS : IVec S56x20480 16)
    (UW : IVec S7168x2560 32) (UZ : IVec S56x2560 32) (US : IVec S56x20480 16) (r : Fin 720) (l : Fin 20480) :
    (refOut X V GW GZ GS UW UZ US (ix2 r l) : EReal) = act (gprod X V GW GZ GS r l) (gprod X V UW UZ US r l) := by
  unfold refOut
  rw [a_at, p_at, p_at]

/-- The run's result is `refOut` of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v140) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run defs _ _).mono (fun _ h c => ⟨(h c).1.trans rfl, (h c).2⟩) (Value.run (F := Ideal) m ρ)

end Cert.Proof.GRefVal

end
-- ==== Proof.lean ====
module

public import proofs.«01_k».proof.Defs
public import proofs.«01_k».proof.Proof.PI.Run
public import proofs.«01_k».proof.Proof.Final
public import proofs.«01_k».proof.Proof.RefVal
public import proofs.«01_k».proof.Proof.Gen.DownRefIdeal.Run
public import proofs.«01_k».proof.Proof.Same
public import proofs.«01_k».proof.Proof.GI.Run
public import proofs.«01_k».proof.Proof.GFinal
public import proofs.«01_k».proof.Proof.GRefVal
public import Idealize.ShloMosaic.Lib.Quiescent

@[expose] public section

noncomputable section

namespace Cert.Proof

open Idealize.ShloMosaic Idealize.SL.Sem

/-- The kernel leaves its arguments as they were, at the machine's floats. -/
theorem frame_p : Cert.quiescent_Down := Cert.Proof.Same.frame_down

/-- The kernel read over the extended reals leaves its arguments as they were. -/
theorem frame_pi : Cert.quiescent_DownIdeal := fun m ρ _ => Cert.Proof.PI.frame m ρ

/-- The reference read over the extended reals leaves its arguments as they were; it declares no semaphore. -/
theorem frame_ri : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- From the same arguments the kernel and the reference, read over the extended reals, give the same array. -/
theorem algebraic : Cert.algebraic_DownIdeal_DownRefIdeal := by
  intro m g m' g' _ hargs
  refine ⟨fun c i => Cert.Proof.Half.down (Final.argX m c) (Final.argW m c) (Final.argZ m c) (Final.argS m c) (Final.argR m c) (i 0) (i 1), ?_, ?_⟩
  · refine (θ_run Cert.DownIdeal.defs _ _).mono (fun r h c => ⟨(h.1.out_eq c 5).trans (Final.final m c), h.2.1 c⟩)
      (θ_run_and (Cert.Proof.PI.run_main m g) (Cert.Proof.PI.frame m g))
  · refine (θ_run Cert.DownRefIdeal.defs _ _).mono (fun r h c => ⟨(h c).1.trans ?_, (h c).2⟩) (Cert.DownRefIdeal.Value.run (F := Ideal) m' g')
    obtain ⟨h0, h1, h2, h3, h4⟩ := hargs c
    funext i
    exact (congrArg (Cert.DownRefIdeal.Value.res_main_v64 m' c) (ix2_eta i).symm).trans
      (RefVal.ref_at m' c (Final.argX m c) (Final.argW m c) (Final.argZ m c) (Final.argS m c) (Final.argR m c) h0 h1 h2 h3 h4 (i 0) (i 1))

/-- Gate and up leaves its arguments as they were, at the machine's floats. -/
theorem frame_g : Cert.quiescent_GateUp := Cert.Proof.Same.frame_gate

/-- Gate and up read over the extended reals leaves its arguments as they were. -/
theorem frame_gi : Cert.quiescent_GateUpIdeal := fun m ρ _ => Cert.Proof.GI.frame m ρ

/-- The reference of gate and up read over the extended reals leaves its arguments as they were; it declares no semaphore. -/
theorem frame_si : Cert.quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

/-- From the same arguments gate and up and its reference, read over the extended reals, give the same array. -/
theorem algebraic_g : Cert.algebraic_GateUpIdeal_GateUpRefIdeal := by
  intro m g m' g' _ hargs
  refine ⟨fun c i => GFinal.res m c (i 0) (i 1), ?_, ?_⟩
  · refine (θ_run Cert.GateUpIdeal.defs _ _).mono (fun r h c => ⟨(h.1.out_eq c 8).trans (GFinal.final m c), h.2.1 c⟩)
      (θ_run_and (Cert.Proof.GI.run_main m g) (Cert.Proof.GI.frame m g))
  · refine (θ_run Cert.GateUpRefIdeal.defs _ _).mono (fun r h c => ⟨(h c).1.trans ?_, (h c).2⟩) (GRefVal.run m' g')
    obtain ⟨h0, h1, h2, h3, h4, h5, h6, h7⟩ := hargs c
    rw [h0, h1, h2, h3, h4, h5, h6, h7]
    funext i
    exact (congrArg (GRefVal.refOut _ _ _ _ _ _ _ _) (ix2_eta i).symm).trans
      (GRefVal.out_at (GFinal.argX m c) (GFinal.argV m c) (GFinal.argGW m c) (GFinal.argGZ m c) (GFinal.argGS m c)
        (GFinal.argUW m c) (GFinal.argUZ m c) (GFinal.argUS m c) (i 0) (i 1))

/-- The certificate. -/
theorem claim : Cert.Claim :=
  ⟨Cert.Down.Gen.facts, Cert.DownIdeal.Gen.facts, Cert.DownRefIdeal.Gen.facts, Cert.GateUp.Gen.facts, Cert.GateUpIdeal.Gen.facts,
    Cert.GateUpRefIdeal.Gen.facts, frame_p, frame_pi, frame_ri, frame_g, frame_gi, frame_si, trivial, algebraic, trivial, algebraic_g⟩

end Cert.Proof

end
